-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_and_in_range [hPre_finite_and_in_range : Cert.Pre_finite_and_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_finite_and_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19))).1 = (fun _ => 1#1)
    ∧ (Cert.Pre_finite_and_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19))).2.1 = (fun _ => 1#1)
    ∧ (Cert.Pre_finite_and_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19))).2.2.1 = (fun _ => 1#1)
    ∧ (Cert.Pre_finite_and_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19))).2.2.2.1 = (fun _ => 1#1)
    ∧ (Cert.Pre_finite_and_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19))).2.2.2.2.1 = (fun _ => 1#1)
    ∧ (Cert.Pre_finite_and_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19))).2.2.2.2.2.1 = (fun _ => 1#1)
    ∧ (Cert.Pre_finite_and_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19))).2.2.2.2.2.2.1 = (fun _ => 1#1)
    ∧ (Cert.Pre_finite_and_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19))).2.2.2.2.2.2.2.1 = (fun _ => 1#1)
    ∧ (Cert.Pre_finite_and_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19))).2.2.2.2.2.2.2.2.1 = (fun _ => 1#1)
    ∧ (Cert.Pre_finite_and_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19))).2.2.2.2.2.2.2.2.2.1 = (fun _ => 1#1)
    ∧ (Cert.Pre_finite_and_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19))).2.2.2.2.2.2.2.2.2.2.1 = (fun _ => 1#1)
    ∧ (Cert.Pre_finite_and_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19))).2.2.2.2.2.2.2.2.2.2.2.1 = (fun _ => 1#1)
    ∧ (Cert.Pre_finite_and_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19))).2.2.2.2.2.2.2.2.2.2.2.2.1 = (fun _ => 1#1)
    ∧ (Cert.Pre_finite_and_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19))).2.2.2.2.2.2.2.2.2.2.2.2.2.1 = (fun _ => 1#1)
    ∧ (Cert.Pre_finite_and_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19))).2.2.2.2.2.2.2.2.2.2.2.2.2.2.1 = (fun _ => 1#1)
    ∧ (Cert.Pre_finite_and_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19))).2.2.2.2.2.2.2.2.2.2.2.2.2.2.2.1 = (fun _ => 1#1)
    ∧ (Cert.Pre_finite_and_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19))).2.2.2.2.2.2.2.2.2.2.2.2.2.2.2.2.1 = (fun _ => 1#1)
    ∧ (Cert.Pre_finite_and_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19))).2.2.2.2.2.2.2.2.2.2.2.2.2.2.2.2.2.1 = (fun _ => 1#1)
    ∧ (Cert.Pre_finite_and_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19))).2.2.2.2.2.2.2.2.2.2.2.2.2.2.2.2.2.2.1 = (fun _ => 1#1)
    ∧ (Cert.Pre_finite_and_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19))).2.2.2.2.2.2.2.2.2.2.2.2.2.2.2.2.2.2.2.1 = (fun _ => 1#1)
    ∧ (Cert.Pre_finite_and_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19))).2.2.2.2.2.2.2.2.2.2.2.2.2.2.2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_and_in_range [hPre_finite_and_in_range : Cert.Pre_finite_and_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_and_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19))).1 = (fun _ => 1#1)
    ∧ (Cert.Pre_finite_and_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19))).2.1 = (fun _ => 1#1)
    ∧ (Cert.Pre_finite_and_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19))).2.2.1 = (fun _ => 1#1)
    ∧ (Cert.Pre_finite_and_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19))).2.2.2.1 = (fun _ => 1#1)
    ∧ (Cert.Pre_finite_and_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19))).2.2.2.2.1 = (fun _ => 1#1)
    ∧ (Cert.Pre_finite_and_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19))).2.2.2.2.2.1 = (fun _ => 1#1)
    ∧ (Cert.Pre_finite_and_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19))).2.2.2.2.2.2.1 = (fun _ => 1#1)
    ∧ (Cert.Pre_finite_and_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19))).2.2.2.2.2.2.2.1 = (fun _ => 1#1)
    ∧ (Cert.Pre_finite_and_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19))).2.2.2.2.2.2.2.2.1 = (fun _ => 1#1)
    ∧ (Cert.Pre_finite_and_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19))).2.2.2.2.2.2.2.2.2.1 = (fun _ => 1#1)
    ∧ (Cert.Pre_finite_and_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19))).2.2.2.2.2.2.2.2.2.2.1 = (fun _ => 1#1)
    ∧ (Cert.Pre_finite_and_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19))).2.2.2.2.2.2.2.2.2.2.2.1 = (fun _ => 1#1)
    ∧ (Cert.Pre_finite_and_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19))).2.2.2.2.2.2.2.2.2.2.2.2.1 = (fun _ => 1#1)
    ∧ (Cert.Pre_finite_and_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19))).2.2.2.2.2.2.2.2.2.2.2.2.2.1 = (fun _ => 1#1)
    ∧ (Cert.Pre_finite_and_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19))).2.2.2.2.2.2.2.2.2.2.2.2.2.2.1 = (fun _ => 1#1)
    ∧ (Cert.Pre_finite_and_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19))).2.2.2.2.2.2.2.2.2.2.2.2.2.2.2.1 = (fun _ => 1#1)
    ∧ (Cert.Pre_finite_and_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19))).2.2.2.2.2.2.2.2.2.2.2.2.2.2.2.2.1 = (fun _ => 1#1)
    ∧ (Cert.Pre_finite_and_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19))).2.2.2.2.2.2.2.2.2.2.2.2.2.2.2.2.2.1 = (fun _ => 1#1)
    ∧ (Cert.Pre_finite_and_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19))).2.2.2.2.2.2.2.2.2.2.2.2.2.2.2.2.2.2.1 = (fun _ => 1#1)
    ∧ (Cert.Pre_finite_and_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19))).2.2.2.2.2.2.2.2.2.2.2.2.2.2.2.2.2.2.2.1 = (fun _ => 1#1)
    ∧ (Cert.Pre_finite_and_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19))).2.2.2.2.2.2.2.2.2.2.2.2.2.2.2.2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))
      ∧ r.2.sem = fun _ => 0)

def quiescent_KernelIdeal_pre_finite_and_in_range [hKernelIdeal : Cert.KernelIdeal.Facts] [hPre_finite_and_in_range : Cert.Pre_finite_and_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_and_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19))
      ∧ r.2.sem = fun _ => 0)

def quiescent_ReferenceIdeal_pre_finite_and_in_range [hReferenceIdeal : Cert.ReferenceIdeal.Facts] [hPre_finite_and_in_range : Cert.Pre_finite_and_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_and_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19))
      ∧ r.2.sem = fun _ => 0)

def preserves_Kernel_KernelIdeal : Prop :=
  True

def algebraic_KernelIdeal_ReferenceIdeal_pre_finite_and_in_range [hKernelIdeal : Cert.KernelIdeal.Facts] [hReferenceIdeal : Cert.ReferenceIdeal.Facts] [hPre_finite_and_in_range : Cert.Pre_finite_and_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_and_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)) →
    ∃ (v0 : (c : Dev Cert.KernelIdeal.nD) → Buf (Elt Ideal) ((c.tc : Thread Cert.KernelIdeal.nD Cert.KernelIdeal.τ).loc Cert.KernelIdeal.main_v157)) (v1 : (c : Dev Cert.KernelIdeal.nD) → Buf (Elt Ideal) ((c.tc : Thread Cert.KernelIdeal.nD Cert.KernelIdeal.τ).loc Cert.KernelIdeal.main_v146)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v157) = v0 c
          ∧ r.2.mem ((c.tc : Thread Cert.KernelIdeal.nD Cert.KernelIdeal.τ).loc Cert.KernelIdeal.main_v146) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v87) = v0 c
          ∧ r.2.mem ((c.tc : Thread Cert.ReferenceIdeal.nD Cert.ReferenceIdeal.τ).loc Cert.ReferenceIdeal.main_v135) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19))

def Claim : Prop :=
  ∃ (hKernel : Cert.Kernel.Facts) (hKernelIdeal : Cert.KernelIdeal.Facts) (hReferenceIdeal : Cert.ReferenceIdeal.Facts) (hPre_finite_and_in_range : Cert.Pre_finite_and_in_range.Facts),
    quiescent_Kernel (hKernel := hKernel)
    ∧ quiescent_KernelIdeal (hKernelIdeal := hKernelIdeal)
    ∧ quiescent_KernelIdeal_pre_finite_and_in_range (hKernelIdeal := hKernelIdeal) (hPre_finite_and_in_range := hPre_finite_and_in_range)
    ∧ quiescent_ReferenceIdeal (hReferenceIdeal := hReferenceIdeal)
    ∧ quiescent_ReferenceIdeal_pre_finite_and_in_range (hReferenceIdeal := hReferenceIdeal) (hPre_finite_and_in_range := hPre_finite_and_in_range)
    ∧ preserves_Kernel_KernelIdeal
    ∧ algebraic_KernelIdeal_ReferenceIdeal_pre_finite_and_in_range (hKernelIdeal := hKernelIdeal) (hReferenceIdeal := hReferenceIdeal) (hPre_finite_and_in_range := hPre_finite_and_in_range)
-- ==== Pre_finite_and_in_range.lean ====
abbrev S10000x128 : Shape := ⟨2, ![10000, 128]⟩
abbrev S320000x128 : Shape := ⟨2, ![320000, 128]⟩
abbrev S2x640000 : Shape := ⟨2, ![2, 640000]⟩
abbrev S128x256 : Shape := ⟨2, ![128, 256]⟩
abbrev S128 : Shape := ⟨1, ![128]⟩
abbrev S128x128 : Shape := ⟨2, ![128, 128]⟩
abbrev S_ : Shape := ⟨0, ![]⟩
abbrev S1x640000 : Shape := ⟨2, ![1, 640000]⟩
abbrev S640000 : Shape := ⟨1, ![640000]⟩

class Facts : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  bcast_S_S10000x128 : S_.BroadcastsInDim S10000x128 (![] : Fin 0 → Fin S10000x128.rank)
  bcast_S_S320000x128 : S_.BroadcastsInDim S320000x128 (![] : Fin 0 → Fin S320000x128.rank)
  bcast_S_S128x256 : S_.BroadcastsInDim S128x256 (![] : Fin 0 → Fin S128x256.rank)
  bcast_S_S128 : S_.BroadcastsInDim S128 (![] : Fin 0 → Fin S128.rank)
  bcast_S_S128x128 : S_.BroadcastsInDim S128x128 (![] : Fin 0 → Fin S128x128.rank)
  bcast_S_S640000 : S_.BroadcastsInDim S640000 (![] : Fin 0 → Fin S640000.rank)

variable [Facts]

def fn_part3 {F : FTy → Type} [FloatOps F] (main_arg18 : FVec F S_ .f32) (main_arg19 : FVec F S_ .f32) (main_v1 : IVec S640000 32) (main_v3 : IVec S640000 32) (main_v6 : IVec S10000x128 1) (main_v9 : IVec S320000x128 1) (main_v12 : IVec S128x256 1) (main_v15 : IVec S128 1) (main_v18 : IVec S128 1) (main_v21 : IVec S128x128 1) (main_v24 : IVec S128 1) (main_v27 : IVec S128 1) (main_v30 : IVec S128x128 1) (main_v33 : IVec S128 1) (main_v36 : IVec S128 1) (main_v39 : IVec S128x128 1) (main_v42 : IVec S128 1) (main_v45 : IVec S128 1) (main_v48 : IVec S128x128 1) (main_v51 : IVec S128 1) (main_v54 : IVec S128 1) : IVec S10000x128 1 × IVec S320000x128 1 × IVec S128x256 1 × IVec S128 1 × IVec S128 1 × IVec S128x128 1 × IVec S128 1 × IVec S128 1 × IVec S128x128 1 × IVec S128 1 × IVec S128 1 × IVec S128x128 1 × IVec S128 1 × IVec S128 1 × IVec S128x128 1 × IVec S128 1 × IVec S128 1 × IVec S_ 1 × IVec S_ 1 × IVec S640000 1 × IVec S640000 1 :=
  let main_v55 : FVec F S_ .f32 := Host.absf main_arg18
  let main_cst_16 : FVec F S_ .f32 := constant S_ .f32 0x7F800000#32
  let main_v56 : IVec S_ 1 := cmpf .olt main_v55 main_cst_16
  let main_v57 : FVec F S_ .f32 := Host.absf main_arg19
  let main_cst_17 : FVec F S_ .f32 := constant S_ .f32 0x7F800000#32
  let main_v58 : IVec S_ 1 := cmpf .olt main_v57 main_cst_17
  let main_c : IVec S_ 32 := constantI S_ 32 0#32
  let main_v59 : IVec S640000 32 := broadcastInDim S640000 ![] bcast_S_S640000 main_c
  let main_v60 : IVec S640000 1 := cmpi .sge main_v1 main_v59
  let main_c_18 : IVec S_ 32 := constantI S_ 32 10000#32
  let main_v61 : IVec S640000 32 := broadcastInDim S640000 ![] bcast_S_S640000 main_c_18
  let main_v62 : IVec S640000 1 := cmpi .slt main_v1 main_v61
  let main_v63 : IVec S640000 1 := andi main_v60 main_v62
  let main_c_19 : IVec S_ 32 := constantI S_ 32 0#32
  let main_v64 : IVec S640000 32 := broadcastInDim S640000 ![] bcast_S_S640000 main_c_19
  let main_v65 : IVec S640000 1 := cmpi .sge main_v3 main_v64
  let main_c_20 : IVec S_ 32 := constantI S_ 32 320000#32
  let main_v66 : IVec S640000 32 := broadcastInDim S640000 ![] bcast_S_S640000 main_c_20
  let main_v67 : IVec S640000 1 := cmpi .slt main_v3 main_v66
  let main_v68 : IVec S640000 1 := andi main_v65 main_v67
  (main_v6, main_v9, main_v12, main_v15, main_v18, main_v21, main_v24, main_v27, main_v30, main_v33, main_v36, main_v39, main_v42, main_v45, main_v48, main_v51, main_v54, main_v56, main_v58, main_v63, main_v68)

def fn_part2 {F : FTy → Type} [FloatOps F] (main_arg12 : FVec F S128x128 .f32) (main_arg13 : FVec F S128 .f32) (main_arg14 : FVec F S128 .f32) (main_arg15 : FVec F S128x128 .f32) (main_arg16 : FVec F S128 .f32) (main_arg17 : FVec F S128 .f32) (main_arg18 : FVec F S_ .f32) (main_arg19 : FVec F S_ .f32) (main_v1 : IVec S640000 32) (main_v3 : IVec S640000 32) (main_v6 : IVec S10000x128 1) (main_v9 : IVec S320000x128 1) (main_v12 : IVec S128x256 1) (main_v15 : IVec S128 1) (main_v18 : IVec S128 1) (main_v21 : IVec S128x128 1) (main_v24 : IVec S128 1) (main_v27 : IVec S128 1) (main_v30 : IVec S128x128 1) (main_v33 : IVec S128 1) (main_v36 : IVec S128 1) : IVec S10000x128 1 × IVec S320000x128 1 × IVec S128x256 1 × IVec S128 1 × IVec S128 1 × IVec S128x128 1 × IVec S128 1 × IVec S128 1 × IVec S128x128 1 × IVec S128 1 × IVec S128 1 × IVec S128x128 1 × IVec S128 1 × IVec S128 1 × IVec S128x128 1 × IVec S128 1 × IVec S128 1 × IVec S_ 1 × IVec S_ 1 × IVec S640000 1 × IVec S640000 1 :=
  let main_v37 : FVec F S128x128 .f32 := Host.absf main_arg12
  let main_cst_10 : FVec F S_ .f32 := constant S_ .f32 0x7F800000#32
  let main_v38 : FVec F S128x128 .f32 := broadcastInDim S128x128 ![] bcast_S_S128x128 main_cst_10
  let main_v39 : IVec S128x128 1 := cmpf .olt main_v37 main_v38
  let main_v40 : FVec F S128 .f32 := Host.absf main_arg13
  let main_cst_11 : FVec F S_ .f32 := constant S_ .f32 0x7F800000#32
  let main_v41 : FVec F S128 .f32 := broadcastInDim S128 ![] bcast_S_S128 main_cst_11
  let main_v42 : IVec S128 1 := cmpf .olt main_v40 main_v41
  let main_v43 : FVec F S128 .f32 := Host.absf main_arg14
  let main_cst_12 : FVec F S_ .f32 := constant S_ .f32 0x7F800000#32
  let main_v44 : FVec F S128 .f32 := broadcastInDim S128 ![] bcast_S_S128 main_cst_12
  let main_v45 : IVec S128 1 := cmpf .olt main_v43 main_v44
  let main_v46 : FVec F S128x128 .f32 := Host.absf main_arg15
  let main_cst_13 : FVec F S_ .f32 := constant S_ .f32 0x7F800000#32
  let main_v47 : FVec F S128x128 .f32 := broadcastInDim S128x128 ![] bcast_S_S128x128 main_cst_13
  let main_v48 : IVec S128x128 1 := cmpf .olt main_v46 main_v47
  let main_v49 : FVec F S128 .f32 := Host.absf main_arg16
  let main_cst_14 : FVec F S_ .f32 := constant S_ .f32 0x7F800000#32
  let main_v50 : FVec F S128 .f32 := broadcastInDim S128 ![] bcast_S_S128 main_cst_14
  let main_v51 : IVec S128 1 := cmpf .olt main_v49 main_v50
  let main_v52 : FVec F S128 .f32 := Host.absf main_arg17
  let main_cst_15 : FVec F S_ .f32 := constant S_ .f32 0x7F800000#32
  let main_v53 : FVec F S128 .f32 := broadcastInDim S128 ![] bcast_S_S128 main_cst_15
  let main_v54 : IVec S128 1 := cmpf .olt main_v52 main_v53
  fn_part3 (F := F) main_arg18 main_arg19 main_v1 main_v3 main_v6 main_v9 main_v12 main_v15 main_v18 main_v21 main_v24 main_v27 main_v30 main_v33 main_v36 main_v39 main_v42 main_v45 main_v48 main_v51 main_v54

def fn_part1 {F : FTy → Type} [FloatOps F] (main_arg6 : FVec F S128x128 .f32) (main_arg7 : FVec F S128 .f32) (main_arg8 : FVec F S128 .f32) (main_arg9 : FVec F S128x128 .f32) (main_arg10 : FVec F S128 .f32) (main_arg11 : FVec F S128 .f32) (main_arg12 : FVec F S128x128 .f32) (main_arg13 : FVec F S128 .f32) (main_arg14 : FVec F S128 .f32) (main_arg15 : FVec F S128x128 .f32) (main_arg16 : FVec F S128 .f32) (main_arg17 : FVec F S128 .f32) (main_arg18 : FVec F S_ .f32) (main_arg19 : FVec F S_ .f32) (main_v1 : IVec S640000 32) (main_v3 : IVec S640000 32) (main_v6 : IVec S10000x128 1) (main_v9 : IVec S320000x128 1) (main_v12 : IVec S128x256 1) (main_v15 : IVec S128 1) (main_v18 : IVec S128 1) : IVec S10000x128 1 × IVec S320000x128 1 × IVec S128x256 1 × IVec S128 1 × IVec S128 1 × IVec S128x128 1 × IVec S128 1 × IVec S128 1 × IVec S128x128 1 × IVec S128 1 × IVec S128 1 × IVec S128x128 1 × IVec S128 1 × IVec S128 1 × IVec S128x128 1 × IVec S128 1 × IVec S128 1 × IVec S_ 1 × IVec S_ 1 × IVec S640000 1 × IVec S640000 1 :=
  let main_v19 : FVec F S128x128 .f32 := Host.absf main_arg6
  let main_cst_4 : FVec F S_ .f32 := constant S_ .f32 0x7F800000#32
  let main_v20 : FVec F S128x128 .f32 := broadcastInDim S128x128 ![] bcast_S_S128x128 main_cst_4
  let main_v21 : IVec S128x128 1 := cmpf .olt main_v19 main_v20
  let main_v22 : FVec F S128 .f32 := Host.absf main_arg7
  let main_cst_5 : FVec F S_ .f32 := constant S_ .f32 0x7F800000#32
  let main_v23 : FVec F S128 .f32 := broadcastInDim S128 ![] bcast_S_S128 main_cst_5
  let main_v24 : IVec S128 1 := cmpf .olt main_v22 main_v23
  let main_v25 : FVec F S128 .f32 := Host.absf main_arg8
  let main_cst_6 : FVec F S_ .f32 := constant S_ .f32 0x7F800000#32
  let main_v26 : FVec F S128 .f32 := broadcastInDim S128 ![] bcast_S_S128 main_cst_6
  let main_v27 : IVec S128 1 := cmpf .olt main_v25 main_v26
  let main_v28 : FVec F S128x128 .f32 := Host.absf main_arg9
  let main_cst_7 : FVec F S_ .f32 := constant S_ .f32 0x7F800000#32
  let main_v29 : FVec F S128x128 .f32 := broadcastInDim S128x128 ![] bcast_S_S128x128 main_cst_7
  let main_v30 : IVec S128x128 1 := cmpf .olt main_v28 main_v29
  let main_v31 : FVec F S128 .f32 := Host.absf main_arg10
  let main_cst_8 : FVec F S_ .f32 := constant S_ .f32 0x7F800000#32
  let main_v32 : FVec F S128 .f32 := broadcastInDim S128 ![] bcast_S_S128 main_cst_8
  let main_v33 : IVec S128 1 := cmpf .olt main_v31 main_v32
  let main_v34 : FVec F S128 .f32 := Host.absf main_arg11
  let main_cst_9 : FVec F S_ .f32 := constant S_ .f32 0x7F800000#32
  let main_v35 : FVec F S128 .f32 := broadcastInDim S128 ![] bcast_S_S128 main_cst_9
  let main_v36 : IVec S128 1 := cmpf .olt main_v34 main_v35
  fn_part2 (F := F) main_arg12 main_arg13 main_arg14 main_arg15 main_arg16 main_arg17 main_arg18 main_arg19 main_v1 main_v3 main_v6 main_v9 main_v12 main_v15 main_v18 main_v21 main_v24 main_v27 main_v30 main_v33 main_v36

def fn {F : FTy → Type} [FloatOps F] (main_arg0 : FVec F S10000x128 .f32) (main_arg1 : FVec F S320000x128 .f32) (main_arg2 : IVec S2x640000 32) (main_arg3 : FVec F S128x256 .f32) (main_arg4 : FVec F S128 .f32) (main_arg5 : FVec F S128 .f32) (main_arg6 : FVec F S128x128 .f32) (main_arg7 : FVec F S128 .f32) (main_arg8 : FVec F S128 .f32) (main_arg9 : FVec F S128x128 .f32) (main_arg10 : FVec F S128 .f32) (main_arg11 : FVec F S128 .f32) (main_arg12 : FVec F S128x128 .f32) (main_arg13 : FVec F S128 .f32) (main_arg14 : FVec F S128 .f32) (main_arg15 : FVec F S128x128 .f32) (main_arg16 : FVec F S128 .f32) (main_arg17 : FVec F S128 .f32) (main_arg18 : FVec F S_ .f32) (main_arg19 : FVec F S_ .f32) : IVec S10000x128 1 × IVec S320000x128 1 × IVec S128x256 1 × IVec S128 1 × IVec S128 1 × IVec S128x128 1 × IVec S128 1 × IVec S128 1 × IVec S128x128 1 × IVec S128 1 × IVec S128 1 × IVec S128x128 1 × IVec S128 1 × IVec S128 1 × IVec S128x128 1 × IVec S128 1 × IVec S128 1 × IVec S_ 1 × IVec S_ 1 × IVec S640000 1 × IVec S640000 1 :=
  let main_v0 : IVec S1x640000 32 := (extractStridedSlice S1x640000 ![0, 0] · slices_S2x640000_S1x640000_0_0) main_arg2
  let main_v1 : IVec S640000 32 := shapeCast S640000 main_v0 shapeCasts_S1x640000_S640000
  let main_v2 : IVec S1x640000 32 := (extractStridedSlice S1x640000 ![1, 0] · slices_S2x640000_S1x640000_1_0) main_arg2
  let main_v3 : IVec S640000 32 := shapeCast S640000 main_v2 shapeCasts_S1x640000_S640000
  let main_v4 : FVec F S10000x128 .f32 := Host.absf main_arg0
  let main_cst : FVec F S_ .f32 := constant S_ .f32 0x7F800000#32
  let main_v5 : FVec F S10000x128 .f32 := broadcastInDim S10000x128 ![] bcast_S_S10000x128 main_cst
  let main_v6 : IVec S10000x128 1 := cmpf .olt main_v4 main_v5
  let main_v7 : FVec F S320000x128 .f32 := Host.absf main_arg1
  let main_cst_0 : FVec F S_ .f32 := constant S_ .f32 0x7F800000#32
  let main_v8 : FVec F S320000x128 .f32 := broadcastInDim S320000x128 ![] bcast_S_S320000x128 main_cst_0
  let main_v9 : IVec S320000x128 1 := cmpf .olt main_v7 main_v8
  let main_v10 : FVec F S128x256 .f32 := Host.absf main_arg3
  let main_cst_1 : FVec F S_ .f32 := constant S_ .f32 0x7F800000#32
  let main_v11 : FVec F S128x256 .f32 := broadcastInDim S128x256 ![] bcast_S_S128x256 main_cst_1
  let main_v12 : IVec S128x256 1 := cmpf .olt main_v10 main_v11
  let main_v13 : FVec F S128 .f32 := Host.absf main_arg4
  let main_cst_2 : FVec F S_ .f32 := constant S_ .f32 0x7F800000#32
  let main_v14 : FVec F S128 .f32 := broadcastInDim S128 ![] bcast_S_S128 main_cst_2
  let main_v15 : IVec S128 1 := cmpf .olt main_v13 main_v14
  let main_v16 : FVec F S128 .f32 := Host.absf main_arg5
  let main_cst_3 : FVec F S_ .f32 := constant S_ .f32 0x7F800000#32
  let main_v17 : FVec F S128 .f32 := broadcastInDim S128 ![] bcast_S_S128 main_cst_3
  let main_v18 : IVec S128 1 := cmpf .olt main_v16 main_v17
  fn_part1 (F := F) main_arg6 main_arg7 main_arg8 main_arg9 main_arg10 main_arg11 main_arg12 main_arg13 main_arg14 main_arg15 main_arg16 main_arg17 main_arg18 main_arg19 main_v1 main_v3 main_v6 main_v9 main_v12 main_v15 main_v18
-- ==== Kernel.lean ====
abbrev S10000x128 : Shape := ⟨2, ![10000, 128]⟩
abbrev S320000x128 : Shape := ⟨2, ![320000, 128]⟩
abbrev S2x640000 : Shape := ⟨2, ![2, 640000]⟩
abbrev S128x256 : Shape := ⟨2, ![128, 256]⟩
abbrev S128 : Shape := ⟨1, ![128]⟩
abbrev S128x128 : Shape := ⟨2, ![128, 128]⟩
abbrev S_ : Shape := ⟨0, ![]⟩
abbrev S1x640000 : Shape := ⟨2, ![1, 640000]⟩
abbrev S640000 : Shape := ⟨1, ![640000]⟩
abbrev S1x1 : Shape := ⟨2, ![1, 1]⟩
abbrev S10000 : Shape := ⟨1, ![10000]⟩
abbrev S640000x1 : Shape := ⟨2, ![640000, 1]⟩
abbrev S320000 : Shape := ⟨1, ![320000]⟩
abbrev S1 : Shape := ⟨1, ![1]⟩
abbrev S640000x128 : Shape := ⟨2, ![640000, 128]⟩
abbrev S8x10000 : Shape := ⟨2, ![8, 10000]⟩
abbrev S100x8x3200 : Shape := ⟨3, ![100, 8, 3200]⟩
abbrev S100x3200 : Shape := ⟨2, ![100, 3200]⟩
abbrev S8x128 : Shape := ⟨2, ![8, 128]⟩
abbrev S3200x128 : Shape := ⟨2, ![3200, 128]⟩
abbrev S1x8x3200 : Shape := ⟨3, ![1, 8, 3200]⟩
abbrev S8x3200 : Shape := ⟨2, ![8, 3200]⟩
abbrev S1x128 : Shape := ⟨2, ![1, 128]⟩
abbrev S2x128 : Shape := ⟨2, ![2, 128]⟩
abbrev S6x128 : Shape := ⟨2, ![6, 128]⟩

abbrev nBuf : Space → Nat
  | .hbm => 309
  | .vmem => 49
  | .smem => 0
  | _ => 0

abbrev hbmTy0_0 (i : Nat) : BufTy := match i % 128 with
  | 0 => ⟨S10000x128, .f32⟩
  | 1 => ⟨S320000x128, .f32⟩
  | 2 => ⟨S2x640000, .i32⟩
  | 3 => ⟨S128x256, .f32⟩
  | 4 => ⟨S128, .f32⟩
  | 5 => ⟨S128, .f32⟩
  | 6 => ⟨S128x128, .f32⟩
  | 7 => ⟨S128, .f32⟩
  | 8 => ⟨S128, .f32⟩
  | 9 => ⟨S128x128, .f32⟩
  | 10 => ⟨S128, .f32⟩
  | 11 => ⟨S128, .f32⟩
  | 12 => ⟨S128x128, .f32⟩
  | 13 => ⟨S128, .f32⟩
  | 14 => ⟨S128, .f32⟩
  | 15 => ⟨S128x128, .f32⟩
  | 16 => ⟨S128, .f32⟩
  | 17 => ⟨S128, .f32⟩
  | 18 => ⟨S_, .f32⟩
  | 19 => ⟨S_, .f32⟩
  | 20 => ⟨S1x640000, .i32⟩
  | 21 => ⟨S640000, .i32⟩
  | 22 => ⟨S1x640000, .i32⟩
  | 23 => ⟨S640000, .i32⟩
  | 24 => ⟨S128x128, .f32⟩
  | 25 => ⟨S128x128, .f32⟩
  | 26 => ⟨S1x1, .f32⟩
  | 27 => ⟨S1x1, .f32⟩
  | 28 => ⟨S_, .f32⟩
  | 29 => ⟨S10000, .f32⟩
  | 30 => ⟨S_, .i32⟩
  | 31 => ⟨S640000, .i32⟩
  | 32 => ⟨S640000, .i1⟩
  | 33 => ⟨S_, .i32⟩
  | 34 => ⟨S640000, .i32⟩
  | 35 => ⟨S640000, .i32⟩
  | 36 => ⟨S640000, .i32⟩
  | 37 => ⟨S640000x1, .i32⟩
  | 38 => ⟨S_, .f32⟩
  | 39 => ⟨S640000, .f32⟩
  | 40 => ⟨S10000, .f32⟩
  | 41 => ⟨S_, .f32⟩
  | 42 => ⟨S320000, .f32⟩
  | 43 => ⟨S_, .i32⟩
  | 44 => ⟨S640000, .i32⟩
  | 45 => ⟨S640000, .i1⟩
  | 46 => ⟨S_, .i32⟩
  | 47 => ⟨S640000, .i32⟩
  | 48 => ⟨S640000, .i32⟩
  | 49 => ⟨S640000, .i32⟩
  | 50 => ⟨S640000x1, .i32⟩
  | 51 => ⟨S_, .f32⟩
  | 52 => ⟨S640000, .f32⟩
  | 53 => ⟨S320000, .f32⟩
  | 54 => ⟨S_, .f32⟩
  | 55 => ⟨S320000x128, .f32⟩
  | 56 => ⟨S_, .i32⟩
  | 57 => ⟨S640000, .i32⟩
  | 58 => ⟨S640000, .i1⟩
  | 59 => ⟨S_, .i32⟩
  | 60 => ⟨S640000, .i32⟩
  | 61 => ⟨S640000, .i32⟩
  | 62 => ⟨S640000, .i32⟩
  | 63 => ⟨S640000x1, .i32⟩
  | 64 => ⟨S1, .i32⟩
  | 65 => ⟨S_, .i32⟩
  | 66 => ⟨S640000x1, .i32⟩
  | 67 => ⟨S640000x1, .i1⟩
  | 68 => ⟨S1x1, .i32⟩
  | 69 => ⟨S640000x1, .i32⟩
  | 70 => ⟨S640000x1, .i1⟩
  | 71 => ⟨S640000x1, .i1⟩
  | 72 => ⟨S_, .i1⟩
  | 73 => ⟨S640000, .i1⟩
  | 74 => ⟨S640000x128, .f32⟩
  | 75 => ⟨S640000x128, .i1⟩
  | 76 => ⟨S_, .f32⟩
  | 77 => ⟨S640000x128, .f32⟩
  | 78 => ⟨S640000x128, .f32⟩
  | 79 => ⟨S_, .i32⟩
  | 80 => ⟨S640000, .i32⟩
  | 81 => ⟨S640000, .i1⟩
  | 82 => ⟨S_, .i32⟩
  | 83 => ⟨S640000, .i32⟩
  | 84 => ⟨S640000, .i32⟩
  | 85 => ⟨S640000, .i32⟩
  | 86 => ⟨S640000x1, .i32⟩
  | 87 => ⟨S320000x128, .f32⟩
  | 88 => ⟨S_, .f32⟩
  | 89 => ⟨S8x10000, .f32⟩
  | 90 => ⟨S_, .i32⟩
  | 91 => ⟨S1, .i32⟩
  | 92 => ⟨S8x10000, .f32⟩
  | 93 => ⟨S_, .f32⟩
  | 94 => ⟨S100x8x3200, .f32⟩
  | 95 => ⟨S100x3200, .f32⟩
  | 96 => ⟨S_, .i32⟩
  | 97 => ⟨S1, .i32⟩
  | 98 => ⟨S100x8x3200, .f32⟩
  | 99 => ⟨S10000x128, .f32⟩
  | 100 => ⟨S8x128, .f32⟩
  | 101 => ⟨S320000x128, .f32⟩
  | 102 => ⟨S320000x128, .f32⟩
  | 103 => ⟨S8x128, .f32⟩
  | 104 => ⟨S8x128, .f32⟩
  | 105 => ⟨S128x128, .f32⟩
  | 106 => ⟨S1x128, .f32⟩
  | 107 => ⟨S128, .f32⟩
  | 108 => ⟨S1x128, .f32⟩
  | 109 => ⟨S128, .f32⟩
  | 110 => ⟨S1x128, .f32⟩
  | 111 => ⟨S128, .f32⟩
  | 112 => ⟨S128x128, .f32⟩
  | 113 => ⟨S128, .f32⟩
  | 114 => ⟨S128, .f32⟩
  | 115 => ⟨S_, .f32⟩
  | 116 => ⟨S128, .f32⟩
  | 117 => ⟨S128, .f32⟩
  | 118 => ⟨S128x128, .f32⟩
  | 119 => ⟨S128x128, .f32⟩
  | 120 => ⟨S_, .f32⟩
  | 121 => ⟨S128, .f32⟩
  | 122 => ⟨S1x128, .f32⟩
  | 123 => ⟨S128, .f32⟩
  | 124 => ⟨S128, .f32⟩
  | 125 => ⟨S_, .f32⟩
  | 126 => ⟨S128, .f32⟩
  | 127 => ⟨S128, .f32⟩
  | _ => ⟨S10000x128, .f32⟩

abbrev hbmTy0_1 (i : Nat) : BufTy := match i % 128 with
  | 0 => ⟨S128, .f32⟩
  | 1 => ⟨S_, .f32⟩
  | 2 => ⟨S128, .f32⟩
  | 3 => ⟨S128, .f32⟩
  | 4 => ⟨S128, .f32⟩
  | 5 => ⟨S128, .f32⟩
  | 6 => ⟨S_, .f32⟩
  | 7 => ⟨S128, .f32⟩
  | 8 => ⟨S128, .f32⟩
  | 9 => ⟨S128, .f32⟩
  | 10 => ⟨S128, .f32⟩
  | 11 => ⟨S128, .f32⟩
  | 12 => ⟨S128, .f32⟩
  | 13 => ⟨S_, .i32⟩
  | 14 => ⟨S640000, .i32⟩
  | 15 => ⟨S640000, .i1⟩
  | 16 => ⟨S_, .i32⟩
  | 17 => ⟨S640000, .i32⟩
  | 18 => ⟨S640000, .i32⟩
  | 19 => ⟨S640000, .i32⟩
  | 20 => ⟨S640000x1, .i32⟩
  | 21 => ⟨S1, .i32⟩
  | 22 => ⟨S_, .i32⟩
  | 23 => ⟨S640000x1, .i32⟩
  | 24 => ⟨S640000x1, .i1⟩
  | 25 => ⟨S1x1, .i32⟩
  | 26 => ⟨S640000x1, .i32⟩
  | 27 => ⟨S640000x1, .i1⟩
  | 28 => ⟨S640000x1, .i1⟩
  | 29 => ⟨S_, .i1⟩
  | 30 => ⟨S640000, .i1⟩
  | 31 => ⟨S640000x128, .f32⟩
  | 32 => ⟨S640000x128, .i1⟩
  | 33 => ⟨S_, .f32⟩
  | 34 => ⟨S640000x128, .f32⟩
  | 35 => ⟨S640000x128, .f32⟩
  | 36 => ⟨S_, .i32⟩
  | 37 => ⟨S640000, .i32⟩
  | 38 => ⟨S640000, .i1⟩
  | 39 => ⟨S_, .i32⟩
  | 40 => ⟨S640000, .i32⟩
  | 41 => ⟨S640000, .i32⟩
  | 42 => ⟨S640000, .i32⟩
  | 43 => ⟨S640000x1, .i32⟩
  | 44 => ⟨S1, .i32⟩
  | 45 => ⟨S_, .i32⟩
  | 46 => ⟨S640000x1, .i32⟩
  | 47 => ⟨S640000x1, .i1⟩
  | 48 => ⟨S1x1, .i32⟩
  | 49 => ⟨S640000x1, .i32⟩
  | 50 => ⟨S640000x1, .i1⟩
  | 51 => ⟨S640000x1, .i1⟩
  | 52 => ⟨S_, .i1⟩
  | 53 => ⟨S640000, .i1⟩
  | 54 => ⟨S640000x128, .f32⟩
  | 55 => ⟨S640000x128, .i1⟩
  | 56 => ⟨S_, .f32⟩
  | 57 => ⟨S640000x128, .f32⟩
  | 58 => ⟨S640000x128, .f32⟩
  | 59 => ⟨S640000x128, .f32⟩
  | 60 => ⟨S1x128, .f32⟩
  | 61 => ⟨S640000x128, .f32⟩
  | 62 => ⟨S640000x128, .f32⟩
  | 63 => ⟨S1x128, .f32⟩
  | 64 => ⟨S640000x128, .f32⟩
  | 65 => ⟨S640000x128, .f32⟩
  | 66 => ⟨S_, .f32⟩
  | 67 => ⟨S640000x128, .f32⟩
  | 68 => ⟨S640000x128, .f32⟩
  | 69 => ⟨S_, .f32⟩
  | 70 => ⟨S320000x128, .f32⟩
  | 71 => ⟨S_, .i32⟩
  | 72 => ⟨S640000, .i32⟩
  | 73 => ⟨S640000, .i1⟩
  | 74 => ⟨S_, .i32⟩
  | 75 => ⟨S640000, .i32⟩
  | 76 => ⟨S640000, .i32⟩
  | 77 => ⟨S640000, .i32⟩
  | 78 => ⟨S640000x1, .i32⟩
  | 79 => ⟨S320000x128, .f32⟩
  | 80 => ⟨S_, .f32⟩
  | 81 => ⟨S10000x128, .f32⟩
  | 82 => ⟨S_, .i32⟩
  | 83 => ⟨S640000, .i32⟩
  | 84 => ⟨S640000, .i1⟩
  | 85 => ⟨S_, .i32⟩
  | 86 => ⟨S640000, .i32⟩
  | 87 => ⟨S640000, .i32⟩
  | 88 => ⟨S640000, .i32⟩
  | 89 => ⟨S640000x1, .i32⟩
  | 90 => ⟨S1, .i32⟩
  | 91 => ⟨S_, .i32⟩
  | 92 => ⟨S640000x1, .i32⟩
  | 93 => ⟨S640000x1, .i1⟩
  | 94 => ⟨S1x1, .i32⟩
  | 95 => ⟨S640000x1, .i32⟩
  | 96 => ⟨S640000x1, .i1⟩
  | 97 => ⟨S640000x1, .i1⟩
  | 98 => ⟨S_, .i1⟩
  | 99 => ⟨S640000, .i1⟩
  | 100 => ⟨S640000x128, .f32⟩
  | 101 => ⟨S640000x128, .i1⟩
  | 102 => ⟨S_, .f32⟩
  | 103 => ⟨S640000x128, .f32⟩
  | 104 => ⟨S640000x128, .f32⟩
  | 105 => ⟨S640000x128, .f32⟩
  | 106 => ⟨S_, .i32⟩
  | 107 => ⟨S640000, .i32⟩
  | 108 => ⟨S640000, .i1⟩
  | 109 => ⟨S_, .i32⟩
  | 110 => ⟨S640000, .i32⟩
  | 111 => ⟨S640000, .i32⟩
  | 112 => ⟨S640000, .i32⟩
  | 113 => ⟨S640000x1, .i32⟩
  | 114 => ⟨S10000x128, .f32⟩
  | 115 => ⟨S1x128, .f32⟩
  | 116 => ⟨S128, .f32⟩
  | 117 => ⟨S_, .f32⟩
  | 118 => ⟨S128, .f32⟩
  | 119 => ⟨S128, .f32⟩
  | 120 => ⟨S1x128, .f32⟩
  | 121 => ⟨S128, .f32⟩
  | 122 => ⟨S_, .f32⟩
  | 123 => ⟨S128, .f32⟩
  | 124 => ⟨S128, .f32⟩
  | 125 => ⟨S128, .f32⟩
  | 126 => ⟨S128, .f32⟩
  | 127 => ⟨S_, .f32⟩
  | _ => ⟨S10000x128, .f32⟩

abbrev hbmTy0_2 (i : Nat) : BufTy := match i % 128 with
  | 0 => ⟨S128, .f32⟩
  | 1 => ⟨S128, .f32⟩
  | 2 => ⟨S128, .f32⟩
  | 3 => ⟨S128, .f32⟩
  | 4 => ⟨S128, .f32⟩
  | 5 => ⟨S128, .f32⟩
  | 6 => ⟨S1x128, .f32⟩
  | 7 => ⟨S1x128, .f32⟩
  | 8 => ⟨S2x128, .f32⟩
  | 9 => ⟨S_, .f32⟩
  | 10 => ⟨S6x128, .f32⟩
  | 11 => ⟨S8x128, .f32⟩
  | 12 => ⟨S320000x128, .f32⟩
  | 13 => ⟨S8x128, .f32⟩
  | 14 => ⟨S1x128, .f32⟩
  | 15 => ⟨S128, .f32⟩
  | 16 => ⟨S_, .f32⟩
  | 17 => ⟨S128, .f32⟩
  | 18 => ⟨S128, .f32⟩
  | 19 => ⟨S1x128, .f32⟩
  | 20 => ⟨S128, .f32⟩
  | 21 => ⟨S_, .f32⟩
  | 22 => ⟨S128, .f32⟩
  | 23 => ⟨S128, .f32⟩
  | 24 => ⟨S128, .f32⟩
  | 25 => ⟨S128, .f32⟩
  | 26 => ⟨S_, .f32⟩
  | 27 => ⟨S128, .f32⟩
  | 28 => ⟨S128, .f32⟩
  | 29 => ⟨S128, .f32⟩
  | 30 => ⟨S128, .f32⟩
  | 31 => ⟨S128, .f32⟩
  | 32 => ⟨S128, .f32⟩
  | 33 => ⟨S1x128, .f32⟩
  | 34 => ⟨S1x128, .f32⟩
  | 35 => ⟨S2x128, .f32⟩
  | 36 => ⟨S_, .f32⟩
  | 37 => ⟨S6x128, .f32⟩
  | 38 => ⟨S8x128, .f32⟩
  | 39 => ⟨S320000x128, .f32⟩
  | 40 => ⟨S1x128, .f32⟩
  | 41 => ⟨S1x128, .f32⟩
  | 42 => ⟨S2x128, .f32⟩
  | 43 => ⟨S_, .f32⟩
  | 44 => ⟨S6x128, .f32⟩
  | 45 => ⟨S8x128, .f32⟩
  | 46 => ⟨S1x128, .f32⟩
  | 47 => ⟨S1x128, .f32⟩
  | 48 => ⟨S2x128, .f32⟩
  | 49 => ⟨S_, .f32⟩
  | 50 => ⟨S6x128, .f32⟩
  | 51 => ⟨S8x128, .f32⟩
  | 52 => ⟨S10000x128, .f32⟩
  | _ => ⟨S10000x128, .f32⟩

abbrev hbmTy (i : Nat) : BufTy := match i / 128 with
  | 0 => hbmTy0_0 i
  | 1 => hbmTy0_1 i
  | 2 => hbmTy0_2 i
  | _ => ⟨S10000x128, .f32⟩

abbrev bufTy : (tb : Table) → Fin (tcTables nBuf tb) → BufTy
  | .hbm, ⟨i, _⟩ => hbmTy i
  | .local _ .vmem, ⟨0, _⟩ => ⟨S10000x128, .f32⟩
  | .local _ .vmem, ⟨1, _⟩ => ⟨S128x128, .f32⟩
  | .local _ .vmem, ⟨2, _⟩ => ⟨S8x10000, .f32⟩
  | .local _ .vmem, ⟨3, _⟩ => ⟨S10000x128, .f32⟩
  | .local _ .vmem, ⟨4, _⟩ => ⟨S8x128, .f32⟩
  | .local _ .vmem, ⟨5, _⟩ => ⟨S3200x128, .f32⟩
  | .local _ .vmem, ⟨6, _⟩ => ⟨S3200x128, .f32⟩
  | .local _ .vmem, ⟨7, _⟩ => ⟨S128x128, .f32⟩
  | .local _ .vmem, ⟨8, _⟩ => ⟨S3200x128, .f32⟩
  | .local _ .vmem, ⟨9, _⟩ => ⟨S3200x128, .f32⟩
  | .local _ .vmem, ⟨10, _⟩ => ⟨S3200x128, .f32⟩
  | .local _ .vmem, ⟨11, _⟩ => ⟨S3200x128, .f32⟩
  | .local _ .vmem, ⟨12, _⟩ => ⟨S3200x128, .f32⟩
  | .local _ .vmem, ⟨13, _⟩ => ⟨S3200x128, .f32⟩
  | .local _ .vmem, ⟨14, _⟩ => ⟨S3200x128, .f32⟩
  | .local _ .vmem, ⟨15, _⟩ => ⟨S3200x128, .f32⟩
  | .local _ .vmem, ⟨16, _⟩ => ⟨S1x8x3200, .f32⟩
  | .local _ .vmem, ⟨17, _⟩ => ⟨S1x8x3200, .f32⟩
  | .local _ .vmem, ⟨18, _⟩ => ⟨S128x128, .f32⟩
  | .local _ .vmem, ⟨19, _⟩ => ⟨S1x1, .f32⟩
  | .local _ .vmem, ⟨20, _⟩ => ⟨S3200x128, .f32⟩
  | .local _ .vmem, ⟨21, _⟩ => ⟨S3200x128, .f32⟩
  | .local _ .vmem, ⟨22, _⟩ => ⟨S8x128, .f32⟩
  | .local _ .vmem, ⟨23, _⟩ => ⟨S8x128, .f32⟩
  | .local _ .vmem, ⟨24, _⟩ => ⟨S128x128, .f32⟩
  | .local _ .vmem, ⟨25, _⟩ => ⟨S8x128, .f32⟩
  | .local _ .vmem, ⟨26, _⟩ => ⟨S8x128, .f32⟩
  | .local _ .vmem, ⟨27, _⟩ => ⟨S128x128, .f32⟩
  | .local _ .vmem, ⟨28, _⟩ => ⟨S3200x128, .f32⟩
  | .local _ .vmem, ⟨29, _⟩ => ⟨S3200x128, .f32⟩
  | .local _ .vmem, ⟨30, _⟩ => ⟨S8x128, .f32⟩
  | .local _ .vmem, ⟨31, _⟩ => ⟨S128x128, .f32⟩
  | .local _ .vmem, ⟨32, _⟩ => ⟨S3200x128, .f32⟩
  | .local _ .vmem, ⟨33, _⟩ => ⟨S3200x128, .f32⟩
  | .local _ .vmem, ⟨34, _⟩ => ⟨S8x128, .f32⟩
  | .local _ .vmem, ⟨35, _⟩ => ⟨S8x128, .f32⟩
  | .local _ .vmem, ⟨36, _⟩ => ⟨S3200x128, .f32⟩
  | .local _ .vmem, ⟨37, _⟩ => ⟨S3200x128, .f32⟩
  | .local _ .vmem, ⟨38, _⟩ => ⟨S8x128, .f32⟩
  | .local _ .vmem, ⟨39, _⟩ => ⟨S3200x128, .f32⟩
  | .local _ .vmem, ⟨40, _⟩ => ⟨S3200x128, .f32⟩
  | .local _ .vmem, ⟨41, _⟩ => ⟨S10000x128, .f32⟩
  | .local _ .vmem, ⟨42, _⟩ => ⟨S10000x128, .f32⟩
  | .local _ .vmem, ⟨43, _⟩ => ⟨S128x128, .f32⟩
  | .local _ .vmem, ⟨44, _⟩ => ⟨S8x128, .f32⟩
  | .local _ .vmem, ⟨45, _⟩ => ⟨S128x128, .f32⟩
  | .local _ .vmem, ⟨46, _⟩ => ⟨S8x128, .f32⟩
  | .local _ .vmem, ⟨47, _⟩ => ⟨S1x1, .f32⟩
  | .local _ .vmem, ⟨48, _⟩ => ⟨S10000x128, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | _, _ => false

abbrev semScoped : Fin 0 → Bool
  | ⟨_, h⟩ => absurd h (Nat.not_lt_zero _)

abbrev dmaSemScoped : Fin 45 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | _ => false

abbrev sig : RefSig :=
  ofTc nBuf bufTy 0 45 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_v0 : Ref sig .tc := ⟨.hbm, 20, rfl⟩
abbrev main_v1 : Ref sig .tc := ⟨.hbm, 21, rfl⟩
abbrev main_v2 : Ref sig .tc := ⟨.hbm, 22, rfl⟩
abbrev main_v3 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_cst : Ref sig .tc := ⟨.hbm, 28, rfl⟩
abbrev main_v8 : Ref sig .tc := ⟨.hbm, 29, rfl⟩
abbrev main_c : Ref sig .tc := ⟨.hbm, 30, rfl⟩
abbrev main_v9 : Ref sig .tc := ⟨.hbm, 31, rfl⟩
abbrev main_v10 : Ref sig .tc := ⟨.hbm, 32, rfl⟩
abbrev main_c_0 : Ref sig .tc := ⟨.hbm, 33, rfl⟩
abbrev main_v11 : Ref sig .tc := ⟨.hbm, 34, rfl⟩
abbrev main_v12 : Ref sig .tc := ⟨.hbm, 35, rfl⟩
abbrev main_v13 : Ref sig .tc := ⟨.hbm, 36, rfl⟩
abbrev main_v14 : Ref sig .tc := ⟨.hbm, 37, rfl⟩
abbrev main_cst_1 : Ref sig .tc := ⟨.hbm, 38, rfl⟩
abbrev main_v15 : Ref sig .tc := ⟨.hbm, 39, rfl⟩
abbrev main_v16 : Ref sig .tc := ⟨.hbm, 40, rfl⟩
abbrev main_cst_2 : Ref sig .tc := ⟨.hbm, 41, rfl⟩
abbrev main_v17 : Ref sig .tc := ⟨.hbm, 42, rfl⟩
abbrev main_c_3 : Ref sig .tc := ⟨.hbm, 43, rfl⟩
abbrev main_v18 : Ref sig .tc := ⟨.hbm, 44, rfl⟩
abbrev main_v19 : Ref sig .tc := ⟨.hbm, 45, rfl⟩
abbrev main_c_4 : Ref sig .tc := ⟨.hbm, 46, rfl⟩
abbrev main_v20 : Ref sig .tc := ⟨.hbm, 47, rfl⟩
abbrev main_v21 : Ref sig .tc := ⟨.hbm, 48, rfl⟩
abbrev main_v22 : Ref sig .tc := ⟨.hbm, 49, rfl⟩
abbrev main_v23 : Ref sig .tc := ⟨.hbm, 50, rfl⟩
abbrev main_cst_5 : Ref sig .tc := ⟨.hbm, 51, rfl⟩
abbrev main_v24 : Ref sig .tc := ⟨.hbm, 52, rfl⟩
abbrev main_v25 : Ref sig .tc := ⟨.hbm, 53, rfl⟩
abbrev main_cst_6 : Ref sig .tc := ⟨.hbm, 54, rfl⟩
abbrev main_v26 : Ref sig .tc := ⟨.hbm, 55, rfl⟩
abbrev main_call0_c : Ref sig .tc := ⟨.hbm, 56, rfl⟩
abbrev main_call0_v0 : Ref sig .tc := ⟨.hbm, 57, rfl⟩
abbrev main_call0_v1 : Ref sig .tc := ⟨.hbm, 58, rfl⟩
abbrev main_call0_c_0 : Ref sig .tc := ⟨.hbm, 59, rfl⟩
abbrev main_call0_v2 : Ref sig .tc := ⟨.hbm, 60, rfl⟩
abbrev main_call0_v3 : Ref sig .tc := ⟨.hbm, 61, rfl⟩
abbrev main_call0_v4 : Ref sig .tc := ⟨.hbm, 62, rfl⟩
abbrev main_call0_v5 : Ref sig .tc := ⟨.hbm, 63, rfl⟩
abbrev main_call0_c_1 : Ref sig .tc := ⟨.hbm, 64, rfl⟩
abbrev main_call0_c_2 : Ref sig .tc := ⟨.hbm, 65, rfl⟩
abbrev main_call0_v6 : Ref sig .tc := ⟨.hbm, 66, rfl⟩
abbrev main_call0_v7 : Ref sig .tc := ⟨.hbm, 67, rfl⟩
abbrev main_call0_v8 : Ref sig .tc := ⟨.hbm, 68, rfl⟩
abbrev main_call0_v9 : Ref sig .tc := ⟨.hbm, 69, rfl⟩
abbrev main_call0_v10 : Ref sig .tc := ⟨.hbm, 70, rfl⟩
abbrev main_call0_v11 : Ref sig .tc := ⟨.hbm, 71, rfl⟩
abbrev main_call0_c_3 : Ref sig .tc := ⟨.hbm, 72, rfl⟩
abbrev main_call0_v12 : Ref sig .tc := ⟨.hbm, 73, rfl⟩
abbrev main_call0_v13 : Ref sig .tc := ⟨.hbm, 74, rfl⟩
abbrev main_call0_v14 : Ref sig .tc := ⟨.hbm, 75, rfl⟩
abbrev main_call0_cst : Ref sig .tc := ⟨.hbm, 76, rfl⟩
abbrev main_call0_v15 : Ref sig .tc := ⟨.hbm, 77, rfl⟩
abbrev main_v27 : Ref sig .tc := ⟨.hbm, 78, rfl⟩
abbrev main_c_7 : Ref sig .tc := ⟨.hbm, 79, rfl⟩
abbrev main_v28 : Ref sig .tc := ⟨.hbm, 80, rfl⟩
abbrev main_v29 : Ref sig .tc := ⟨.hbm, 81, rfl⟩
abbrev main_c_8 : Ref sig .tc := ⟨.hbm, 82, rfl⟩
abbrev main_v30 : Ref sig .tc := ⟨.hbm, 83, rfl⟩
abbrev main_v31 : Ref sig .tc := ⟨.hbm, 84, rfl⟩
abbrev main_v32 : Ref sig .tc := ⟨.hbm, 85, rfl⟩
abbrev main_v33 : Ref sig .tc := ⟨.hbm, 86, rfl⟩
abbrev main_v34 : Ref sig .tc := ⟨.hbm, 87, rfl⟩
abbrev main_cst_9 : Ref sig .tc := ⟨.hbm, 88, rfl⟩
abbrev main_v35 : Ref sig .tc := ⟨.hbm, 89, rfl⟩
abbrev main_c_10 : Ref sig .tc := ⟨.hbm, 90, rfl⟩
abbrev main_v36 : Ref sig .tc := ⟨.hbm, 91, rfl⟩
abbrev main_v37 : Ref sig .tc := ⟨.hbm, 92, rfl⟩
abbrev main_cst_11 : Ref sig .tc := ⟨.hbm, 93, rfl⟩
abbrev main_v38 : Ref sig .tc := ⟨.hbm, 94, rfl⟩
abbrev main_v39 : Ref sig .tc := ⟨.hbm, 95, rfl⟩
abbrev main_c_12 : Ref sig .tc := ⟨.hbm, 96, rfl⟩
abbrev main_v40 : Ref sig .tc := ⟨.hbm, 97, rfl⟩
abbrev main_v41 : Ref sig .tc := ⟨.hbm, 98, rfl⟩
abbrev main_v42_0 : Ref sig .tc := ⟨.hbm, 99, rfl⟩
abbrev main_v42_1 : Ref sig .tc := ⟨.hbm, 100, rfl⟩
abbrev main_v43 : Ref sig .tc := ⟨.hbm, 101, rfl⟩
abbrev main_v44_0 : Ref sig .tc := ⟨.hbm, 102, rfl⟩
abbrev main_v44_1 : Ref sig .tc := ⟨.hbm, 103, rfl⟩
abbrev main_v44_2 : Ref sig .tc := ⟨.hbm, 104, rfl⟩
abbrev main_v44_3 : Ref sig .tc := ⟨.hbm, 105, rfl⟩
abbrev main_v45 : Ref sig .tc := ⟨.hbm, 106, rfl⟩
abbrev main_v46 : Ref sig .tc := ⟨.hbm, 107, rfl⟩
abbrev main_v47 : Ref sig .tc := ⟨.hbm, 108, rfl⟩
abbrev main_v48 : Ref sig .tc := ⟨.hbm, 109, rfl⟩
abbrev main_v49 : Ref sig .tc := ⟨.hbm, 110, rfl⟩
abbrev main_v50 : Ref sig .tc := ⟨.hbm, 111, rfl⟩
abbrev main_v51 : Ref sig .tc := ⟨.hbm, 112, rfl⟩
abbrev main_v52 : Ref sig .tc := ⟨.hbm, 113, rfl⟩
abbrev main_v53 : Ref sig .tc := ⟨.hbm, 114, rfl⟩
abbrev main_cst_13 : Ref sig .tc := ⟨.hbm, 115, rfl⟩
abbrev main_v54 : Ref sig .tc := ⟨.hbm, 116, rfl⟩
abbrev main_v55 : Ref sig .tc := ⟨.hbm, 117, rfl⟩
abbrev main_v56 : Ref sig .tc := ⟨.hbm, 118, rfl⟩
abbrev main_v57 : Ref sig .tc := ⟨.hbm, 119, rfl⟩
abbrev main_cst_14 : Ref sig .tc := ⟨.hbm, 120, rfl⟩
abbrev main_v58 : Ref sig .tc := ⟨.hbm, 121, rfl⟩
abbrev main_v59 : Ref sig .tc := ⟨.hbm, 122, rfl⟩
abbrev main_v60 : Ref sig .tc := ⟨.hbm, 123, rfl⟩
abbrev main_v61 : Ref sig .tc := ⟨.hbm, 124, rfl⟩
abbrev main_cst_15 : Ref sig .tc := ⟨.hbm, 125, rfl⟩
abbrev main_v62 : Ref sig .tc := ⟨.hbm, 126, rfl⟩
abbrev main_v63 : Ref sig .tc := ⟨.hbm, 127, rfl⟩
abbrev main_v64 : Ref sig .tc := ⟨.hbm, 128, rfl⟩
abbrev main_cst_16 : Ref sig .tc := ⟨.hbm, 129, rfl⟩
abbrev main_v65 : Ref sig .tc := ⟨.hbm, 130, rfl⟩
abbrev main_v66 : Ref sig .tc := ⟨.hbm, 131, rfl⟩
abbrev main_v67 : Ref sig .tc := ⟨.hbm, 132, rfl⟩
abbrev main_v68 : Ref sig .tc := ⟨.hbm, 133, rfl⟩
abbrev main_cst_17 : Ref sig .tc := ⟨.hbm, 134, rfl⟩
abbrev main_v69 : Ref sig .tc := ⟨.hbm, 135, rfl⟩
abbrev main_v70 : Ref sig .tc := ⟨.hbm, 136, rfl⟩
abbrev main_v71 : Ref sig .tc := ⟨.hbm, 137, rfl⟩
abbrev main_v72 : Ref sig .tc := ⟨.hbm, 138, rfl⟩
abbrev main_v73 : Ref sig .tc := ⟨.hbm, 139, rfl⟩
abbrev main_v74 : Ref sig .tc := ⟨.hbm, 140, rfl⟩
abbrev main_call1_c : Ref sig .tc := ⟨.hbm, 141, rfl⟩
abbrev main_call1_v0 : Ref sig .tc := ⟨.hbm, 142, rfl⟩
abbrev main_call1_v1 : Ref sig .tc := ⟨.hbm, 143, rfl⟩
abbrev main_call1_c_0 : Ref sig .tc := ⟨.hbm, 144, rfl⟩
abbrev main_call1_v2 : Ref sig .tc := ⟨.hbm, 145, rfl⟩
abbrev main_call1_v3 : Ref sig .tc := ⟨.hbm, 146, rfl⟩
abbrev main_call1_v4 : Ref sig .tc := ⟨.hbm, 147, rfl⟩
abbrev main_call1_v5 : Ref sig .tc := ⟨.hbm, 148, rfl⟩
abbrev main_call1_c_1 : Ref sig .tc := ⟨.hbm, 149, rfl⟩
abbrev main_call1_c_2 : Ref sig .tc := ⟨.hbm, 150, rfl⟩
abbrev main_call1_v6 : Ref sig .tc := ⟨.hbm, 151, rfl⟩
abbrev main_call1_v7 : Ref sig .tc := ⟨.hbm, 152, rfl⟩
abbrev main_call1_v8 : Ref sig .tc := ⟨.hbm, 153, rfl⟩
abbrev main_call1_v9 : Ref sig .tc := ⟨.hbm, 154, rfl⟩
abbrev main_call1_v10 : Ref sig .tc := ⟨.hbm, 155, rfl⟩
abbrev main_call1_v11 : Ref sig .tc := ⟨.hbm, 156, rfl⟩
abbrev main_call1_c_3 : Ref sig .tc := ⟨.hbm, 157, rfl⟩
abbrev main_call1_v12 : Ref sig .tc := ⟨.hbm, 158, rfl⟩
abbrev main_call1_v13 : Ref sig .tc := ⟨.hbm, 159, rfl⟩
abbrev main_call1_v14 : Ref sig .tc := ⟨.hbm, 160, rfl⟩
abbrev main_call1_cst : Ref sig .tc := ⟨.hbm, 161, rfl⟩
abbrev main_call1_v15 : Ref sig .tc := ⟨.hbm, 162, rfl⟩
abbrev main_v75 : Ref sig .tc := ⟨.hbm, 163, rfl⟩
abbrev main_call2_c : Ref sig .tc := ⟨.hbm, 164, rfl⟩
abbrev main_call2_v0 : Ref sig .tc := ⟨.hbm, 165, rfl⟩
abbrev main_call2_v1 : Ref sig .tc := ⟨.hbm, 166, rfl⟩
abbrev main_call2_c_0 : Ref sig .tc := ⟨.hbm, 167, rfl⟩
abbrev main_call2_v2 : Ref sig .tc := ⟨.hbm, 168, rfl⟩
abbrev main_call2_v3 : Ref sig .tc := ⟨.hbm, 169, rfl⟩
abbrev main_call2_v4 : Ref sig .tc := ⟨.hbm, 170, rfl⟩
abbrev main_call2_v5 : Ref sig .tc := ⟨.hbm, 171, rfl⟩
abbrev main_call2_c_1 : Ref sig .tc := ⟨.hbm, 172, rfl⟩
abbrev main_call2_c_2 : Ref sig .tc := ⟨.hbm, 173, rfl⟩
abbrev main_call2_v6 : Ref sig .tc := ⟨.hbm, 174, rfl⟩
abbrev main_call2_v7 : Ref sig .tc := ⟨.hbm, 175, rfl⟩
abbrev main_call2_v8 : Ref sig .tc := ⟨.hbm, 176, rfl⟩
abbrev main_call2_v9 : Ref sig .tc := ⟨.hbm, 177, rfl⟩
abbrev main_call2_v10 : Ref sig .tc := ⟨.hbm, 178, rfl⟩
abbrev main_call2_v11 : Ref sig .tc := ⟨.hbm, 179, rfl⟩
abbrev main_call2_c_3 : Ref sig .tc := ⟨.hbm, 180, rfl⟩
abbrev main_call2_v12 : Ref sig .tc := ⟨.hbm, 181, rfl⟩
abbrev main_call2_v13 : Ref sig .tc := ⟨.hbm, 182, rfl⟩
abbrev main_call2_v14 : Ref sig .tc := ⟨.hbm, 183, rfl⟩
abbrev main_call2_cst : Ref sig .tc := ⟨.hbm, 184, rfl⟩
abbrev main_call2_v15 : Ref sig .tc := ⟨.hbm, 185, rfl⟩
abbrev main_v76 : Ref sig .tc := ⟨.hbm, 186, rfl⟩
abbrev main_v77 : Ref sig .tc := ⟨.hbm, 187, rfl⟩
abbrev main_v78 : Ref sig .tc := ⟨.hbm, 188, rfl⟩
abbrev main_v79 : Ref sig .tc := ⟨.hbm, 189, rfl⟩
abbrev main_v80 : Ref sig .tc := ⟨.hbm, 190, rfl⟩
abbrev main_v81 : Ref sig .tc := ⟨.hbm, 191, rfl⟩
abbrev main_v82 : Ref sig .tc := ⟨.hbm, 192, rfl⟩
abbrev main_v83 : Ref sig .tc := ⟨.hbm, 193, rfl⟩
abbrev main_call3_cst : Ref sig .tc := ⟨.hbm, 194, rfl⟩
abbrev main_call3_v0 : Ref sig .tc := ⟨.hbm, 195, rfl⟩
abbrev main_v84 : Ref sig .tc := ⟨.hbm, 196, rfl⟩
abbrev main_cst_18 : Ref sig .tc := ⟨.hbm, 197, rfl⟩
abbrev main_v85 : Ref sig .tc := ⟨.hbm, 198, rfl⟩
abbrev main_c_19 : Ref sig .tc := ⟨.hbm, 199, rfl⟩
abbrev main_v86 : Ref sig .tc := ⟨.hbm, 200, rfl⟩
abbrev main_v87 : Ref sig .tc := ⟨.hbm, 201, rfl⟩
abbrev main_c_20 : Ref sig .tc := ⟨.hbm, 202, rfl⟩
abbrev main_v88 : Ref sig .tc := ⟨.hbm, 203, rfl⟩
abbrev main_v89 : Ref sig .tc := ⟨.hbm, 204, rfl⟩
abbrev main_v90 : Ref sig .tc := ⟨.hbm, 205, rfl⟩
abbrev main_v91 : Ref sig .tc := ⟨.hbm, 206, rfl⟩
abbrev main_v92 : Ref sig .tc := ⟨.hbm, 207, rfl⟩
abbrev main_cst_21 : Ref sig .tc := ⟨.hbm, 208, rfl⟩
abbrev main_v93 : Ref sig .tc := ⟨.hbm, 209, rfl⟩
abbrev main_call4_c : Ref sig .tc := ⟨.hbm, 210, rfl⟩
abbrev main_call4_v0 : Ref sig .tc := ⟨.hbm, 211, rfl⟩
abbrev main_call4_v1 : Ref sig .tc := ⟨.hbm, 212, rfl⟩
abbrev main_call4_c_0 : Ref sig .tc := ⟨.hbm, 213, rfl⟩
abbrev main_call4_v2 : Ref sig .tc := ⟨.hbm, 214, rfl⟩
abbrev main_call4_v3 : Ref sig .tc := ⟨.hbm, 215, rfl⟩
abbrev main_call4_v4 : Ref sig .tc := ⟨.hbm, 216, rfl⟩
abbrev main_call4_v5 : Ref sig .tc := ⟨.hbm, 217, rfl⟩
abbrev main_call4_c_1 : Ref sig .tc := ⟨.hbm, 218, rfl⟩
abbrev main_call4_c_2 : Ref sig .tc := ⟨.hbm, 219, rfl⟩
abbrev main_call4_v6 : Ref sig .tc := ⟨.hbm, 220, rfl⟩
abbrev main_call4_v7 : Ref sig .tc := ⟨.hbm, 221, rfl⟩
abbrev main_call4_v8 : Ref sig .tc := ⟨.hbm, 222, rfl⟩
abbrev main_call4_v9 : Ref sig .tc := ⟨.hbm, 223, rfl⟩
abbrev main_call4_v10 : Ref sig .tc := ⟨.hbm, 224, rfl⟩
abbrev main_call4_v11 : Ref sig .tc := ⟨.hbm, 225, rfl⟩
abbrev main_call4_c_3 : Ref sig .tc := ⟨.hbm, 226, rfl⟩
abbrev main_call4_v12 : Ref sig .tc := ⟨.hbm, 227, rfl⟩
abbrev main_call4_v13 : Ref sig .tc := ⟨.hbm, 228, rfl⟩
abbrev main_call4_v14 : Ref sig .tc := ⟨.hbm, 229, rfl⟩
abbrev main_call4_cst : Ref sig .tc := ⟨.hbm, 230, rfl⟩
abbrev main_call4_v15 : Ref sig .tc := ⟨.hbm, 231, rfl⟩
abbrev main_v94 : Ref sig .tc := ⟨.hbm, 232, rfl⟩
abbrev main_v95 : Ref sig .tc := ⟨.hbm, 233, rfl⟩
abbrev main_c_22 : Ref sig .tc := ⟨.hbm, 234, rfl⟩
abbrev main_v96 : Ref sig .tc := ⟨.hbm, 235, rfl⟩
abbrev main_v97 : Ref sig .tc := ⟨.hbm, 236, rfl⟩
abbrev main_c_23 : Ref sig .tc := ⟨.hbm, 237, rfl⟩
abbrev main_v98 : Ref sig .tc := ⟨.hbm, 238, rfl⟩
abbrev main_v99 : Ref sig .tc := ⟨.hbm, 239, rfl⟩
abbrev main_v100 : Ref sig .tc := ⟨.hbm, 240, rfl⟩
abbrev main_v101 : Ref sig .tc := ⟨.hbm, 241, rfl⟩
abbrev main_v102 : Ref sig .tc := ⟨.hbm, 242, rfl⟩
abbrev main_v103 : Ref sig .tc := ⟨.hbm, 243, rfl⟩
abbrev main_v104 : Ref sig .tc := ⟨.hbm, 244, rfl⟩
abbrev main_cst_24 : Ref sig .tc := ⟨.hbm, 245, rfl⟩
abbrev main_v105 : Ref sig .tc := ⟨.hbm, 246, rfl⟩
abbrev main_v106 : Ref sig .tc := ⟨.hbm, 247, rfl⟩
abbrev main_v107 : Ref sig .tc := ⟨.hbm, 248, rfl⟩
abbrev main_v108 : Ref sig .tc := ⟨.hbm, 249, rfl⟩
abbrev main_cst_25 : Ref sig .tc := ⟨.hbm, 250, rfl⟩
abbrev main_v109 : Ref sig .tc := ⟨.hbm, 251, rfl⟩
abbrev main_v110 : Ref sig .tc := ⟨.hbm, 252, rfl⟩
abbrev main_v111 : Ref sig .tc := ⟨.hbm, 253, rfl⟩
abbrev main_v112 : Ref sig .tc := ⟨.hbm, 254, rfl⟩
abbrev main_cst_26 : Ref sig .tc := ⟨.hbm, 255, rfl⟩
abbrev main_v113 : Ref sig .tc := ⟨.hbm, 256, rfl⟩
abbrev main_v114 : Ref sig .tc := ⟨.hbm, 257, rfl⟩
abbrev main_v115 : Ref sig .tc := ⟨.hbm, 258, rfl⟩
abbrev main_v116 : Ref sig .tc := ⟨.hbm, 259, rfl⟩
abbrev main_v117 : Ref sig .tc := ⟨.hbm, 260, rfl⟩
abbrev main_v118 : Ref sig .tc := ⟨.hbm, 261, rfl⟩
abbrev main_v119 : Ref sig .tc := ⟨.hbm, 262, rfl⟩
abbrev main_v120 : Ref sig .tc := ⟨.hbm, 263, rfl⟩
abbrev main_v121 : Ref sig .tc := ⟨.hbm, 264, rfl⟩
abbrev main_cst_27 : Ref sig .tc := ⟨.hbm, 265, rfl⟩
abbrev main_v122 : Ref sig .tc := ⟨.hbm, 266, rfl⟩
abbrev main_v123 : Ref sig .tc := ⟨.hbm, 267, rfl⟩
abbrev main_v124_0 : Ref sig .tc := ⟨.hbm, 268, rfl⟩
abbrev main_v124_1 : Ref sig .tc := ⟨.hbm, 269, rfl⟩
abbrev main_v125 : Ref sig .tc := ⟨.hbm, 270, rfl⟩
abbrev main_v126 : Ref sig .tc := ⟨.hbm, 271, rfl⟩
abbrev main_cst_28 : Ref sig .tc := ⟨.hbm, 272, rfl⟩
abbrev main_v127 : Ref sig .tc := ⟨.hbm, 273, rfl⟩
abbrev main_v128 : Ref sig .tc := ⟨.hbm, 274, rfl⟩
abbrev main_v129 : Ref sig .tc := ⟨.hbm, 275, rfl⟩
abbrev main_v130 : Ref sig .tc := ⟨.hbm, 276, rfl⟩
abbrev main_cst_29 : Ref sig .tc := ⟨.hbm, 277, rfl⟩
abbrev main_v131 : Ref sig .tc := ⟨.hbm, 278, rfl⟩
abbrev main_v132 : Ref sig .tc := ⟨.hbm, 279, rfl⟩
abbrev main_v133 : Ref sig .tc := ⟨.hbm, 280, rfl⟩
abbrev main_v134 : Ref sig .tc := ⟨.hbm, 281, rfl⟩
abbrev main_cst_30 : Ref sig .tc := ⟨.hbm, 282, rfl⟩
abbrev main_v135 : Ref sig .tc := ⟨.hbm, 283, rfl⟩
abbrev main_v136 : Ref sig .tc := ⟨.hbm, 284, rfl⟩
abbrev main_v137 : Ref sig .tc := ⟨.hbm, 285, rfl⟩
abbrev main_v138 : Ref sig .tc := ⟨.hbm, 286, rfl⟩
abbrev main_v139 : Ref sig .tc := ⟨.hbm, 287, rfl⟩
abbrev main_v140 : Ref sig .tc := ⟨.hbm, 288, rfl⟩
abbrev main_v141 : Ref sig .tc := ⟨.hbm, 289, rfl⟩
abbrev main_v142 : Ref sig .tc := ⟨.hbm, 290, rfl⟩
abbrev main_v143 : Ref sig .tc := ⟨.hbm, 291, rfl⟩
abbrev main_cst_31 : Ref sig .tc := ⟨.hbm, 292, rfl⟩
abbrev main_v144 : Ref sig .tc := ⟨.hbm, 293, rfl⟩
abbrev main_v145 : Ref sig .tc := ⟨.hbm, 294, rfl⟩
abbrev main_v146 : Ref sig .tc := ⟨.hbm, 295, rfl⟩
abbrev main_v147 : Ref sig .tc := ⟨.hbm, 296, rfl⟩
abbrev main_v148 : Ref sig .tc := ⟨.hbm, 297, rfl⟩
abbrev main_v149 : Ref sig .tc := ⟨.hbm, 298, rfl⟩
abbrev main_cst_32 : Ref sig .tc := ⟨.hbm, 299, rfl⟩
abbrev main_v150 : Ref sig .tc := ⟨.hbm, 300, rfl⟩
abbrev main_v151 : Ref sig .tc := ⟨.hbm, 301, rfl⟩
abbrev main_v152 : Ref sig .tc := ⟨.hbm, 302, rfl⟩
abbrev main_v153 : Ref sig .tc := ⟨.hbm, 303, rfl⟩
abbrev main_v154 : Ref sig .tc := ⟨.hbm, 304, rfl⟩
abbrev main_cst_33 : Ref sig .tc := ⟨.hbm, 305, rfl⟩
abbrev main_v155 : Ref sig .tc := ⟨.hbm, 306, rfl⟩
abbrev main_v156 : Ref sig .tc := ⟨.hbm, 307, rfl⟩
abbrev main_v157 : Ref sig .tc := ⟨.hbm, 308, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg1_1 : Ref sig .tc := ⟨.vmem, 13, rfl⟩
abbrev cc2_stg2_0 : Ref sig .tc := ⟨.vmem, 14, rfl⟩
abbrev cc2_stg2_1 : Ref sig .tc := ⟨.vmem, 15, rfl⟩
abbrev cc2_stg3_0 : Ref sig .tc := ⟨.vmem, 16, rfl⟩
abbrev cc2_stg3_1 : Ref sig .tc := ⟨.vmem, 17, rfl⟩
abbrev cc2_stg4_0 : Ref sig .tc := ⟨.vmem, 18, rfl⟩
abbrev cc2_stg5_0 : Ref sig .tc := ⟨.vmem, 19, rfl⟩
abbrev cc2_stg6_0 : Ref sig .tc := ⟨.vmem, 20, rfl⟩
abbrev cc2_stg6_1 : Ref sig .tc := ⟨.vmem, 21, rfl⟩
abbrev cc2_stg7_0 : Ref sig .tc := ⟨.vmem, 22, rfl⟩
abbrev cc2_stg8_0 : Ref sig .tc := ⟨.vmem, 23, rfl⟩
abbrev cc2_stg9_0 : Ref sig .tc := ⟨.vmem, 24, rfl⟩
abbrev cc2_scratch0 : Ref sig .tc := ⟨.vmem, 25, rfl⟩
abbrev cc2_scratch1 : Ref sig .tc := ⟨.vmem, 26, rfl⟩
abbrev cc2_scratch2 : Ref sig .tc := ⟨.vmem, 27, rfl⟩
abbrev cc3_stg0_0 : Ref sig .tc := ⟨.vmem, 28, rfl⟩
abbrev cc3_stg0_1 : Ref sig .tc := ⟨.vmem, 29, rfl⟩
abbrev cc3_stg1_0 : Ref sig .tc := ⟨.vmem, 30, rfl⟩
abbrev cc3_stg2_0 : Ref sig .tc := ⟨.vmem, 31, rfl⟩
abbrev cc3_stg3_0 : Ref sig .tc := ⟨.vmem, 32, rfl⟩
abbrev cc3_stg3_1 : Ref sig .tc := ⟨.vmem, 33, rfl⟩
abbrev cc3_stg4_0 : Ref sig .tc := ⟨.vmem, 34, rfl⟩
abbrev cc3_scratch0 : Ref sig .tc := ⟨.vmem, 35, rfl⟩
abbrev cc4_stg0_0 : Ref sig .tc := ⟨.vmem, 36, rfl⟩
abbrev cc4_stg0_1 : Ref sig .tc := ⟨.vmem, 37, rfl⟩
abbrev cc4_stg1_0 : Ref sig .tc := ⟨.vmem, 38, rfl⟩
abbrev cc4_stg2_0 : Ref sig .tc := ⟨.vmem, 39, rfl⟩
abbrev cc4_stg2_1 : Ref sig .tc := ⟨.vmem, 40, rfl⟩
abbrev cc5_stg0_0 : Ref sig .tc := ⟨.vmem, 41, rfl⟩
abbrev cc5_stg1_0 : Ref sig .tc := ⟨.vmem, 42, rfl⟩
abbrev cc5_stg2_0 : Ref sig .tc := ⟨.vmem, 43, rfl⟩
abbrev cc5_stg3_0 : Ref sig .tc := ⟨.vmem, 44, rfl⟩
abbrev cc5_stg4_0 : Ref sig .tc := ⟨.vmem, 45, rfl⟩
abbrev cc5_stg5_0 : Ref sig .tc := ⟨.vmem, 46, rfl⟩
abbrev cc5_stg6_0 : Ref sig .tc := ⟨.vmem, 47, rfl⟩
abbrev cc5_stg7_0 : Ref sig .tc := ⟨.vmem, 48, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem1_1 : DmaSem sig := 13
abbrev cc2_sem2_0 : DmaSem sig := 14
abbrev cc2_sem2_1 : DmaSem sig := 15
abbrev cc2_sem3_0 : DmaSem sig := 16
abbrev cc2_sem3_1 : DmaSem sig := 17
abbrev cc2_sem4_0 : DmaSem sig := 18
abbrev cc2_sem5_0 : DmaSem sig := 19
abbrev cc2_sem6_0 : DmaSem sig := 20
abbrev cc2_sem6_1 : DmaSem sig := 21
abbrev cc2_sem7_0 : DmaSem sig := 22
abbrev cc2_sem8_0 : DmaSem sig := 23
abbrev cc2_sem9_0 : DmaSem sig := 24
abbrev cc3_sem0_0 : DmaSem sig := 25
abbrev cc3_sem0_1 : DmaSem sig := 26
abbrev cc3_sem1_0 : DmaSem sig := 27
abbrev cc3_sem2_0 : DmaSem sig := 28
abbrev cc3_sem3_0 : DmaSem sig := 29
abbrev cc3_sem3_1 : DmaSem sig := 30
abbrev cc3_sem4_0 : DmaSem sig := 31
abbrev cc4_sem0_0 : DmaSem sig := 32
abbrev cc4_sem0_1 : DmaSem sig := 33
abbrev cc4_sem1_0 : DmaSem sig := 34
abbrev cc4_sem2_0 : DmaSem sig := 35
abbrev cc4_sem2_1 : DmaSem sig := 36
abbrev cc5_sem0_0 : DmaSem sig := 37
abbrev cc5_sem1_0 : DmaSem sig := 38
abbrev cc5_sem2_0 : DmaSem sig := 39
abbrev cc5_sem3_0 : DmaSem sig := 40
abbrev cc5_sem4_0 : DmaSem sig := 41
abbrev cc5_sem5_0 : DmaSem sig := 42
abbrev cc5_sem6_0 : DmaSem sig := 43
abbrev cc5_sem7_0 : DmaSem sig := 44

abbrev nD : Nat := 1
abbrev τ : Topo := Topo.v7x

variable {F : FTy → Type} [FloatOps F]

abbrev grid0 : Pipeline.Grid := .none

abbrev stage0_0 : Fin 1 → Memref sig .tc .vmem S10000x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8x10000 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S10000x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S8x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev grid1 : Pipeline.Grid := ⟨1, ![100], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S3200x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S3200x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![100], ![false]⟩

def k2_cond2 (i : grid2.Coords) : BitVec 1 :=
  let arg0 : BitVec 32 := BitVec.ofNat 32 (i 0).val
  let c99_i32 : BitVec 32 := 99#32
  let v62 : BitVec 1 := Scalar.cmpi .eq arg0 c99_i32
  let v63 : BitVec 32 := Scalar.extui v62
  let c0_i32_44 : BitVec 32 := 0#32
  let v64 : BitVec 1 := Scalar.cmpi .ne v63 c0_i32_44
  v64

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S3200x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S3200x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S3200x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S1x8x3200 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 1 → Memref sig .tc .vmem S128x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x1 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S3200x128 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev stage2_7 : Fin 1 → Memref sig .tc .vmem S8x128 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S8x128 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 1 → Memref sig .tc .vmem S128x128 .f32 := fun | 0 => Memref.whole cc2_stg9_0 | ⟨_ + 1, h⟩ => absurd h (Nat.not_lt.2 (Nat.le_add_left _ _))
abbrev sem2_9 : Fin 1 → DmaSem sig := fun | 0 => cc2_sem9_0 | ⟨_ + 1, h⟩ => absurd h (Nat.not_lt.2 (Nat.le_add_left _ _))
abbrev reads2_9 : Fin grid2.rank → Bool := ![false]

abbrev grid3 : Pipeline.Grid := ⟨1, ![100], ![false]⟩

def k3_cond2 (i : grid3.Coords) : BitVec 1 :=
  let arg0 : BitVec 32 := BitVec.ofNat 32 (i 0).val
  let c99_i32 : BitVec 32 := 99#32
  let v33 : BitVec 1 := Scalar.cmpi .eq arg0 c99_i32
  let v34 : BitVec 32 := Scalar.extui v33
  let c0_i32_20 : BitVec 32 := 0#32
  let v35 : BitVec 1 := Scalar.cmpi .ne v34 c0_i32_20
  v35

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage3_0 : Fin 2 → Memref sig .tc .vmem S3200x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S8x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S128x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S3200x128 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev stage3_4 : Fin 1 → Memref sig .tc .vmem S8x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev grid4 : Pipeline.Grid := ⟨1, ![100], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S3200x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S8x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S3200x128 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := .none

abbrev stage5_0 : Fin 1 → Memref sig .tc .vmem S10000x128 .f32 := fun | 0 => Memref.whole cc5_stg0_0 | ⟨_ + 1, h⟩ => absurd h (Nat.not_lt.2 (Nat.le_add_left _ _))
abbrev sem5_0 : Fin 1 → DmaSem sig := fun | 0 => cc5_sem0_0 | ⟨_ + 1, h⟩ => absurd h (Nat.not_lt.2 (Nat.le_add_left _ _))

abbrev stage5_1 : Fin 1 → Memref sig .tc .vmem S10000x128 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))

abbrev stage5_2 : Fin 1 → Memref sig .tc .vmem S128x128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))

abbrev stage5_3 : Fin 1 → Memref sig .tc .vmem S8x128 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))

abbrev stage5_4 : Fin 1 → Memref sig .tc .vmem S128x128 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))

abbrev stage5_5 : Fin 1 → Memref sig .tc .vmem S8x128 .f32 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))

abbrev stage5_6 : Fin 1 → Memref sig .tc .vmem S1x1 .f32 := fun | 0 => Memref.whole cc5_stg6_0 | ⟨_ + 1, h⟩ => absurd h (Nat.not_lt.2 (Nat.le_add_left _ _))
abbrev sem5_6 : Fin 1 → DmaSem sig := fun | 0 => cc5_sem6_0 | ⟨_ + 1, h⟩ => absurd h (Nat.not_lt.2 (Nat.le_add_left _ _))

abbrev stage5_7 : Fin 1 → Memref sig .tc .vmem S10000x128 .f32 := fun | 0 => Memref.whole cc5_stg7_0 | ⟨_ + 1, h⟩ => absurd h (Nat.not_lt.2 (Nat.le_add_left _ _))
abbrev sem5_7 : Fin 1 → DmaSem sig := fun | 0 => cc5_sem7_0 | ⟨_ + 1, h⟩ => absurd h (Nat.not_lt.2 (Nat.le_add_left _ _))
-- ==== ReferenceIdeal.lean ====
abbrev S10000x128 : Shape := ⟨2, ![10000, 128]⟩
abbrev S320000x128 : Shape := ⟨2, ![320000, 128]⟩
abbrev S2x640000 : Shape := ⟨2, ![2, 640000]⟩
abbrev S128x256 : Shape := ⟨2, ![128, 256]⟩
abbrev S128 : Shape := ⟨1, ![128]⟩
abbrev S128x128 : Shape := ⟨2, ![128, 128]⟩
abbrev S_ : Shape := ⟨0, ![]⟩
abbrev S1x640000 : Shape := ⟨2, ![1, 640000]⟩
abbrev S640000 : Shape := ⟨1, ![640000]⟩
abbrev S640000x1 : Shape := ⟨2, ![640000, 1]⟩
abbrev S1 : Shape := ⟨1, ![1]⟩
abbrev S1x1 : Shape := ⟨2, ![1, 1]⟩
abbrev S640000x128 : Shape := ⟨2, ![640000, 128]⟩
abbrev S640000x256 : Shape := ⟨2, ![640000, 256]⟩
abbrev S256x128 : Shape := ⟨2, ![256, 128]⟩
abbrev S1x128 : Shape := ⟨2, ![1, 128]⟩
abbrev S320000x256 : Shape := ⟨2, ![320000, 256]⟩

abbrev nBuf : Space → Nat
  | .hbm => 361
  | .vmem => 0
  | .smem => 0
  | _ => 0

abbrev hbmTy0_0 (i : Nat) : BufTy := match i % 128 with
  | 0 => ⟨S10000x128, .f32⟩
  | 1 => ⟨S320000x128, .f32⟩
  | 2 => ⟨S2x640000, .i32⟩
  | 3 => ⟨S128x256, .f32⟩
  | 4 => ⟨S128, .f32⟩
  | 5 => ⟨S128, .f32⟩
  | 6 => ⟨S128x128, .f32⟩
  | 7 => ⟨S128, .f32⟩
  | 8 => ⟨S128, .f32⟩
  | 9 => ⟨S128x128, .f32⟩
  | 10 => ⟨S128, .f32⟩
  | 11 => ⟨S128, .f32⟩
  | 12 => ⟨S128x128, .f32⟩
  | 13 => ⟨S128, .f32⟩
  | 14 => ⟨S128, .f32⟩
  | 15 => ⟨S128x128, .f32⟩
  | 16 => ⟨S128, .f32⟩
  | 17 => ⟨S128, .f32⟩
  | 18 => ⟨S_, .f32⟩
  | 19 => ⟨S_, .f32⟩
  | 20 => ⟨S1x640000, .i32⟩
  | 21 => ⟨S640000, .i32⟩
  | 22 => ⟨S1x640000, .i32⟩
  | 23 => ⟨S640000, .i32⟩
  | 24 => ⟨S_, .i32⟩
  | 25 => ⟨S640000, .i32⟩
  | 26 => ⟨S640000, .i1⟩
  | 27 => ⟨S_, .i32⟩
  | 28 => ⟨S640000, .i32⟩
  | 29 => ⟨S640000, .i32⟩
  | 30 => ⟨S640000, .i32⟩
  | 31 => ⟨S640000x1, .i32⟩
  | 32 => ⟨S1, .i32⟩
  | 33 => ⟨S_, .i32⟩
  | 34 => ⟨S640000x1, .i32⟩
  | 35 => ⟨S640000x1, .i1⟩
  | 36 => ⟨S1x1, .i32⟩
  | 37 => ⟨S640000x1, .i32⟩
  | 38 => ⟨S640000x1, .i1⟩
  | 39 => ⟨S640000x1, .i1⟩
  | 40 => ⟨S_, .i1⟩
  | 41 => ⟨S640000, .i1⟩
  | 42 => ⟨S640000x128, .f32⟩
  | 43 => ⟨S640000x128, .i1⟩
  | 44 => ⟨S_, .f32⟩
  | 45 => ⟨S640000x128, .f32⟩
  | 46 => ⟨S640000x128, .f32⟩
  | 47 => ⟨S_, .i32⟩
  | 48 => ⟨S640000, .i32⟩
  | 49 => ⟨S640000, .i1⟩
  | 50 => ⟨S_, .i32⟩
  | 51 => ⟨S640000, .i32⟩
  | 52 => ⟨S640000, .i32⟩
  | 53 => ⟨S640000, .i32⟩
  | 54 => ⟨S640000x1, .i32⟩
  | 55 => ⟨S1, .i32⟩
  | 56 => ⟨S_, .i32⟩
  | 57 => ⟨S640000x1, .i32⟩
  | 58 => ⟨S640000x1, .i1⟩
  | 59 => ⟨S1x1, .i32⟩
  | 60 => ⟨S640000x1, .i32⟩
  | 61 => ⟨S640000x1, .i1⟩
  | 62 => ⟨S640000x1, .i1⟩
  | 63 => ⟨S_, .i1⟩
  | 64 => ⟨S640000, .i1⟩
  | 65 => ⟨S640000x128, .f32⟩
  | 66 => ⟨S640000x128, .i1⟩
  | 67 => ⟨S_, .f32⟩
  | 68 => ⟨S640000x128, .f32⟩
  | 69 => ⟨S640000x128, .f32⟩
  | 70 => ⟨S640000x256, .f32⟩
  | 71 => ⟨S256x128, .f32⟩
  | 72 => ⟨S640000x128, .f32⟩
  | 73 => ⟨S_, .f32⟩
  | 74 => ⟨S128, .f32⟩
  | 75 => ⟨S_, .f32⟩
  | 76 => ⟨S128, .f32⟩
  | 77 => ⟨S128, .f32⟩
  | 78 => ⟨S_, .i32⟩
  | 79 => ⟨S_, .f32⟩
  | 80 => ⟨S128, .f32⟩
  | 81 => ⟨S1x128, .f32⟩
  | 82 => ⟨S_, .f32⟩
  | 83 => ⟨S1x128, .f32⟩
  | 84 => ⟨S1x128, .f32⟩
  | 85 => ⟨S640000x128, .f32⟩
  | 86 => ⟨S640000x128, .f32⟩
  | 87 => ⟨S640000x128, .f32⟩
  | 88 => ⟨S_, .f32⟩
  | 89 => ⟨S_, .f32⟩
  | 90 => ⟨S_, .f32⟩
  | 91 => ⟨S_, .f32⟩
  | 92 => ⟨S128, .f32⟩
  | 93 => ⟨S128, .f32⟩
  | 94 => ⟨S128, .f32⟩
  | 95 => ⟨S_, .f32⟩
  | 96 => ⟨S_, .i1⟩
  | 97 => ⟨S_, .f32⟩
  | 98 => ⟨S_, .f32⟩
  | 99 => ⟨S128, .f32⟩
  | 100 => ⟨S128, .f32⟩
  | 101 => ⟨S1x128, .f32⟩
  | 102 => ⟨S640000x128, .f32⟩
  | 103 => ⟨S640000x128, .f32⟩
  | 104 => ⟨S1x128, .f32⟩
  | 105 => ⟨S640000x128, .f32⟩
  | 106 => ⟨S640000x128, .f32⟩
  | 107 => ⟨S_, .f32⟩
  | 108 => ⟨S128, .f32⟩
  | 109 => ⟨S128, .f32⟩
  | 110 => ⟨S128, .f32⟩
  | 111 => ⟨S1x128, .f32⟩
  | 112 => ⟨S640000x128, .f32⟩
  | 113 => ⟨S640000x128, .f32⟩
  | 114 => ⟨S1x128, .f32⟩
  | 115 => ⟨S640000x128, .f32⟩
  | 116 => ⟨S640000x128, .f32⟩
  | 117 => ⟨S_, .f32⟩
  | 118 => ⟨S640000x128, .f32⟩
  | 119 => ⟨S640000x128, .f32⟩
  | 120 => ⟨S640000x256, .f32⟩
  | 121 => ⟨S_, .f32⟩
  | 122 => ⟨S320000x256, .f32⟩
  | 123 => ⟨S640000x1, .i32⟩
  | 124 => ⟨S320000x256, .f32⟩
  | 125 => ⟨S320000x128, .f32⟩
  | 126 => ⟨S320000x128, .f32⟩
  | 127 => ⟨S_, .i32⟩
  | _ => ⟨S10000x128, .f32⟩

abbrev hbmTy0_1 (i : Nat) : BufTy := match i % 128 with
  | 0 => ⟨S640000, .i32⟩
  | 1 => ⟨S640000, .i1⟩
  | 2 => ⟨S_, .i32⟩
  | 3 => ⟨S640000, .i32⟩
  | 4 => ⟨S640000, .i32⟩
  | 5 => ⟨S640000, .i32⟩
  | 6 => ⟨S640000x1, .i32⟩
  | 7 => ⟨S1, .i32⟩
  | 8 => ⟨S_, .i32⟩
  | 9 => ⟨S640000x1, .i32⟩
  | 10 => ⟨S640000x1, .i1⟩
  | 11 => ⟨S1x1, .i32⟩
  | 12 => ⟨S640000x1, .i32⟩
  | 13 => ⟨S640000x1, .i1⟩
  | 14 => ⟨S640000x1, .i1⟩
  | 15 => ⟨S_, .i1⟩
  | 16 => ⟨S640000, .i1⟩
  | 17 => ⟨S640000x128, .f32⟩
  | 18 => ⟨S640000x128, .i1⟩
  | 19 => ⟨S_, .f32⟩
  | 20 => ⟨S640000x128, .f32⟩
  | 21 => ⟨S640000x128, .f32⟩
  | 22 => ⟨S640000x128, .f32⟩
  | 23 => ⟨S_, .f32⟩
  | 24 => ⟨S10000x128, .f32⟩
  | 25 => ⟨S640000x1, .i32⟩
  | 26 => ⟨S10000x128, .f32⟩
  | 27 => ⟨S_, .f32⟩
  | 28 => ⟨S_, .f32⟩
  | 29 => ⟨S10000x128, .f32⟩
  | 30 => ⟨S10000x128, .f32⟩
  | 31 => ⟨S10000x128, .f32⟩
  | 32 => ⟨S128x128, .f32⟩
  | 33 => ⟨S10000x128, .f32⟩
  | 34 => ⟨S_, .f32⟩
  | 35 => ⟨S128, .f32⟩
  | 36 => ⟨S_, .f32⟩
  | 37 => ⟨S128, .f32⟩
  | 38 => ⟨S128, .f32⟩
  | 39 => ⟨S_, .i32⟩
  | 40 => ⟨S_, .f32⟩
  | 41 => ⟨S128, .f32⟩
  | 42 => ⟨S1x128, .f32⟩
  | 43 => ⟨S_, .f32⟩
  | 44 => ⟨S1x128, .f32⟩
  | 45 => ⟨S1x128, .f32⟩
  | 46 => ⟨S10000x128, .f32⟩
  | 47 => ⟨S10000x128, .f32⟩
  | 48 => ⟨S10000x128, .f32⟩
  | 49 => ⟨S_, .f32⟩
  | 50 => ⟨S_, .f32⟩
  | 51 => ⟨S_, .f32⟩
  | 52 => ⟨S_, .f32⟩
  | 53 => ⟨S128, .f32⟩
  | 54 => ⟨S128, .f32⟩
  | 55 => ⟨S128, .f32⟩
  | 56 => ⟨S_, .f32⟩
  | 57 => ⟨S_, .i1⟩
  | 58 => ⟨S_, .f32⟩
  | 59 => ⟨S_, .f32⟩
  | 60 => ⟨S128, .f32⟩
  | 61 => ⟨S128, .f32⟩
  | 62 => ⟨S1x128, .f32⟩
  | 63 => ⟨S10000x128, .f32⟩
  | 64 => ⟨S10000x128, .f32⟩
  | 65 => ⟨S1x128, .f32⟩
  | 66 => ⟨S10000x128, .f32⟩
  | 67 => ⟨S10000x128, .f32⟩
  | 68 => ⟨S_, .f32⟩
  | 69 => ⟨S128, .f32⟩
  | 70 => ⟨S128, .f32⟩
  | 71 => ⟨S128, .f32⟩
  | 72 => ⟨S1x128, .f32⟩
  | 73 => ⟨S10000x128, .f32⟩
  | 74 => ⟨S10000x128, .f32⟩
  | 75 => ⟨S1x128, .f32⟩
  | 76 => ⟨S10000x128, .f32⟩
  | 77 => ⟨S10000x128, .f32⟩
  | 78 => ⟨S_, .f32⟩
  | 79 => ⟨S10000x128, .f32⟩
  | 80 => ⟨S10000x128, .f32⟩
  | 81 => ⟨S128x128, .f32⟩
  | 82 => ⟨S10000x128, .f32⟩
  | 83 => ⟨S_, .f32⟩
  | 84 => ⟨S128, .f32⟩
  | 85 => ⟨S_, .f32⟩
  | 86 => ⟨S128, .f32⟩
  | 87 => ⟨S128, .f32⟩
  | 88 => ⟨S_, .i32⟩
  | 89 => ⟨S_, .f32⟩
  | 90 => ⟨S128, .f32⟩
  | 91 => ⟨S1x128, .f32⟩
  | 92 => ⟨S_, .f32⟩
  | 93 => ⟨S1x128, .f32⟩
  | 94 => ⟨S1x128, .f32⟩
  | 95 => ⟨S10000x128, .f32⟩
  | 96 => ⟨S10000x128, .f32⟩
  | 97 => ⟨S10000x128, .f32⟩
  | 98 => ⟨S_, .f32⟩
  | 99 => ⟨S_, .f32⟩
  | 100 => ⟨S_, .f32⟩
  | 101 => ⟨S_, .f32⟩
  | 102 => ⟨S128, .f32⟩
  | 103 => ⟨S128, .f32⟩
  | 104 => ⟨S128, .f32⟩
  | 105 => ⟨S_, .f32⟩
  | 106 => ⟨S_, .i1⟩
  | 107 => ⟨S_, .f32⟩
  | 108 => ⟨S_, .f32⟩
  | 109 => ⟨S128, .f32⟩
  | 110 => ⟨S128, .f32⟩
  | 111 => ⟨S1x128, .f32⟩
  | 112 => ⟨S10000x128, .f32⟩
  | 113 => ⟨S10000x128, .f32⟩
  | 114 => ⟨S1x128, .f32⟩
  | 115 => ⟨S10000x128, .f32⟩
  | 116 => ⟨S10000x128, .f32⟩
  | 117 => ⟨S_, .f32⟩
  | 118 => ⟨S128, .f32⟩
  | 119 => ⟨S128, .f32⟩
  | 120 => ⟨S128, .f32⟩
  | 121 => ⟨S1x128, .f32⟩
  | 122 => ⟨S10000x128, .f32⟩
  | 123 => ⟨S10000x128, .f32⟩
  | 124 => ⟨S1x128, .f32⟩
  | 125 => ⟨S10000x128, .f32⟩
  | 126 => ⟨S10000x128, .f32⟩
  | 127 => ⟨S_, .f32⟩
  | _ => ⟨S10000x128, .f32⟩

abbrev hbmTy0_2 (i : Nat) : BufTy := match i % 128 with
  | 0 => ⟨S10000x128, .f32⟩
  | 1 => ⟨S10000x128, .f32⟩
  | 2 => ⟨S_, .f32⟩
  | 3 => ⟨S_, .f32⟩
  | 4 => ⟨S320000x128, .f32⟩
  | 5 => ⟨S320000x128, .f32⟩
  | 6 => ⟨S320000x128, .f32⟩
  | 7 => ⟨S128x128, .f32⟩
  | 8 => ⟨S320000x128, .f32⟩
  | 9 => ⟨S_, .f32⟩
  | 10 => ⟨S128, .f32⟩
  | 11 => ⟨S_, .f32⟩
  | 12 => ⟨S128, .f32⟩
  | 13 => ⟨S128, .f32⟩
  | 14 => ⟨S_, .i32⟩
  | 15 => ⟨S_, .f32⟩
  | 16 => ⟨S128, .f32⟩
  | 17 => ⟨S1x128, .f32⟩
  | 18 => ⟨S_, .f32⟩
  | 19 => ⟨S1x128, .f32⟩
  | 20 => ⟨S1x128, .f32⟩
  | 21 => ⟨S320000x128, .f32⟩
  | 22 => ⟨S320000x128, .f32⟩
  | 23 => ⟨S320000x128, .f32⟩
  | 24 => ⟨S_, .f32⟩
  | 25 => ⟨S_, .f32⟩
  | 26 => ⟨S_, .f32⟩
  | 27 => ⟨S_, .f32⟩
  | 28 => ⟨S128, .f32⟩
  | 29 => ⟨S128, .f32⟩
  | 30 => ⟨S128, .f32⟩
  | 31 => ⟨S_, .f32⟩
  | 32 => ⟨S_, .i1⟩
  | 33 => ⟨S_, .f32⟩
  | 34 => ⟨S_, .f32⟩
  | 35 => ⟨S128, .f32⟩
  | 36 => ⟨S128, .f32⟩
  | 37 => ⟨S1x128, .f32⟩
  | 38 => ⟨S320000x128, .f32⟩
  | 39 => ⟨S320000x128, .f32⟩
  | 40 => ⟨S1x128, .f32⟩
  | 41 => ⟨S320000x128, .f32⟩
  | 42 => ⟨S320000x128, .f32⟩
  | 43 => ⟨S_, .f32⟩
  | 44 => ⟨S128, .f32⟩
  | 45 => ⟨S128, .f32⟩
  | 46 => ⟨S128, .f32⟩
  | 47 => ⟨S1x128, .f32⟩
  | 48 => ⟨S320000x128, .f32⟩
  | 49 => ⟨S320000x128, .f32⟩
  | 50 => ⟨S1x128, .f32⟩
  | 51 => ⟨S320000x128, .f32⟩
  | 52 => ⟨S320000x128, .f32⟩
  | 53 => ⟨S_, .f32⟩
  | 54 => ⟨S320000x128, .f32⟩
  | 55 => ⟨S320000x128, .f32⟩
  | 56 => ⟨S128x128, .f32⟩
  | 57 => ⟨S320000x128, .f32⟩
  | 58 => ⟨S_, .f32⟩
  | 59 => ⟨S128, .f32⟩
  | 60 => ⟨S_, .f32⟩
  | 61 => ⟨S128, .f32⟩
  | 62 => ⟨S128, .f32⟩
  | 63 => ⟨S_, .i32⟩
  | 64 => ⟨S_, .f32⟩
  | 65 => ⟨S128, .f32⟩
  | 66 => ⟨S1x128, .f32⟩
  | 67 => ⟨S_, .f32⟩
  | 68 => ⟨S1x128, .f32⟩
  | 69 => ⟨S1x128, .f32⟩
  | 70 => ⟨S320000x128, .f32⟩
  | 71 => ⟨S320000x128, .f32⟩
  | 72 => ⟨S320000x128, .f32⟩
  | 73 => ⟨S_, .f32⟩
  | 74 => ⟨S_, .f32⟩
  | 75 => ⟨S_, .f32⟩
  | 76 => ⟨S_, .f32⟩
  | 77 => ⟨S128, .f32⟩
  | 78 => ⟨S128, .f32⟩
  | 79 => ⟨S128, .f32⟩
  | 80 => ⟨S_, .f32⟩
  | 81 => ⟨S_, .i1⟩
  | 82 => ⟨S_, .f32⟩
  | 83 => ⟨S_, .f32⟩
  | 84 => ⟨S128, .f32⟩
  | 85 => ⟨S128, .f32⟩
  | 86 => ⟨S1x128, .f32⟩
  | 87 => ⟨S320000x128, .f32⟩
  | 88 => ⟨S320000x128, .f32⟩
  | 89 => ⟨S1x128, .f32⟩
  | 90 => ⟨S320000x128, .f32⟩
  | 91 => ⟨S320000x128, .f32⟩
  | 92 => ⟨S_, .f32⟩
  | 93 => ⟨S128, .f32⟩
  | 94 => ⟨S128, .f32⟩
  | 95 => ⟨S128, .f32⟩
  | 96 => ⟨S1x128, .f32⟩
  | 97 => ⟨S320000x128, .f32⟩
  | 98 => ⟨S320000x128, .f32⟩
  | 99 => ⟨S1x128, .f32⟩
  | 100 => ⟨S320000x128, .f32⟩
  | 101 => ⟨S320000x128, .f32⟩
  | 102 => ⟨S_, .f32⟩
  | 103 => ⟨S320000x128, .f32⟩
  | 104 => ⟨S320000x128, .f32⟩
  | _ => ⟨S10000x128, .f32⟩

abbrev hbmTy (i : Nat) : BufTy := match i / 128 with
  | 0 => hbmTy0_0 i
  | 1 => hbmTy0_1 i
  | 2 => hbmTy0_2 i
  | _ => ⟨S10000x128, .f32⟩

abbrev bufTy : (tb : Table) → Fin (tcTables nBuf tb) → BufTy
  | .hbm, ⟨i, _⟩ => hbmTy i
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_v0 : Ref sig .tc := ⟨.hbm, 20, rfl⟩
abbrev main_v1 : Ref sig .tc := ⟨.hbm, 21, rfl⟩
abbrev main_v2 : Ref sig .tc := ⟨.hbm, 22, rfl⟩
abbrev main_v3 : Ref sig .tc := ⟨.hbm, 23, rfl⟩
abbrev main_call0_c : Ref sig .tc := ⟨.hbm, 24, rfl⟩
abbrev main_call0_v0 : Ref sig .tc := ⟨.hbm, 25, rfl⟩
abbrev main_call0_v1 : Ref sig .tc := ⟨.hbm, 26, rfl⟩
abbrev main_call0_c_0 : Ref sig .tc := ⟨.hbm, 27, rfl⟩
abbrev main_call0_v2 : Ref sig .tc := ⟨.hbm, 28, rfl⟩
abbrev main_call0_v3 : Ref sig .tc := ⟨.hbm, 29, rfl⟩
abbrev main_call0_v4 : Ref sig .tc := ⟨.hbm, 30, rfl⟩
abbrev main_call0_v5 : Ref sig .tc := ⟨.hbm, 31, rfl⟩
abbrev main_call0_c_1 : Ref sig .tc := ⟨.hbm, 32, rfl⟩
abbrev main_call0_c_2 : Ref sig .tc := ⟨.hbm, 33, rfl⟩
abbrev main_call0_v6 : Ref sig .tc := ⟨.hbm, 34, rfl⟩
abbrev main_call0_v7 : Ref sig .tc := ⟨.hbm, 35, rfl⟩
abbrev main_call0_v8 : Ref sig .tc := ⟨.hbm, 36, rfl⟩
abbrev main_call0_v9 : Ref sig .tc := ⟨.hbm, 37, rfl⟩
abbrev main_call0_v10 : Ref sig .tc := ⟨.hbm, 38, rfl⟩
abbrev main_call0_v11 : Ref sig .tc := ⟨.hbm, 39, rfl⟩
abbrev main_call0_c_3 : Ref sig .tc := ⟨.hbm, 40, rfl⟩
abbrev main_call0_v12 : Ref sig .tc := ⟨.hbm, 41, rfl⟩
abbrev main_call0_v13 : Ref sig .tc := ⟨.hbm, 42, rfl⟩
abbrev main_call0_v14 : Ref sig .tc := ⟨.hbm, 43, rfl⟩
abbrev main_call0_cst : Ref sig .tc := ⟨.hbm, 44, rfl⟩
abbrev main_call0_v15 : Ref sig .tc := ⟨.hbm, 45, rfl⟩
abbrev main_v4 : Ref sig .tc := ⟨.hbm, 46, rfl⟩
abbrev main_call1_c : Ref sig .tc := ⟨.hbm, 47, rfl⟩
abbrev main_call1_v0 : Ref sig .tc := ⟨.hbm, 48, rfl⟩
abbrev main_call1_v1 : Ref sig .tc := ⟨.hbm, 49, rfl⟩
abbrev main_call1_c_0 : Ref sig .tc := ⟨.hbm, 50, rfl⟩
abbrev main_call1_v2 : Ref sig .tc := ⟨.hbm, 51, rfl⟩
abbrev main_call1_v3 : Ref sig .tc := ⟨.hbm, 52, rfl⟩
abbrev main_call1_v4 : Ref sig .tc := ⟨.hbm, 53, rfl⟩
abbrev main_call1_v5 : Ref sig .tc := ⟨.hbm, 54, rfl⟩
abbrev main_call1_c_1 : Ref sig .tc := ⟨.hbm, 55, rfl⟩
abbrev main_call1_c_2 : Ref sig .tc := ⟨.hbm, 56, rfl⟩
abbrev main_call1_v6 : Ref sig .tc := ⟨.hbm, 57, rfl⟩
abbrev main_call1_v7 : Ref sig .tc := ⟨.hbm, 58, rfl⟩
abbrev main_call1_v8 : Ref sig .tc := ⟨.hbm, 59, rfl⟩
abbrev main_call1_v9 : Ref sig .tc := ⟨.hbm, 60, rfl⟩
abbrev main_call1_v10 : Ref sig .tc := ⟨.hbm, 61, rfl⟩
abbrev main_call1_v11 : Ref sig .tc := ⟨.hbm, 62, rfl⟩
abbrev main_call1_c_3 : Ref sig .tc := ⟨.hbm, 63, rfl⟩
abbrev main_call1_v12 : Ref sig .tc := ⟨.hbm, 64, rfl⟩
abbrev main_call1_v13 : Ref sig .tc := ⟨.hbm, 65, rfl⟩
abbrev main_call1_v14 : Ref sig .tc := ⟨.hbm, 66, rfl⟩
abbrev main_call1_cst : Ref sig .tc := ⟨.hbm, 67, rfl⟩
abbrev main_call1_v15 : Ref sig .tc := ⟨.hbm, 68, rfl⟩
abbrev main_v5 : Ref sig .tc := ⟨.hbm, 69, rfl⟩
abbrev main_v6 : Ref sig .tc := ⟨.hbm, 70, rfl⟩
abbrev main_v7 : Ref sig .tc := ⟨.hbm, 71, rfl⟩
abbrev main_v8 : Ref sig .tc := ⟨.hbm, 72, rfl⟩
abbrev main_cst : Ref sig .tc := ⟨.hbm, 73, rfl⟩
abbrev main_v9 : Ref sig .tc := ⟨.hbm, 74, rfl⟩
abbrev main_cst_0 : Ref sig .tc := ⟨.hbm, 75, rfl⟩
abbrev main_v10 : Ref sig .tc := ⟨.hbm, 76, rfl⟩
abbrev main_v11 : Ref sig .tc := ⟨.hbm, 77, rfl⟩
abbrev main_c : Ref sig .tc := ⟨.hbm, 78, rfl⟩
abbrev main_call2_cst : Ref sig .tc := ⟨.hbm, 79, rfl⟩
abbrev main_call2_v0 : Ref sig .tc := ⟨.hbm, 80, rfl⟩
abbrev main_call2_v1 : Ref sig .tc := ⟨.hbm, 81, rfl⟩
abbrev main_call2_cst_0 : Ref sig .tc := ⟨.hbm, 82, rfl⟩
abbrev main_call2_v2 : Ref sig .tc := ⟨.hbm, 83, rfl⟩
abbrev main_call2_v3 : Ref sig .tc := ⟨.hbm, 84, rfl⟩
abbrev main_call2_v4 : Ref sig .tc := ⟨.hbm, 85, rfl⟩
abbrev main_call2_v5 : Ref sig .tc := ⟨.hbm, 86, rfl⟩
abbrev main_call2_v6 : Ref sig .tc := ⟨.hbm, 87, rfl⟩
abbrev main_call2_v7 : Ref sig .tc := ⟨.hbm, 88, rfl⟩
abbrev main_call2_cst_1 : Ref sig .tc := ⟨.hbm, 89, rfl⟩
abbrev main_call2_v8 : Ref sig .tc := ⟨.hbm, 90, rfl⟩
abbrev main_call2_cst_2 : Ref sig .tc := ⟨.hbm, 91, rfl⟩
abbrev main_call2_v9 : Ref sig .tc := ⟨.hbm, 92, rfl⟩
abbrev main_call2_v10 : Ref sig .tc := ⟨.hbm, 93, rfl⟩
abbrev main_call2_v11 : Ref sig .tc := ⟨.hbm, 94, rfl⟩
abbrev main_call2_cst_3 : Ref sig .tc := ⟨.hbm, 95, rfl⟩
abbrev main_call2_v12 : Ref sig .tc := ⟨.hbm, 96, rfl⟩
abbrev main_call2_cst_4 : Ref sig .tc := ⟨.hbm, 97, rfl⟩
abbrev main_call2_call0_v0 : Ref sig .tc := ⟨.hbm, 98, rfl⟩
abbrev main_call2_call0_v1 : Ref sig .tc := ⟨.hbm, 99, rfl⟩
abbrev main_v12 : Ref sig .tc := ⟨.hbm, 100, rfl⟩
abbrev main_v13 : Ref sig .tc := ⟨.hbm, 101, rfl⟩
abbrev main_v14 : Ref sig .tc := ⟨.hbm, 102, rfl⟩
abbrev main_v15 : Ref sig .tc := ⟨.hbm, 103, rfl⟩
abbrev main_v16 : Ref sig .tc := ⟨.hbm, 104, rfl⟩
abbrev main_v17 : Ref sig .tc := ⟨.hbm, 105, rfl⟩
abbrev main_v18 : Ref sig .tc := ⟨.hbm, 106, rfl⟩
abbrev main_cst_1 : Ref sig .tc := ⟨.hbm, 107, rfl⟩
abbrev main_v19 : Ref sig .tc := ⟨.hbm, 108, rfl⟩
abbrev main_v20 : Ref sig .tc := ⟨.hbm, 109, rfl⟩
abbrev main_v21 : Ref sig .tc := ⟨.hbm, 110, rfl⟩
abbrev main_v22 : Ref sig .tc := ⟨.hbm, 111, rfl⟩
abbrev main_v23 : Ref sig .tc := ⟨.hbm, 112, rfl⟩
abbrev main_v24 : Ref sig .tc := ⟨.hbm, 113, rfl⟩
abbrev main_v25 : Ref sig .tc := ⟨.hbm, 114, rfl⟩
abbrev main_v26 : Ref sig .tc := ⟨.hbm, 115, rfl⟩
abbrev main_v27 : Ref sig .tc := ⟨.hbm, 116, rfl⟩
abbrev main_call3_cst : Ref sig .tc := ⟨.hbm, 117, rfl⟩
abbrev main_call3_v0 : Ref sig .tc := ⟨.hbm, 118, rfl⟩
abbrev main_v28 : Ref sig .tc := ⟨.hbm, 119, rfl⟩
abbrev main_v29 : Ref sig .tc := ⟨.hbm, 120, rfl⟩
abbrev main_cst_2 : Ref sig .tc := ⟨.hbm, 121, rfl⟩
abbrev main_v30 : Ref sig .tc := ⟨.hbm, 122, rfl⟩
abbrev main_v31 : Ref sig .tc := ⟨.hbm, 123, rfl⟩
abbrev main_v32 : Ref sig .tc := ⟨.hbm, 124, rfl⟩
abbrev main_v33 : Ref sig .tc := ⟨.hbm, 125, rfl⟩
abbrev main_v34 : Ref sig .tc := ⟨.hbm, 126, rfl⟩
abbrev main_call4_c : Ref sig .tc := ⟨.hbm, 127, rfl⟩
abbrev main_call4_v0 : Ref sig .tc := ⟨.hbm, 128, rfl⟩
abbrev main_call4_v1 : Ref sig .tc := ⟨.hbm, 129, rfl⟩
abbrev main_call4_c_0 : Ref sig .tc := ⟨.hbm, 130, rfl⟩
abbrev main_call4_v2 : Ref sig .tc := ⟨.hbm, 131, rfl⟩
abbrev main_call4_v3 : Ref sig .tc := ⟨.hbm, 132, rfl⟩
abbrev main_call4_v4 : Ref sig .tc := ⟨.hbm, 133, rfl⟩
abbrev main_call4_v5 : Ref sig .tc := ⟨.hbm, 134, rfl⟩
abbrev main_call4_c_1 : Ref sig .tc := ⟨.hbm, 135, rfl⟩
abbrev main_call4_c_2 : Ref sig .tc := ⟨.hbm, 136, rfl⟩
abbrev main_call4_v6 : Ref sig .tc := ⟨.hbm, 137, rfl⟩
abbrev main_call4_v7 : Ref sig .tc := ⟨.hbm, 138, rfl⟩
abbrev main_call4_v8 : Ref sig .tc := ⟨.hbm, 139, rfl⟩
abbrev main_call4_v9 : Ref sig .tc := ⟨.hbm, 140, rfl⟩
abbrev main_call4_v10 : Ref sig .tc := ⟨.hbm, 141, rfl⟩
abbrev main_call4_v11 : Ref sig .tc := ⟨.hbm, 142, rfl⟩
abbrev main_call4_c_3 : Ref sig .tc := ⟨.hbm, 143, rfl⟩
abbrev main_call4_v12 : Ref sig .tc := ⟨.hbm, 144, rfl⟩
abbrev main_call4_v13 : Ref sig .tc := ⟨.hbm, 145, rfl⟩
abbrev main_call4_v14 : Ref sig .tc := ⟨.hbm, 146, rfl⟩
abbrev main_call4_cst : Ref sig .tc := ⟨.hbm, 147, rfl⟩
abbrev main_call4_v15 : Ref sig .tc := ⟨.hbm, 148, rfl⟩
abbrev main_v35 : Ref sig .tc := ⟨.hbm, 149, rfl⟩
abbrev main_v36 : Ref sig .tc := ⟨.hbm, 150, rfl⟩
abbrev main_cst_3 : Ref sig .tc := ⟨.hbm, 151, rfl⟩
abbrev main_v37 : Ref sig .tc := ⟨.hbm, 152, rfl⟩
abbrev main_v38 : Ref sig .tc := ⟨.hbm, 153, rfl⟩
abbrev main_v39 : Ref sig .tc := ⟨.hbm, 154, rfl⟩
abbrev main_cst_4 : Ref sig .tc := ⟨.hbm, 155, rfl⟩
abbrev main_v40 : Ref sig .tc := ⟨.hbm, 156, rfl⟩
abbrev main_v41 : Ref sig .tc := ⟨.hbm, 157, rfl⟩
abbrev main_v42 : Ref sig .tc := ⟨.hbm, 158, rfl⟩
abbrev main_v43 : Ref sig .tc := ⟨.hbm, 159, rfl⟩
abbrev main_v44 : Ref sig .tc := ⟨.hbm, 160, rfl⟩
abbrev main_v45 : Ref sig .tc := ⟨.hbm, 161, rfl⟩
abbrev main_cst_5 : Ref sig .tc := ⟨.hbm, 162, rfl⟩
abbrev main_v46 : Ref sig .tc := ⟨.hbm, 163, rfl⟩
abbrev main_cst_6 : Ref sig .tc := ⟨.hbm, 164, rfl⟩
abbrev main_v47 : Ref sig .tc := ⟨.hbm, 165, rfl⟩
abbrev main_v48 : Ref sig .tc := ⟨.hbm, 166, rfl⟩
abbrev main_c_7 : Ref sig .tc := ⟨.hbm, 167, rfl⟩
abbrev main_call5_cst : Ref sig .tc := ⟨.hbm, 168, rfl⟩
abbrev main_call5_v0 : Ref sig .tc := ⟨.hbm, 169, rfl⟩
abbrev main_call5_v1 : Ref sig .tc := ⟨.hbm, 170, rfl⟩
abbrev main_call5_cst_0 : Ref sig .tc := ⟨.hbm, 171, rfl⟩
abbrev main_call5_v2 : Ref sig .tc := ⟨.hbm, 172, rfl⟩
abbrev main_call5_v3 : Ref sig .tc := ⟨.hbm, 173, rfl⟩
abbrev main_call5_v4 : Ref sig .tc := ⟨.hbm, 174, rfl⟩
abbrev main_call5_v5 : Ref sig .tc := ⟨.hbm, 175, rfl⟩
abbrev main_call5_v6 : Ref sig .tc := ⟨.hbm, 176, rfl⟩
abbrev main_call5_v7 : Ref sig .tc := ⟨.hbm, 177, rfl⟩
abbrev main_call5_cst_1 : Ref sig .tc := ⟨.hbm, 178, rfl⟩
abbrev main_call5_v8 : Ref sig .tc := ⟨.hbm, 179, rfl⟩
abbrev main_call5_cst_2 : Ref sig .tc := ⟨.hbm, 180, rfl⟩
abbrev main_call5_v9 : Ref sig .tc := ⟨.hbm, 181, rfl⟩
abbrev main_call5_v10 : Ref sig .tc := ⟨.hbm, 182, rfl⟩
abbrev main_call5_v11 : Ref sig .tc := ⟨.hbm, 183, rfl⟩
abbrev main_call5_cst_3 : Ref sig .tc := ⟨.hbm, 184, rfl⟩
abbrev main_call5_v12 : Ref sig .tc := ⟨.hbm, 185, rfl⟩
abbrev main_call5_cst_4 : Ref sig .tc := ⟨.hbm, 186, rfl⟩
abbrev main_call5_call0_v0 : Ref sig .tc := ⟨.hbm, 187, rfl⟩
abbrev main_call5_call0_v1 : Ref sig .tc := ⟨.hbm, 188, rfl⟩
abbrev main_v49 : Ref sig .tc := ⟨.hbm, 189, rfl⟩
abbrev main_v50 : Ref sig .tc := ⟨.hbm, 190, rfl⟩
abbrev main_v51 : Ref sig .tc := ⟨.hbm, 191, rfl⟩
abbrev main_v52 : Ref sig .tc := ⟨.hbm, 192, rfl⟩
abbrev main_v53 : Ref sig .tc := ⟨.hbm, 193, rfl⟩
abbrev main_v54 : Ref sig .tc := ⟨.hbm, 194, rfl⟩
abbrev main_v55 : Ref sig .tc := ⟨.hbm, 195, rfl⟩
abbrev main_cst_8 : Ref sig .tc := ⟨.hbm, 196, rfl⟩
abbrev main_v56 : Ref sig .tc := ⟨.hbm, 197, rfl⟩
abbrev main_v57 : Ref sig .tc := ⟨.hbm, 198, rfl⟩
abbrev main_v58 : Ref sig .tc := ⟨.hbm, 199, rfl⟩
abbrev main_v59 : Ref sig .tc := ⟨.hbm, 200, rfl⟩
abbrev main_v60 : Ref sig .tc := ⟨.hbm, 201, rfl⟩
abbrev main_v61 : Ref sig .tc := ⟨.hbm, 202, rfl⟩
abbrev main_v62 : Ref sig .tc := ⟨.hbm, 203, rfl⟩
abbrev main_v63 : Ref sig .tc := ⟨.hbm, 204, rfl⟩
abbrev main_v64 : Ref sig .tc := ⟨.hbm, 205, rfl⟩
abbrev main_call6_cst : Ref sig .tc := ⟨.hbm, 206, rfl⟩
abbrev main_call6_v0 : Ref sig .tc := ⟨.hbm, 207, rfl⟩
abbrev main_v65 : Ref sig .tc := ⟨.hbm, 208, rfl⟩
abbrev main_v66 : Ref sig .tc := ⟨.hbm, 209, rfl⟩
abbrev main_v67 : Ref sig .tc := ⟨.hbm, 210, rfl⟩
abbrev main_cst_9 : Ref sig .tc := ⟨.hbm, 211, rfl⟩
abbrev main_v68 : Ref sig .tc := ⟨.hbm, 212, rfl⟩
abbrev main_cst_10 : Ref sig .tc := ⟨.hbm, 213, rfl⟩
abbrev main_v69 : Ref sig .tc := ⟨.hbm, 214, rfl⟩
abbrev main_v70 : Ref sig .tc := ⟨.hbm, 215, rfl⟩
abbrev main_c_11 : Ref sig .tc := ⟨.hbm, 216, rfl⟩
abbrev main_call7_cst : Ref sig .tc := ⟨.hbm, 217, rfl⟩
abbrev main_call7_v0 : Ref sig .tc := ⟨.hbm, 218, rfl⟩
abbrev main_call7_v1 : Ref sig .tc := ⟨.hbm, 219, rfl⟩
abbrev main_call7_cst_0 : Ref sig .tc := ⟨.hbm, 220, rfl⟩
abbrev main_call7_v2 : Ref sig .tc := ⟨.hbm, 221, rfl⟩
abbrev main_call7_v3 : Ref sig .tc := ⟨.hbm, 222, rfl⟩
abbrev main_call7_v4 : Ref sig .tc := ⟨.hbm, 223, rfl⟩
abbrev main_call7_v5 : Ref sig .tc := ⟨.hbm, 224, rfl⟩
abbrev main_call7_v6 : Ref sig .tc := ⟨.hbm, 225, rfl⟩
abbrev main_call7_v7 : Ref sig .tc := ⟨.hbm, 226, rfl⟩
abbrev main_call7_cst_1 : Ref sig .tc := ⟨.hbm, 227, rfl⟩
abbrev main_call7_v8 : Ref sig .tc := ⟨.hbm, 228, rfl⟩
abbrev main_call7_cst_2 : Ref sig .tc := ⟨.hbm, 229, rfl⟩
abbrev main_call7_v9 : Ref sig .tc := ⟨.hbm, 230, rfl⟩
abbrev main_call7_v10 : Ref sig .tc := ⟨.hbm, 231, rfl⟩
abbrev main_call7_v11 : Ref sig .tc := ⟨.hbm, 232, rfl⟩
abbrev main_call7_cst_3 : Ref sig .tc := ⟨.hbm, 233, rfl⟩
abbrev main_call7_v12 : Ref sig .tc := ⟨.hbm, 234, rfl⟩
abbrev main_call7_cst_4 : Ref sig .tc := ⟨.hbm, 235, rfl⟩
abbrev main_call7_call0_v0 : Ref sig .tc := ⟨.hbm, 236, rfl⟩
abbrev main_call7_call0_v1 : Ref sig .tc := ⟨.hbm, 237, rfl⟩
abbrev main_v71 : Ref sig .tc := ⟨.hbm, 238, rfl⟩
abbrev main_v72 : Ref sig .tc := ⟨.hbm, 239, rfl⟩
abbrev main_v73 : Ref sig .tc := ⟨.hbm, 240, rfl⟩
abbrev main_v74 : Ref sig .tc := ⟨.hbm, 241, rfl⟩
abbrev main_v75 : Ref sig .tc := ⟨.hbm, 242, rfl⟩
abbrev main_v76 : Ref sig .tc := ⟨.hbm, 243, rfl⟩
abbrev main_v77 : Ref sig .tc := ⟨.hbm, 244, rfl⟩
abbrev main_cst_12 : Ref sig .tc := ⟨.hbm, 245, rfl⟩
abbrev main_v78 : Ref sig .tc := ⟨.hbm, 246, rfl⟩
abbrev main_v79 : Ref sig .tc := ⟨.hbm, 247, rfl⟩
abbrev main_v80 : Ref sig .tc := ⟨.hbm, 248, rfl⟩
abbrev main_v81 : Ref sig .tc := ⟨.hbm, 249, rfl⟩
abbrev main_v82 : Ref sig .tc := ⟨.hbm, 250, rfl⟩
abbrev main_v83 : Ref sig .tc := ⟨.hbm, 251, rfl⟩
abbrev main_v84 : Ref sig .tc := ⟨.hbm, 252, rfl⟩
abbrev main_v85 : Ref sig .tc := ⟨.hbm, 253, rfl⟩
abbrev main_v86 : Ref sig .tc := ⟨.hbm, 254, rfl⟩
abbrev main_call8_cst : Ref sig .tc := ⟨.hbm, 255, rfl⟩
abbrev main_call8_v0 : Ref sig .tc := ⟨.hbm, 256, rfl⟩
abbrev main_v87 : Ref sig .tc := ⟨.hbm, 257, rfl⟩
abbrev main_cst_13 : Ref sig .tc := ⟨.hbm, 258, rfl⟩
abbrev main_v88 : Ref sig .tc := ⟨.hbm, 259, rfl⟩
abbrev main_v89 : Ref sig .tc := ⟨.hbm, 260, rfl⟩
abbrev main_v90 : Ref sig .tc := ⟨.hbm, 261, rfl⟩
abbrev main_v91 : Ref sig .tc := ⟨.hbm, 262, rfl⟩
abbrev main_v92 : Ref sig .tc := ⟨.hbm, 263, rfl⟩
abbrev main_v93 : Ref sig .tc := ⟨.hbm, 264, rfl⟩
abbrev main_cst_14 : Ref sig .tc := ⟨.hbm, 265, rfl⟩
abbrev main_v94 : Ref sig .tc := ⟨.hbm, 266, rfl⟩
abbrev main_cst_15 : Ref sig .tc := ⟨.hbm, 267, rfl⟩
abbrev main_v95 : Ref sig .tc := ⟨.hbm, 268, rfl⟩
abbrev main_v96 : Ref sig .tc := ⟨.hbm, 269, rfl⟩
abbrev main_c_16 : Ref sig .tc := ⟨.hbm, 270, rfl⟩
abbrev main_call9_cst : Ref sig .tc := ⟨.hbm, 271, rfl⟩
abbrev main_call9_v0 : Ref sig .tc := ⟨.hbm, 272, rfl⟩
abbrev main_call9_v1 : Ref sig .tc := ⟨.hbm, 273, rfl⟩
abbrev main_call9_cst_0 : Ref sig .tc := ⟨.hbm, 274, rfl⟩
abbrev main_call9_v2 : Ref sig .tc := ⟨.hbm, 275, rfl⟩
abbrev main_call9_v3 : Ref sig .tc := ⟨.hbm, 276, rfl⟩
abbrev main_call9_v4 : Ref sig .tc := ⟨.hbm, 277, rfl⟩
abbrev main_call9_v5 : Ref sig .tc := ⟨.hbm, 278, rfl⟩
abbrev main_call9_v6 : Ref sig .tc := ⟨.hbm, 279, rfl⟩
abbrev main_call9_v7 : Ref sig .tc := ⟨.hbm, 280, rfl⟩
abbrev main_call9_cst_1 : Ref sig .tc := ⟨.hbm, 281, rfl⟩
abbrev main_call9_v8 : Ref sig .tc := ⟨.hbm, 282, rfl⟩
abbrev main_call9_cst_2 : Ref sig .tc := ⟨.hbm, 283, rfl⟩
abbrev main_call9_v9 : Ref sig .tc := ⟨.hbm, 284, rfl⟩
abbrev main_call9_v10 : Ref sig .tc := ⟨.hbm, 285, rfl⟩
abbrev main_call9_v11 : Ref sig .tc := ⟨.hbm, 286, rfl⟩
abbrev main_call9_cst_3 : Ref sig .tc := ⟨.hbm, 287, rfl⟩
abbrev main_call9_v12 : Ref sig .tc := ⟨.hbm, 288, rfl⟩
abbrev main_call9_cst_4 : Ref sig .tc := ⟨.hbm, 289, rfl⟩
abbrev main_call9_call0_v0 : Ref sig .tc := ⟨.hbm, 290, rfl⟩
abbrev main_call9_call0_v1 : Ref sig .tc := ⟨.hbm, 291, rfl⟩
abbrev main_v97 : Ref sig .tc := ⟨.hbm, 292, rfl⟩
abbrev main_v98 : Ref sig .tc := ⟨.hbm, 293, rfl⟩
abbrev main_v99 : Ref sig .tc := ⟨.hbm, 294, rfl⟩
abbrev main_v100 : Ref sig .tc := ⟨.hbm, 295, rfl⟩
abbrev main_v101 : Ref sig .tc := ⟨.hbm, 296, rfl⟩
abbrev main_v102 : Ref sig .tc := ⟨.hbm, 297, rfl⟩
abbrev main_v103 : Ref sig .tc := ⟨.hbm, 298, rfl⟩
abbrev main_cst_17 : Ref sig .tc := ⟨.hbm, 299, rfl⟩
abbrev main_v104 : Ref sig .tc := ⟨.hbm, 300, rfl⟩
abbrev main_v105 : Ref sig .tc := ⟨.hbm, 301, rfl⟩
abbrev main_v106 : Ref sig .tc := ⟨.hbm, 302, rfl⟩
abbrev main_v107 : Ref sig .tc := ⟨.hbm, 303, rfl⟩
abbrev main_v108 : Ref sig .tc := ⟨.hbm, 304, rfl⟩
abbrev main_v109 : Ref sig .tc := ⟨.hbm, 305, rfl⟩
abbrev main_v110 : Ref sig .tc := ⟨.hbm, 306, rfl⟩
abbrev main_v111 : Ref sig .tc := ⟨.hbm, 307, rfl⟩
abbrev main_v112 : Ref sig .tc := ⟨.hbm, 308, rfl⟩
abbrev main_call10_cst : Ref sig .tc := ⟨.hbm, 309, rfl⟩
abbrev main_call10_v0 : Ref sig .tc := ⟨.hbm, 310, rfl⟩
abbrev main_v113 : Ref sig .tc := ⟨.hbm, 311, rfl⟩
abbrev main_v114 : Ref sig .tc := ⟨.hbm, 312, rfl⟩
abbrev main_v115 : Ref sig .tc := ⟨.hbm, 313, rfl⟩
abbrev main_cst_18 : Ref sig .tc := ⟨.hbm, 314, rfl⟩
abbrev main_v116 : Ref sig .tc := ⟨.hbm, 315, rfl⟩
abbrev main_cst_19 : Ref sig .tc := ⟨.hbm, 316, rfl⟩
abbrev main_v117 : Ref sig .tc := ⟨.hbm, 317, rfl⟩
abbrev main_v118 : Ref sig .tc := ⟨.hbm, 318, rfl⟩
abbrev main_c_20 : Ref sig .tc := ⟨.hbm, 319, rfl⟩
abbrev main_call11_cst : Ref sig .tc := ⟨.hbm, 320, rfl⟩
abbrev main_call11_v0 : Ref sig .tc := ⟨.hbm, 321, rfl⟩
abbrev main_call11_v1 : Ref sig .tc := ⟨.hbm, 322, rfl⟩
abbrev main_call11_cst_0 : Ref sig .tc := ⟨.hbm, 323, rfl⟩
abbrev main_call11_v2 : Ref sig .tc := ⟨.hbm, 324, rfl⟩
abbrev main_call11_v3 : Ref sig .tc := ⟨.hbm, 325, rfl⟩
abbrev main_call11_v4 : Ref sig .tc := ⟨.hbm, 326, rfl⟩
abbrev main_call11_v5 : Ref sig .tc := ⟨.hbm, 327, rfl⟩
abbrev main_call11_v6 : Ref sig .tc := ⟨.hbm, 328, rfl⟩
abbrev main_call11_v7 : Ref sig .tc := ⟨.hbm, 329, rfl⟩
abbrev main_call11_cst_1 : Ref sig .tc := ⟨.hbm, 330, rfl⟩
abbrev main_call11_v8 : Ref sig .tc := ⟨.hbm, 331, rfl⟩
abbrev main_call11_cst_2 : Ref sig .tc := ⟨.hbm, 332, rfl⟩
abbrev main_call11_v9 : Ref sig .tc := ⟨.hbm, 333, rfl⟩
abbrev main_call11_v10 : Ref sig .tc := ⟨.hbm, 334, rfl⟩
abbrev main_call11_v11 : Ref sig .tc := ⟨.hbm, 335, rfl⟩
abbrev main_call11_cst_3 : Ref sig .tc := ⟨.hbm, 336, rfl⟩
abbrev main_call11_v12 : Ref sig .tc := ⟨.hbm, 337, rfl⟩
abbrev main_call11_cst_4 : Ref sig .tc := ⟨.hbm, 338, rfl⟩
abbrev main_call11_call0_v0 : Ref sig .tc := ⟨.hbm, 339, rfl⟩
abbrev main_call11_call0_v1 : Ref sig .tc := ⟨.hbm, 340, rfl⟩
abbrev main_v119 : Ref sig .tc := ⟨.hbm, 341, rfl⟩
abbrev main_v120 : Ref sig .tc := ⟨.hbm, 342, rfl⟩
abbrev main_v121 : Ref sig .tc := ⟨.hbm, 343, rfl⟩
abbrev main_v122 : Ref sig .tc := ⟨.hbm, 344, rfl⟩
abbrev main_v123 : Ref sig .tc := ⟨.hbm, 345, rfl⟩
abbrev main_v124 : Ref sig .tc := ⟨.hbm, 346, rfl⟩
abbrev main_v125 : Ref sig .tc := ⟨.hbm, 347, rfl⟩
abbrev main_cst_21 : Ref sig .tc := ⟨.hbm, 348, rfl⟩
abbrev main_v126 : Ref sig .tc := ⟨.hbm, 349, rfl⟩
abbrev main_v127 : Ref sig .tc := ⟨.hbm, 350, rfl⟩
abbrev main_v128 : Ref sig .tc := ⟨.hbm, 351, rfl⟩
abbrev main_v129 : Ref sig .tc := ⟨.hbm, 352, rfl⟩
abbrev main_v130 : Ref sig .tc := ⟨.hbm, 353, rfl⟩
abbrev main_v131 : Ref sig .tc := ⟨.hbm, 354, rfl⟩
abbrev main_v132 : Ref sig .tc := ⟨.hbm, 355, rfl⟩
abbrev main_v133 : Ref sig .tc := ⟨.hbm, 356, rfl⟩
abbrev main_v134 : Ref sig .tc := ⟨.hbm, 357, rfl⟩
abbrev main_call12_cst : Ref sig .tc := ⟨.hbm, 358, rfl⟩
abbrev main_call12_v0 : Ref sig .tc := ⟨.hbm, 359, rfl⟩
abbrev main_v135 : Ref sig .tc := ⟨.hbm, 360, rfl⟩

abbrev nD : Nat := 1
abbrev τ : Topo := Topo.v7x

variable {F : FTy → Type} [FloatOps F]
-- ==== Proof.KernelIdeal.Reg0.lean ====
/-
  The first custom call (the node rows times their half of the first weight, and the squares weighed by the counts).
-/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

set_option maxRecDepth 16384

noncomputable section

namespace Cert.KernelIdeal.Own

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

-- what every buffer holds when the region is entered
variable (V : (c : Dev nD) → (b : Ref sig .tc) → Buf (Elt F) ((c : Thread nD τ).loc b))

/-- Window `w`'s block at point `t`, read off the array that the region finds. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The staging buffer of this input window holds the window's block at every point. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- The staging buffer of this input window holds the window's block at every point. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- The staging buffer of this input window holds the window's block at every point. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

abbrev r0_0 : Rect S10000x128 := Rect.unit (s := S10000x128) ![0, 0] S10000x128.size inb_S10000x128_S10000x128_0_0
abbrev r0_1 : Rect S128x128 := Rect.unit (s := S128x128) ![0, 0] S128x128.size inb_S128x128_S128x128_0_0
abbrev r0_2 : Rect S8x10000 := Rect.unit (s := S8x10000) ![0, 0] S8x10000.size inb_S8x10000_S8x10000_0_0
abbrev r0_3 : Rect S8x128 := Rect.unit (s := S8x128) ![0, 0] S8x128.size inb_S8x128_S8x128_0_0

/-- What the body leaves in this output window's staging buffer, from the blocks of the input windows. -/
def out0_3 (x0 : Vec F S10000x128 .f32) (x1 : Vec F S128x128 .f32) (x2 : Vec F S8x10000 .f32) : Vec F S10000x128 .f32 :=
  View.canon [⟨r0_0, k0_pay1 (View.ld x0 r0_0) (View.ld x1 r0_1)⟩]

/-- The body's store into this window covers its buffer. -/
theorem cover0_3 (p0 : Vec F S10000x128 .f32) (y : S10000x128.Idx) :
    ∃ pc ∈ ([⟨r0_0, p0⟩] : List (View.Piece (Elt F) S10000x128 .f32)), y ∈ pc.1.set :=
  View.cover_of_tiled [⟨r0_0, p0⟩] S10000x128.size (by rfl) y

/-- What the body leaves in this output window's staging buffer, from the blocks of the input windows. -/
def out0_4 (x0 : Vec F S10000x128 .f32) (x1 : Vec F S128x128 .f32) (x2 : Vec F S8x10000 .f32) : Vec F S8x128 .f32 :=
  View.canon [⟨r0_3, k0_pay2 (View.ld x0 r0_0) (View.ld x1 r0_1) (View.ld x2 r0_2)⟩]

/-- The body's store into this window covers its buffer. -/
theorem cover0_4 (p0 : Vec F S8x128 .f32) (y : S8x128.Idx) :
    ∃ pc ∈ ([⟨r0_3, p0⟩] : List (View.Piece (Elt F) S8x128 .f32)), y ∈ pc.1.set :=
  View.cover_of_tiled [⟨r0_3, p0⟩] S8x128.size (by rfl) y

set_option maxHeartbeats 1000000 in
/-- The body, run on whole buffers holding the input blocks, leaves the inputs as they were and the outputs as stated. -/
theorem sound_kernel0 (c : Dev nD) (E : Set ℕ) (arg0 : Memref sig .tc .vmem S10000x128 .f32) (harg0 : arg0.IsWhole) (arg1 : Memref sig .tc .vmem S128x128 .f32) (harg1 : arg1.IsWhole) (arg2 : Memref sig .tc .vmem S8x10000 .f32) (harg2 : arg2.IsWhole) (arg3 : Memref sig .tc .vmem S10000x128 .f32) (harg3 : arg3.IsWhole) (arg4 : Memref sig .tc .vmem S8x128 .f32) (harg4 : arg4.IsWhole)
    (x0 : Vec F S10000x128 .f32) (x1 : Vec F S128x128 .f32) (x2 : Vec F S8x10000 .f32) (K : PUnit → sProp 𝕄) :
    iprop(owns (c : Thread nD τ) arg0 fullShare x0 ∗ owns (c : Thread nD τ) arg1 fullShare x1 ∗ owns (c : Thread nD τ) arg2 fullShare x2 ∗ (∃ d, owns (c : Thread nD τ) arg3 fullShare d) ∗ (∃ d, owns (c : Thread nD τ) arg4 fullShare d)
        ∗ (iprop(owns (c : Thread nD τ) arg0 fullShare x0 ∗ owns (c : Thread nD τ) arg1 fullShare x1 ∗ owns (c : Thread nD τ) arg2 fullShare x2 ∗ owns (c : Thread nD τ) arg3 fullShare (out0_3 x0 x1 x2) ∗ owns (c : Thread nD τ) arg4 fullShare (out0_4 x0 x1 x2)) -∗ K ⟨⟩))
      ⊢ wp frame (wpE (defs₀ (F := F)) Variants.none c none) E (cc0__p_kernel arg0 harg0 arg1 harg1 arg2 harg2 arg3 harg3 arg4 harg4) K := by
  simp only [cc0__p_kernel_eq_skeleton]; unfold cc0__p_kernel_skel
  unfold owns
  iintro ⟨⟨%f0, %hf0, H0⟩, ⟨%f1, %hf1, H1⟩, ⟨%f2, %hf2, H2⟩, ⟨%d3, %f3, -, H3⟩, ⟨%d4, %f4, -, H4⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (cover0_3 _)
  iexists _; isplitr
  swap; · iexact H4
  ipureintro
  exact View.read_writes_eq_canon _ _ _ (cover0_4 _)

/-- The proof data of the pipeline: the arrays as found, every input block left in place, every output as the body leaves it. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
    | ⟨4, _⟩ => out0_4 (iblk0 V c 0 t) (iblk0 V c 1 t) (iblk0 V c 2 t)
  Φ _ := Pipeline.ΦA spec0 c
  q _ := fullShare
  owed _ := 0

/-- The arrays of the proof data are the contents found at entry. -/
theorem A_eq0 (c : Dev nD) (w : Fin cfg0.W) : (dat0 V c).A w = V c (Pipeline.arrRef spec0 w) := by
  dsimp only [dat0]

/-- What the body leaves in this window's staging buffer. -/
theorem after0_0 (c : Dev nD) (t : Fin cfg0.N) : (dat0 V c).after 0 t = iblk0 V c 0 t := by dsimp only [dat0]
/-- What the body leaves in this window's staging buffer. -/
theorem after0_1 (c : Dev nD) (t : Fin cfg0.N) : (dat0 V c).after 1 t = iblk0 V c 1 t := by dsimp only [dat0]
/-- What the body leaves in this window's staging buffer. -/
theorem after0_2 (c : Dev nD) (t : Fin cfg0.N) : (dat0 V c).after 2 t = iblk0 V c 2 t := by dsimp only [dat0]
/-- What the body leaves in this window's staging buffer. -/
theorem after0_3 (c : Dev nD) (t : Fin cfg0.N) : (dat0 V c).after 3 t = out0_3 (iblk0 V c 0 t) (iblk0 V c 1 t) (iblk0 V c 2 t) := by dsimp only [dat0]
/-- What the body leaves in this window's staging buffer. -/
theorem after0_4 (c : Dev nD) (t : Fin cfg0.N) : (dat0 V c).after 4 t = out0_4 (iblk0 V c 0 t) (iblk0 V c 1 t) (iblk0 V c 2 t) := by dsimp only [dat0]

/-- This input window's staging buffer holds its block at every point. -/
theorem before0_0 (c : Dev nD) (t : Fin cfg0.N) (d) : (dat0 V c).before 0 t d = iblk0 V c 0 t :=
  before0_0_of V (dat0 V c) (A_eq0 V c 0) (after0_0 V c) t d
/-- This input window's staging buffer holds its block at every point. -/
theorem before0_1 (c : Dev nD) (t : Fin cfg0.N) (d) : (dat0 V c).before 1 t d = iblk0 V c 1 t :=
  before0_1_of V (dat0 V c) (A_eq0 V c 1) (after0_1 V c) t d
/-- This input window's staging buffer holds its block at every point. -/
theorem before0_2 (c : Dev nD) (t : Fin cfg0.N) (d) : (dat0 V c).before 2 t d = iblk0 V c 2 t :=
  before0_2_of V (dat0 V c) (A_eq0 V c 2) (after0_2 V c) t d

/-- What the body is called with at a point. -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

/-- What the body returns at a point. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t))

/-- The body at any point, on the buffers that the pipeline hands it. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel0 c Set.univ _ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The body in the table of bodies is the body at this point. -/
theorem defs₀_row0 (t : Fin cfg0.N) :
    defs₀ (F := F) .tc cfg0.body (cfg0.bodyArgs t (cfg0.slots t)) = bodyAt0 t := by
  unfold defs₀; rw [Defs.onTc_tc]

/-- The obligation that the pipeline has of the body, at every point. -/
theorem body_obligation0 (c : Dev nD) : BodyObligation (dat0 (F := F) V c) (defs₀ (F := F)) Variants.none () Set.univ := fun t => by
  rw [bigSep_W0, bigSep_W0, defs₀_row0]
  exact triple_restated (sound_body0 V c t) rfl .rfl fun _ => .rfl

end Cert.KernelIdeal.Own

end
-- ==== Proof.KernelIdeal.Reg1.lean ====
/-
  The second custom call (the edge rows times their half of the first weight).
-/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

set_option maxRecDepth 16384

noncomputable section

namespace Cert.KernelIdeal.Own

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

-- what every buffer holds when the region is entered
variable (V : (c : Dev nD) → (b : Ref sig .tc) → Buf (Elt F) ((c : Thread nD τ).loc b))

/-- Window `w`'s block at point `t`, read off the array that the region finds. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The staging buffer of this input window holds the window's block at every point. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- The staging buffer of this input window holds the window's block at every point. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

abbrev r1_0 : Rect S3200x128 := Rect.unit (s := S3200x128) ![0, 0] S3200x128.size inb_S3200x128_S3200x128_0_0
abbrev r1_1 : Rect S128x128 := Rect.unit (s := S128x128) ![0, 0] S128x128.size inb_S128x128_S128x128_0_0

/-- What the body leaves in this output window's staging buffer, from the blocks of the input windows. -/
def out1_2 (x0 : Vec F S3200x128 .f32) (x1 : Vec F S128x128 .f32) : Vec F S3200x128 .f32 :=
  View.canon [⟨r1_0, k1_pay1 (View.ld x0 r1_0) (View.ld x1 r1_1)⟩]

/-- The body's store into this window covers its buffer. -/
theorem cover1_2 (p0 : Vec F S3200x128 .f32) (y : S3200x128.Idx) :
    ∃ pc ∈ ([⟨r1_0, p0⟩] : List (View.Piece (Elt F) S3200x128 .f32)), y ∈ pc.1.set :=
  View.cover_of_tiled [⟨r1_0, p0⟩] S3200x128.size (by rfl) y

set_option maxHeartbeats 1000000 in
/-- The body, run on whole buffers holding the input blocks, leaves the inputs as they were and the outputs as stated. -/
theorem sound_kernel1 (c : Dev nD) (E : Set ℕ) (i : grid1.Coords) (arg1 : Memref sig .tc .vmem S3200x128 .f32) (harg1 : arg1.IsWhole) (arg2 : Memref sig .tc .vmem S128x128 .f32) (harg2 : arg2.IsWhole) (arg3 : Memref sig .tc .vmem S3200x128 .f32) (harg3 : arg3.IsWhole)
    (x0 : Vec F S3200x128 .f32) (x1 : Vec F S128x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out1_2 x0 x1)) -∗ K ⟨⟩))
      ⊢ wp frame (wpE (defs₀ (F := F)) Variants.none c none) E (cc1__q_kernel i arg1 harg1 arg2 harg2 arg3 harg3) K := by
  simp only [cc1__q_kernel_eq_skeleton]; unfold cc1__q_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 _)

/-- The proof data of the pipeline: the arrays as found, every input block left in place, every output as the body leaves it. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q _ := fullShare
  owed _ := 0

/-- The arrays of the proof data are the contents found at entry. -/
theorem A_eq1 (c : Dev nD) (w : Fin cfg1.W) : (dat1 V c).A w = V c (Pipeline.arrRef spec1 w) := by
  dsimp only [dat1]

/-- What the body leaves in this window's staging buffer. -/
theorem after1_0 (c : Dev nD) (t : Fin cfg1.N) : (dat1 V c).after 0 t = iblk1 V c 0 t := by dsimp only [dat1]
/-- What the body leaves in this window's staging buffer. -/
theorem after1_1 (c : Dev nD) (t : Fin cfg1.N) : (dat1 V c).after 1 t = iblk1 V c 1 t := by dsimp only [dat1]
/-- What the body leaves in this window's staging buffer. -/
theorem after1_2 (c : Dev nD) (t : Fin cfg1.N) : (dat1 V c).after 2 t = out1_2 (iblk1 V c 0 t) (iblk1 V c 1 t) := by dsimp only [dat1]

/-- This input window's staging buffer holds its block at every point. -/
theorem before1_0 (c : Dev nD) (t : Fin cfg1.N) (d) : (dat1 V c).before 0 t d = iblk1 V c 0 t :=
  before1_0_of V (dat1 V c) (A_eq1 V c 0) (after1_0 V c) t d
/-- This input window's staging buffer holds its block at every point. -/
theorem before1_1 (c : Dev nD) (t : Fin cfg1.N) (d) : (dat1 V c).before 1 t d = iblk1 V c 1 t :=
  before1_1_of V (dat1 V c) (A_eq1 V c 1) (after1_1 V c) t d

/-- What the body is called with at a point. -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- What the body returns at a point. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

/-- The body at any point, on the buffers that the pipeline hands it. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ (grid1.coords t) _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body in the table of bodies is the body at this point. -/
theorem defs₀_row1 (t : Fin cfg1.N) :
    defs₀ (F := F) .tc cfg1.body (cfg1.bodyArgs t (cfg1.slots t)) = bodyAt1 t := by
  unfold defs₀; rw [Defs.onTc_tc]

/-- The obligation that the pipeline has of the body, at every point. -/
theorem body_obligation1 (c : Dev nD) : BodyObligation (dat1 (F := F) V c) (defs₀ (F := F)) Variants.none () Set.univ := fun t => by
  rw [bigSep_W1, bigSep_W1, defs₀_row1]
  exact triple_restated (sound_body1 V c t) rfl .rfl fun _ => .rfl

end Cert.KernelIdeal.Own

end
-- ==== Proof.KernelIdeal.Win.lean ====
/-
  Reading and writing whole buffers and rows: what a window of a written buffer holds.
-/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp
public import Idealize.ShloMosaic.Lib.VecWindow

@[expose] public section

set_option maxRecDepth 16384

noncomputable section

namespace Cert.KernelIdeal.Own

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

/-- A load of a window reads the window of what the view reads. -/
theorem readAt_win {s : Shape} (v : View sig .tc .vmem s .f32) (f : v.ty.Contents (Elt F)) {off size : Fin s.rank → ℕ}
    (inb : ∀ a, off a + size a ≤ s.size a) :
    v.readAt (Elt F) (Rect.unit off size inb).toLoadRect f = VecWindow.window (v.read (Elt F) f) off size inb := rfl

/-- The window that is the whole vector is the vector. -/
theorem win_full {s : Shape} (x : Vec F s .f32) {off : Fin s.rank → ℕ} (inb : ∀ a, off a + s.size a ≤ s.size a) :
    VecWindow.window x off s.size inb = x :=
  funext fun y => congrArg x (funext fun a => Fin.ext (by
    show off a + 1 * (y a).val = (y a).val
    have := inb a; omega))

/-- What a view reads after a store of a window, with other stores before it. -/
theorem read_put {s : Shape} (v : View sig .tc .vmem s .f32) (f : v.ty.Contents (Elt F)) {off size : Fin s.rank → ℕ}
    (inb : ∀ a, off a + size a ≤ s.size a) (w : (Rect.unit off size inb).shape.Idx → Elt F .f32) (L : List (View.Piece (Elt F) s .f32)) :
    v.read (Elt F) (v.writes (Elt F) f (⟨Rect.unit off size inb, w⟩ :: L)) = VecWindow.put (v.read (Elt F) (v.writes (Elt F) f L)) off size w :=
  View.read_writes_cons_put v f inb w L rfl

/-- A store of the whole vector leaves what was stored. -/
theorem put_full {s : Shape} (x : Vec F s .f32) {off : Fin s.rank → ℕ} (h : ∀ a, off a = 0) (w : Vec F s .f32) :
    VecWindow.put x off s.size w = w := by
  funext y
  unfold VecWindow.put
  rw [dif_pos fun a => ⟨by rw [h a]; exact Nat.zero_le _, by rw [h a, Nat.zero_add]; exact (y a).isLt⟩]
  exact congrArg w (funext fun a => Fin.ext (by
    show (y a).val - off a = (y a).val
    rw [h a, Nat.sub_zero]))
/-- Row 1 is as before after a store of row 0. -/
theorem w1_put0 (s : Vec F S8x128 .f32) (w : Vec F S1x128 .f32) :
    VecWindow.window (VecWindow.put s ![0, 0] S1x128.size w) ![1, 0] S1x128.size inb_S8x128_S1x128_1_0
      = VecWindow.window s ![1, 0] S1x128.size inb_S8x128_S1x128_1_0 :=
  VecWindow.window_put_of_disjoint s _ _ _ _ _ w 0 (.inr (by decide))
/-- Row 2 is as before after a store of row 0. -/
theorem w2_put0 (s : Vec F S8x128 .f32) (w : Vec F S1x128 .f32) :
    VecWindow.window (VecWindow.put s ![0, 0] S1x128.size w) ![2, 0] S1x128.size inb_S8x128_S1x128_2_0
      = VecWindow.window s ![2, 0] S1x128.size inb_S8x128_S1x128_2_0 :=
  VecWindow.window_put_of_disjoint s _ _ _ _ _ w 0 (.inr (by decide))
/-- Row 2 is as before after a store of row 1. -/
theorem w2_put1 (s : Vec F S8x128 .f32) (w : Vec F S1x128 .f32) :
    VecWindow.window (VecWindow.put s ![1, 0] S1x128.size w) ![2, 0] S1x128.size inb_S8x128_S1x128_2_0
      = VecWindow.window s ![2, 0] S1x128.size inb_S8x128_S1x128_2_0 :=
  VecWindow.window_put_of_disjoint s _ _ _ _ _ w 0 (.inr (by decide))

end Cert.KernelIdeal.Own

end
-- ==== Proof.KernelIdeal.Reg2.lean ====
/-
  The third custom call (the edge rows' first layer): a grid of a hundred points whose three scratch buffers carry column sums and a matrix product.
-/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp
public import proofs.«01_k».proof.Proof.KernelIdeal.Win
public import Idealize.ShloMosaic.Lib.VecWindow

@[expose] public section

set_option maxRecDepth 16384

noncomputable section

namespace Cert.KernelIdeal.Own

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

-- what every buffer holds when the region is entered
variable (V : (c : Dev nD) → (b : Ref sig .tc) → Buf (Elt F) ((c : Thread nD τ).loc b))

/-- Window `w`'s block at point `t`, read off the array that the region finds. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The staging buffer of this input window holds the window's block at every point. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
/-- The staging buffer of this input window holds the window's block at every point. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
/-- The staging buffer of this input window holds the window's block at every point. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
/-- The staging buffer of this input window holds the window's block at every point. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)
/-- The staging buffer of this input window holds the window's block at every point. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)
/-- The staging buffer of this input window holds the window's block at every point. -/
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)
/-- The column sums and the column sums of squares of one block of layer outputs, added into the first two rows. -/
def acc2_0 (x0 : Vec F S3200x128 .f32) (x1 : Vec F S3200x128 .f32) (x2 : Vec F S3200x128 .f32) (x3 : Vec F S1x8x3200 .f32) (x4 : Vec F S128x128 .f32) (x5 : Vec F S1x1 .f32) (s : Vec F S8x128 .f32) : Vec F S8x128 .f32 :=
  (VecWindow.put (VecWindow.put s ![0, 0] S1x128.size (k2_pay8 x0 x1 x5 x4 (VecWindow.window s ![0, 0] S1x128.size inb_S8x128_S1x128_0_0))) ![1, 0] S1x128.size (k2_pay10 (VecWindow.window s ![1, 0] S1x128.size inb_S8x128_S1x128_1_0) (k2_pay9 x0 x1 x5 x4)))

/-- The column sums of the lifted rows and the two weighted sums, added into the first three rows. -/
def acc2_1 (x0 : Vec F S3200x128 .f32) (x1 : Vec F S3200x128 .f32) (x2 : Vec F S3200x128 .f32) (x3 : Vec F S1x8x3200 .f32) (x4 : Vec F S128x128 .f32) (x5 : Vec F S1x1 .f32) (s : Vec F S8x128 .f32) : Vec F S8x128 .f32 :=
  (VecWindow.put (VecWindow.put (VecWindow.put s ![0, 0] S1x128.size (k2_pay11 (k2_pay4 x1) (VecWindow.window s ![0, 0] S1x128.size inb_S8x128_S1x128_0_0))) ![1, 0] S1x128.size (k2_pay12 (k2_pay5 x2) (k2_pay6 x3) (VecWindow.window s ![1, 0] S1x128.size inb_S8x128_S1x128_1_0))) ![2, 0] S1x128.size (k2_pay13 (k2_pay5 x2) (k2_pay6 x3) (VecWindow.window s ![2, 0] S1x128.size inb_S8x128_S1x128_2_0)))

/-- The product of the lifted rows and the message rows of one block, added in. -/
def acc2_2 (x0 : Vec F S3200x128 .f32) (x1 : Vec F S3200x128 .f32) (x2 : Vec F S3200x128 .f32) (x3 : Vec F S1x8x3200 .f32) (x4 : Vec F S128x128 .f32) (x5 : Vec F S1x1 .f32) (s : Vec F S128x128 .f32) : Vec F S128x128 .f32 :=
  k2_pay14 (k2_pay4 x1) (k2_pay5 x2) s

/-- The block of layer outputs that a point stores. -/
def out2_6 (x0 : Vec F S3200x128 .f32) (x1 : Vec F S3200x128 .f32) (x2 : Vec F S3200x128 .f32) (x3 : Vec F S1x8x3200 .f32) (x4 : Vec F S128x128 .f32) (x5 : Vec F S1x1 .f32) : Vec F S3200x128 .f32 := k2_pay7 x0 x1 x5 x4

/-- The point is the first of the sweep, as the body tests it. -/
abbrev first2 (i : grid2.Coords) : Prop := (Scalar.cmpi .ne (Scalar.extui (Scalar.cmpi .eq (BitVec.ofNat 32 (i 0).val) 0#32)) 0#32) = 1#1
/-- The body's first test holds at point 0 alone. -/
theorem hfirst2 : ∀ t : Fin cfg2.N, first2 (grid2.coords t) ↔ t.val = 0 :=
  (fun t => by
    have ht : t.val < 100 := Nat.lt_of_lt_of_eq t.isLt N_2
    have e0 : (grid2.coords t 0).val = t.val / 1 % 100 := Pipeline.Grid.coords_val t 0 (by decide) rfl
    have h : first2 (grid2.coords t) ↔ t.val % 100 = 0 := by
      simp only [first2, e0]
      word_cmp
    rw [h]; omega
   : ∀ t : Fin grid2.N, first2 (grid2.coords t) ↔ t.val = 0)
/-- The point is the last of the sweep, as the body tests it. -/
abbrev last2 (i : grid2.Coords) : Prop := k2_cond2 i = 1#1
/-- The body's second test holds at point 99 alone. -/
theorem hlast2 : ∀ t : Fin cfg2.N, last2 (grid2.coords t) ↔ t.val = 99 :=
  (fun t => by
    have ht : t.val < 100 := Nat.lt_of_lt_of_eq t.isLt N_2
    have e0 : (grid2.coords t 0).val = t.val / 1 % 100 := Pipeline.Grid.coords_val t 0 (by decide) rfl
    have h : last2 (grid2.coords t) ↔ t.val % 100 = 99 := by
      simp only [last2, k2_cond2, e0]
      word_cmp
    rw [h]; omega
   : ∀ t : Fin grid2.N, last2 (grid2.coords t) ↔ t.val = 99)

set_option maxHeartbeats 4000000 in
/-- At the first point the scratch is cleared before the block is added. -/
theorem body2_A (c : Dev nD) (E : Set ℕ) (i : grid2.Coords) (arg1 : Memref sig .tc .vmem S3200x128 .f32) (harg1 : arg1.IsWhole) (arg2 : Memref sig .tc .vmem S3200x128 .f32) (harg2 : arg2.IsWhole) (arg3 : Memref sig .tc .vmem S3200x128 .f32) (harg3 : arg3.IsWhole) (arg4 : Memref sig .tc .vmem S1x8x3200 .f32) (harg4 : arg4.IsWhole) (arg5 : Memref sig .tc .vmem S128x128 .f32) (harg5 : arg5.IsWhole) (arg6 : Memref sig .tc .vmem S1x1 .f32) (harg6 : arg6.IsWhole) (arg7 : Memref sig .tc .vmem S3200x128 .f32) (harg7 : arg7.IsWhole) (arg8 : Memref sig .tc .vmem S8x128 .f32) (harg8 : arg8.IsWhole) (arg9 : Memref sig .tc .vmem S8x128 .f32) (harg9 : arg9.IsWhole) (arg10 : Memref sig .tc .vmem S128x128 .f32) (harg10 : arg10.IsWhole) (arg11 : Memref sig .tc .vmem S8x128 .f32) (harg11 : arg11.IsWhole) (arg12 : Memref sig .tc .vmem S8x128 .f32) (harg12 : arg12.IsWhole) (arg13 : Memref sig .tc .vmem S128x128 .f32) (harg13 : arg13.IsWhole) (hc0 : first2 i) (hc1 : ¬last2 i)
    (x0 : Vec F S3200x128 .f32) (x1 : Vec F S3200x128 .f32) (x2 : Vec F S3200x128 .f32) (x3 : Vec F S1x8x3200 .f32) (x4 : Vec F S128x128 .f32) (x5 : Vec F S1x1 .f32) (d0 : Vec F S8x128 .f32) (d1 : Vec F S8x128 .f32) (d2 : Vec F S128x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ owns (c : Thread nD τ) arg8 fullShare d0 ∗ owns (c : Thread nD τ) arg9 fullShare d1 ∗ owns (c : Thread nD τ) arg10 fullShare d2 ∗ (∃ d, owns (c : Thread nD τ) arg11 fullShare d) ∗ (∃ d, owns (c : Thread nD τ) arg12 fullShare d) ∗ (∃ d, owns (c : Thread nD τ) arg13 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (out2_6 x0 x1 x2 x3 x4 x5) ∗ owns (c : Thread nD τ) arg8 fullShare d0 ∗ owns (c : Thread nD τ) arg9 fullShare d1 ∗ owns (c : Thread nD τ) arg10 fullShare d2 ∗ owns (c : Thread nD τ) arg11 fullShare (acc2_0 x0 x1 x2 x3 x4 x5 (k2_pay1 (F := F))) ∗ owns (c : Thread nD τ) arg12 fullShare (acc2_1 x0 x1 x2 x3 x4 x5 (k2_pay2 (F := F))) ∗ owns (c : Thread nD τ) arg13 fullShare (acc2_2 x0 x1 x2 x3 x4 x5 (k2_pay3 (F := F)))) -∗ K ⟨⟩))
      ⊢ wp frame (wpE (defs₀ (F := F)) Variants.none c none) E (cc2__e1_kernel i arg1 harg1 arg2 harg2 arg3 harg3 arg4 harg4 arg5 harg5 arg6 harg6 arg7 harg7 arg8 harg8 arg9 harg9 arg10 harg10 arg11 harg11 arg12 harg12 arg13 harg13) K := by
  simp only [cc2__e1_kernel_eq_skeleton]; unfold cc2__e1_kernel_skel
  simp only [k2_part1_eq_skeleton, k2_part2_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%dl, %fl, -, HL⟩, ⟨%fi0, %hfi0, HI0⟩, ⟨%fi1, %hfi1, HI1⟩, ⟨%fi2, %hfi2, HI2⟩, ⟨%ds0, %fs0, -, HS0⟩, ⟨%ds1, %fs1, -, HS1⟩, ⟨%ds2, %fs2, -, HS2⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg8.eq_unread hfi0; obtain rfl := harg9.eq_unread hfi1; obtain rfl := harg10.eq_unread hfi2
  have eb : ∀ x : Vec F S3200x128 .f32, VecWindow.window x ![0, 0] ![3200, 128] inb_S3200x128_S3200x128_0_0 = x := fun x => win_full x _
  have ew : ∀ x : Vec F S128x128 .f32, VecWindow.window x ![0, 0] ![128, 128] inb_S128x128_S128x128_0_0 = x := fun x => win_full x _
  have er : ∀ x : Vec F S8x128 .f32, VecWindow.window x ![0, 0] ![8, 128] inb_S8x128_S8x128_0_0 = x := fun x => win_full x _
  have ec : ∀ x : Vec F S1x8x3200 .f32, VecWindow.window x ![0, 0, 0] ![1, 8, 3200] inb_S1x8x3200_S1x8x3200_0_0_0 = x := fun x => win_full x _
  have ee : ∀ x : Vec F S1x1 .f32, VecWindow.window x ![0, 0] ![1, 1] inb_S1x1_S1x1_0_0 = x := fun x => win_full x _
  have pr : ∀ x w : Vec F S8x128 .f32, VecWindow.put x ![0, 0] ![8, 128] w = w := fun x w => put_full x (by decide) w
  have pw : ∀ x w : Vec F S128x128 .f32, VecWindow.put x ![0, 0] ![128, 128] w = w := fun x w => put_full x (by decide) w
  have p10 : ∀ (x : Vec F S8x128 .f32) (w : Vec F S1x128 .f32), VecWindow.window (VecWindow.put x ![0, 0] ![1, 128] w) ![1, 0] ![1, 128] inb_S8x128_S1x128_1_0
      = VecWindow.window x ![1, 0] ![1, 128] inb_S8x128_S1x128_1_0 := w1_put0
  have p20 : ∀ (x : Vec F S8x128 .f32) (w : Vec F S1x128 .f32), VecWindow.window (VecWindow.put x ![0, 0] ![1, 128] w) ![2, 0] ![1, 128] inb_S8x128_S1x128_2_0
      = VecWindow.window x ![2, 0] ![1, 128] inb_S8x128_S1x128_2_0 := w2_put0
  have p21 : ∀ (x : Vec F S8x128 .f32) (w : Vec F S1x128 .f32), VecWindow.window (VecWindow.put x ![1, 0] ![1, 128] w) ![2, 0] ![1, 128] inb_S8x128_S1x128_2_0
      = VecWindow.window x ![2, 0] ![1, 128] inb_S8x128_S1x128_2_0 := w2_put1
  sl_exec (disch := first | sl_exact hc0 | sl_exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [HL]
  · iexists _; isplitr
    swap; · iexact HL
    ipureintro
    sl_unfold_words
    simp only [View.readCov, readAt_win, read_put, View.writes_nil, hf0, hf1, hf2, hf3, hf4, hf5, eb, ew, er, ec, ee, pr, pw, p10, p20, p21]; exact put_full _ (by decide) _
  isplitl [HI0]
  · iexists _; isplitr
    swap; · iexact HI0
    ipureintro
    exact hfi0
  isplitl [HI1]
  · iexists _; isplitr
    swap; · iexact HI1
    ipureintro
    exact hfi1
  isplitl [HI2]
  · iexists _; isplitr
    swap; · iexact HI2
    ipureintro
    exact hfi2
  isplitl [HS0]
  · iexists _; isplitr
    swap; · iexact HS0
    ipureintro
    sl_unfold_words
    simp only [View.readCov, readAt_win, read_put, View.writes_nil, hf0, hf1, hf2, hf3, hf4, hf5, eb, ew, er, ec, ee, pr, pw, p10, p20, p21]; rfl
  isplitl [HS1]
  · iexists _; isplitr
    swap; · iexact HS1
    ipureintro
    sl_unfold_words
    simp only [View.readCov, readAt_win, read_put, View.writes_nil, hf0, hf1, hf2, hf3, hf4, hf5, eb, ew, er, ec, ee, pr, pw, p10, p20, p21]; rfl
  iexists _; isplitr
  swap; · iexact HS2
  ipureintro
  sl_unfold_words
  simp only [View.readCov, readAt_win, read_put, View.writes_nil, hf0, hf1, hf2, hf3, hf4, hf5, eb, ew, er, ec, ee, pr, pw, p10, p20, p21]; rfl

set_option maxHeartbeats 4000000 in
/-- At a point between, the block is added to what the scratch holds. -/
theorem body2_B (c : Dev nD) (E : Set ℕ) (i : grid2.Coords) (arg1 : Memref sig .tc .vmem S3200x128 .f32) (harg1 : arg1.IsWhole) (arg2 : Memref sig .tc .vmem S3200x128 .f32) (harg2 : arg2.IsWhole) (arg3 : Memref sig .tc .vmem S3200x128 .f32) (harg3 : arg3.IsWhole) (arg4 : Memref sig .tc .vmem S1x8x3200 .f32) (harg4 : arg4.IsWhole) (arg5 : Memref sig .tc .vmem S128x128 .f32) (harg5 : arg5.IsWhole) (arg6 : Memref sig .tc .vmem S1x1 .f32) (harg6 : arg6.IsWhole) (arg7 : Memref sig .tc .vmem S3200x128 .f32) (harg7 : arg7.IsWhole) (arg8 : Memref sig .tc .vmem S8x128 .f32) (harg8 : arg8.IsWhole) (arg9 : Memref sig .tc .vmem S8x128 .f32) (harg9 : arg9.IsWhole) (arg10 : Memref sig .tc .vmem S128x128 .f32) (harg10 : arg10.IsWhole) (arg11 : Memref sig .tc .vmem S8x128 .f32) (harg11 : arg11.IsWhole) (arg12 : Memref sig .tc .vmem S8x128 .f32) (harg12 : arg12.IsWhole) (arg13 : Memref sig .tc .vmem S128x128 .f32) (harg13 : arg13.IsWhole) (hc0 : ¬first2 i) (hc1 : ¬last2 i)
    (x0 : Vec F S3200x128 .f32) (x1 : Vec F S3200x128 .f32) (x2 : Vec F S3200x128 .f32) (x3 : Vec F S1x8x3200 .f32) (x4 : Vec F S128x128 .f32) (x5 : Vec F S1x1 .f32) (s0 : Vec F S8x128 .f32) (s1 : Vec F S8x128 .f32) (s2 : Vec F S128x128 .f32) (d0 : Vec F S8x128 .f32) (d1 : Vec F S8x128 .f32) (d2 : Vec F S128x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ owns (c : Thread nD τ) arg8 fullShare d0 ∗ owns (c : Thread nD τ) arg9 fullShare d1 ∗ owns (c : Thread nD τ) arg10 fullShare d2 ∗ owns (c : Thread nD τ) arg11 fullShare s0 ∗ owns (c : Thread nD τ) arg12 fullShare s1 ∗ owns (c : Thread nD τ) arg13 fullShare s2
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (out2_6 x0 x1 x2 x3 x4 x5) ∗ owns (c : Thread nD τ) arg8 fullShare d0 ∗ owns (c : Thread nD τ) arg9 fullShare d1 ∗ owns (c : Thread nD τ) arg10 fullShare d2 ∗ owns (c : Thread nD τ) arg11 fullShare (acc2_0 x0 x1 x2 x3 x4 x5 s0) ∗ owns (c : Thread nD τ) arg12 fullShare (acc2_1 x0 x1 x2 x3 x4 x5 s1) ∗ owns (c : Thread nD τ) arg13 fullShare (acc2_2 x0 x1 x2 x3 x4 x5 s2)) -∗ K ⟨⟩))
      ⊢ wp frame (wpE (defs₀ (F := F)) Variants.none c none) E (cc2__e1_kernel i arg1 harg1 arg2 harg2 arg3 harg3 arg4 harg4 arg5 harg5 arg6 harg6 arg7 harg7 arg8 harg8 arg9 harg9 arg10 harg10 arg11 harg11 arg12 harg12 arg13 harg13) K := by
  simp only [cc2__e1_kernel_eq_skeleton]; unfold cc2__e1_kernel_skel
  simp only [k2_part1_eq_skeleton, k2_part2_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%dl, %fl, -, HL⟩, ⟨%fi0, %hfi0, HI0⟩, ⟨%fi1, %hfi1, HI1⟩, ⟨%fi2, %hfi2, HI2⟩, ⟨%fs0, %hfs0, HS0⟩, ⟨%fs1, %hfs1, HS1⟩, ⟨%fs2, %hfs2, HS2⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg8.eq_unread hfi0; obtain rfl := harg9.eq_unread hfi1; obtain rfl := harg10.eq_unread hfi2; obtain rfl := harg11.eq_unread hfs0; obtain rfl := harg12.eq_unread hfs1; obtain rfl := harg13.eq_unread hfs2
  have eb : ∀ x : Vec F S3200x128 .f32, VecWindow.window x ![0, 0] ![3200, 128] inb_S3200x128_S3200x128_0_0 = x := fun x => win_full x _
  have ew : ∀ x : Vec F S128x128 .f32, VecWindow.window x ![0, 0] ![128, 128] inb_S128x128_S128x128_0_0 = x := fun x => win_full x _
  have er : ∀ x : Vec F S8x128 .f32, VecWindow.window x ![0, 0] ![8, 128] inb_S8x128_S8x128_0_0 = x := fun x => win_full x _
  have ec : ∀ x : Vec F S1x8x3200 .f32, VecWindow.window x ![0, 0, 0] ![1, 8, 3200] inb_S1x8x3200_S1x8x3200_0_0_0 = x := fun x => win_full x _
  have ee : ∀ x : Vec F S1x1 .f32, VecWindow.window x ![0, 0] ![1, 1] inb_S1x1_S1x1_0_0 = x := fun x => win_full x _
  have pr : ∀ x w : Vec F S8x128 .f32, VecWindow.put x ![0, 0] ![8, 128] w = w := fun x w => put_full x (by decide) w
  have pw : ∀ x w : Vec F S128x128 .f32, VecWindow.put x ![0, 0] ![128, 128] w = w := fun x w => put_full x (by decide) w
  have p10 : ∀ (x : Vec F S8x128 .f32) (w : Vec F S1x128 .f32), VecWindow.window (VecWindow.put x ![0, 0] ![1, 128] w) ![1, 0] ![1, 128] inb_S8x128_S1x128_1_0
      = VecWindow.window x ![1, 0] ![1, 128] inb_S8x128_S1x128_1_0 := w1_put0
  have p20 : ∀ (x : Vec F S8x128 .f32) (w : Vec F S1x128 .f32), VecWindow.window (VecWindow.put x ![0, 0] ![1, 128] w) ![2, 0] ![1, 128] inb_S8x128_S1x128_2_0
      = VecWindow.window x ![2, 0] ![1, 128] inb_S8x128_S1x128_2_0 := w2_put0
  have p21 : ∀ (x : Vec F S8x128 .f32) (w : Vec F S1x128 .f32), VecWindow.window (VecWindow.put x ![1, 0] ![1, 128] w) ![2, 0] ![1, 128] inb_S8x128_S1x128_2_0
      = VecWindow.window x ![2, 0] ![1, 128] inb_S8x128_S1x128_2_0 := w2_put1
  sl_exec (disch := first | sl_exact hc0 | sl_exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [HL]
  · iexists _; isplitr
    swap; · iexact HL
    ipureintro
    sl_unfold_words
    simp only [View.readCov, readAt_win, read_put, View.writes_nil, hf0, hf1, hf2, hf3, hf4, hf5, hfs0, hfs1, hfs2, eb, ew, er, ec, ee, pr, pw, p10, p20, p21]; exact put_full _ (by decide) _
  isplitl [HI0]
  · iexists _; isplitr
    swap; · iexact HI0
    ipureintro
    exact hfi0
  isplitl [HI1]
  · iexists _; isplitr
    swap; · iexact HI1
    ipureintro
    exact hfi1
  isplitl [HI2]
  · iexists _; isplitr
    swap; · iexact HI2
    ipureintro
    exact hfi2
  isplitl [HS0]
  · iexists _; isplitr
    swap; · iexact HS0
    ipureintro
    sl_unfold_words
    simp only [View.readCov, readAt_win, read_put, View.writes_nil, hf0, hf1, hf2, hf3, hf4, hf5, hfs0, hfs1, hfs2, eb, ew, er, ec, ee, pr, pw, p10, p20, p21]; rfl
  isplitl [HS1]
  · iexists _; isplitr
    swap; · iexact HS1
    ipureintro
    sl_unfold_words
    simp only [View.readCov, readAt_win, read_put, View.writes_nil, hf0, hf1, hf2, hf3, hf4, hf5, hfs0, hfs1, hfs2, eb, ew, er, ec, ee, pr, pw, p10, p20, p21]; rfl
  iexists _; isplitr
  swap; · iexact HS2
  ipureintro
  sl_unfold_words
  simp only [View.readCov, readAt_win, read_put, View.writes_nil, hf0, hf1, hf2, hf3, hf4, hf5, hfs0, hfs1, hfs2, eb, ew, er, ec, ee, pr, pw, p10, p20, p21]; rfl

set_option maxHeartbeats 4000000 in
/-- At the last point the sums are also stored to the other outputs. -/
theorem body2_C (c : Dev nD) (E : Set ℕ) (i : grid2.Coords) (arg1 : Memref sig .tc .vmem S3200x128 .f32) (harg1 : arg1.IsWhole) (arg2 : Memref sig .tc .vmem S3200x128 .f32) (harg2 : arg2.IsWhole) (arg3 : Memref sig .tc .vmem S3200x128 .f32) (harg3 : arg3.IsWhole) (arg4 : Memref sig .tc .vmem S1x8x3200 .f32) (harg4 : arg4.IsWhole) (arg5 : Memref sig .tc .vmem S128x128 .f32) (harg5 : arg5.IsWhole) (arg6 : Memref sig .tc .vmem S1x1 .f32) (harg6 : arg6.IsWhole) (arg7 : Memref sig .tc .vmem S3200x128 .f32) (harg7 : arg7.IsWhole) (arg8 : Memref sig .tc .vmem S8x128 .f32) (harg8 : arg8.IsWhole) (arg9 : Memref sig .tc .vmem S8x128 .f32) (harg9 : arg9.IsWhole) (arg10 : Memref sig .tc .vmem S128x128 .f32) (harg10 : arg10.IsWhole) (arg11 : Memref sig .tc .vmem S8x128 .f32) (harg11 : arg11.IsWhole) (arg12 : Memref sig .tc .vmem S8x128 .f32) (harg12 : arg12.IsWhole) (arg13 : Memref sig .tc .vmem S128x128 .f32) (harg13 : arg13.IsWhole) (hc0 : ¬first2 i) (hc1 : last2 i)
    (x0 : Vec F S3200x128 .f32) (x1 : Vec F S3200x128 .f32) (x2 : Vec F S3200x128 .f32) (x3 : Vec F S1x8x3200 .f32) (x4 : Vec F S128x128 .f32) (x5 : Vec F S1x1 .f32) (s0 : Vec F S8x128 .f32) (s1 : Vec F S8x128 .f32) (s2 : Vec F S128x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ owns (c : Thread nD τ) arg11 fullShare s0 ∗ owns (c : Thread nD τ) arg12 fullShare s1 ∗ owns (c : Thread nD τ) arg13 fullShare s2
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (out2_6 x0 x1 x2 x3 x4 x5) ∗ owns (c : Thread nD τ) arg8 fullShare (acc2_0 x0 x1 x2 x3 x4 x5 s0) ∗ owns (c : Thread nD τ) arg9 fullShare (acc2_1 x0 x1 x2 x3 x4 x5 s1) ∗ owns (c : Thread nD τ) arg10 fullShare (acc2_2 x0 x1 x2 x3 x4 x5 s2) ∗ owns (c : Thread nD τ) arg11 fullShare (acc2_0 x0 x1 x2 x3 x4 x5 s0) ∗ owns (c : Thread nD τ) arg12 fullShare (acc2_1 x0 x1 x2 x3 x4 x5 s1) ∗ owns (c : Thread nD τ) arg13 fullShare (acc2_2 x0 x1 x2 x3 x4 x5 s2)) -∗ K ⟨⟩))
      ⊢ wp frame (wpE (defs₀ (F := F)) Variants.none c none) E (cc2__e1_kernel i arg1 harg1 arg2 harg2 arg3 harg3 arg4 harg4 arg5 harg5 arg6 harg6 arg7 harg7 arg8 harg8 arg9 harg9 arg10 harg10 arg11 harg11 arg12 harg12 arg13 harg13) K := by
  simp only [cc2__e1_kernel_eq_skeleton]; unfold cc2__e1_kernel_skel
  simp only [k2_part1_eq_skeleton, k2_part2_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%dl, %fl, -, HL⟩, ⟨%di0, %fi0, -, HI0⟩, ⟨%di1, %fi1, -, HI1⟩, ⟨%di2, %fi2, -, HI2⟩, ⟨%fs0, %hfs0, HS0⟩, ⟨%fs1, %hfs1, HS1⟩, ⟨%fs2, %hfs2, HS2⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg11.eq_unread hfs0; obtain rfl := harg12.eq_unread hfs1; obtain rfl := harg13.eq_unread hfs2
  have eb : ∀ x : Vec F S3200x128 .f32, VecWindow.window x ![0, 0] ![3200, 128] inb_S3200x128_S3200x128_0_0 = x := fun x => win_full x _
  have ew : ∀ x : Vec F S128x128 .f32, VecWindow.window x ![0, 0] ![128, 128] inb_S128x128_S128x128_0_0 = x := fun x => win_full x _
  have er : ∀ x : Vec F S8x128 .f32, VecWindow.window x ![0, 0] ![8, 128] inb_S8x128_S8x128_0_0 = x := fun x => win_full x _
  have ec : ∀ x : Vec F S1x8x3200 .f32, VecWindow.window x ![0, 0, 0] ![1, 8, 3200] inb_S1x8x3200_S1x8x3200_0_0_0 = x := fun x => win_full x _
  have ee : ∀ x : Vec F S1x1 .f32, VecWindow.window x ![0, 0] ![1, 1] inb_S1x1_S1x1_0_0 = x := fun x => win_full x _
  have pr : ∀ x w : Vec F S8x128 .f32, VecWindow.put x ![0, 0] ![8, 128] w = w := fun x w => put_full x (by decide) w
  have pw : ∀ x w : Vec F S128x128 .f32, VecWindow.put x ![0, 0] ![128, 128] w = w := fun x w => put_full x (by decide) w
  have p10 : ∀ (x : Vec F S8x128 .f32) (w : Vec F S1x128 .f32), VecWindow.window (VecWindow.put x ![0, 0] ![1, 128] w) ![1, 0] ![1, 128] inb_S8x128_S1x128_1_0
      = VecWindow.window x ![1, 0] ![1, 128] inb_S8x128_S1x128_1_0 := w1_put0
  have p20 : ∀ (x : Vec F S8x128 .f32) (w : Vec F S1x128 .f32), VecWindow.window (VecWindow.put x ![0, 0] ![1, 128] w) ![2, 0] ![1, 128] inb_S8x128_S1x128_2_0
      = VecWindow.window x ![2, 0] ![1, 128] inb_S8x128_S1x128_2_0 := w2_put0
  have p21 : ∀ (x : Vec F S8x128 .f32) (w : Vec F S1x128 .f32), VecWindow.window (VecWindow.put x ![1, 0] ![1, 128] w) ![2, 0] ![1, 128] inb_S8x128_S1x128_2_0
      = VecWindow.window x ![2, 0] ![1, 128] inb_S8x128_S1x128_2_0 := w2_put1
  sl_exec (disch := first | sl_exact hc0 | sl_exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [HL]
  · iexists _; isplitr
    swap; · iexact HL
    ipureintro
    sl_unfold_words
    simp only [View.readCov, readAt_win, read_put, View.writes_nil, hf0, hf1, hf2, hf3, hf4, hf5, hfs0, hfs1, hfs2, eb, ew, er, ec, ee, pr, pw, p10, p20, p21]; exact put_full _ (by decide) _
  isplitl [HI0]
  · iexists _; isplitr
    swap; · iexact HI0
    ipureintro
    sl_unfold_words; simp only [View.readCov, readAt_win, read_put, View.writes_nil, hf0, hf1, hf2, hf3, hf4, hf5, hfs0, hfs1, hfs2, eb, ew, er, ec, ee, pr, pw, p10, p20, p21]; rfl
  isplitl [HI1]
  · iexists _; isplitr
    swap; · iexact HI1
    ipureintro
    sl_unfold_words; simp only [View.readCov, readAt_win, read_put, View.writes_nil, hf0, hf1, hf2, hf3, hf4, hf5, hfs0, hfs1, hfs2, eb, ew, er, ec, ee, pr, pw, p10, p20, p21]; rfl
  isplitl [HI2]
  · iexists _; isplitr
    swap; · iexact HI2
    ipureintro
    sl_unfold_words; simp only [View.readCov, readAt_win, read_put, View.writes_nil, hf0, hf1, hf2, hf3, hf4, hf5, hfs0, hfs1, hfs2, eb, ew, er, ec, ee, pr, pw, p10, p20, p21]; rfl
  isplitl [HS0]
  · iexists _; isplitr
    swap; · iexact HS0
    ipureintro
    sl_unfold_words
    simp only [View.readCov, readAt_win, read_put, View.writes_nil, hf0, hf1, hf2, hf3, hf4, hf5, hfs0, hfs1, hfs2, eb, ew, er, ec, ee, pr, pw, p10, p20, p21]; rfl
  isplitl [HS1]
  · iexists _; isplitr
    swap; · iexact HS1
    ipureintro
    sl_unfold_words
    simp only [View.readCov, readAt_win, read_put, View.writes_nil, hf0, hf1, hf2, hf3, hf4, hf5, hfs0, hfs1, hfs2, eb, ew, er, ec, ee, pr, pw, p10, p20, p21]; rfl
  iexists _; isplitr
  swap; · iexact HS2
  ipureintro
  sl_unfold_words
  simp only [View.readCov, readAt_win, read_put, View.writes_nil, hf0, hf1, hf2, hf3, hf4, hf5, hfs0, hfs1, hfs2, eb, ew, er, ec, ee, pr, pw, p10, p20, p21]; rfl

/-- What the scratch holds after point `n`. -/
def sc2_0 (c : Dev nD) : (n : ℕ) → n < cfg2.N → Vec F S8x128 .f32
  | 0, h => acc2_0 (iblk2 V c 0 ⟨0, h⟩) (iblk2 V c 1 ⟨0, h⟩) (iblk2 V c 2 ⟨0, h⟩) (iblk2 V c 3 ⟨0, h⟩) (iblk2 V c 4 ⟨0, h⟩) (iblk2 V c 5 ⟨0, h⟩) k2_pay1
  | n + 1, h => acc2_0 (iblk2 V c 0 ⟨n + 1, h⟩) (iblk2 V c 1 ⟨n + 1, h⟩) (iblk2 V c 2 ⟨n + 1, h⟩) (iblk2 V c 3 ⟨n + 1, h⟩) (iblk2 V c 4 ⟨n + 1, h⟩) (iblk2 V c 5 ⟨n + 1, h⟩) (sc2_0 c n (Nat.lt_of_succ_lt h))

/-- After the first point the scratch holds the first block's sums. -/
theorem sc2_0_zero (c : Dev nD) (t : Fin cfg2.N) (hz : t.val = 0) :
    sc2_0 V c t.val t.isLt = acc2_0 (iblk2 V c 0 t) (iblk2 V c 1 t) (iblk2 V c 2 t) (iblk2 V c 3 t) (iblk2 V c 4 t) (iblk2 V c 5 t) k2_pay1 := by
  obtain ⟨n, h⟩ := t
  cases n with
  | zero => rfl
  | succ n => exact absurd hz (Nat.succ_ne_zero n)

/-- After a later point it holds the block added to what the point before left. -/
theorem sc2_0_pos (c : Dev nD) (t : Fin cfg2.N) (hz : t.val ≠ 0) :
    sc2_0 V c t.val t.isLt = acc2_0 (iblk2 V c 0 t) (iblk2 V c 1 t) (iblk2 V c 2 t) (iblk2 V c 3 t) (iblk2 V c 4 t) (iblk2 V c 5 t) (sc2_0 V c (t.val - 1) (by have := t.isLt; omega)) := by
  obtain ⟨n, h⟩ := t
  cases n with
  | zero => exact absurd rfl hz
  | succ n => rfl

/-- What the scratch holds after point `n`. -/
def sc2_1 (c : Dev nD) : (n : ℕ) → n < cfg2.N → Vec F S8x128 .f32
  | 0, h => acc2_1 (iblk2 V c 0 ⟨0, h⟩) (iblk2 V c 1 ⟨0, h⟩) (iblk2 V c 2 ⟨0, h⟩) (iblk2 V c 3 ⟨0, h⟩) (iblk2 V c 4 ⟨0, h⟩) (iblk2 V c 5 ⟨0, h⟩) k2_pay2
  | n + 1, h => acc2_1 (iblk2 V c 0 ⟨n + 1, h⟩) (iblk2 V c 1 ⟨n + 1, h⟩) (iblk2 V c 2 ⟨n + 1, h⟩) (iblk2 V c 3 ⟨n + 1, h⟩) (iblk2 V c 4 ⟨n + 1, h⟩) (iblk2 V c 5 ⟨n + 1, h⟩) (sc2_1 c n (Nat.lt_of_succ_lt h))

/-- After the first point the scratch holds the first block's sums. -/
theorem sc2_1_zero (c : Dev nD) (t : Fin cfg2.N) (hz : t.val = 0) :
    sc2_1 V c t.val t.isLt = acc2_1 (iblk2 V c 0 t) (iblk2 V c 1 t) (iblk2 V c 2 t) (iblk2 V c 3 t) (iblk2 V c 4 t) (iblk2 V c 5 t) k2_pay2 := by
  obtain ⟨n, h⟩ := t
  cases n with
  | zero => rfl
  | succ n => exact absurd hz (Nat.succ_ne_zero n)

/-- After a later point it holds the block added to what the point before left. -/
theorem sc2_1_pos (c : Dev nD) (t : Fin cfg2.N) (hz : t.val ≠ 0) :
    sc2_1 V c t.val t.isLt = acc2_1 (iblk2 V c 0 t) (iblk2 V c 1 t) (iblk2 V c 2 t) (iblk2 V c 3 t) (iblk2 V c 4 t) (iblk2 V c 5 t) (sc2_1 V c (t.val - 1) (by have := t.isLt; omega)) := by
  obtain ⟨n, h⟩ := t
  cases n with
  | zero => exact absurd rfl hz
  | succ n => rfl

/-- What the scratch holds after point `n`. -/
def sc2_2 (c : Dev nD) : (n : ℕ) → n < cfg2.N → Vec F S128x128 .f32
  | 0, h => acc2_2 (iblk2 V c 0 ⟨0, h⟩) (iblk2 V c 1 ⟨0, h⟩) (iblk2 V c 2 ⟨0, h⟩) (iblk2 V c 3 ⟨0, h⟩) (iblk2 V c 4 ⟨0, h⟩) (iblk2 V c 5 ⟨0, h⟩) k2_pay3
  | n + 1, h => acc2_2 (iblk2 V c 0 ⟨n + 1, h⟩) (iblk2 V c 1 ⟨n + 1, h⟩) (iblk2 V c 2 ⟨n + 1, h⟩) (iblk2 V c 3 ⟨n + 1, h⟩) (iblk2 V c 4 ⟨n + 1, h⟩) (iblk2 V c 5 ⟨n + 1, h⟩) (sc2_2 c n (Nat.lt_of_succ_lt h))

/-- After the first point the scratch holds the first block's sums. -/
theorem sc2_2_zero (c : Dev nD) (t : Fin cfg2.N) (hz : t.val = 0) :
    sc2_2 V c t.val t.isLt = acc2_2 (iblk2 V c 0 t) (iblk2 V c 1 t) (iblk2 V c 2 t) (iblk2 V c 3 t) (iblk2 V c 4 t) (iblk2 V c 5 t) k2_pay3 := by
  obtain ⟨n, h⟩ := t
  cases n with
  | zero => rfl
  | succ n => exact absurd hz (Nat.succ_ne_zero n)

/-- After a later point it holds the block added to what the point before left. -/
theorem sc2_2_pos (c : Dev nD) (t : Fin cfg2.N) (hz : t.val ≠ 0) :
    sc2_2 V c t.val t.isLt = acc2_2 (iblk2 V c 0 t) (iblk2 V c 1 t) (iblk2 V c 2 t) (iblk2 V c 3 t) (iblk2 V c 4 t) (iblk2 V c 5 t) (sc2_2 V c (t.val - 1) (by have := t.isLt; omega)) := by
  obtain ⟨n, h⟩ := t
  cases n with
  | zero => exact absurd rfl hz
  | succ n => rfl

/-- The scratch buffer, whole. -/
abbrev scM2_0 : Memref sig .tc .vmem S8x128 .f32 := Memref.whole cc2_scratch0

/-- The scratch buffer, whole. -/
abbrev scM2_1 : Memref sig .tc .vmem S8x128 .f32 := Memref.whole cc2_scratch1

/-- The scratch buffer, whole. -/
abbrev scM2_2 : Memref sig .tc .vmem S128x128 .f32 := Memref.whole cc2_scratch2

/-- What the launch hands the region: the scratch at anything, the other buffers of the scope, the generator. -/
theorem PhiA2_eq (c : Dev nD) :
    (Pipeline.ΦA spec2 c : sProp 𝕄)
      = iprop(iprop(iprop((∃ d, owns (c : Thread nD τ) scM2_0 fullShare d) ∗ (∃ d, owns (c : Thread nD τ) scM2_1 fullShare d) ∗ (∃ d, owns (c : Thread nD τ) scM2_2 fullShare d)) ∗ Pipeline.scopedRestBut spec2 c [cc2_scratch0, cc2_scratch1, cc2_scratch2]) ∗ (∃ r, prngReg c r)) := by
  unfold Pipeline.ΦA; rw [scopedRest2_split]; simp only [scM2_0, scM2_1, scM2_2, owns_whole]; try rfl

/-- What is held before position `n`: at the first what the launch hands over, afterwards the scratch at what the point before left. -/
def Phi2 (c : Dev nD) : (n : ℕ) → n ≤ cfg2.N → sProp 𝕄
  | 0, _ => Pipeline.ΦA spec2 c
  | n + 1, hn => iprop(iprop(iprop(owns (c : Thread nD τ) scM2_0 fullShare (sc2_0 V c n hn) ∗ owns (c : Thread nD τ) scM2_1 fullShare (sc2_1 V c n hn) ∗ owns (c : Thread nD τ) scM2_2 fullShare (sc2_2 V c n hn)) ∗ Pipeline.scopedRestBut spec2 c [cc2_scratch0, cc2_scratch1, cc2_scratch2]) ∗ (∃ r, prngReg c r))

/-- Before the first point. -/
theorem Phi2_zero (c : Dev nD) (n : ℕ) (h : n ≤ cfg2.N) (hz : n = 0) : Phi2 V c n h = Pipeline.ΦA spec2 c := by
  subst hz; rfl
/-- After point `n`. -/
theorem Phi2_succ (c : Dev nD) (n : ℕ) (hn : n < cfg2.N) :
    Phi2 V c (n + 1) hn = iprop(iprop(iprop(owns (c : Thread nD τ) scM2_0 fullShare (sc2_0 V c n hn) ∗ owns (c : Thread nD τ) scM2_1 fullShare (sc2_1 V c n hn) ∗ owns (c : Thread nD τ) scM2_2 fullShare (sc2_2 V c n hn)) ∗ Pipeline.scopedRestBut spec2 c [cc2_scratch0, cc2_scratch1, cc2_scratch2]) ∗ (∃ r, prngReg c r)) := rfl
/-- Before a point that is not the first. -/
theorem Phi2_pos (c : Dev nD) (n : ℕ) (h : n ≤ cfg2.N) (hz : n ≠ 0) :
    Phi2 V c n h = iprop(iprop(iprop(owns (c : Thread nD τ) scM2_0 fullShare (sc2_0 V c (n - 1) (by omega)) ∗ owns (c : Thread nD τ) scM2_1 fullShare (sc2_1 V c (n - 1) (by omega)) ∗ owns (c : Thread nD τ) scM2_2 fullShare (sc2_2 V c (n - 1) (by omega))) ∗ Pipeline.scopedRestBut spec2 c [cc2_scratch0, cc2_scratch1, cc2_scratch2]) ∗ (∃ r, prngReg c r)) := by
  cases n with
  | zero => exact absurd rfl hz
  | succ n => rfl

/-- What the region's proof follows: each array as the region finds it, what the body leaves in each staging buffer, and the scratch. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => out2_6 (iblk2 V c 0 t) (iblk2 V c 1 t) (iblk2 V c 2 t) (iblk2 V c 3 t) (iblk2 V c 4 t) (iblk2 V c 5 t)
    | ⟨7, _⟩ => sc2_0 V c t.val t.isLt
    | ⟨8, _⟩ => sc2_1 V c t.val t.isLt
    | ⟨9, _⟩ => sc2_2 V c t.val t.isLt
  Φ t := Phi2 V c t.val (Nat.le_of_lt_succ t.isLt)
  q _ := fullShare
  owed _ := 0

/-- The arrays are those the region finds. -/
theorem A_eq2 (c : Dev nD) (w : Fin cfg2.W) : (dat2 V c).A w = V c (Pipeline.arrRef spec2 w) := by
  dsimp only [dat2]
/-- What is held at a point's start. -/
theorem Phi2_castSucc (c : Dev nD) (t : Fin cfg2.N) :
    (dat2 V c).Φ t.castSucc = Phi2 V c t.val (Nat.le_of_lt t.isLt) := by
  dsimp only [dat2]; exact Pipeline.Dat.Φ_castSucc (Phi2 V c) t
/-- What the body leaves in this window's staging buffer. -/
theorem after2_0 (c : Dev nD) (t : Fin cfg2.N) : (dat2 V c).after 0 t = iblk2 V c 0 t := by dsimp only [dat2]
/-- What the body leaves in this window's staging buffer. -/
theorem after2_1 (c : Dev nD) (t : Fin cfg2.N) : (dat2 V c).after 1 t = iblk2 V c 1 t := by dsimp only [dat2]
/-- What the body leaves in this window's staging buffer. -/
theorem after2_2 (c : Dev nD) (t : Fin cfg2.N) : (dat2 V c).after 2 t = iblk2 V c 2 t := by dsimp only [dat2]
/-- What the body leaves in this window's staging buffer. -/
theorem after2_3 (c : Dev nD) (t : Fin cfg2.N) : (dat2 V c).after 3 t = iblk2 V c 3 t := by dsimp only [dat2]
/-- What the body leaves in this window's staging buffer. -/
theorem after2_4 (c : Dev nD) (t : Fin cfg2.N) : (dat2 V c).after 4 t = iblk2 V c 4 t := by dsimp only [dat2]
/-- What the body leaves in this window's staging buffer. -/
theorem after2_5 (c : Dev nD) (t : Fin cfg2.N) : (dat2 V c).after 5 t = iblk2 V c 5 t := by dsimp only [dat2]
/-- What the body leaves in this window's staging buffer. -/
theorem after2_6 (c : Dev nD) (t : Fin cfg2.N) : (dat2 V c).after 6 t = out2_6 (iblk2 V c 0 t) (iblk2 V c 1 t) (iblk2 V c 2 t) (iblk2 V c 3 t) (iblk2 V c 4 t) (iblk2 V c 5 t) := by dsimp only [dat2]
/-- What the body leaves in this window's staging buffer. -/
theorem after2_7 (c : Dev nD) (t : Fin cfg2.N) : (dat2 V c).after 7 t = sc2_0 V c t.val t.isLt := by dsimp only [dat2]
/-- What the body leaves in this window's staging buffer. -/
theorem after2_8 (c : Dev nD) (t : Fin cfg2.N) : (dat2 V c).after 8 t = sc2_1 V c t.val t.isLt := by dsimp only [dat2]
/-- What the body leaves in this window's staging buffer. -/
theorem after2_9 (c : Dev nD) (t : Fin cfg2.N) : (dat2 V c).after 9 t = sc2_2 V c t.val t.isLt := by dsimp only [dat2]
/-- This input window's staging buffer holds its block at every point. -/
theorem before2_0 (c : Dev nD) (t : Fin cfg2.N) (d) : (dat2 V c).before 0 t d = iblk2 V c 0 t :=
  before2_0_of V (dat2 V c) (A_eq2 V c 0) (after2_0 V c) t d
/-- This input window's staging buffer holds its block at every point. -/
theorem before2_1 (c : Dev nD) (t : Fin cfg2.N) (d) : (dat2 V c).before 1 t d = iblk2 V c 1 t :=
  before2_1_of V (dat2 V c) (A_eq2 V c 1) (after2_1 V c) t d
/-- This input window's staging buffer holds its block at every point. -/
theorem before2_2 (c : Dev nD) (t : Fin cfg2.N) (d) : (dat2 V c).before 2 t d = iblk2 V c 2 t :=
  before2_2_of V (dat2 V c) (A_eq2 V c 2) (after2_2 V c) t d
/-- This input window's staging buffer holds its block at every point. -/
theorem before2_3 (c : Dev nD) (t : Fin cfg2.N) (d) : (dat2 V c).before 3 t d = iblk2 V c 3 t :=
  before2_3_of V (dat2 V c) (A_eq2 V c 3) (after2_3 V c) t d
/-- This input window's staging buffer holds its block at every point. -/
theorem before2_4 (c : Dev nD) (t : Fin cfg2.N) (d) : (dat2 V c).before 4 t d = iblk2 V c 4 t :=
  before2_4_of V (dat2 V c) (A_eq2 V c 4) (after2_4 V c) t d
/-- This input window's staging buffer holds its block at every point. -/
theorem before2_5 (c : Dev nD) (t : Fin cfg2.N) (d) : (dat2 V c).before 5 t d = iblk2 V c 5 t :=
  before2_5_of V (dat2 V c) (A_eq2 V c 5) (after2_5 V c) t d
/-- This window is in use at every point. -/
theorem live2_0 : ∀ t : Fin cfg2.N, cfg2.idle 0 (grid2.coords t) = false := fun _ => rfl
/-- This window is in use at every point. -/
theorem live2_1 : ∀ t : Fin cfg2.N, cfg2.idle 1 (grid2.coords t) = false := fun _ => rfl
/-- This window is in use at every point. -/
theorem live2_2 : ∀ t : Fin cfg2.N, cfg2.idle 2 (grid2.coords t) = false := fun _ => rfl
/-- This window is in use at every point. -/
theorem live2_3 : ∀ t : Fin cfg2.N, cfg2.idle 3 (grid2.coords t) = false := fun _ => rfl
/-- This window is in use at every point. -/
theorem live2_4 : ∀ t : Fin cfg2.N, cfg2.idle 4 (grid2.coords t) = false := fun _ => rfl
/-- This window is in use at every point. -/
theorem live2_5 : ∀ t : Fin cfg2.N, cfg2.idle 5 (grid2.coords t) = false := fun _ => rfl
/-- This window is in use at every point. -/
theorem live2_6 : ∀ t : Fin cfg2.N, cfg2.idle 6 (grid2.coords t) = false := fun _ => rfl
/-- This output is not in use before the last point. -/
theorem idle2_7 : ∀ t : Fin cfg2.N, ¬last2 (grid2.coords t) → cfg2.idle 7 (grid2.coords t) = true := by decide +kernel
/-- This output is not written back before the last point. -/
theorem noFlush2_7 : ∀ t : Fin cfg2.N, ¬last2 (grid2.coords t) → (cfg2.win 7).flush t = false := by decide +kernel
/-- This output is in use at the last point. -/
theorem liveLast2_7 : ∀ t : Fin cfg2.N, last2 (grid2.coords t) → cfg2.idle 7 (grid2.coords t) = false := by decide +kernel
/-- This output is not in use before the last point. -/
theorem idle2_8 : ∀ t : Fin cfg2.N, ¬last2 (grid2.coords t) → cfg2.idle 8 (grid2.coords t) = true := by decide +kernel
/-- This output is not written back before the last point. -/
theorem noFlush2_8 : ∀ t : Fin cfg2.N, ¬last2 (grid2.coords t) → (cfg2.win 8).flush t = false := by decide +kernel
/-- This output is in use at the last point. -/
theorem liveLast2_8 : ∀ t : Fin cfg2.N, last2 (grid2.coords t) → cfg2.idle 8 (grid2.coords t) = false := by decide +kernel
/-- This output is not in use before the last point. -/
theorem idle2_9 : ∀ t : Fin cfg2.N, ¬last2 (grid2.coords t) → cfg2.idle 9 (grid2.coords t) = true := by decide +kernel
/-- This output is not written back before the last point. -/
theorem noFlush2_9 : ∀ t : Fin cfg2.N, ¬last2 (grid2.coords t) → (cfg2.win 9).flush t = false := by decide +kernel
/-- This output is in use at the last point. -/
theorem liveLast2_9 : ∀ t : Fin cfg2.N, last2 (grid2.coords t) → cfg2.idle 9 (grid2.coords t) = false := by decide +kernel

/-- What the body is called with at a point. -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d))
    ∗ (∃ d, owns (c : Thread nD τ) (st2_7 t) fullShare ((dat2 V c).before 7 t d))
    ∗ (∃ d, owns (c : Thread nD τ) (st2_8 t) fullShare ((dat2 V c).before 8 t d))
    ∗ (∃ d, owns (c : Thread nD τ) (st2_9 t) fullShare ((dat2 V c).before 9 t d)))

/-- What the body returns at a point. -/
def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t
    ∗ (dat2 V c).leavesExact 4 t
    ∗ (dat2 V c).leavesExact 5 t
    ∗ (dat2 V c).leavesExact 6 t
    ∗ (dat2 V c).leavesExact 7 t
    ∗ (dat2 V c).leavesExact 8 t
    ∗ (dat2 V c).leavesExact 9 t)

set_option maxHeartbeats 4800000 in
/-- The body at every point: the first, the last, one between. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5]
  rw [show (dat2 V c).owesAt () t.succ = (dat2 V c).owesAt () t.castSucc from rfl]
  rw [show (dat2 V c).Φ t.succ = Phi2 V c (t.val + 1) t.isLt from rfl, Phi2_succ]
  rw [show (dat2 V c).leavesExact 0 t = owns (c : Thread nD τ) (st2_0 t) fullShare ((dat2 V c).after 0 t) from by
    unfold Dat.leavesExact; rw [live2_0 t], after2_0]
  rw [show (dat2 V c).leavesExact 1 t = owns (c : Thread nD τ) (st2_1 t) fullShare ((dat2 V c).after 1 t) from by
    unfold Dat.leavesExact; rw [live2_1 t], after2_1]
  rw [show (dat2 V c).leavesExact 2 t = owns (c : Thread nD τ) (st2_2 t) fullShare ((dat2 V c).after 2 t) from by
    unfold Dat.leavesExact; rw [live2_2 t], after2_2]
  rw [show (dat2 V c).leavesExact 3 t = owns (c : Thread nD τ) (st2_3 t) fullShare ((dat2 V c).after 3 t) from by
    unfold Dat.leavesExact; rw [live2_3 t], after2_3]
  rw [show (dat2 V c).leavesExact 4 t = owns (c : Thread nD τ) (st2_4 t) fullShare ((dat2 V c).after 4 t) from by
    unfold Dat.leavesExact; rw [live2_4 t], after2_4]
  rw [show (dat2 V c).leavesExact 5 t = owns (c : Thread nD τ) (st2_5 t) fullShare ((dat2 V c).after 5 t) from by
    unfold Dat.leavesExact; rw [live2_5 t], after2_5]
  rw [show (dat2 V c).leavesExact 6 t = owns (c : Thread nD τ) (st2_6 t) fullShare ((dat2 V c).after 6 t) from by
    unfold Dat.leavesExact; rw [live2_6 t], after2_6]
  by_cases hz : t.val = 0
  · rw [Dat.leavesExact_idle (dat2 V c) 7 t (idle2_7 t (fun h => absurd ((hlast2 t).mp h) (by omega))) (noFlush2_7 t (fun h => absurd ((hlast2 t).mp h) (by omega)))]
    rw [Dat.leavesExact_idle (dat2 V c) 8 t (idle2_8 t (fun h => absurd ((hlast2 t).mp h) (by omega))) (noFlush2_8 t (fun h => absurd ((hlast2 t).mp h) (by omega)))]
    rw [Dat.leavesExact_idle (dat2 V c) 9 t (idle2_9 t (fun h => absurd ((hlast2 t).mp h) (by omega))) (noFlush2_9 t (fun h => absurd ((hlast2 t).mp h) (by omega)))]
    rw [Phi2_castSucc V c t, Phi2_zero V c _ _ hz, PhiA2_eq]
    rw [sc2_0_zero V c t hz]
    rw [sc2_1_zero V c t hz]
    rw [sc2_2_zero V c t hz]
    iintro ⟨⟨⟨⟨HS0, HS1, HS2⟩, HB⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply (body2_A c Set.univ (grid2.coords t) _ _ _ _ _ _ _ _ _ _ _ _ _ _ _ _ _ _ _ _ _ _ _ _ _ _ ((hfirst2 t).mpr hz) (fun h => absurd ((hlast2 t).mp h) (by omega)) (iblk2 V c 0 t) (iblk2 V c 1 t) (iblk2 V c 2 t) (iblk2 V c 3 t) (iblk2 V c 4 t) (iblk2 V c 5 t) _ _ _ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexact H7
    isplitl [H8]; · iexact H8
    isplitl [H9]; · iexact H9
    isplitl [HS0]; · iexact HS0
    isplitl [HS1]; · iexact HS1
    isplitl [HS2]; · iexact HS2
    iintro ⟨H0, H1, H2, H3, H4, H5, H6, H7, H8, H9, HS0, HS1, HS2⟩
    isplitl [HS0 HS1 HS2 HB Hg]
    · isplitl [HS0 HS1 HS2 HB]
      · isplitl [HS0 HS1 HS2]
        · isplitl [HS0]; · iexact HS0
          isplitl [HS1]; · iexact HS1
          iexact HS2
        iexact HB
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexists _; iexact H8
    iexists _; iexact H9
  by_cases hl : t.val = 99
  · rw [show (dat2 V c).leavesExact 7 t = owns (c : Thread nD τ) (st2_7 t) fullShare ((dat2 V c).after 7 t) from by
        unfold Dat.leavesExact; rw [liveLast2_7 t ((hlast2 t).mpr hl)], after2_7]
    rw [show (dat2 V c).leavesExact 8 t = owns (c : Thread nD τ) (st2_8 t) fullShare ((dat2 V c).after 8 t) from by
        unfold Dat.leavesExact; rw [liveLast2_8 t ((hlast2 t).mpr hl)], after2_8]
    rw [show (dat2 V c).leavesExact 9 t = owns (c : Thread nD τ) (st2_9 t) fullShare ((dat2 V c).after 9 t) from by
        unfold Dat.leavesExact; rw [liveLast2_9 t ((hlast2 t).mpr hl)], after2_9]
    rw [Phi2_castSucc V c t, Phi2_pos V c _ _ hz]
    rw [sc2_0_pos V c t hz]
    rw [sc2_1_pos V c t hz]
    rw [sc2_2_pos V c t hz]
    iintro ⟨⟨⟨⟨HS0, HS1, HS2⟩, HB⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply (body2_C c Set.univ (grid2.coords t) _ _ _ _ _ _ _ _ _ _ _ _ _ _ _ _ _ _ _ _ _ _ _ _ _ _ (fun h => hz ((hfirst2 t).mp h)) ((hlast2 t).mpr hl) (iblk2 V c 0 t) (iblk2 V c 1 t) (iblk2 V c 2 t) (iblk2 V c 3 t) (iblk2 V c 4 t) (iblk2 V c 5 t) _ _ _ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    isplitl [H8]; · iexists _; iexact H8
    isplitl [H9]; · iexists _; iexact H9
    isplitl [HS0]; · iexact HS0
    isplitl [HS1]; · iexact HS1
    isplitl [HS2]; · iexact HS2
    iintro ⟨H0, H1, H2, H3, H4, H5, H6, H7, H8, H9, HS0, HS1, HS2⟩
    isplitl [HS0 HS1 HS2 HB Hg]
    · isplitl [HS0 HS1 HS2 HB]
      · isplitl [HS0 HS1 HS2]
        · isplitl [HS0]; · iexact HS0
          isplitl [HS1]; · iexact HS1
          iexact HS2
        iexact HB
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9
  · rw [Dat.leavesExact_idle (dat2 V c) 7 t (idle2_7 t (fun h => hl ((hlast2 t).mp h))) (noFlush2_7 t (fun h => hl ((hlast2 t).mp h)))]
    rw [Dat.leavesExact_idle (dat2 V c) 8 t (idle2_8 t (fun h => hl ((hlast2 t).mp h))) (noFlush2_8 t (fun h => hl ((hlast2 t).mp h)))]
    rw [Dat.leavesExact_idle (dat2 V c) 9 t (idle2_9 t (fun h => hl ((hlast2 t).mp h))) (noFlush2_9 t (fun h => hl ((hlast2 t).mp h)))]
    rw [Phi2_castSucc V c t, Phi2_pos V c _ _ hz]
    rw [sc2_0_pos V c t hz]
    rw [sc2_1_pos V c t hz]
    rw [sc2_2_pos V c t hz]
    iintro ⟨⟨⟨⟨HS0, HS1, HS2⟩, HB⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply (body2_B c Set.univ (grid2.coords t) _ _ _ _ _ _ _ _ _ _ _ _ _ _ _ _ _ _ _ _ _ _ _ _ _ _ (fun h => hz ((hfirst2 t).mp h)) (fun h => hl ((hlast2 t).mp h)) (iblk2 V c 0 t) (iblk2 V c 1 t) (iblk2 V c 2 t) (iblk2 V c 3 t) (iblk2 V c 4 t) (iblk2 V c 5 t) _ _ _ _ _ _ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexact H7
    isplitl [H8]; · iexact H8
    isplitl [H9]; · iexact H9
    isplitl [HS0]; · iexact HS0
    isplitl [HS1]; · iexact HS1
    isplitl [HS2]; · iexact HS2
    iintro ⟨H0, H1, H2, H3, H4, H5, H6, H7, H8, H9, HS0, HS1, HS2⟩
    isplitl [HS0 HS1 HS2 HB Hg]
    · isplitl [HS0 HS1 HS2 HB]
      · isplitl [HS0 HS1 HS2]
        · isplitl [HS0]; · iexact HS0
          isplitl [HS1]; · iexact HS1
          iexact HS2
        iexact HB
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexists _; iexact H8
    iexists _; iexact H9

/-- The body in the table of bodies is the body at this point. -/
theorem defs₀_row2 (t : Fin cfg2.N) :
    defs₀ (F := F) .tc cfg2.body (cfg2.bodyArgs t (cfg2.slots t)) = bodyAt2 t := by
  unfold defs₀; rw [Defs.onTc_tc]

/-- The obligation that the pipeline has of the body, at every point. -/
theorem body_obligation2 (c : Dev nD) : BodyObligation (dat2 (F := F) V c) (defs₀ (F := F)) Variants.none () Set.univ := fun t => by
  rw [bigSep_W2, bigSep_W2, defs₀_row2]
  exact triple_restated (sound_body2 V c t) rfl .rfl fun _ => .rfl

/-- What the launch hands over is what is held before the first point. -/
theorem hin2 (c : Dev nD) : Pipeline.ΦA spec2 c ⊢ (dat2 V c).Φ 0 := by
  rw [show (dat2 V c).Φ 0 = Phi2 V c 0 (Nat.zero_le _) from rfl, Phi2_zero V c 0 _ rfl]
  try exact Idealize.SL.BI.Entails.refl _

/-- After the last point it is given back: what the scratch holds is forgotten. -/
theorem hout2 (c : Dev nD) : (dat2 V c).Φ (Fin.last cfg2.N) ⊢ Pipeline.ΦA spec2 c := by
  have ht : (Fin.last cfg2.N).val ≠ 0 := by rw [Fin.val_last]; have : cfg2.N = 100 := N_2; omega
  rw [show (dat2 V c).Φ (Fin.last cfg2.N) = Phi2 V c (Fin.last cfg2.N).val (Nat.le_of_lt_succ (Fin.last cfg2.N).isLt) from rfl, Phi2_pos V c _ _ ht, PhiA2_eq]
  iintro ⟨⟨⟨HS0, HS1, HS2⟩, HB⟩, Hg⟩
  isplitr [Hg]
  · isplitr [HB]
    · isplitl [HS0]; · iexists _; iexact HS0
      isplitl [HS1]; · iexists _; iexact HS1
      iexists _; iexact HS2
    iexact HB
  iexact Hg

end Cert.KernelIdeal.Own

end
-- ==== Proof.KernelIdeal.Reg3.lean ====
/-
  The fourth custom call (the edge rows' second layer): a grid of a hundred points whose scratch buffer carries the column sums.
-/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp
public import proofs.«01_k».proof.Proof.KernelIdeal.Win
public import Idealize.ShloMosaic.Lib.VecWindow

@[expose] public section

set_option maxRecDepth 16384

noncomputable section

namespace Cert.KernelIdeal.Own

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

-- what every buffer holds when the region is entered
variable (V : (c : Dev nD) → (b : Ref sig .tc) → Buf (Elt F) ((c : Thread nD τ).loc b))

/-- Window `w`'s block at point `t`, read off the array that the region finds. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- The staging buffer of this input window holds the window's block at every point. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
/-- The staging buffer of this input window holds the window's block at every point. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
/-- The staging buffer of this input window holds the window's block at every point. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)
/-- The column sums and the column sums of squares of one block, added into the first two rows of what the scratch holds. -/
def acc3_0 (x0 : Vec F S3200x128 .f32) (x1 : Vec F S8x128 .f32) (x2 : Vec F S128x128 .f32) (s : Vec F S8x128 .f32) : Vec F S8x128 .f32 :=
  (VecWindow.put (VecWindow.put s ![0, 0] S1x128.size (k3_pay4 x0 (VecWindow.window x1 ![0, 0] S1x128.size inb_S8x128_S1x128_0_0) (VecWindow.window x1 ![1, 0] S1x128.size inb_S8x128_S1x128_1_0) x2 (VecWindow.window s ![0, 0] S1x128.size inb_S8x128_S1x128_0_0))) ![1, 0] S1x128.size (k3_pay1 (k3_pay5 x0 (VecWindow.window x1 ![0, 0] S1x128.size inb_S8x128_S1x128_0_0) (VecWindow.window x1 ![1, 0] S1x128.size inb_S8x128_S1x128_1_0) x2 (VecWindow.window s ![1, 0] S1x128.size inb_S8x128_S1x128_1_0))))

/-- The block of layer outputs that a point stores. -/
def out3_3 (x0 : Vec F S3200x128 .f32) (x1 : Vec F S8x128 .f32) (x2 : Vec F S128x128 .f32) : Vec F S3200x128 .f32 := k3_pay3 x0 (VecWindow.window x1 ![0, 0] S1x128.size inb_S8x128_S1x128_0_0) (VecWindow.window x1 ![1, 0] S1x128.size inb_S8x128_S1x128_1_0) x2

/-- The point is the first of the sweep, as the body tests it. -/
abbrev first3 (i : grid3.Coords) : Prop := (Scalar.cmpi .ne (Scalar.extui (Scalar.cmpi .eq (BitVec.ofNat 32 (i 0).val) 0#32)) 0#32) = 1#1
/-- The body's first test holds at point 0 alone. -/
theorem hfirst3 : ∀ t : Fin cfg3.N, first3 (grid3.coords t) ↔ t.val = 0 :=
  (fun t => by
    have ht : t.val < 100 := Nat.lt_of_lt_of_eq t.isLt N_3
    have e0 : (grid3.coords t 0).val = t.val / 1 % 100 := Pipeline.Grid.coords_val t 0 (by decide) rfl
    have h : first3 (grid3.coords t) ↔ t.val % 100 = 0 := by
      simp only [first3, e0]
      word_cmp
    rw [h]; omega
   : ∀ t : Fin grid3.N, first3 (grid3.coords t) ↔ t.val = 0)
/-- The point is the last of the sweep, as the body tests it. -/
abbrev last3 (i : grid3.Coords) : Prop := k3_cond2 i = 1#1
/-- The body's second test holds at point 99 alone. -/
theorem hlast3 : ∀ t : Fin cfg3.N, last3 (grid3.coords t) ↔ t.val = 99 :=
  (fun t => by
    have ht : t.val < 100 := Nat.lt_of_lt_of_eq t.isLt N_3
    have e0 : (grid3.coords t 0).val = t.val / 1 % 100 := Pipeline.Grid.coords_val t 0 (by decide) rfl
    have h : last3 (grid3.coords t) ↔ t.val % 100 = 99 := by
      simp only [last3, k3_cond2, e0]
      word_cmp
    rw [h]; omega
   : ∀ t : Fin grid3.N, last3 (grid3.coords t) ↔ t.val = 99)

set_option maxHeartbeats 4000000 in
/-- At the first point the scratch is cleared before the block is added. -/
theorem body3_A (c : Dev nD) (E : Set ℕ) (i : grid3.Coords) (arg1 : Memref sig .tc .vmem S3200x128 .f32) (harg1 : arg1.IsWhole) (arg2 : Memref sig .tc .vmem S8x128 .f32) (harg2 : arg2.IsWhole) (arg3 : Memref sig .tc .vmem S128x128 .f32) (harg3 : arg3.IsWhole) (arg4 : Memref sig .tc .vmem S3200x128 .f32) (harg4 : arg4.IsWhole) (arg5 : Memref sig .tc .vmem S8x128 .f32) (harg5 : arg5.IsWhole) (arg6 : Memref sig .tc .vmem S8x128 .f32) (harg6 : arg6.IsWhole) (hc0 : first3 i) (hc1 : ¬last3 i)
    (x0 : Vec F S3200x128 .f32) (x1 : Vec F S8x128 .f32) (x2 : Vec F S128x128 .f32) (d0 : Vec F S8x128 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d) ∗ owns (c : Thread nD τ) arg5 fullShare d0 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out3_3 x0 x1 x2) ∗ owns (c : Thread nD τ) arg5 fullShare d0 ∗ owns (c : Thread nD τ) arg6 fullShare (acc3_0 x0 x1 x2 (k3_pay2 (F := F)))) -∗ K ⟨⟩))
      ⊢ wp frame (wpE (defs₀ (F := F)) Variants.none c none) E (cc3__e2_kernel i arg1 harg1 arg2 harg2 arg3 harg3 arg4 harg4 arg5 harg5 arg6 harg6) K := by
  simp only [cc3__e2_kernel_eq_skeleton]; unfold cc3__e2_kernel_skel
  simp only [k3_part1_eq_skeleton]
  unfold owns
  iintro ⟨⟨%f0, %hf0, H0⟩, ⟨%f1, %hf1, H1⟩, ⟨%f2, %hf2, H2⟩, ⟨%dl, %fl, -, HL⟩, ⟨%fi0, %hfi0, HI0⟩, ⟨%ds0, %fs0, -, HS0⟩, Hk⟩
  obtain rfl := harg1.eq_unread hf0; obtain rfl := harg2.eq_unread hf1; obtain rfl := harg3.eq_unread hf2; obtain rfl := harg5.eq_unread hfi0
  have eb : ∀ x : Vec F S3200x128 .f32, VecWindow.window x ![0, 0] ![3200, 128] inb_S3200x128_S3200x128_0_0 = x := fun x => win_full x _
  have ew : ∀ x : Vec F S128x128 .f32, VecWindow.window x ![0, 0] ![128, 128] inb_S128x128_S128x128_0_0 = x := fun x => win_full x _
  have er : ∀ x : Vec F S8x128 .f32, VecWindow.window x ![0, 0] ![8, 128] inb_S8x128_S8x128_0_0 = x := fun x => win_full x _
  have pr : ∀ x w : Vec F S8x128 .f32, VecWindow.put x ![0, 0] ![8, 128] w = w := fun x w => put_full x (by decide) w
  have pw : ∀ x w : Vec F S128x128 .f32, VecWindow.put x ![0, 0] ![128, 128] w = w := fun x w => put_full x (by decide) w
  have p10 : ∀ (x : Vec F S8x128 .f32) (w : Vec F S1x128 .f32), VecWindow.window (VecWindow.put x ![0, 0] ![1, 128] w) ![1, 0] ![1, 128] inb_S8x128_S1x128_1_0
      = VecWindow.window x ![1, 0] ![1, 128] inb_S8x128_S1x128_1_0 := w1_put0
  have p20 : ∀ (x : Vec F S8x128 .f32) (w : Vec F S1x128 .f32), VecWindow.window (VecWindow.put x ![0, 0] ![1, 128] w) ![2, 0] ![1, 128] (by decide)
      = VecWindow.window x ![2, 0] ![1, 128] (by decide) := w2_put0
  have p21 : ∀ (x : Vec F S8x128 .f32) (w : Vec F S1x128 .f32), VecWindow.window (VecWindow.put x ![1, 0] ![1, 128] w) ![2, 0] ![1, 128] (by decide)
      = VecWindow.window x ![2, 0] ![1, 128] (by decide) := w2_put1
  sl_exec (disch := first | sl_exact hc0 | sl_exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [HL]
  · iexists _; isplitr
    swap; · iexact HL
    ipureintro
    sl_unfold_words
    simp only [View.readCov, readAt_win, read_put, View.writes_nil, hf0, hf1, hf2, eb, ew, er, pr, pw, p10, p20, p21]; exact put_full _ (by decide) _
  isplitl [HI0]
  · iexists _; isplitr
    swap; · iexact HI0
    ipureintro
    exact hfi0
  iexists _; isplitr
  swap; · iexact HS0
  ipureintro
  sl_unfold_words
  simp only [View.readCov, readAt_win, read_put, View.writes_nil, hf0, hf1, hf2, eb, ew, er, pr, pw, p10, p20, p21]; rfl

set_option maxHeartbeats 4000000 in
/-- At a point between, the block is added to what the scratch holds. -/
theorem body3_B (c : Dev nD) (E : Set ℕ) (i : grid3.Coords) (arg1 : Memref sig .tc .vmem S3200x128 .f32) (harg1 : arg1.IsWhole) (arg2 : Memref sig .tc .vmem S8x128 .f32) (harg2 : arg2.IsWhole) (arg3 : Memref sig .tc .vmem S128x128 .f32) (harg3 : arg3.IsWhole) (arg4 : Memref sig .tc .vmem S3200x128 .f32) (harg4 : arg4.IsWhole) (arg5 : Memref sig .tc .vmem S8x128 .f32) (harg5 : arg5.IsWhole) (arg6 : Memref sig .tc .vmem S8x128 .f32) (harg6 : arg6.IsWhole) (hc0 : ¬first3 i) (hc1 : ¬last3 i)
    (x0 : Vec F S3200x128 .f32) (x1 : Vec F S8x128 .f32) (x2 : Vec F S128x128 .f32) (s0 : Vec F S8x128 .f32) (d0 : Vec F S8x128 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d) ∗ owns (c : Thread nD τ) arg5 fullShare d0 ∗ owns (c : Thread nD τ) arg6 fullShare s0
        ∗ (iprop(owns (c : Thread nD τ) arg1 fullShare x0 ∗ owns (c : Thread nD τ) arg2 fullShare x1 ∗ owns (c : Thread nD τ) arg3 fullShare x2 ∗ owns (c : Thread nD τ) arg4 fullShare (out3_3 x0 x1 x2) ∗ owns (c : Thread nD τ) arg5 fullShare d0 ∗ owns (c : Thread nD τ) arg6 fullShare (acc3_0 x0 x1 x2 s0)) -∗ K ⟨⟩))
      ⊢ wp frame (wpE (defs₀ (F := F)) Variants.none c none) E (cc3__e2_kernel i arg1 harg1 arg2 harg2 arg3 harg3 arg4 harg4 arg5 harg5 arg6 harg6) K := by
  simp only [cc3__e2_kernel_eq_skeleton]; unfold cc3__e2_kernel_skel
  simp only [k3_part1_eq_skeleton]
  unfold owns
  iintro ⟨⟨%f0, %hf0, H0⟩, ⟨%f1, %hf1, H1⟩, ⟨%f2, %hf2, H2⟩, ⟨%dl, %fl, -, HL⟩, ⟨%fi0, %hfi0, HI0⟩, ⟨%fs0, %hfs0, HS0⟩, Hk⟩
  obtain rfl := harg1.eq_unread hf0; obtain rfl := harg2.eq_unread hf1; obtain rfl := harg3.eq_unread hf2; obtain rfl := harg5.eq_unread hfi0; obtain rfl := harg6.eq_unread hfs0
  have eb : ∀ x : Vec F S3200x128 .f32, VecWindow.window x ![0, 0] ![3200, 128] inb_S3200x128_S3200x128_0_0 = x := fun x => win_full x _
  have ew : ∀ x : Vec F S128x128 .f32, VecWindow.window x ![0, 0] ![128, 128] inb_S128x128_S128x128_0_0 = x := fun x => win_full x _
  have er : ∀ x : Vec F S8x128 .f32, VecWindow.window x ![0, 0] ![8, 128] inb_S8x128_S8x128_0_0 = x := fun x => win_full x _
  have pr : ∀ x w : Vec F S8x128 .f32, VecWindow.put x ![0, 0] ![8, 128] w = w := fun x w => put_full x (by decide) w
  have pw : ∀ x w : Vec F S128x128 .f32, VecWindow.put x ![0, 0] ![128, 128] w = w := fun x w => put_full x (by decide) w
  have p10 : ∀ (x : Vec F S8x128 .f32) (w : Vec F S1x128 .f32), VecWindow.window (VecWindow.put x ![0, 0] ![1, 128] w) ![1, 0] ![1, 128] inb_S8x128_S1x128_1_0
      = VecWindow.window x ![1, 0] ![1, 128] inb_S8x128_S1x128_1_0 := w1_put0
  have p20 : ∀ (x : Vec F S8x128 .f32) (w : Vec F S1x128 .f32), VecWindow.window (VecWindow.put x ![0, 0] ![1, 128] w) ![2, 0] ![1, 128] (by decide)
      = VecWindow.window x ![2, 0] ![1, 128] (by decide) := w2_put0
  have p21 : ∀ (x : Vec F S8x128 .f32) (w : Vec F S1x128 .f32), VecWindow.window (VecWindow.put x ![1, 0] ![1, 128] w) ![2, 0] ![1, 128] (by decide)
      = VecWindow.window x ![2, 0] ![1, 128] (by decide) := w2_put1
  sl_exec (disch := first | sl_exact hc0 | sl_exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [HL]
  · iexists _; isplitr
    swap; · iexact HL
    ipureintro
    sl_unfold_words
    simp only [View.readCov, readAt_win, read_put, View.writes_nil, hf0, hf1, hf2, hfs0, eb, ew, er, pr, pw, p10, p20, p21]; exact put_full _ (by decide) _
  isplitl [HI0]
  · iexists _; isplitr
    swap; · iexact HI0
    ipureintro
    exact hfi0
  iexists _; isplitr
  swap; · iexact HS0
  ipureintro
  sl_unfold_words
  simp only [View.readCov, readAt_win, read_put, View.writes_nil, hf0, hf1, hf2, hfs0, eb, ew, er, pr, pw, p10, p20, p21]; rfl

set_option maxHeartbeats 4000000 in
/-- At the last point the sums are also stored to the other outputs. -/
theorem body3_C (c : Dev nD) (E : Set ℕ) (i : grid3.Coords) (arg1 : Memref sig .tc .vmem S3200x128 .f32) (harg1 : arg1.IsWhole) (arg2 : Memref sig .tc .vmem S8x128 .f32) (harg2 : arg2.IsWhole) (arg3 : Memref sig .tc .vmem S128x128 .f32) (harg3 : arg3.IsWhole) (arg4 : Memref sig .tc .vmem S3200x128 .f32) (harg4 : arg4.IsWhole) (arg5 : Memref sig .tc .vmem S8x128 .f32) (harg5 : arg5.IsWhole) (arg6 : Memref sig .tc .vmem S8x128 .f32) (harg6 : arg6.IsWhole) (hc0 : ¬first3 i) (hc1 : last3 i)
    (x0 : Vec F S3200x128 .f32) (x1 : Vec F S8x128 .f32) (x2 : Vec F S128x128 .f32) (s0 : Vec F S8x128 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d) ∗ (∃ d, owns (c : Thread nD τ) arg5 fullShare d) ∗ owns (c : Thread nD τ) arg6 fullShare s0
        ∗ (iprop(owns (c : Thread nD τ) arg1 fullShare x0 ∗ owns (c : Thread nD τ) arg2 fullShare x1 ∗ owns (c : Thread nD τ) arg3 fullShare x2 ∗ owns (c : Thread nD τ) arg4 fullShare (out3_3 x0 x1 x2) ∗ owns (c : Thread nD τ) arg5 fullShare (acc3_0 x0 x1 x2 s0) ∗ owns (c : Thread nD τ) arg6 fullShare (acc3_0 x0 x1 x2 s0)) -∗ K ⟨⟩))
      ⊢ wp frame (wpE (defs₀ (F := F)) Variants.none c none) E (cc3__e2_kernel i arg1 harg1 arg2 harg2 arg3 harg3 arg4 harg4 arg5 harg5 arg6 harg6) K := by
  simp only [cc3__e2_kernel_eq_skeleton]; unfold cc3__e2_kernel_skel
  simp only [k3_part1_eq_skeleton]
  unfold owns
  iintro ⟨⟨%f0, %hf0, H0⟩, ⟨%f1, %hf1, H1⟩, ⟨%f2, %hf2, H2⟩, ⟨%dl, %fl, -, HL⟩, ⟨%di0, %fi0, -, HI0⟩, ⟨%fs0, %hfs0, HS0⟩, Hk⟩
  obtain rfl := harg1.eq_unread hf0; obtain rfl := harg2.eq_unread hf1; obtain rfl := harg3.eq_unread hf2; obtain rfl := harg6.eq_unread hfs0
  have eb : ∀ x : Vec F S3200x128 .f32, VecWindow.window x ![0, 0] ![3200, 128] inb_S3200x128_S3200x128_0_0 = x := fun x => win_full x _
  have ew : ∀ x : Vec F S128x128 .f32, VecWindow.window x ![0, 0] ![128, 128] inb_S128x128_S128x128_0_0 = x := fun x => win_full x _
  have er : ∀ x : Vec F S8x128 .f32, VecWindow.window x ![0, 0] ![8, 128] inb_S8x128_S8x128_0_0 = x := fun x => win_full x _
  have pr : ∀ x w : Vec F S8x128 .f32, VecWindow.put x ![0, 0] ![8, 128] w = w := fun x w => put_full x (by decide) w
  have pw : ∀ x w : Vec F S128x128 .f32, VecWindow.put x ![0, 0] ![128, 128] w = w := fun x w => put_full x (by decide) w
  have p10 : ∀ (x : Vec F S8x128 .f32) (w : Vec F S1x128 .f32), VecWindow.window (VecWindow.put x ![0, 0] ![1, 128] w) ![1, 0] ![1, 128] inb_S8x128_S1x128_1_0
      = VecWindow.window x ![1, 0] ![1, 128] inb_S8x128_S1x128_1_0 := w1_put0
  have p20 : ∀ (x : Vec F S8x128 .f32) (w : Vec F S1x128 .f32), VecWindow.window (VecWindow.put x ![0, 0] ![1, 128] w) ![2, 0] ![1, 128] (by decide)
      = VecWindow.window x ![2, 0] ![1, 128] (by decide) := w2_put0
  have p21 : ∀ (x : Vec F S8x128 .f32) (w : Vec F S1x128 .f32), VecWindow.window (VecWindow.put x ![1, 0] ![1, 128] w) ![2, 0] ![1, 128] (by decide)
      = VecWindow.window x ![2, 0] ![1, 128] (by decide) := w2_put1
  sl_exec (disch := first | sl_exact hc0 | sl_exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [HL]
  · iexists _; isplitr
    swap; · iexact HL
    ipureintro
    sl_unfold_words
    simp only [View.readCov, readAt_win, read_put, View.writes_nil, hf0, hf1, hf2, hfs0, eb, ew, er, pr, pw, p10, p20, p21]; exact put_full _ (by decide) _
  isplitl [HI0]
  · iexists _; isplitr
    swap; · iexact HI0
    ipureintro
    sl_unfold_words; simp only [View.readCov, readAt_win, read_put, View.writes_nil, hf0, hf1, hf2, hfs0, eb, ew, er, pr, pw, p10, p20, p21]; rfl
  iexists _; isplitr
  swap; · iexact HS0
  ipureintro
  sl_unfold_words
  simp only [View.readCov, readAt_win, read_put, View.writes_nil, hf0, hf1, hf2, hfs0, eb, ew, er, pr, pw, p10, p20, p21]; rfl

/-- What the scratch holds after point `n`. -/
def sc3_0 (c : Dev nD) : (n : ℕ) → n < cfg3.N → Vec F S8x128 .f32
  | 0, h => acc3_0 (iblk3 V c 0 ⟨0, h⟩) (iblk3 V c 1 ⟨0, h⟩) (iblk3 V c 2 ⟨0, h⟩) k3_pay2
  | n + 1, h => acc3_0 (iblk3 V c 0 ⟨n + 1, h⟩) (iblk3 V c 1 ⟨n + 1, h⟩) (iblk3 V c 2 ⟨n + 1, h⟩) (sc3_0 c n (Nat.lt_of_succ_lt h))

/-- After the first point the scratch holds the first block's sums. -/
theorem sc3_0_zero (c : Dev nD) (t : Fin cfg3.N) (hz : t.val = 0) :
    sc3_0 V c t.val t.isLt = acc3_0 (iblk3 V c 0 t) (iblk3 V c 1 t) (iblk3 V c 2 t) k3_pay2 := by
  obtain ⟨n, h⟩ := t
  cases n with
  | zero => rfl
  | succ n => exact absurd hz (Nat.succ_ne_zero n)

/-- After a later point it holds the block added to what the point before left. -/
theorem sc3_0_pos (c : Dev nD) (t : Fin cfg3.N) (hz : t.val ≠ 0) :
    sc3_0 V c t.val t.isLt = acc3_0 (iblk3 V c 0 t) (iblk3 V c 1 t) (iblk3 V c 2 t) (sc3_0 V c (t.val - 1) (by have := t.isLt; omega)) := by
  obtain ⟨n, h⟩ := t
  cases n with
  | zero => exact absurd rfl hz
  | succ n => rfl

/-- The scratch buffer, whole. -/
abbrev scM3_0 : Memref sig .tc .vmem S8x128 .f32 := Memref.whole cc3_scratch0

/-- What the launch hands the region: the scratch at anything, the other buffers of the scope, the generator. -/
theorem PhiA3_eq (c : Dev nD) :
    (Pipeline.ΦA spec3 c : sProp 𝕄)
      = iprop(iprop(iprop((∃ d, owns (c : Thread nD τ) scM3_0 fullShare d)) ∗ Pipeline.scopedRestBut spec3 c [cc3_scratch0]) ∗ (∃ r, prngReg c r)) := by
  unfold Pipeline.ΦA; rw [scopedRest3_split]; simp only [scM3_0, owns_whole]; try rfl

/-- What is held before position `n`: at the first what the launch hands over, afterwards the scratch at what the point before left. -/
def Phi3 (c : Dev nD) : (n : ℕ) → n ≤ cfg3.N → sProp 𝕄
  | 0, _ => Pipeline.ΦA spec3 c
  | n + 1, hn => iprop(iprop(iprop(owns (c : Thread nD τ) scM3_0 fullShare (sc3_0 V c n hn)) ∗ Pipeline.scopedRestBut spec3 c [cc3_scratch0]) ∗ (∃ r, prngReg c r))

/-- Before the first point. -/
theorem Phi3_zero (c : Dev nD) (n : ℕ) (h : n ≤ cfg3.N) (hz : n = 0) : Phi3 V c n h = Pipeline.ΦA spec3 c := by
  subst hz; rfl
/-- After point `n`. -/
theorem Phi3_succ (c : Dev nD) (n : ℕ) (hn : n < cfg3.N) :
    Phi3 V c (n + 1) hn = iprop(iprop(iprop(owns (c : Thread nD τ) scM3_0 fullShare (sc3_0 V c n hn)) ∗ Pipeline.scopedRestBut spec3 c [cc3_scratch0]) ∗ (∃ r, prngReg c r)) := rfl
/-- Before a point that is not the first. -/
theorem Phi3_pos (c : Dev nD) (n : ℕ) (h : n ≤ cfg3.N) (hz : n ≠ 0) :
    Phi3 V c n h = iprop(iprop(iprop(owns (c : Thread nD τ) scM3_0 fullShare (sc3_0 V c (n - 1) (by omega))) ∗ Pipeline.scopedRestBut spec3 c [cc3_scratch0]) ∗ (∃ r, prngReg c r)) := by
  cases n with
  | zero => exact absurd rfl hz
  | succ n => rfl

/-- What the region's proof follows: each array as the region finds it, what the body leaves in each staging buffer, and the scratch. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => out3_3 (iblk3 V c 0 t) (iblk3 V c 1 t) (iblk3 V c 2 t)
    | ⟨4, _⟩ => sc3_0 V c t.val t.isLt
  Φ t := Phi3 V c t.val (Nat.le_of_lt_succ t.isLt)
  q _ := fullShare
  owed _ := 0

/-- The arrays are those the region finds. -/
theorem A_eq3 (c : Dev nD) (w : Fin cfg3.W) : (dat3 V c).A w = V c (Pipeline.arrRef spec3 w) := by
  dsimp only [dat3]
/-- What is held at a point's start. -/
theorem Phi3_castSucc (c : Dev nD) (t : Fin cfg3.N) :
    (dat3 V c).Φ t.castSucc = Phi3 V c t.val (Nat.le_of_lt t.isLt) := by
  dsimp only [dat3]; exact Pipeline.Dat.Φ_castSucc (Phi3 V c) t
/-- What the body leaves in this window's staging buffer. -/
theorem after3_0 (c : Dev nD) (t : Fin cfg3.N) : (dat3 V c).after 0 t = iblk3 V c 0 t := by dsimp only [dat3]
/-- What the body leaves in this window's staging buffer. -/
theorem after3_1 (c : Dev nD) (t : Fin cfg3.N) : (dat3 V c).after 1 t = iblk3 V c 1 t := by dsimp only [dat3]
/-- What the body leaves in this window's staging buffer. -/
theorem after3_2 (c : Dev nD) (t : Fin cfg3.N) : (dat3 V c).after 2 t = iblk3 V c 2 t := by dsimp only [dat3]
/-- What the body leaves in this window's staging buffer. -/
theorem after3_3 (c : Dev nD) (t : Fin cfg3.N) : (dat3 V c).after 3 t = out3_3 (iblk3 V c 0 t) (iblk3 V c 1 t) (iblk3 V c 2 t) := by dsimp only [dat3]
/-- What the body leaves in this window's staging buffer. -/
theorem after3_4 (c : Dev nD) (t : Fin cfg3.N) : (dat3 V c).after 4 t = sc3_0 V c t.val t.isLt := by dsimp only [dat3]
/-- This input window's staging buffer holds its block at every point. -/
theorem before3_0 (c : Dev nD) (t : Fin cfg3.N) (d) : (dat3 V c).before 0 t d = iblk3 V c 0 t :=
  before3_0_of V (dat3 V c) (A_eq3 V c 0) (after3_0 V c) t d
/-- This input window's staging buffer holds its block at every point. -/
theorem before3_1 (c : Dev nD) (t : Fin cfg3.N) (d) : (dat3 V c).before 1 t d = iblk3 V c 1 t :=
  before3_1_of V (dat3 V c) (A_eq3 V c 1) (after3_1 V c) t d
/-- This input window's staging buffer holds its block at every point. -/
theorem before3_2 (c : Dev nD) (t : Fin cfg3.N) (d) : (dat3 V c).before 2 t d = iblk3 V c 2 t :=
  before3_2_of V (dat3 V c) (A_eq3 V c 2) (after3_2 V c) t d
/-- This window is in use at every point. -/
theorem live3_0 : ∀ t : Fin cfg3.N, cfg3.idle 0 (grid3.coords t) = false := fun _ => rfl
/-- This window is in use at every point. -/
theorem live3_1 : ∀ t : Fin cfg3.N, cfg3.idle 1 (grid3.coords t) = false := fun _ => rfl
/-- This window is in use at every point. -/
theorem live3_2 : ∀ t : Fin cfg3.N, cfg3.idle 2 (grid3.coords t) = false := fun _ => rfl
/-- This window is in use at every point. -/
theorem live3_3 : ∀ t : Fin cfg3.N, cfg3.idle 3 (grid3.coords t) = false := fun _ => rfl
/-- This output is not in use before the last point. -/
theorem idle3_4 : ∀ t : Fin cfg3.N, ¬last3 (grid3.coords t) → cfg3.idle 4 (grid3.coords t) = true := by decide +kernel
/-- This output is not written back before the last point. -/
theorem noFlush3_4 : ∀ t : Fin cfg3.N, ¬last3 (grid3.coords t) → (cfg3.win 4).flush t = false := by decide +kernel
/-- This output is in use at the last point. -/
theorem liveLast3_4 : ∀ t : Fin cfg3.N, last3 (grid3.coords t) → cfg3.idle 4 (grid3.coords t) = false := by decide +kernel

/-- What the body is called with at a point. -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d)))

/-- What the body returns at a point. -/
def bodyPost3 (c : Dev nD) (t : Fin cfg3.N) : sProp 𝕄 :=
  iprop((dat3 V c).Φ t.succ ∗ (dat3 V c).owesAt () t.succ
    ∗ (dat3 V c).leavesExact 0 t
    ∗ (dat3 V c).leavesExact 1 t
    ∗ (dat3 V c).leavesExact 2 t
    ∗ (dat3 V c).leavesExact 3 t
    ∗ (dat3 V c).leavesExact 4 t)

set_option maxHeartbeats 4800000 in
/-- The body at every point: the first, the last, one between. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2]
  rw [show (dat3 V c).owesAt () t.succ = (dat3 V c).owesAt () t.castSucc from rfl]
  rw [show (dat3 V c).Φ t.succ = Phi3 V c (t.val + 1) t.isLt from rfl, Phi3_succ]
  rw [show (dat3 V c).leavesExact 0 t = owns (c : Thread nD τ) (st3_0 t) fullShare ((dat3 V c).after 0 t) from by
    unfold Dat.leavesExact; rw [live3_0 t], after3_0]
  rw [show (dat3 V c).leavesExact 1 t = owns (c : Thread nD τ) (st3_1 t) fullShare ((dat3 V c).after 1 t) from by
    unfold Dat.leavesExact; rw [live3_1 t], after3_1]
  rw [show (dat3 V c).leavesExact 2 t = owns (c : Thread nD τ) (st3_2 t) fullShare ((dat3 V c).after 2 t) from by
    unfold Dat.leavesExact; rw [live3_2 t], after3_2]
  rw [show (dat3 V c).leavesExact 3 t = owns (c : Thread nD τ) (st3_3 t) fullShare ((dat3 V c).after 3 t) from by
    unfold Dat.leavesExact; rw [live3_3 t], after3_3]
  by_cases hz : t.val = 0
  · rw [Dat.leavesExact_idle (dat3 V c) 4 t (idle3_4 t (fun h => absurd ((hlast3 t).mp h) (by omega))) (noFlush3_4 t (fun h => absurd ((hlast3 t).mp h) (by omega)))]
    rw [Phi3_castSucc V c t, Phi3_zero V c _ _ hz, PhiA3_eq]
    rw [sc3_0_zero V c t hz]
    iintro ⟨⟨⟨HS0, HB⟩, Hg⟩, Ho, ⟨%d0, H0⟩, ⟨%d1, H1⟩, ⟨%d2, H2⟩, ⟨%d3, H3⟩, ⟨%d4, H4⟩⟩
    iapply (body3_A c Set.univ (grid3.coords t) _ _ _ _ _ _ _ _ _ _ _ _ ((hfirst3 t).mpr hz) (fun h => absurd ((hlast3 t).mp h) (by omega)) (iblk3 V c 0 t) (iblk3 V c 1 t) (iblk3 V c 2 t) _ _)
    isplitl [H0]; · iexact H0
    isplitl [H1]; · iexact H1
    isplitl [H2]; · iexact H2
    isplitl [H3]; · iexists _; iexact H3
    isplitl [H4]; · iexact H4
    isplitl [HS0]; · iexact HS0
    iintro ⟨H0, H1, H2, H3, H4, HS0⟩
    isplitl [HS0 HB Hg]
    · isplitl [HS0 HB]
      · isplitl [HS0]
        · iexact HS0
        iexact HB
      iexact Hg
    isplitl [Ho]; · iexact Ho
    isplitl [H0]; · iexact H0
    isplitl [H1]; · iexact H1
    isplitl [H2]; · iexact H2
    isplitl [H3]; · iexact H3
    iexists _; iexact H4
  by_cases hl : t.val = 99
  · rw [show (dat3 V c).leavesExact 4 t = owns (c : Thread nD τ) (st3_4 t) fullShare ((dat3 V c).after 4 t) from by
        unfold Dat.leavesExact; rw [liveLast3_4 t ((hlast3 t).mpr hl)], after3_4]
    rw [Phi3_castSucc V c t, Phi3_pos V c _ _ hz]
    rw [sc3_0_pos V c t hz]
    iintro ⟨⟨⟨HS0, HB⟩, Hg⟩, Ho, ⟨%d0, H0⟩, ⟨%d1, H1⟩, ⟨%d2, H2⟩, ⟨%d3, H3⟩, ⟨%d4, H4⟩⟩
    iapply (body3_C c Set.univ (grid3.coords t) _ _ _ _ _ _ _ _ _ _ _ _ (fun h => hz ((hfirst3 t).mp h)) ((hlast3 t).mpr hl) (iblk3 V c 0 t) (iblk3 V c 1 t) (iblk3 V c 2 t) _ _)
    isplitl [H0]; · iexact H0
    isplitl [H1]; · iexact H1
    isplitl [H2]; · iexact H2
    isplitl [H3]; · iexists _; iexact H3
    isplitl [H4]; · iexists _; iexact H4
    isplitl [HS0]; · iexact HS0
    iintro ⟨H0, H1, H2, H3, H4, HS0⟩
    isplitl [HS0 HB Hg]
    · isplitl [HS0 HB]
      · isplitl [HS0]
        · iexact HS0
        iexact HB
      iexact Hg
    isplitl [Ho]; · iexact Ho
    isplitl [H0]; · iexact H0
    isplitl [H1]; · iexact H1
    isplitl [H2]; · iexact H2
    isplitl [H3]; · iexact H3
    iexact H4
  · rw [Dat.leavesExact_idle (dat3 V c) 4 t (idle3_4 t (fun h => hl ((hlast3 t).mp h))) (noFlush3_4 t (fun h => hl ((hlast3 t).mp h)))]
    rw [Phi3_castSucc V c t, Phi3_pos V c _ _ hz]
    rw [sc3_0_pos V c t hz]
    iintro ⟨⟨⟨HS0, HB⟩, Hg⟩, Ho, ⟨%d0, H0⟩, ⟨%d1, H1⟩, ⟨%d2, H2⟩, ⟨%d3, H3⟩, ⟨%d4, H4⟩⟩
    iapply (body3_B c Set.univ (grid3.coords t) _ _ _ _ _ _ _ _ _ _ _ _ (fun h => hz ((hfirst3 t).mp h)) (fun h => hl ((hlast3 t).mp h)) (iblk3 V c 0 t) (iblk3 V c 1 t) (iblk3 V c 2 t) _ _ _)
    isplitl [H0]; · iexact H0
    isplitl [H1]; · iexact H1
    isplitl [H2]; · iexact H2
    isplitl [H3]; · iexists _; iexact H3
    isplitl [H4]; · iexact H4
    isplitl [HS0]; · iexact HS0
    iintro ⟨H0, H1, H2, H3, H4, HS0⟩
    isplitl [HS0 HB Hg]
    · isplitl [HS0 HB]
      · isplitl [HS0]
        · iexact HS0
        iexact HB
      iexact Hg
    isplitl [Ho]; · iexact Ho
    isplitl [H0]; · iexact H0
    isplitl [H1]; · iexact H1
    isplitl [H2]; · iexact H2
    isplitl [H3]; · iexact H3
    iexists _; iexact H4

/-- The body in the table of bodies is the body at this point. -/
theorem defs₀_row3 (t : Fin cfg3.N) :
    defs₀ (F := F) .tc cfg3.body (cfg3.bodyArgs t (cfg3.slots t)) = bodyAt3 t := by
  unfold defs₀; rw [Defs.onTc_tc]

/-- The obligation that the pipeline has of the body, at every point. -/
theorem body_obligation3 (c : Dev nD) : BodyObligation (dat3 (F := F) V c) (defs₀ (F := F)) Variants.none () Set.univ := fun t => by
  rw [bigSep_W3, bigSep_W3, defs₀_row3]
  exact triple_restated (sound_body3 V c t) rfl .rfl fun _ => .rfl

/-- What the launch hands over is what is held before the first point. -/
theorem hin3 (c : Dev nD) : Pipeline.ΦA spec3 c ⊢ (dat3 V c).Φ 0 := by
  rw [show (dat3 V c).Φ 0 = Phi3 V c 0 (Nat.zero_le _) from rfl, Phi3_zero V c 0 _ rfl]
  try exact Idealize.SL.BI.Entails.refl _

/-- After the last point it is given back: what the scratch holds is forgotten. -/
theorem hout3 (c : Dev nD) : (dat3 V c).Φ (Fin.last cfg3.N) ⊢ Pipeline.ΦA spec3 c := by
  have ht : (Fin.last cfg3.N).val ≠ 0 := by rw [Fin.val_last]; have : cfg3.N = 100 := N_3; omega
  rw [show (dat3 V c).Φ (Fin.last cfg3.N) = Phi3 V c (Fin.last cfg3.N).val (Nat.le_of_lt_succ (Fin.last cfg3.N).isLt) from rfl, Phi3_pos V c _ _ ht, PhiA3_eq]
  iintro ⟨⟨HS0, HB⟩, Hg⟩
  isplitr [Hg]
  · isplitr [HB]
    · iexists _; iexact HS0
    iexact HB
  iexact Hg

end Cert.KernelIdeal.Own

end
-- ==== Proof.KernelIdeal.Reg4.lean ====
/-
  The fifth custom call (the last normalization of the edge rows).
-/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

set_option maxRecDepth 16384

noncomputable section

namespace Cert.KernelIdeal.Own

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

-- what every buffer holds when the region is entered
variable (V : (c : Dev nD) → (b : Ref sig .tc) → Buf (Elt F) ((c : Thread nD τ).loc b))

/-- Window `w`'s block at point `t`, read off the array that the region finds. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- The staging buffer of this input window holds the window's block at every point. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)
/-- The staging buffer of this input window holds the window's block at every point. -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

abbrev r4_0 : Rect S3200x128 := Rect.unit (s := S3200x128) ![0, 0] S3200x128.size inb_S3200x128_S3200x128_0_0
abbrev r4_1 : Rect S8x128 := Rect.unit (s := S8x128) ![0, 0] S1x128.size inb_S8x128_S1x128_0_0
abbrev r4_2 : Rect S8x128 := Rect.unit (s := S8x128) ![1, 0] S1x128.size inb_S8x128_S1x128_1_0

/-- What the body leaves in this output window's staging buffer, from the blocks of the input windows. -/
def out4_2 (x0 : Vec F S3200x128 .f32) (x1 : Vec F S8x128 .f32) : Vec F S3200x128 .f32 :=
  View.canon [⟨r4_0, k4_pay1 (View.ld x0 r4_0) (View.ld x1 r4_1) (View.ld x1 r4_2)⟩]

/-- The body's store into this window covers its buffer. -/
theorem cover4_2 (p0 : Vec F S3200x128 .f32) (y : S3200x128.Idx) :
    ∃ pc ∈ ([⟨r4_0, p0⟩] : List (View.Piece (Elt F) S3200x128 .f32)), y ∈ pc.1.set :=
  View.cover_of_tiled [⟨r4_0, p0⟩] S3200x128.size (by rfl) y

set_option maxHeartbeats 1000000 in
/-- The body, run on whole buffers holding the input blocks, leaves the inputs as they were and the outputs as stated. -/
theorem sound_kernel4 (c : Dev nD) (E : Set ℕ) (i : grid4.Coords) (arg1 : Memref sig .tc .vmem S3200x128 .f32) (harg1 : arg1.IsWhole) (arg2 : Memref sig .tc .vmem S8x128 .f32) (harg2 : arg2.IsWhole) (arg3 : Memref sig .tc .vmem S3200x128 .f32) (harg3 : arg3.IsWhole)
    (x0 : Vec F S3200x128 .f32) (x1 : Vec F S8x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out4_2 x0 x1)) -∗ K ⟨⟩))
      ⊢ wp frame (wpE (defs₀ (F := F)) Variants.none c none) E (cc4__e3_kernel i arg1 harg1 arg2 harg2 arg3 harg3) K := by
  simp only [cc4__e3_kernel_eq_skeleton]; unfold cc4__e3_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover4_2 _)

/-- The proof data of the pipeline: the arrays as found, every input block left in place, every output as the body leaves it. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => out4_2 (iblk4 V c 0 t) (iblk4 V c 1 t)
  Φ _ := Pipeline.ΦA spec4 c
  q _ := fullShare
  owed _ := 0

/-- The arrays of the proof data are the contents found at entry. -/
theorem A_eq4 (c : Dev nD) (w : Fin cfg4.W) : (dat4 V c).A w = V c (Pipeline.arrRef spec4 w) := by
  dsimp only [dat4]

/-- What the body leaves in this window's staging buffer. -/
theorem after4_0 (c : Dev nD) (t : Fin cfg4.N) : (dat4 V c).after 0 t = iblk4 V c 0 t := by dsimp only [dat4]
/-- What the body leaves in this window's staging buffer. -/
theorem after4_1 (c : Dev nD) (t : Fin cfg4.N) : (dat4 V c).after 1 t = iblk4 V c 1 t := by dsimp only [dat4]
/-- What the body leaves in this window's staging buffer. -/
theorem after4_2 (c : Dev nD) (t : Fin cfg4.N) : (dat4 V c).after 2 t = out4_2 (iblk4 V c 0 t) (iblk4 V c 1 t) := by dsimp only [dat4]

/-- This input window's staging buffer holds its block at every point. -/
theorem before4_0 (c : Dev nD) (t : Fin cfg4.N) (d) : (dat4 V c).before 0 t d = iblk4 V c 0 t :=
  before4_0_of V (dat4 V c) (A_eq4 V c 0) (after4_0 V c) t d
/-- This input window's staging buffer holds its block at every point. -/
theorem before4_1 (c : Dev nD) (t : Fin cfg4.N) (d) : (dat4 V c).before 1 t d = iblk4 V c 1 t :=
  before4_1_of V (dat4 V c) (A_eq4 V c 1) (after4_1 V c) t d

/-- What the body is called with at a point. -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d)))

/-- What the body returns at a point. -/
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t))

/-- The body at any point, on the buffers that the pipeline hands it. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1]
  rw [show (dat4 V c).Φ t.succ = (dat4 V c).Φ t.castSucc from rfl,
    show (dat4 V c).owesAt () t.succ = (dat4 V c).owesAt () t.castSucc from rfl,
    after4_0, after4_1, after4_2]
  iintro ⟨HΦ, Ho, ⟨%d0, H0⟩, ⟨%d1, H1⟩, ⟨%d2, H2⟩⟩
  iapply (sound_kernel4 c Set.univ (grid4.coords t) _ _ _ _ _ _ (iblk4 V c 0 t) (iblk4 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body in the table of bodies is the body at this point. -/
theorem defs₀_row4 (t : Fin cfg4.N) :
    defs₀ (F := F) .tc cfg4.body (cfg4.bodyArgs t (cfg4.slots t)) = bodyAt4 t := by
  unfold defs₀; rw [Defs.onTc_tc]

/-- The obligation that the pipeline has of the body, at every point. -/
theorem body_obligation4 (c : Dev nD) : BodyObligation (dat4 (F := F) V c) (defs₀ (F := F)) Variants.none () Set.univ := fun t => by
  rw [bigSep_W4, bigSep_W4, defs₀_row4]
  exact triple_restated (sound_body4 V c t) rfl .rfl fun _ => .rfl

end Cert.KernelIdeal.Own

end
-- ==== Proof.KernelIdeal.Reg5.lean ====
/-
  The sixth custom call (the node rows' two layers).
-/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

set_option maxRecDepth 16384

noncomputable section

namespace Cert.KernelIdeal.Own

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

-- what every buffer holds when the region is entered
variable (V : (c : Dev nD) → (b : Ref sig .tc) → Buf (Elt F) ((c : Thread nD τ).loc b))

/-- Window `w`'s block at point `t`, read off the array that the region finds. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- The staging buffer of this input window holds the window's block at every point. -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)
/-- The staging buffer of this input window holds the window's block at every point. -/
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)
/-- The staging buffer of this input window holds the window's block at every point. -/
theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)
/-- The staging buffer of this input window holds the window's block at every point. -/
theorem before5_3_of {c : Dev nD} (dat : Dat τ (Elt F) Unit ℕ (UR sig nD τ) ℕ cfg5 c) (hA : dat.A 3 = V c (Pipeline.arrRef spec5 3))
    (hafter : ∀ t, dat.after 3 t = iblk5 V c 3 t) (t : Fin cfg5.N) (d) : dat.before 3 t d = iblk5 V c 3 t :=
  (dat.before_in_eq_fetched 3 rfl (fun _ => rfl) (fun _ _ _ => rfl) (fun t => by rw [hafter]; unfold Dat.blockOf iblk5; rw [hA]; try rfl) t d).trans
    (by unfold Dat.fetched Dat.blockOf iblk5; rw [hA]; try rfl)
/-- The staging buffer of this input window holds the window's block at every point. -/
theorem before5_4_of {c : Dev nD} (dat : Dat τ (Elt F) Unit ℕ (UR sig nD τ) ℕ cfg5 c) (hA : dat.A 4 = V c (Pipeline.arrRef spec5 4))
    (hafter : ∀ t, dat.after 4 t = iblk5 V c 4 t) (t : Fin cfg5.N) (d) : dat.before 4 t d = iblk5 V c 4 t :=
  (dat.before_in_eq_fetched 4 rfl (fun _ => rfl) (fun _ _ _ => rfl) (fun t => by rw [hafter]; unfold Dat.blockOf iblk5; rw [hA]; try rfl) t d).trans
    (by unfold Dat.fetched Dat.blockOf iblk5; rw [hA]; try rfl)
/-- The staging buffer of this input window holds the window's block at every point. -/
theorem before5_5_of {c : Dev nD} (dat : Dat τ (Elt F) Unit ℕ (UR sig nD τ) ℕ cfg5 c) (hA : dat.A 5 = V c (Pipeline.arrRef spec5 5))
    (hafter : ∀ t, dat.after 5 t = iblk5 V c 5 t) (t : Fin cfg5.N) (d) : dat.before 5 t d = iblk5 V c 5 t :=
  (dat.before_in_eq_fetched 5 rfl (fun _ => rfl) (fun _ _ _ => rfl) (fun t => by rw [hafter]; unfold Dat.blockOf iblk5; rw [hA]; try rfl) t d).trans
    (by unfold Dat.fetched Dat.blockOf iblk5; rw [hA]; try rfl)
/-- The staging buffer of this input window holds the window's block at every point. -/
theorem before5_6_of {c : Dev nD} (dat : Dat τ (Elt F) Unit ℕ (UR sig nD τ) ℕ cfg5 c) (hA : dat.A 6 = V c (Pipeline.arrRef spec5 6))
    (hafter : ∀ t, dat.after 6 t = iblk5 V c 6 t) (t : Fin cfg5.N) (d) : dat.before 6 t d = iblk5 V c 6 t :=
  (dat.before_in_eq_fetched 6 rfl (fun _ => rfl) (fun _ _ _ => rfl) (fun t => by rw [hafter]; unfold Dat.blockOf iblk5; rw [hA]; try rfl) t d).trans
    (by unfold Dat.fetched Dat.blockOf iblk5; rw [hA]; try rfl)

abbrev r5_0 : Rect S1x1 := Rect.unit (s := S1x1) ![0, 0] S1x1.size inb_S1x1_S1x1_0_0
abbrev r5_1 : Rect S10000x128 := Rect.unit (s := S10000x128) ![0, 0] S10000x128.size inb_S10000x128_S10000x128_0_0
abbrev r5_2 : Rect S128x128 := Rect.unit (s := S128x128) ![0, 0] S128x128.size inb_S128x128_S128x128_0_0
abbrev r5_3 : Rect S8x128 := Rect.unit (s := S8x128) ![0, 0] S1x128.size inb_S8x128_S1x128_0_0
abbrev r5_4 : Rect S8x128 := Rect.unit (s := S8x128) ![1, 0] S1x128.size inb_S8x128_S1x128_1_0

/-- What the body leaves in this output window's staging buffer, from the blocks of the input windows. -/
def out5_7 (x0 : Vec F S10000x128 .f32) (x1 : Vec F S10000x128 .f32) (x2 : Vec F S128x128 .f32) (x3 : Vec F S8x128 .f32) (x4 : Vec F S128x128 .f32) (x5 : Vec F S8x128 .f32) (x6 : Vec F S1x1 .f32) : Vec F S10000x128 .f32 :=
  View.canon [⟨r5_1, k5_pay1 (k5_pay2 (View.ld x6 r5_0) (View.ld x0 r5_1) (View.ld x1 r5_1) (View.ld x2 r5_2) (View.ld x3 r5_3) (View.ld x3 r5_4)) (View.ld x4 r5_2) (View.ld x5 r5_3) (View.ld x5 r5_4)⟩]

/-- The body's store into this window covers its buffer. -/
theorem cover5_7 (p0 : Vec F S10000x128 .f32) (y : S10000x128.Idx) :
    ∃ pc ∈ ([⟨r5_1, p0⟩] : List (View.Piece (Elt F) S10000x128 .f32)), y ∈ pc.1.set :=
  View.cover_of_tiled [⟨r5_1, p0⟩] S10000x128.size (by rfl) y

set_option maxHeartbeats 1000000 in
/-- The body, run on whole buffers holding the input blocks, leaves the inputs as they were and the outputs as stated. -/
theorem sound_kernel5 (c : Dev nD) (E : Set ℕ) (arg0 : Memref sig .tc .vmem S10000x128 .f32) (harg0 : arg0.IsWhole) (arg1 : Memref sig .tc .vmem S10000x128 .f32) (harg1 : arg1.IsWhole) (arg2 : Memref sig .tc .vmem S128x128 .f32) (harg2 : arg2.IsWhole) (arg3 : Memref sig .tc .vmem S8x128 .f32) (harg3 : arg3.IsWhole) (arg4 : Memref sig .tc .vmem S128x128 .f32) (harg4 : arg4.IsWhole) (arg5 : Memref sig .tc .vmem S8x128 .f32) (harg5 : arg5.IsWhole) (arg6 : Memref sig .tc .vmem S1x1 .f32) (harg6 : arg6.IsWhole) (arg7 : Memref sig .tc .vmem S10000x128 .f32) (harg7 : arg7.IsWhole)
    (x0 : Vec F S10000x128 .f32) (x1 : Vec F S10000x128 .f32) (x2 : Vec F S128x128 .f32) (x3 : Vec F S8x128 .f32) (x4 : Vec F S128x128 .f32) (x5 : Vec F S8x128 .f32) (x6 : Vec F S1x1 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ (∃ d, owns (c : Thread nD τ) arg7 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare (out5_7 x0 x1 x2 x3 x4 x5 x6)) -∗ K ⟨⟩))
      ⊢ wp frame (wpE (defs₀ (F := F)) Variants.none c none) E (cc5__node_kernel arg0 harg0 arg1 harg1 arg2 harg2 arg3 harg3 arg4 harg4 arg5 harg5 arg6 harg6 arg7 harg7) K := by
  simp only [cc5__node_kernel_eq_skeleton]; unfold cc5__node_kernel_skel
  simp only [k5_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover5_7 _)

/-- The proof data of the pipeline: the arrays as found, every input block left in place, every output as the body leaves it. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => iblk5 V c 4 t
    | ⟨5, _⟩ => iblk5 V c 5 t
    | ⟨6, _⟩ => iblk5 V c 6 t
    | ⟨7, _⟩ => out5_7 (iblk5 V c 0 t) (iblk5 V c 1 t) (iblk5 V c 2 t) (iblk5 V c 3 t) (iblk5 V c 4 t) (iblk5 V c 5 t) (iblk5 V c 6 t)
  Φ _ := Pipeline.ΦA spec5 c
  q _ := fullShare
  owed _ := 0

/-- The arrays of the proof data are the contents found at entry. -/
theorem A_eq5 (c : Dev nD) (w : Fin cfg5.W) : (dat5 V c).A w = V c (Pipeline.arrRef spec5 w) := by
  dsimp only [dat5]

/-- What the body leaves in this window's staging buffer. -/
theorem after5_0 (c : Dev nD) (t : Fin cfg5.N) : (dat5 V c).after 0 t = iblk5 V c 0 t := by dsimp only [dat5]
/-- What the body leaves in this window's staging buffer. -/
theorem after5_1 (c : Dev nD) (t : Fin cfg5.N) : (dat5 V c).after 1 t = iblk5 V c 1 t := by dsimp only [dat5]
/-- What the body leaves in this window's staging buffer. -/
theorem after5_2 (c : Dev nD) (t : Fin cfg5.N) : (dat5 V c).after 2 t = iblk5 V c 2 t := by dsimp only [dat5]
/-- What the body leaves in this window's staging buffer. -/
theorem after5_3 (c : Dev nD) (t : Fin cfg5.N) : (dat5 V c).after 3 t = iblk5 V c 3 t := by dsimp only [dat5]
/-- What the body leaves in this window's staging buffer. -/
theorem after5_4 (c : Dev nD) (t : Fin cfg5.N) : (dat5 V c).after 4 t = iblk5 V c 4 t := by dsimp only [dat5]
/-- What the body leaves in this window's staging buffer. -/
theorem after5_5 (c : Dev nD) (t : Fin cfg5.N) : (dat5 V c).after 5 t = iblk5 V c 5 t := by dsimp only [dat5]
/-- What the body leaves in this window's staging buffer. -/
theorem after5_6 (c : Dev nD) (t : Fin cfg5.N) : (dat5 V c).after 6 t = iblk5 V c 6 t := by dsimp only [dat5]
/-- What the body leaves in this window's staging buffer. -/
theorem after5_7 (c : Dev nD) (t : Fin cfg5.N) : (dat5 V c).after 7 t = out5_7 (iblk5 V c 0 t) (iblk5 V c 1 t) (iblk5 V c 2 t) (iblk5 V c 3 t) (iblk5 V c 4 t) (iblk5 V c 5 t) (iblk5 V c 6 t) := by dsimp only [dat5]

/-- This input window's staging buffer holds its block at every point. -/
theorem before5_0 (c : Dev nD) (t : Fin cfg5.N) (d) : (dat5 V c).before 0 t d = iblk5 V c 0 t :=
  before5_0_of V (dat5 V c) (A_eq5 V c 0) (after5_0 V c) t d
/-- This input window's staging buffer holds its block at every point. -/
theorem before5_1 (c : Dev nD) (t : Fin cfg5.N) (d) : (dat5 V c).before 1 t d = iblk5 V c 1 t :=
  before5_1_of V (dat5 V c) (A_eq5 V c 1) (after5_1 V c) t d
/-- This input window's staging buffer holds its block at every point. -/
theorem before5_2 (c : Dev nD) (t : Fin cfg5.N) (d) : (dat5 V c).before 2 t d = iblk5 V c 2 t :=
  before5_2_of V (dat5 V c) (A_eq5 V c 2) (after5_2 V c) t d
/-- This input window's staging buffer holds its block at every point. -/
theorem before5_3 (c : Dev nD) (t : Fin cfg5.N) (d) : (dat5 V c).before 3 t d = iblk5 V c 3 t :=
  before5_3_of V (dat5 V c) (A_eq5 V c 3) (after5_3 V c) t d
/-- This input window's staging buffer holds its block at every point. -/
theorem before5_4 (c : Dev nD) (t : Fin cfg5.N) (d) : (dat5 V c).before 4 t d = iblk5 V c 4 t :=
  before5_4_of V (dat5 V c) (A_eq5 V c 4) (after5_4 V c) t d
/-- This input window's staging buffer holds its block at every point. -/
theorem before5_5 (c : Dev nD) (t : Fin cfg5.N) (d) : (dat5 V c).before 5 t d = iblk5 V c 5 t :=
  before5_5_of V (dat5 V c) (A_eq5 V c 5) (after5_5 V c) t d
/-- This input window's staging buffer holds its block at every point. -/
theorem before5_6 (c : Dev nD) (t : Fin cfg5.N) (d) : (dat5 V c).before 6 t d = iblk5 V c 6 t :=
  before5_6_of V (dat5 V c) (A_eq5 V c 6) (after5_6 V c) t d

/-- What the body is called with at a point. -/
def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d))
    ∗ (∃ d, owns (c : Thread nD τ) (st5_4 t) fullShare ((dat5 V c).before 4 t d))
    ∗ (∃ d, owns (c : Thread nD τ) (st5_5 t) fullShare ((dat5 V c).before 5 t d))
    ∗ (∃ d, owns (c : Thread nD τ) (st5_6 t) fullShare ((dat5 V c).before 6 t d))
    ∗ (∃ d, owns (c : Thread nD τ) (st5_7 t) fullShare ((dat5 V c).before 7 t d)))

/-- What the body returns at a point. -/
def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t)
    ∗ owns (c : Thread nD τ) (st5_4 t) fullShare ((dat5 V c).after 4 t)
    ∗ owns (c : Thread nD τ) (st5_5 t) fullShare ((dat5 V c).after 5 t)
    ∗ owns (c : Thread nD τ) (st5_6 t) fullShare ((dat5 V c).after 6 t)
    ∗ owns (c : Thread nD τ) (st5_7 t) fullShare ((dat5 V c).after 7 t))

/-- The body at any point, on the buffers that the pipeline hands it. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2, before5_3, before5_4, before5_5, before5_6]
  rw [show (dat5 V c).Φ t.succ = (dat5 V c).Φ t.castSucc from rfl,
    show (dat5 V c).owesAt () t.succ = (dat5 V c).owesAt () t.castSucc from rfl,
    after5_0, after5_1, after5_2, after5_3, after5_4, after5_5, after5_6, after5_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel5 c Set.univ _ _ _ _ _ _ _ _ _ _ _ _ _ _ _ _ (iblk5 V c 0 t) (iblk5 V c 1 t) (iblk5 V c 2 t) (iblk5 V c 3 t) (iblk5 V c 4 t) (iblk5 V c 5 t) (iblk5 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The body in the table of bodies is the body at this point. -/
theorem defs₀_row5 (t : Fin cfg5.N) :
    defs₀ (F := F) .tc cfg5.body (cfg5.bodyArgs t (cfg5.slots t)) = bodyAt5 t := by
  unfold defs₀; rw [Defs.onTc_tc]

/-- The obligation that the pipeline has of the body, at every point. -/
theorem body_obligation5 (c : Dev nD) : BodyObligation (dat5 (F := F) V c) (defs₀ (F := F)) Variants.none () Set.univ := fun t => by
  rw [bigSep_W5, bigSep_W5, defs₀_row5]
  exact triple_restated (sound_body5 V c t) rfl .rfl fun _ => .rfl

end Cert.KernelIdeal.Own

end
-- ==== Proof.KernelIdeal.Fold.lean ====
/-
  What every buffer holds between two parts of the program: a fold over the host stretches and the custom calls, and the argument arrays through it.
-/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp
public import proofs.«01_k».proof.Proof.KernelIdeal.Reg0
public import proofs.«01_k».proof.Proof.KernelIdeal.Reg1
public import proofs.«01_k».proof.Proof.KernelIdeal.Reg2
public import proofs.«01_k».proof.Proof.KernelIdeal.Reg3
public import proofs.«01_k».proof.Proof.KernelIdeal.Reg4
public import proofs.«01_k».proof.Proof.KernelIdeal.Reg5
public import proofs.«01_k».proof.Proof.Gen.KernelIdeal.Regions

@[expose] public section

set_option maxRecDepth 16384

noncomputable section

namespace Cert.KernelIdeal.Own

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

-- the memory at launch
variable (m : (ℓ : Loc nD τ sig) → Buf (Elt F) ℓ)

/-- The argument arrays of the program. -/
abbrev argRefs : List (Ref sig .tc) := [main_arg0, main_arg1, main_arg2, main_arg3, main_arg4, main_arg5, main_arg6, main_arg7, main_arg8, main_arg9, main_arg10, main_arg11, main_arg12, main_arg13, main_arg14, main_arg15, main_arg16, main_arg17, main_arg18, main_arg19]

/-- What core `c`'s buffers hold at launch. -/
abbrev W0 : Dev nD → Valuation τ sig (Elt F) := fun c b => m ((c : Dev nD), b)
/-- The arguments at launch. -/
theorem W0_args (c : Dev nD) : ∀ a ∈ argRefs, W0 m c (Proc.devRef .tc a) = m ((c : Thread nD τ).loc a) := fun _ _ => rfl
/-- The same at the references of the core. -/
abbrev U0 : (c : Dev nD) → (b : Ref sig .tc) → Buf (Elt F) ((c : Thread nD τ).loc b) := fun c b => W0 m c b

/-- What the buffers hold after this host stretch. -/
abbrev W1 : Dev nD → Valuation τ sig (Elt F) := fun c => StableHlo.after hostOps0 (W0 m c)
/-- A buffer that the stretch does not write is as before. -/
theorem W1_of (c : Dev nD) (r : Ref sig .tc) (h : r ∉ hostOps0_W) : W1 m c (Proc.devRef .tc r) = W0 m c (Proc.devRef .tc r) :=
  StableHlo.after_of_writes_sub hostOps0 _ hostOps0_writes h
/-- The stretch writes no argument. -/
theorem hostOps0_args : ∀ a ∈ argRefs, a ∉ hostOps0_W := ListAll.forall_mem_of_all_decide (by decide +kernel)
/-- The arguments are as launched. -/
theorem W1_args (c : Dev nD) : ∀ a ∈ argRefs, W1 m c (Proc.devRef .tc a) = m ((c : Thread nD τ).loc a) :=
  fun a ha => (W1_of m c a (hostOps0_args a ha)).trans (W0_args m c a ha)
/-- The same at the references of the core. -/
abbrev U1 : (c : Dev nD) → (b : Ref sig .tc) → Buf (Elt F) ((c : Thread nD τ).loc b) := fun c b => W1 m c b

/-- What the buffers hold after this host stretch. -/
abbrev W2 : Dev nD → Valuation τ sig (Elt F) := fun c => StableHlo.after hostOps0_1 (W1 m c)
/-- A buffer that the stretch does not write is as before. -/
theorem W2_of (c : Dev nD) (r : Ref sig .tc) (h : r ∉ hostOps0_1_W) : W2 m c (Proc.devRef .tc r) = W1 m c (Proc.devRef .tc r) :=
  StableHlo.after_of_writes_sub hostOps0_1 _ hostOps0_1_writes h
/-- The stretch writes no argument. -/
theorem hostOps0_1_args : ∀ a ∈ argRefs, a ∉ hostOps0_1_W := ListAll.forall_mem_of_all_decide (by decide +kernel)
/-- The arguments are as launched. -/
theorem W2_args (c : Dev nD) : ∀ a ∈ argRefs, W2 m c (Proc.devRef .tc a) = m ((c : Thread nD τ).loc a) :=
  fun a ha => (W2_of m c a (hostOps0_1_args a ha)).trans (W1_args m c a ha)
/-- The same at the references of the core. -/
abbrev U2 : (c : Dev nD) → (b : Ref sig .tc) → Buf (Elt F) ((c : Thread nD τ).loc b) := fun c b => W2 m c b

/-- What the buffers hold after this host stretch. -/
abbrev W3 : Dev nD → Valuation τ sig (Elt F) := fun c => StableHlo.after hostOps0_2 (W2 m c)
/-- A buffer that the stretch does not write is as before. -/
theorem W3_of (c : Dev nD) (r : Ref sig .tc) (h : r ∉ hostOps0_2_W) : W3 m c (Proc.devRef .tc r) = W2 m c (Proc.devRef .tc r) :=
  StableHlo.after_of_writes_sub hostOps0_2 _ hostOps0_2_writes h
/-- The stretch writes no argument. -/
theorem hostOps0_2_args : ∀ a ∈ argRefs, a ∉ hostOps0_2_W := ListAll.forall_mem_of_all_decide (by decide +kernel)
/-- The arguments are as launched. -/
theorem W3_args (c : Dev nD) : ∀ a ∈ argRefs, W3 m c (Proc.devRef .tc a) = m ((c : Thread nD τ).loc a) :=
  fun a ha => (W3_of m c a (hostOps0_2_args a ha)).trans (W2_args m c a ha)
/-- The same at the references of the core. -/
abbrev U3 : (c : Dev nD) → (b : Ref sig .tc) → Buf (Elt F) ((c : Thread nD τ).loc b) := fun c b => W3 m c b

/-- What the buffers hold after this custom call: its arrays at what the pipeline leaves, the others as before. -/
def W4 (c : Dev nD) : Valuation τ sig (Elt F) :=
  Pipeline.withArrays spec0 c (W3 m c) fun w => (dat0 (U3 m) c).arrAt w cfg0.N
/-- An array of the call. -/
theorem W4_arr (c : Dev nD) (w : Fin cfg0.W) :
    W4 m c (Proc.devRef .tc (Pipeline.arrRef spec0 w)) = (dat0 (U3 m) c).arrAt w cfg0.N := by
  unfold W4; exact Pipeline.withArrays_arr spec0 launch0.win.arr_inj c _ _ w
/-- Another buffer. -/
theorem W4_of_ne (c : Dev nD) (b : Ref sig .tc) (hb : ∀ w, Pipeline.arrRef spec0 w ≠ b) :
    W4 m c (Proc.devRef .tc b) = W3 m c (Proc.devRef .tc b) := by
  unfold W4; exact Pipeline.withArrays_of_ne spec0 c _ _ b hb
/-- A buffer that is no output of the call is as before. -/
theorem W4_of (c : Dev nD) (r : Ref sig .tc) (h : ∀ w : Fin cfg0.W, Pipeline.arrRef spec0 w = r → (cfg0.win w).isOut = false) :
    W4 m c (Proc.devRef .tc r) = W3 m c (Proc.devRef .tc r) := by
  by_cases hw : ∃ w : Fin cfg0.W, Pipeline.arrRef spec0 w = r
  · obtain ⟨w, rfl⟩ := hw
    exact (W4_arr m c w).trans (((dat0 (U3 m) c).arrAt_in w (h w rfl) _).trans (A_eq0 (U3 m) c w))
  · exact W4_of_ne m c r fun w e => hw ⟨w, e⟩
/-- No argument is an output of the call. -/
theorem argsIn0 : ∀ a ∈ argRefs, ∀ w : Fin cfg0.W, Pipeline.arrRef spec0 w = a → (cfg0.win w).isOut = false :=
  ListAll.forall_mem_of_all_decide (by decide +kernel)
/-- The arguments are as launched. -/
theorem W4_args (c : Dev nD) : ∀ a ∈ argRefs, W4 m c (Proc.devRef .tc a) = m ((c : Thread nD τ).loc a) :=
  fun a ha => (W4_of m c a (argsIn0 a ha)).trans (W3_args m c a ha)
/-- The same at the references of the core. -/
abbrev U4 : (c : Dev nD) → (b : Ref sig .tc) → Buf (Elt F) ((c : Thread nD τ).loc b) := fun c b => W4 m c b
/-- Each array of the call at its exit. -/
theorem hF0 (c : Dev nD) (w : Fin cfg0.W) : (dat0 (U3 m) c).arrAt w cfg0.N = U4 m c (Pipeline.arrRef spec0 w) :=
  (W4_arr m c w).symm
/-- Every other buffer at its exit. -/
theorem hrest0 (c : Dev nD) : ∀ b, b ∉ Finset.univ.image (Pipeline.arrRef spec0) → U4 m c b = U3 m c b :=
  fun b hb => W4_of_ne m c b fun w e => hb (Finset.mem_image.mpr ⟨w, Finset.mem_univ _, e⟩)

/-- What the buffers hold after this custom call: its arrays at what the pipeline leaves, the others as before. -/
def W5 (c : Dev nD) : Valuation τ sig (Elt F) :=
  Pipeline.withArrays spec1 c (W4 m c) fun w => (dat1 (U4 m) c).arrAt w cfg1.N
/-- An array of the call. -/
theorem W5_arr (c : Dev nD) (w : Fin cfg1.W) :
    W5 m c (Proc.devRef .tc (Pipeline.arrRef spec1 w)) = (dat1 (U4 m) c).arrAt w cfg1.N := by
  unfold W5; exact Pipeline.withArrays_arr spec1 launch1.win.arr_inj c _ _ w
/-- Another buffer. -/
theorem W5_of_ne (c : Dev nD) (b : Ref sig .tc) (hb : ∀ w, Pipeline.arrRef spec1 w ≠ b) :
    W5 m c (Proc.devRef .tc b) = W4 m c (Proc.devRef .tc b) := by
  unfold W5; exact Pipeline.withArrays_of_ne spec1 c _ _ b hb
/-- A buffer that is no output of the call is as before. -/
theorem W5_of (c : Dev nD) (r : Ref sig .tc) (h : ∀ w : Fin cfg1.W, Pipeline.arrRef spec1 w = r → (cfg1.win w).isOut = false) :
    W5 m c (Proc.devRef .tc r) = W4 m c (Proc.devRef .tc r) := by
  by_cases hw : ∃ w : Fin cfg1.W, Pipeline.arrRef spec1 w = r
  · obtain ⟨w, rfl⟩ := hw
    exact (W5_arr m c w).trans (((dat1 (U4 m) c).arrAt_in w (h w rfl) _).trans (A_eq1 (U4 m) c w))
  · exact W5_of_ne m c r fun w e => hw ⟨w, e⟩
/-- No argument is an output of the call. -/
theorem argsIn1 : ∀ a ∈ argRefs, ∀ w : Fin cfg1.W, Pipeline.arrRef spec1 w = a → (cfg1.win w).isOut = false :=
  ListAll.forall_mem_of_all_decide (by decide +kernel)
/-- The arguments are as launched. -/
theorem W5_args (c : Dev nD) : ∀ a ∈ argRefs, W5 m c (Proc.devRef .tc a) = m ((c : Thread nD τ).loc a) :=
  fun a ha => (W5_of m c a (argsIn1 a ha)).trans (W4_args m c a ha)
/-- The same at the references of the core. -/
abbrev U5 : (c : Dev nD) → (b : Ref sig .tc) → Buf (Elt F) ((c : Thread nD τ).loc b) := fun c b => W5 m c b
/-- Each array of the call at its exit. -/
theorem hF1 (c : Dev nD) (w : Fin cfg1.W) : (dat1 (U4 m) c).arrAt w cfg1.N = U5 m c (Pipeline.arrRef spec1 w) :=
  (W5_arr m c w).symm
/-- Every other buffer at its exit. -/
theorem hrest1 (c : Dev nD) : ∀ b, b ∉ Finset.univ.image (Pipeline.arrRef spec1) → U5 m c b = U4 m c b :=
  fun b hb => W5_of_ne m c b fun w e => hb (Finset.mem_image.mpr ⟨w, Finset.mem_univ _, e⟩)

/-- What the buffers hold after this custom call: its arrays at what the pipeline leaves, the others as before. -/
def W6 (c : Dev nD) : Valuation τ sig (Elt F) :=
  Pipeline.withArrays spec2 c (W5 m c) fun w => (dat2 (U5 m) c).arrAt w cfg2.N
/-- An array of the call. -/
theorem W6_arr (c : Dev nD) (w : Fin cfg2.W) :
    W6 m c (Proc.devRef .tc (Pipeline.arrRef spec2 w)) = (dat2 (U5 m) c).arrAt w cfg2.N := by
  unfold W6; exact Pipeline.withArrays_arr spec2 launch2.win.arr_inj c _ _ w
/-- Another buffer. -/
theorem W6_of_ne (c : Dev nD) (b : Ref sig .tc) (hb : ∀ w, Pipeline.arrRef spec2 w ≠ b) :
    W6 m c (Proc.devRef .tc b) = W5 m c (Proc.devRef .tc b) := by
  unfold W6; exact Pipeline.withArrays_of_ne spec2 c _ _ b hb
/-- A buffer that is no output of the call is as before. -/
theorem W6_of (c : Dev nD) (r : Ref sig .tc) (h : ∀ w : Fin cfg2.W, Pipeline.arrRef spec2 w = r → (cfg2.win w).isOut = false) :
    W6 m c (Proc.devRef .tc r) = W5 m c (Proc.devRef .tc r) := by
  by_cases hw : ∃ w : Fin cfg2.W, Pipeline.arrRef spec2 w = r
  · obtain ⟨w, rfl⟩ := hw
    exact (W6_arr m c w).trans (((dat2 (U5 m) c).arrAt_in w (h w rfl) _).trans (A_eq2 (U5 m) c w))
  · exact W6_of_ne m c r fun w e => hw ⟨w, e⟩
/-- No argument is an output of the call. -/
theorem argsIn2 : ∀ a ∈ argRefs, ∀ w : Fin cfg2.W, Pipeline.arrRef spec2 w = a → (cfg2.win w).isOut = false :=
  ListAll.forall_mem_of_all_decide (by decide +kernel)
/-- The arguments are as launched. -/
theorem W6_args (c : Dev nD) : ∀ a ∈ argRefs, W6 m c (Proc.devRef .tc a) = m ((c : Thread nD τ).loc a) :=
  fun a ha => (W6_of m c a (argsIn2 a ha)).trans (W5_args m c a ha)
/-- The same at the references of the core. -/
abbrev U6 : (c : Dev nD) → (b : Ref sig .tc) → Buf (Elt F) ((c : Thread nD τ).loc b) := fun c b => W6 m c b
/-- Each array of the call at its exit. -/
theorem hF2 (c : Dev nD) (w : Fin cfg2.W) : (dat2 (U5 m) c).arrAt w cfg2.N = U6 m c (Pipeline.arrRef spec2 w) :=
  (W6_arr m c w).symm
/-- Every other buffer at its exit. -/
theorem hrest2 (c : Dev nD) : ∀ b, b ∉ Finset.univ.image (Pipeline.arrRef spec2) → U6 m c b = U5 m c b :=
  fun b hb => W6_of_ne m c b fun w e => hb (Finset.mem_image.mpr ⟨w, Finset.mem_univ _, e⟩)

/-- What the buffers hold after this host stretch. -/
abbrev W7 : Dev nD → Valuation τ sig (Elt F) := fun c => StableHlo.after hostOps3 (W6 m c)
/-- A buffer that the stretch does not write is as before. -/
theorem W7_of (c : Dev nD) (r : Ref sig .tc) (h : r ∉ hostOps3_W) : W7 m c (Proc.devRef .tc r) = W6 m c (Proc.devRef .tc r) :=
  StableHlo.after_of_writes_sub hostOps3 _ hostOps3_writes h
/-- The stretch writes no argument. -/
theorem hostOps3_args : ∀ a ∈ argRefs, a ∉ hostOps3_W := ListAll.forall_mem_of_all_decide (by decide +kernel)
/-- The arguments are as launched. -/
theorem W7_args (c : Dev nD) : ∀ a ∈ argRefs, W7 m c (Proc.devRef .tc a) = m ((c : Thread nD τ).loc a) :=
  fun a ha => (W7_of m c a (hostOps3_args a ha)).trans (W6_args m c a ha)
/-- The same at the references of the core. -/
abbrev U7 : (c : Dev nD) → (b : Ref sig .tc) → Buf (Elt F) ((c : Thread nD τ).loc b) := fun c b => W7 m c b

/-- What the buffers hold after this host stretch. -/
abbrev W8 : Dev nD → Valuation τ sig (Elt F) := fun c => StableHlo.after hostOps3_1 (W7 m c)
/-- A buffer that the stretch does not write is as before. -/
theorem W8_of (c : Dev nD) (r : Ref sig .tc) (h : r ∉ hostOps3_1_W) : W8 m c (Proc.devRef .tc r) = W7 m c (Proc.devRef .tc r) :=
  StableHlo.after_of_writes_sub hostOps3_1 _ hostOps3_1_writes h
/-- The stretch writes no argument. -/
theorem hostOps3_1_args : ∀ a ∈ argRefs, a ∉ hostOps3_1_W := ListAll.forall_mem_of_all_decide (by decide +kernel)
/-- The arguments are as launched. -/
theorem W8_args (c : Dev nD) : ∀ a ∈ argRefs, W8 m c (Proc.devRef .tc a) = m ((c : Thread nD τ).loc a) :=
  fun a ha => (W8_of m c a (hostOps3_1_args a ha)).trans (W7_args m c a ha)
/-- The same at the references of the core. -/
abbrev U8 : (c : Dev nD) → (b : Ref sig .tc) → Buf (Elt F) ((c : Thread nD τ).loc b) := fun c b => W8 m c b

/-- What the buffers hold after this host stretch. -/
abbrev W9 : Dev nD → Valuation τ sig (Elt F) := fun c => StableHlo.after hostOps3_2 (W8 m c)
/-- A buffer that the stretch does not write is as before. -/
theorem W9_of (c : Dev nD) (r : Ref sig .tc) (h : r ∉ hostOps3_2_W) : W9 m c (Proc.devRef .tc r) = W8 m c (Proc.devRef .tc r) :=
  StableHlo.after_of_writes_sub hostOps3_2 _ hostOps3_2_writes h
/-- The stretch writes no argument. -/
theorem hostOps3_2_args : ∀ a ∈ argRefs, a ∉ hostOps3_2_W := ListAll.forall_mem_of_all_decide (by decide +kernel)
/-- The arguments are as launched. -/
theorem W9_args (c : Dev nD) : ∀ a ∈ argRefs, W9 m c (Proc.devRef .tc a) = m ((c : Thread nD τ).loc a) :=
  fun a ha => (W9_of m c a (hostOps3_2_args a ha)).trans (W8_args m c a ha)
/-- The same at the references of the core. -/
abbrev U9 : (c : Dev nD) → (b : Ref sig .tc) → Buf (Elt F) ((c : Thread nD τ).loc b) := fun c b => W9 m c b

/-- What the buffers hold after this host stretch. -/
abbrev W10 : Dev nD → Valuation τ sig (Elt F) := fun c => StableHlo.after hostOps3_3 (W9 m c)
/-- A buffer that the stretch does not write is as before. -/
theorem W10_of (c : Dev nD) (r : Ref sig .tc) (h : r ∉ hostOps3_3_W) : W10 m c (Proc.devRef .tc r) = W9 m c (Proc.devRef .tc r) :=
  StableHlo.after_of_writes_sub hostOps3_3 _ hostOps3_3_writes h
/-- The stretch writes no argument. -/
theorem hostOps3_3_args : ∀ a ∈ argRefs, a ∉ hostOps3_3_W := ListAll.forall_mem_of_all_decide (by decide +kernel)
/-- The arguments are as launched. -/
theorem W10_args (c : Dev nD) : ∀ a ∈ argRefs, W10 m c (Proc.devRef .tc a) = m ((c : Thread nD τ).loc a) :=
  fun a ha => (W10_of m c a (hostOps3_3_args a ha)).trans (W9_args m c a ha)
/-- The same at the references of the core. -/
abbrev U10 : (c : Dev nD) → (b : Ref sig .tc) → Buf (Elt F) ((c : Thread nD τ).loc b) := fun c b => W10 m c b

/-- What the buffers hold after this host stretch. -/
abbrev W11 : Dev nD → Valuation τ sig (Elt F) := fun c => StableHlo.after hostOps3_4 (W10 m c)
/-- A buffer that the stretch does not write is as before. -/
theorem W11_of (c : Dev nD) (r : Ref sig .tc) (h : r ∉ hostOps3_4_W) : W11 m c (Proc.devRef .tc r) = W10 m c (Proc.devRef .tc r) :=
  StableHlo.after_of_writes_sub hostOps3_4 _ hostOps3_4_writes h
/-- The stretch writes no argument. -/
theorem hostOps3_4_args : ∀ a ∈ argRefs, a ∉ hostOps3_4_W := ListAll.forall_mem_of_all_decide (by decide +kernel)
/-- The arguments are as launched. -/
theorem W11_args (c : Dev nD) : ∀ a ∈ argRefs, W11 m c (Proc.devRef .tc a) = m ((c : Thread nD τ).loc a) :=
  fun a ha => (W11_of m c a (hostOps3_4_args a ha)).trans (W10_args m c a ha)
/-- The same at the references of the core. -/
abbrev U11 : (c : Dev nD) → (b : Ref sig .tc) → Buf (Elt F) ((c : Thread nD τ).loc b) := fun c b => W11 m c b

/-- What the buffers hold after this host stretch. -/
abbrev W12 : Dev nD → Valuation τ sig (Elt F) := fun c => StableHlo.after hostOps3_5 (W11 m c)
/-- A buffer that the stretch does not write is as before. -/
theorem W12_of (c : Dev nD) (r : Ref sig .tc) (h : r ∉ hostOps3_5_W) : W12 m c (Proc.devRef .tc r) = W11 m c (Proc.devRef .tc r) :=
  StableHlo.after_of_writes_sub hostOps3_5 _ hostOps3_5_writes h
/-- The stretch writes no argument. -/
theorem hostOps3_5_args : ∀ a ∈ argRefs, a ∉ hostOps3_5_W := ListAll.forall_mem_of_all_decide (by decide +kernel)
/-- The arguments are as launched. -/
theorem W12_args (c : Dev nD) : ∀ a ∈ argRefs, W12 m c (Proc.devRef .tc a) = m ((c : Thread nD τ).loc a) :=
  fun a ha => (W12_of m c a (hostOps3_5_args a ha)).trans (W11_args m c a ha)
/-- The same at the references of the core. -/
abbrev U12 : (c : Dev nD) → (b : Ref sig .tc) → Buf (Elt F) ((c : Thread nD τ).loc b) := fun c b => W12 m c b

/-- What the buffers hold after this host stretch. -/
abbrev W13 : Dev nD → Valuation τ sig (Elt F) := fun c => StableHlo.after hostOps3_6 (W12 m c)
/-- A buffer that the stretch does not write is as before. -/
theorem W13_of (c : Dev nD) (r : Ref sig .tc) (h : r ∉ hostOps3_6_W) : W13 m c (Proc.devRef .tc r) = W12 m c (Proc.devRef .tc r) :=
  StableHlo.after_of_writes_sub hostOps3_6 _ hostOps3_6_writes h
/-- The stretch writes no argument. -/
theorem hostOps3_6_args : ∀ a ∈ argRefs, a ∉ hostOps3_6_W := ListAll.forall_mem_of_all_decide (by decide +kernel)
/-- The arguments are as launched. -/
theorem W13_args (c : Dev nD) : ∀ a ∈ argRefs, W13 m c (Proc.devRef .tc a) = m ((c : Thread nD τ).loc a) :=
  fun a ha => (W13_of m c a (hostOps3_6_args a ha)).trans (W12_args m c a ha)
/-- The same at the references of the core. -/
abbrev U13 : (c : Dev nD) → (b : Ref sig .tc) → Buf (Elt F) ((c : Thread nD τ).loc b) := fun c b => W13 m c b

/-- What the buffers hold after this host stretch. -/
abbrev W14 : Dev nD → Valuation τ sig (Elt F) := fun c => StableHlo.after hostOps3_7 (W13 m c)
/-- A buffer that the stretch does not write is as before. -/
theorem W14_of (c : Dev nD) (r : Ref sig .tc) (h : r ∉ hostOps3_7_W) : W14 m c (Proc.devRef .tc r) = W13 m c (Proc.devRef .tc r) :=
  StableHlo.after_of_writes_sub hostOps3_7 _ hostOps3_7_writes h
/-- The stretch writes no argument. -/
theorem hostOps3_7_args : ∀ a ∈ argRefs, a ∉ hostOps3_7_W := ListAll.forall_mem_of_all_decide (by decide +kernel)
/-- The arguments are as launched. -/
theorem W14_args (c : Dev nD) : ∀ a ∈ argRefs, W14 m c (Proc.devRef .tc a) = m ((c : Thread nD τ).loc a) :=
  fun a ha => (W14_of m c a (hostOps3_7_args a ha)).trans (W13_args m c a ha)
/-- The same at the references of the core. -/
abbrev U14 : (c : Dev nD) → (b : Ref sig .tc) → Buf (Elt F) ((c : Thread nD τ).loc b) := fun c b => W14 m c b

/-- What the buffers hold after this custom call: its arrays at what the pipeline leaves, the others as before. -/
def W15 (c : Dev nD) : Valuation τ sig (Elt F) :=
  Pipeline.withArrays spec3 c (W14 m c) fun w => (dat3 (U14 m) c).arrAt w cfg3.N
/-- An array of the call. -/
theorem W15_arr (c : Dev nD) (w : Fin cfg3.W) :
    W15 m c (Proc.devRef .tc (Pipeline.arrRef spec3 w)) = (dat3 (U14 m) c).arrAt w cfg3.N := by
  unfold W15; exact Pipeline.withArrays_arr spec3 launch3.win.arr_inj c _ _ w
/-- Another buffer. -/
theorem W15_of_ne (c : Dev nD) (b : Ref sig .tc) (hb : ∀ w, Pipeline.arrRef spec3 w ≠ b) :
    W15 m c (Proc.devRef .tc b) = W14 m c (Proc.devRef .tc b) := by
  unfold W15; exact Pipeline.withArrays_of_ne spec3 c _ _ b hb
/-- A buffer that is no output of the call is as before. -/
theorem W15_of (c : Dev nD) (r : Ref sig .tc) (h : ∀ w : Fin cfg3.W, Pipeline.arrRef spec3 w = r → (cfg3.win w).isOut = false) :
    W15 m c (Proc.devRef .tc r) = W14 m c (Proc.devRef .tc r) := by
  by_cases hw : ∃ w : Fin cfg3.W, Pipeline.arrRef spec3 w = r
  · obtain ⟨w, rfl⟩ := hw
    exact (W15_arr m c w).trans (((dat3 (U14 m) c).arrAt_in w (h w rfl) _).trans (A_eq3 (U14 m) c w))
  · exact W15_of_ne m c r fun w e => hw ⟨w, e⟩
/-- No argument is an output of the call. -/
theorem argsIn3 : ∀ a ∈ argRefs, ∀ w : Fin cfg3.W, Pipeline.arrRef spec3 w = a → (cfg3.win w).isOut = false :=
  ListAll.forall_mem_of_all_decide (by decide +kernel)
/-- The arguments are as launched. -/
theorem W15_args (c : Dev nD) : ∀ a ∈ argRefs, W15 m c (Proc.devRef .tc a) = m ((c : Thread nD τ).loc a) :=
  fun a ha => (W15_of m c a (argsIn3 a ha)).trans (W14_args m c a ha)
/-- The same at the references of the core. -/
abbrev U15 : (c : Dev nD) → (b : Ref sig .tc) → Buf (Elt F) ((c : Thread nD τ).loc b) := fun c b => W15 m c b
/-- Each array of the call at its exit. -/
theorem hF3 (c : Dev nD) (w : Fin cfg3.W) : (dat3 (U14 m) c).arrAt w cfg3.N = U15 m c (Pipeline.arrRef spec3 w) :=
  (W15_arr m c w).symm
/-- Every other buffer at its exit. -/
theorem hrest3 (c : Dev nD) : ∀ b, b ∉ Finset.univ.image (Pipeline.arrRef spec3) → U15 m c b = U14 m c b :=
  fun b hb => W15_of_ne m c b fun w e => hb (Finset.mem_image.mpr ⟨w, Finset.mem_univ _, e⟩)

/-- What the buffers hold after this host stretch. -/
abbrev W16 : Dev nD → Valuation τ sig (Elt F) := fun c => StableHlo.after hostOps4 (W15 m c)
/-- A buffer that the stretch does not write is as before. -/
theorem W16_of (c : Dev nD) (r : Ref sig .tc) (h : r ∉ hostOps4_W) : W16 m c (Proc.devRef .tc r) = W15 m c (Proc.devRef .tc r) :=
  StableHlo.after_of_writes_sub hostOps4 _ hostOps4_writes h
/-- The stretch writes no argument. -/
theorem hostOps4_args : ∀ a ∈ argRefs, a ∉ hostOps4_W := ListAll.forall_mem_of_all_decide (by decide +kernel)
/-- The arguments are as launched. -/
theorem W16_args (c : Dev nD) : ∀ a ∈ argRefs, W16 m c (Proc.devRef .tc a) = m ((c : Thread nD τ).loc a) :=
  fun a ha => (W16_of m c a (hostOps4_args a ha)).trans (W15_args m c a ha)
/-- The same at the references of the core. -/
abbrev U16 : (c : Dev nD) → (b : Ref sig .tc) → Buf (Elt F) ((c : Thread nD τ).loc b) := fun c b => W16 m c b

/-- What the buffers hold after this custom call: its arrays at what the pipeline leaves, the others as before. -/
def W17 (c : Dev nD) : Valuation τ sig (Elt F) :=
  Pipeline.withArrays spec4 c (W16 m c) fun w => (dat4 (U16 m) c).arrAt w cfg4.N
/-- An array of the call. -/
theorem W17_arr (c : Dev nD) (w : Fin cfg4.W) :
    W17 m c (Proc.devRef .tc (Pipeline.arrRef spec4 w)) = (dat4 (U16 m) c).arrAt w cfg4.N := by
  unfold W17; exact Pipeline.withArrays_arr spec4 launch4.win.arr_inj c _ _ w
/-- Another buffer. -/
theorem W17_of_ne (c : Dev nD) (b : Ref sig .tc) (hb : ∀ w, Pipeline.arrRef spec4 w ≠ b) :
    W17 m c (Proc.devRef .tc b) = W16 m c (Proc.devRef .tc b) := by
  unfold W17; exact Pipeline.withArrays_of_ne spec4 c _ _ b hb
/-- A buffer that is no output of the call is as before. -/
theorem W17_of (c : Dev nD) (r : Ref sig .tc) (h : ∀ w : Fin cfg4.W, Pipeline.arrRef spec4 w = r → (cfg4.win w).isOut = false) :
    W17 m c (Proc.devRef .tc r) = W16 m c (Proc.devRef .tc r) := by
  by_cases hw : ∃ w : Fin cfg4.W, Pipeline.arrRef spec4 w = r
  · obtain ⟨w, rfl⟩ := hw
    exact (W17_arr m c w).trans (((dat4 (U16 m) c).arrAt_in w (h w rfl) _).trans (A_eq4 (U16 m) c w))
  · exact W17_of_ne m c r fun w e => hw ⟨w, e⟩
/-- No argument is an output of the call. -/
theorem argsIn4 : ∀ a ∈ argRefs, ∀ w : Fin cfg4.W, Pipeline.arrRef spec4 w = a → (cfg4.win w).isOut = false :=
  ListAll.forall_mem_of_all_decide (by decide +kernel)
/-- The arguments are as launched. -/
theorem W17_args (c : Dev nD) : ∀ a ∈ argRefs, W17 m c (Proc.devRef .tc a) = m ((c : Thread nD τ).loc a) :=
  fun a ha => (W17_of m c a (argsIn4 a ha)).trans (W16_args m c a ha)
/-- The same at the references of the core. -/
abbrev U17 : (c : Dev nD) → (b : Ref sig .tc) → Buf (Elt F) ((c : Thread nD τ).loc b) := fun c b => W17 m c b
/-- Each array of the call at its exit. -/
theorem hF4 (c : Dev nD) (w : Fin cfg4.W) : (dat4 (U16 m) c).arrAt w cfg4.N = U17 m c (Pipeline.arrRef spec4 w) :=
  (W17_arr m c w).symm
/-- Every other buffer at its exit. -/
theorem hrest4 (c : Dev nD) : ∀ b, b ∉ Finset.univ.image (Pipeline.arrRef spec4) → U17 m c b = U16 m c b :=
  fun b hb => W17_of_ne m c b fun w e => hb (Finset.mem_image.mpr ⟨w, Finset.mem_univ _, e⟩)

/-- What the buffers hold after this host stretch. -/
abbrev W18 : Dev nD → Valuation τ sig (Elt F) := fun c => StableHlo.after hostOps5 (W17 m c)
/-- A buffer that the stretch does not write is as before. -/
theorem W18_of (c : Dev nD) (r : Ref sig .tc) (h : r ∉ hostOps5_W) : W18 m c (Proc.devRef .tc r) = W17 m c (Proc.devRef .tc r) :=
  StableHlo.after_of_writes_sub hostOps5 _ hostOps5_writes h
/-- The stretch writes no argument. -/
theorem hostOps5_args : ∀ a ∈ argRefs, a ∉ hostOps5_W := ListAll.forall_mem_of_all_decide (by decide +kernel)
/-- The arguments are as launched. -/
theorem W18_args (c : Dev nD) : ∀ a ∈ argRefs, W18 m c (Proc.devRef .tc a) = m ((c : Thread nD τ).loc a) :=
  fun a ha => (W18_of m c a (hostOps5_args a ha)).trans (W17_args m c a ha)
/-- The same at the references of the core. -/
abbrev U18 : (c : Dev nD) → (b : Ref sig .tc) → Buf (Elt F) ((c : Thread nD τ).loc b) := fun c b => W18 m c b

/-- What the buffers hold after this custom call: its arrays at what the pipeline leaves, the others as before. -/
def W19 (c : Dev nD) : Valuation τ sig (Elt F) :=
  Pipeline.withArrays spec5 c (W18 m c) fun w => (dat5 (U18 m) c).arrAt w cfg5.N
/-- An array of the call. -/
theorem W19_arr (c : Dev nD) (w : Fin cfg5.W) :
    W19 m c (Proc.devRef .tc (Pipeline.arrRef spec5 w)) = (dat5 (U18 m) c).arrAt w cfg5.N := by
  unfold W19; exact Pipeline.withArrays_arr spec5 launch5.win.arr_inj c _ _ w
/-- Another buffer. -/
theorem W19_of_ne (c : Dev nD) (b : Ref sig .tc) (hb : ∀ w, Pipeline.arrRef spec5 w ≠ b) :
    W19 m c (Proc.devRef .tc b) = W18 m c (Proc.devRef .tc b) := by
  unfold W19; exact Pipeline.withArrays_of_ne spec5 c _ _ b hb
/-- A buffer that is no output of the call is as before. -/
theorem W19_of (c : Dev nD) (r : Ref sig .tc) (h : ∀ w : Fin cfg5.W, Pipeline.arrRef spec5 w = r → (cfg5.win w).isOut = false) :
    W19 m c (Proc.devRef .tc r) = W18 m c (Proc.devRef .tc r) := by
  by_cases hw : ∃ w : Fin cfg5.W, Pipeline.arrRef spec5 w = r
  · obtain ⟨w, rfl⟩ := hw
    exact (W19_arr m c w).trans (((dat5 (U18 m) c).arrAt_in w (h w rfl) _).trans (A_eq5 (U18 m) c w))
  · exact W19_of_ne m c r fun w e => hw ⟨w, e⟩
/-- No argument is an output of the call. -/
theorem argsIn5 : ∀ a ∈ argRefs, ∀ w : Fin cfg5.W, Pipeline.arrRef spec5 w = a → (cfg5.win w).isOut = false :=
  ListAll.forall_mem_of_all_decide (by decide +kernel)
/-- The arguments are as launched. -/
theorem W19_args (c : Dev nD) : ∀ a ∈ argRefs, W19 m c (Proc.devRef .tc a) = m ((c : Thread nD τ).loc a) :=
  fun a ha => (W19_of m c a (argsIn5 a ha)).trans (W18_args m c a ha)
/-- The same at the references of the core. -/
abbrev U19 : (c : Dev nD) → (b : Ref sig .tc) → Buf (Elt F) ((c : Thread nD τ).loc b) := fun c b => W19 m c b
/-- Each array of the call at its exit. -/
theorem hF5 (c : Dev nD) (w : Fin cfg5.W) : (dat5 (U18 m) c).arrAt w cfg5.N = U19 m c (Pipeline.arrRef spec5 w) :=
  (W19_arr m c w).symm
/-- Every other buffer at its exit. -/
theorem hrest5 (c : Dev nD) : ∀ b, b ∉ Finset.univ.image (Pipeline.arrRef spec5) → U19 m c b = U18 m c b :=
  fun b hb => W19_of_ne m c b fun w e => hb (Finset.mem_image.mpr ⟨w, Finset.mem_univ _, e⟩)

end Cert.KernelIdeal.Own

end
-- ==== Proof.KernelIdeal.Segs.lean ====
/-
  The host stretches and the custom calls as segments of one run.
-/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp
public import proofs.«01_k».proof.Proof.KernelIdeal.Fold

@[expose] public section

set_option maxRecDepth 16384

noncomputable section

namespace Cert.KernelIdeal.Own

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

-- the memory at launch
variable (m : (ℓ : Loc nD τ sig) → Buf (Elt F) ℓ)

/-- No pipeline has a prefetched table. -/
abbrev admO : (p : Fin 6) → (pcfgs (F := F) p).Adm := fun p => (cfgs p).toPCfg_adm
/-- The proof data of every pipeline, each at what its call finds. -/
def pdats : (p : Fin 6) → (c : Dev nD) → Dat τ (Elt F) Unit ℕ (UR sig nD τ) ℕ (Pipeline.pin (pcfgs (F := F)) admO p) c
  | ⟨0, _⟩ => fun c => dat0 (U3 m) c
  | ⟨1, _⟩ => fun c => dat1 (U4 m) c
  | ⟨2, _⟩ => fun c => dat2 (U5 m) c
  | ⟨3, _⟩ => fun c => dat3 (U14 m) c
  | ⟨4, _⟩ => fun c => dat4 (U16 m) c
  | ⟨5, _⟩ => fun c => dat5 (U18 m) c
/-- No variants. -/
abbrev 𝒱₀ : Variants := Variants.none
/-- No level is assigned: no core owes another anything. -/
abbrev L : GSem nD τ sig → Finset Unit := fun _ => ∅
/-- The levels. -/
abbrev lv : GSem nD τ sig → Unit → ℕ := fun _ _ => 0
/-- What rides beside the buffers: the generator register, and nothing owed. -/
abbrev R (c : Dev nD) : sProp 𝕄 := iprop((∃ r, prngReg c r) ∗ ∃ W, owes (c : Thread nD τ) (0 : CellTallies nD τ sig Unit) W)
/-- A host stretch as a segment. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- A buffer that no call scopes is among those held between the parts. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- What is held at the end. -/
abbrev Tₙ (c : Dev nD) : sProp 𝕄 := iprop(StableHlo.held (c : Thread nD τ) (Pipeline.ucRefs τ sig) (W19 m c) ∗ ∃ r, prngReg c r)

set_option backward.isDefEq.respectTransparency.types false in
/-- This custom call as a segment: entered with every buffer as the fold says, left the same way. -/
def reg0 : Pipeline.RegionSeg (pcfgs (F := F)) admO (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (U3 m) c).loose
  hwaits := Pipeline.hwaits_of_owed_zero _ _ _ _ L lv 0 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec0 c (U3 m c)
  hentry c := by
    rw [Pipeline.ownSems0_none]
    have hsplit := Pipeline.arrays_of_unscopedBufs (p := 0) (pcfgs (F := F)) admO (pdats m) launch0.win launch0.arr_whole c
      ((pdats m 0 c).share_full fun _ => rfl) (U3 m c) (A_eq0 (U3 m) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) admO (Ix := Unit) (Name := ℕ) (U := UR sig nD τ) (Lvl := ℕ)
      launch0.win launch0.arr_whole c (pdats m) ((pdats m 0 c).share_full fun _ => rfl)
      (U3 m c) (U4 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- This custom call as a segment: entered with every buffer as the fold says, left the same way. -/
def reg1 : Pipeline.RegionSeg (pcfgs (F := F)) admO (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (U4 m) c).loose
  hwaits := Pipeline.hwaits_of_owed_zero _ _ _ _ L lv 1 fun _ _ => rfl
  pre c := iprop(StableHlo.held (c : Thread nD τ) (Pipeline.ucRefs τ sig) (W4 m c) ∗ R c)
  post c := iprop(StableHlo.held (c : Thread nD τ) (Pipeline.ucRefs τ sig) (W5 m c) ∗ R c)
  X c := iprop(∃ r, prngReg c r)
  Y c := iprop(∃ r, prngReg c r)
  Z c := Pipeline.unscopedRest (Ix := Unit) (Name := ℕ) (U := UR sig nD τ) (Lvl := ℕ) spec1 c (U4 m c)
  hentry c := by
    rw [Pipeline.ownSems0_none]
    have hsplit := Pipeline.arrays_of_unscopedBufs (p := 1) (pcfgs (F := F)) admO (pdats m) launch1.win launch1.arr_whole c
      ((pdats m 1 c).share_full fun _ => rfl) (U4 m c) (A_eq1 (U4 m) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) admO (Ix := Unit) (Name := ℕ) (U := UR sig nD τ) (Lvl := ℕ)
      launch1.win launch1.arr_whole c (pdats m) ((pdats m 1 c).share_full fun _ => rfl)
      (U4 m c) (U5 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- This custom call as a segment: entered with every buffer as the fold says, left the same way. -/
def reg2 : Pipeline.RegionSeg (pcfgs (F := F)) admO (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (U5 m) c).loose
  hwaits := Pipeline.hwaits_of_owed_zero _ _ _ _ L lv 2 fun _ _ => rfl
  pre c := iprop(StableHlo.held (c : Thread nD τ) (Pipeline.ucRefs τ sig) (W5 m c) ∗ R c)
  post c := iprop(StableHlo.held (c : Thread nD τ) (Pipeline.ucRefs τ sig) (W6 m c) ∗ R c)
  X c := iprop(∃ r, prngReg c r)
  Y c := iprop(∃ r, prngReg c r)
  Z c := Pipeline.unscopedRest (Ix := Unit) (Name := ℕ) (U := UR sig nD τ) (Lvl := ℕ) spec2 c (U5 m c)
  hentry c := by
    rw [Pipeline.ownSems0_none]
    have hsplit := Pipeline.arrays_of_unscopedBufs (p := 2) (pcfgs (F := F)) admO (pdats m) launch2.win launch2.arr_whole c
      ((pdats m 2 c).share_full fun _ => rfl) (U5 m c) (A_eq2 (U5 m) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin2 (U5 m) c)
    unfold Pipeline.ΦA
    iintro ⟨Hp, -, Hr⟩
    isplitl [Hr]; · iexact Hr
    iexact Hp
  hout c := by
    rw [Pipeline.ownSems0_none]
    refine BIBase.Entails.trans (hout2 (U5 m) c) ?_
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) admO (Ix := Unit) (Name := ℕ) (U := UR sig nD τ) (Lvl := ℕ)
      launch2.win launch2.arr_whole c (pdats m) ((pdats m 2 c).share_full fun _ => rfl)
      (U5 m c) (U6 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- This custom call as a segment: entered with every buffer as the fold says, left the same way. -/
def reg3 : Pipeline.RegionSeg (pcfgs (F := F)) admO (pdats m) () defs₀ 𝒱₀ L lv 3 where
  win := launch3.win.to₀
  block_pos := launch3.block_pos
  stage_whole := launch3.stage_whole
  K := PEmpty
  osem k := k.elim
  ho := Pipeline.OwnSemFacts.none _
  hbody c := (body_obligation3 (U14 m) c).loose
  hwaits := Pipeline.hwaits_of_owed_zero _ _ _ _ L lv 3 fun _ _ => rfl
  pre c := iprop(StableHlo.held (c : Thread nD τ) (Pipeline.ucRefs τ sig) (W14 m c) ∗ R c)
  post c := iprop(StableHlo.held (c : Thread nD τ) (Pipeline.ucRefs τ sig) (W15 m c) ∗ R c)
  X c := iprop(∃ r, prngReg c r)
  Y c := iprop(∃ r, prngReg c r)
  Z c := Pipeline.unscopedRest (Ix := Unit) (Name := ℕ) (U := UR sig nD τ) (Lvl := ℕ) spec3 c (U14 m c)
  hentry c := by
    rw [Pipeline.ownSems0_none]
    have hsplit := Pipeline.arrays_of_unscopedBufs (p := 3) (pcfgs (F := F)) admO (pdats m) launch3.win launch3.arr_whole c
      ((pdats m 3 c).share_full fun _ => rfl) (U14 m c) (A_eq3 (U14 m) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin3 (U14 m) c)
    unfold Pipeline.ΦA
    iintro ⟨Hp, -, Hr⟩
    isplitl [Hr]; · iexact Hr
    iexact Hp
  hout c := by
    rw [Pipeline.ownSems0_none]
    refine BIBase.Entails.trans (hout3 (U14 m) c) ?_
    unfold Pipeline.ΦA
    iintro ⟨Hr, Hp⟩
    isplitl [Hp]; · iexact Hp
    isplitr; · iempintro
    iexact Hr
  hexit c := by
    have hjoin := Pipeline.unscopedBufs_of_arrays (p := 3) (pcfgs (F := F)) admO (Ix := Unit) (Name := ℕ) (U := UR sig nD τ) (Lvl := ℕ)
      launch3.win launch3.arr_whole c (pdats m) ((pdats m 3 c).share_full fun _ => rfl)
      (U14 m c) (U15 m c) ((pdats m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- This custom call as a segment: entered with every buffer as the fold says, left the same way. -/
def reg4 : Pipeline.RegionSeg (pcfgs (F := F)) admO (pdats m) () defs₀ 𝒱₀ L lv 4 where
  win := launch4.win.to₀
  block_pos := launch4.block_pos
  stage_whole := launch4.stage_whole
  K := PEmpty
  osem k := k.elim
  ho := Pipeline.OwnSemFacts.none _
  hbody c := (body_obligation4 (U16 m) c).loose
  hwaits := Pipeline.hwaits_of_owed_zero _ _ _ _ L lv 4 fun _ _ => rfl
  pre c := iprop(StableHlo.held (c : Thread nD τ) (Pipeline.ucRefs τ sig) (W16 m c) ∗ R c)
  post c := iprop(StableHlo.held (c : Thread nD τ) (Pipeline.ucRefs τ sig) (W17 m c) ∗ R c)
  X c := iprop(∃ r, prngReg c r)
  Y c := iprop(∃ r, prngReg c r)
  Z c := Pipeline.unscopedRest (Ix := Unit) (Name := ℕ) (U := UR sig nD τ) (Lvl := ℕ) spec4 c (U16 m c)
  hentry c := by
    rw [Pipeline.ownSems0_none]
    have hsplit := Pipeline.arrays_of_unscopedBufs (p := 4) (pcfgs (F := F)) admO (pdats m) launch4.win launch4.arr_whole c
      ((pdats m 4 c).share_full fun _ => rfl) (U16 m c) (A_eq4 (U16 m) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) admO (Ix := Unit) (Name := ℕ) (U := UR sig nD τ) (Lvl := ℕ)
      launch4.win launch4.arr_whole c (pdats m) ((pdats m 4 c).share_full fun _ => rfl)
      (U16 m c) (U17 m c) ((pdats m 4 c).arrAt · cfg4.N) (hF4 m c) (hrest4 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- This custom call as a segment: entered with every buffer as the fold says, left the same way. -/
def reg5 : Pipeline.RegionSeg (pcfgs (F := F)) admO (pdats m) () defs₀ 𝒱₀ L lv 5 where
  win := launch5.win.to₀
  block_pos := launch5.block_pos
  stage_whole := launch5.stage_whole
  K := PEmpty
  osem k := k.elim
  ho := Pipeline.OwnSemFacts.none _
  hbody c := (body_obligation5 (U18 m) c).loose
  hwaits := Pipeline.hwaits_of_owed_zero _ _ _ _ L lv 5 fun _ _ => rfl
  pre c := iprop(StableHlo.held (c : Thread nD τ) (Pipeline.ucRefs τ sig) (W18 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec5 c (U18 m c)
  hentry c := by
    rw [Pipeline.ownSems0_none]
    have hsplit := Pipeline.arrays_of_unscopedBufs (p := 5) (pcfgs (F := F)) admO (pdats m) launch5.win launch5.arr_whole c
      ((pdats m 5 c).share_full fun _ => rfl) (U18 m c) (A_eq5 (U18 m) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 5 c).Φ 0 = Pipeline.ΦA spec5 c from rfl]; unfold Pipeline.ΦA
    iintro ⟨Hp, -, Hr⟩
    isplitl [Hr]; · iexact Hr
    iexact Hp
  hout c := by
    rw [Pipeline.ownSems0_none, show (pdats m 5 c).Φ (Fin.last _) = Pipeline.ΦA spec5 c from rfl]; unfold Pipeline.ΦA
    iintro ⟨Hr, Hp⟩
    isplitl [Hp]; · iexact Hp
    isplitr; · iempintro
    iexact Hr
  hexit c := by
    have hjoin := Pipeline.unscopedBufs_of_arrays (p := 5) (pcfgs (F := F)) admO (Ix := Unit) (Name := ℕ) (U := UR sig nD τ) (Lvl := ℕ)
      launch5.win launch5.arr_whole c (pdats m) ((pdats m 5 c).share_full fun _ => rfl)
      (U18 m c) (U19 m c) ((pdats m 5 c).arrAt · cfg5.N) (hF5 m c) (hrest5 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

end Cert.KernelIdeal.Own

end
-- ==== Proof.KernelIdeal.Run.lean ====
/-
  The run of the whole program: it terminates, the arguments are unchanged, the two results are what the fold says.
-/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp
public import proofs.«01_k».proof.Proof.KernelIdeal.Segs

@[expose] public section

set_option maxRecDepth 16384

noncomputable section

namespace Cert.KernelIdeal.Own

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

-- the memory at launch
variable (m : (ℓ : Loc nD τ sig) → Buf (Elt F) ℓ)

/-- The parts of the program in order. -/
abbrev segsO : List (Pipeline.Seg (pcfgs (F := F)) admO (pdats m) () defs₀ 𝒱₀ L lv) :=
  [ .host (hseg hostOps0 hostOps0_sub hostOps0_fresh (W0 m)),
    .host (hseg hostOps0_1 hostOps0_1_sub hostOps0_1_fresh (W1 m)),
    .host (hseg hostOps0_2 hostOps0_2_sub hostOps0_2_fresh (W2 m)),
    .region (reg0 m),
    .region (reg1 m),
    .region (reg2 m),
    .host (hseg hostOps3 hostOps3_sub hostOps3_fresh (W6 m)),
    .host (hseg hostOps3_1 hostOps3_1_sub hostOps3_1_fresh (W7 m)),
    .host (hseg hostOps3_2 hostOps3_2_sub hostOps3_2_fresh (W8 m)),
    .host (hseg hostOps3_3 hostOps3_3_sub hostOps3_3_fresh (W9 m)),
    .host (hseg hostOps3_4 hostOps3_4_sub hostOps3_4_fresh (W10 m)),
    .host (hseg hostOps3_5 hostOps3_5_sub hostOps3_5_fresh (W11 m)),
    .host (hseg hostOps3_6 hostOps3_6_sub hostOps3_6_fresh (W12 m)),
    .host (hseg hostOps3_7 hostOps3_7_sub hostOps3_7_fresh (W13 m)),
    .region (reg3 m),
    .host (hseg hostOps4 hostOps4_sub hostOps4_fresh (W15 m)),
    .region (reg4 m),
    .host (hseg hostOps5 hostOps5_sub hostOps5_fresh (W17 m)),
    .region (reg5 m) ]
/-- The program is the run of its parts. -/
theorem main_run (c : Dev nD) : main (F := F) c = Pipeline.Seg.run (segsO m) := (main_chain c).trans (by chain_rfl)
/-- Every semaphore of the core is scoped. -/
theorem no_unscoped : ∀ sm : SemLoc sig, sm.isScoped .tc = true := by decide

set_option backward.isDefEq.respectTransparency.types false in
/-- From any memory with the semaphores at zero the program terminates without a fault; then the arguments are unchanged,
    both results hold what the fold says, and every semaphore is at zero. -/
theorem run (ρ : Dev nD → PrngReg) : θ_run defs (onTc (τ := τ) (main (F := F))) ⟨m, fun _ => 0, ρ⟩ (fun r => (∀ c : Dev nD,
      r.2.mem ((c.tc : Thread nD τ).loc main_v157) = W19 m c (Proc.devRef .tc main_v157)
      ∧ r.2.mem ((c.tc : Thread nD τ).loc main_v146) = W19 m c (Proc.devRef .tc main_v146)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19))
      ∧ r.2.sem = fun _ => 0) :=
  Pipeline.θ_run_regions_kit_sems (pcfgs (F := F)) admO (pdats m) () cellOf_inj emb₁ defs₀ 𝒱₀ L lv m ρ main (segsO m)
    (fun c Q => by rw [main_run m c])
    (by simp only [segsO, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W19 m c b)
    (hfin := fun c s' => by
      iintro ⟨⟨Hh, -⟩, HSI⟩
      unfold StableHlo.held
      imodintro
      iapply (pointsTo_read_all (Pipeline.ucRefs τ sig) (fun b => (((c : Thread nD τ)).1, b)) (W19 m c) s')
      isplitl [Hh] <;> iassumption)
    (hQ := fun s h hz => ⟨(fun c =>
      ⟨h c _ (mem_uc main_v157 (by decide)), h c _ (mem_uc main_v146 (by decide)),
       (h c _ (mem_uc main_arg0 (by decide))).trans (W19_args m c main_arg0 (by decide)),
       (h c _ (mem_uc main_arg1 (by decide))).trans (W19_args m c main_arg1 (by decide)),
       (h c _ (mem_uc main_arg2 (by decide))).trans (W19_args m c main_arg2 (by decide)),
       (h c _ (mem_uc main_arg3 (by decide))).trans (W19_args m c main_arg3 (by decide)),
       (h c _ (mem_uc main_arg4 (by decide))).trans (W19_args m c main_arg4 (by decide)),
       (h c _ (mem_uc main_arg5 (by decide))).trans (W19_args m c main_arg5 (by decide)),
       (h c _ (mem_uc main_arg6 (by decide))).trans (W19_args m c main_arg6 (by decide)),
       (h c _ (mem_uc main_arg7 (by decide))).trans (W19_args m c main_arg7 (by decide)),
       (h c _ (mem_uc main_arg8 (by decide))).trans (W19_args m c main_arg8 (by decide)),
       (h c _ (mem_uc main_arg9 (by decide))).trans (W19_args m c main_arg9 (by decide)),
       (h c _ (mem_uc main_arg10 (by decide))).trans (W19_args m c main_arg10 (by decide)),
       (h c _ (mem_uc main_arg11 (by decide))).trans (W19_args m c main_arg11 (by decide)),
       (h c _ (mem_uc main_arg12 (by decide))).trans (W19_args m c main_arg12 (by decide)),
       (h c _ (mem_uc main_arg13 (by decide))).trans (W19_args m c main_arg13 (by decide)),
       (h c _ (mem_uc main_arg14 (by decide))).trans (W19_args m c main_arg14 (by decide)),
       (h c _ (mem_uc main_arg15 (by decide))).trans (W19_args m c main_arg15 (by decide)),
       (h c _ (mem_uc main_arg16 (by decide))).trans (W19_args m c main_arg16 (by decide)),
       (h c _ (mem_uc main_arg17 (by decide))).trans (W19_args m c main_arg17 (by decide)),
       (h c _ (mem_uc main_arg18 (by decide))).trans (W19_args m c main_arg18 (by decide)),
       (h c _ (mem_uc main_arg19 (by decide))).trans (W19_args m c main_arg19 (by decide))⟩), funext fun g => hz g (.inr (no_unscoped g.2))⟩)

end Cert.KernelIdeal.Own

end
-- ==== Proof.Val.Math.lean ====
module

public import Idealize.ShloMosaic.Lib.Pointwise

@[expose] public section

noncomputable section

/-! # The layer over the real numbers

The graph layer as functions of real matrices, and the real-number identities between the way the kernel takes its
batch statistics (sums and sums of squares, the message ones through occurrence counts) and the plain ones. -/

namespace Cert.Val

open Finset

/-- The rows of `x` times the transpose of `w`. -/
def lin {n k : ℕ} (x : Fin n → Fin k → ℝ) (w : Fin 128 → Fin k → ℝ) (e : Fin n) (h : Fin 128) : ℝ :=
  ∑ j, x e j * w h j

/-- The column means. -/
def mean {n : ℕ} (z : Fin n → Fin 128 → ℝ) (h : Fin 128) : ℝ := (∑ e, z e h) / (n : ℝ)

/-- The column variances: the mean squared distance from the column's mean. -/
def var {n : ℕ} (z : Fin n → Fin 128 → ℝ) (h : Fin 128) : ℝ :=
  (∑ e, (z e h - mean z h) * (z e h - mean z h)) / (n : ℝ)

/-- Batch normalization with scale `g` and shift `b`, then the positive part. -/
def bn {n : ℕ} (ε : ℝ) (z : Fin n → Fin 128 → ℝ) (g b : Fin 128 → ℝ) (e : Fin n) (h : Fin 128) : ℝ :=
  max (g h * (z e h - mean z h) / Real.sqrt (var z h + ε) + b h) 0

/-- A variance is not negative. -/
theorem var_nonneg {n : ℕ} (z : Fin n → Fin 128 → ℝ) (h : Fin 128) : 0 ≤ var z h :=
  div_nonneg (sum_nonneg fun _ _ => mul_self_nonneg _) (Nat.cast_nonneg _)

/-- The mean square less the squared mean is the variance. -/
theorem var_eq {n : ℕ} (hn : 0 < n) (z : Fin n → Fin 128 → ℝ) (h : Fin 128) :
    (∑ e, z e h * z e h) / (n : ℝ) - mean z h * mean z h = var z h := by
  have hn' : (n : ℝ) ≠ 0 := by exact_mod_cast hn.ne'
  have hs : ∑ e, z e h = n * mean z h := by unfold mean; field_simp
  have e1 : ∑ e, (z e h - mean z h) * (z e h - mean z h)
      = ∑ e, z e h * z e h - 2 * mean z h * ∑ e, z e h + n * (mean z h * mean z h) := by
    have : ∀ e, (z e h - mean z h) * (z e h - mean z h) = z e h * z e h - 2 * mean z h * z e h + mean z h * mean z h :=
      fun e => by ring
    simp only [this, sum_add_distrib, sum_sub_distrib, ← mul_sum, sum_const, card_univ, Fintype.card_fin, nsmul_eq_mul]
    ring
  unfold var
  rw [e1, hs]
  field_simp
  ring

/-- The scaled and shifted form that the kernel applies, `z·a + (b − a·m)`, is the normalization. -/
theorem bn_affine {n : ℕ} {ε : ℝ} (z : Fin n → Fin 128 → ℝ) (g b : Fin 128 → ℝ) (e : Fin n) (h : Fin 128) :
    max (z e h * (g h * (Real.sqrt (var z h + ε))⁻¹) + (b h - g h * (Real.sqrt (var z h + ε))⁻¹ * mean z h)) 0
      = bn ε z g b e h := by
  unfold bn
  congr 1
  rw [div_eq_mul_inv]; ring

/-- The same with the scale in front. -/
theorem bn_affine' {n : ℕ} {ε : ℝ} (z : Fin n → Fin 128 → ℝ) (g b : Fin 128 → ℝ) (e : Fin n) (h : Fin 128) :
    max (g h * (Real.sqrt (var z h + ε))⁻¹ * z e h + (b h - g h * (Real.sqrt (var z h + ε))⁻¹ * mean z h)) 0
      = bn ε z g b e h := by
  rw [← bn_affine]; congr 2; ring

/-- The centred form that the node kernel applies. -/
theorem bn_centred {n : ℕ} {ε : ℝ} (z : Fin n → Fin 128 → ℝ) (g b : Fin 128 → ℝ) (e : Fin n) (h : Fin 128) :
    max (g h * (Real.sqrt (var z h + ε))⁻¹ * (z e h - mean z h) + b h) 0 = bn ε z g b e h := by
  unfold bn
  congr 2
  rw [div_eq_mul_inv]; ring

/-- The rows that `i` sends to `r`, added up. -/
def seg {M N : ℕ} {C : Type} (i : Fin M → Fin N) (u : Fin M → C → ℝ) (r : Fin N) (c : C) : ℝ :=
  ∑ k ∈ univ.filter (fun k => i k = r), u k c

/-- How often `i` takes the value `r`. -/
def cnt {M N : ℕ} (i : Fin M → Fin N) (r : Fin N) : ℝ := ∑ _k ∈ univ.filter (fun k => i k = r), (1 : ℝ)

/-- Summing a function of the target over the targets, weighted by counts, is summing it over the sources. -/
theorem sum_cnt {M N : ℕ} (i : Fin M → Fin N) (f : Fin N → ℝ) : ∑ r, cnt i r * f r = ∑ k, f (i k) := by
  rw [← sum_fiberwise univ i fun k => f (i k)]
  refine sum_congr rfl fun r _ => ?_
  unfold cnt
  rw [sum_mul]
  refine sum_congr rfl fun k hk => ?_
  rw [one_mul, (mem_filter.1 hk).2]

/-- The same for a segment sum against a function of the target. -/
theorem sum_seg {M N : ℕ} {C : Type} (i : Fin M → Fin N) (u : Fin M → C → ℝ) (c : C) (f : Fin N → ℝ) :
    ∑ r, seg i u r c * f r = ∑ k, u k c * f (i k) := by
  rw [← sum_fiberwise univ i fun k => u k c * f (i k)]
  refine sum_congr rfl fun r _ => ?_
  unfold seg
  rw [sum_mul]
  refine sum_congr rfl fun k hk => ?_
  rw [(mem_filter.1 hk).2]

/-- A segment sum over all targets is the sum over all sources. -/
theorem sum_seg_one {M N : ℕ} {C : Type} (i : Fin M → Fin N) (u : Fin M → C → ℝ) (c : C) :
    ∑ r, seg i u r c = ∑ k, u k c := by
  have := sum_seg i u c fun _ => 1
  simpa using this

section Message

variable {M N E : ℕ} (i0 : Fin M → Fin N) (i1 : Fin M → Fin E) (node : Fin N → Fin 128 → ℝ)
  (Wa : Fin 128 → Fin 128 → ℝ) (Q : Fin E → Fin 128 → ℝ)

/-- A message before its normalization: the node's part and the edge's part. -/
def pre (k : Fin M) (h : Fin 128) : ℝ := lin node Wa (i0 k) h + Q (i1 k) h

/-- The node features lifted to the edges: at each edge the sum over the messages to it. -/
def lift (e : Fin E) (h : Fin 128) : ℝ := seg i1 (fun k => node (i0 k)) e h

/-- The message mean through the lifted features and the edge counts. -/
theorem mean_pre (h : Fin 128) :
    ((∑ j, (∑ e, lift i0 i1 node e j) * Wa h j) + ∑ e, cnt i1 e * Q e h) / (M : ℝ) = mean (pre i0 i1 node Wa Q) h := by
  unfold mean pre lift
  congr 1
  rw [sum_cnt i1 fun e => Q e h, sum_add_distrib]
  congr 1
  simp only [sum_seg_one, sum_mul, lin]
  rw [sum_comm]

/-- The message mean square through the counts and the lifted features against the edge parts. -/
theorem ex2_pre (h : Fin 128) :
    (∑ n, cnt i0 n * (lin node Wa n h * lin node Wa n h)) + (∑ e, cnt i1 e * (Q e h * Q e h))
        + 2 * (∑ j, Wa h j * ∑ e, lift i0 i1 node e j * Q e h)
      = ∑ k, pre i0 i1 node Wa Q k h * pre i0 i1 node Wa Q k h := by
  have hc : ∑ j, Wa h j * ∑ e, lift i0 i1 node e j * Q e h = ∑ k, lin node Wa (i0 k) h * Q (i1 k) h := by
    unfold lift
    simp only [sum_seg i1 (fun k => node (i0 k)) _ fun e => Q e h, mul_sum, lin, sum_mul]
    rw [sum_comm]
    refine sum_congr rfl fun k _ => sum_congr rfl fun j _ => by ring
  rw [hc, sum_cnt i0 fun n => lin node Wa n h * lin node Wa n h, sum_cnt i1 fun e => Q e h * Q e h, mul_sum,
    ← sum_add_distrib, ← sum_add_distrib]
  refine sum_congr rfl fun k _ => ?_
  unfold pre; ring

end Message

/-- The first `128` and the last `128` columns of `W` against the two halves of a concatenated row. -/
theorem lin_concat {M N E : ℕ} (i0 : Fin M → Fin N) (i1 : Fin M → Fin E) (node : Fin N → Fin 128 → ℝ)
    (edge : Fin E → Fin 128 → ℝ) (W : Fin 128 → Fin 256 → ℝ) (k : Fin M) (h : Fin 128) :
    ∑ j : Fin 256, (if hj : j.val < 128 then node (i0 k) ⟨j.val, hj⟩ else edge (i1 k) ⟨j.val - 128, by omega⟩) * W h j
      = pre i0 i1 node (fun h j => W h ⟨j.val, by omega⟩) (lin edge fun h j => W h ⟨128 + j.val, by omega⟩) k h := by
  unfold pre lin
  rw [show (∑ j : Fin 256, (if hj : j.val < 128 then node (i0 k) ⟨j.val, hj⟩ else edge (i1 k) ⟨j.val - 128, by omega⟩) * W h j)
      = ∑ j : Fin (128 + 128), (if hj : j.val < 128 then node (i0 k) ⟨j.val, hj⟩ else edge (i1 k) ⟨j.val - 128, by omega⟩) * W h j
      from rfl, Fin.sum_univ_add]
  refine congrArg₂ (· + ·) (sum_congr rfl fun j _ => ?_) (sum_congr rfl fun j _ => ?_)
  · have : (Fin.castAdd 128 j).val < 128 := j.isLt
    rw [dif_pos this]; rfl
  · have : ¬ (Fin.natAdd 128 j).val < 128 := by simp
    rw [dif_neg this]
    refine congrArg (fun q => edge (i1 k) q * W h (Fin.natAdd 128 j)) (Fin.ext ?_)
    simp

end Cert.Val
-- ==== Proof.Val.Ops.lean ====
module

public import Idealize.ShloMosaic.Lib.Pointwise
public import Idealize.ShloMosaic.Lib.IdealHost
public import Idealize.ShloMosaic.Lib.ReduceAll
public import Idealize.ShloMosaic.Lib.WordCmp
public import Idealize.ShloMosaic.Lib.Routing.Ops
public import Idealize.ShloMosaic.Lib.Routing.OpsPair
public import Idealize.ShloMosaic.Lib.Routing.OpsSet
public import proofs.«01_k».proof.Proof.Val.Math

@[expose] public section

set_option maxRecDepth 16384

noncomputable section

/-! # The operations on arrays of real numbers

Each operation of the two programs read at an index, where its operands are (coercions of) real arrays. -/

namespace Cert.Val

open Idealize.ShloMosaic Finset

/-- The matrix `x` holds the real numbers `r`. -/
def R2 {a b : ℕ} (x : (⟨2, ![a, b]⟩ : Shape).Idx → EReal) (r : Fin a → Fin b → ℝ) : Prop :=
  ∀ i j, x (ix2 i j) = ((r i j : ℝ) : EReal)

/-- The vector `x` holds the real numbers `r`. -/
def R1 {a : ℕ} (x : (⟨1, ![a]⟩ : Shape).Idx → EReal) (r : Fin a → ℝ) : Prop :=
  ∀ i, x (ix1 i) = ((r i : ℝ) : EReal)

/-- The two spellings of an index of a matrix. -/
theorem ix2_val {a b : ℕ} (i : Fin a) (j : Fin b) : ix2 i j = ValueIdx.ix2 i j := by
  funext d
  match d with
  | ⟨0, _⟩ => rfl
  | ⟨1, _⟩ => rfl

/-- The two spellings of an index of a vector. -/
theorem ix1_val {a : ℕ} (i : Fin a) : ix1 i = ValueIdx.ix1 i := by
  funext d
  match d with
  | ⟨0, _⟩ => rfl

/-- A sum of coercions is the coercion of the sum. -/
theorem coe_sum {ι : Type} (s : Finset ι) (f : ι → ℝ) : ∑ i ∈ s, ((f i : ℝ) : EReal) = ((∑ i ∈ s, f i : ℝ) : EReal) := by
  classical
  induction s using Finset.induction_on with
  | empty => simp
  | insert a s ha ih => rw [sum_insert ha, sum_insert ha, ih, EReal.coe_add]

/-- The positive part of a real number. -/
theorem coe_max (a b : ℝ) : max (a : EReal) (b : EReal) = ((max a b : ℝ) : EReal) :=
  (EReal.coe_strictMono.monotone.map_max).symm

/-- The bit pattern of `640000`. -/
theorem word_M : Ideal.ofBits .f32 0x491C4000#32 = ((640000 : ℝ) : EReal) := by
  simp [Ideal.ofBits, Ideal.ieee]; rw [← EReal.coe_mul]; norm_num

/-- The bit pattern of `10000`. -/
theorem word_N : Ideal.ofBits .f32 0x461C4000#32 = ((10000 : ℝ) : EReal) := by
  simp [Ideal.ofBits, Ideal.ieee]; rw [← EReal.coe_mul]; norm_num

/-- The bit pattern of `320000`. -/
theorem word_E : Ideal.ofBits .f32 0x489C4000#32 = ((320000 : ℝ) : EReal) := by
  simp [Ideal.ofBits, Ideal.ieee]; rw [← EReal.coe_mul]; norm_num

/-- The bit pattern of `2`. -/
theorem word_two : Ideal.ofBits .f32 0x40000000#32 = ((2 : ℝ) : EReal) := by
  simp [Ideal.ofBits, Ideal.ieee]; rw [← EReal.coe_mul]; norm_num

/-- The real number that the added constant of the normalizations is: the `f32` nearest `1e-5`. -/
def eps : ℝ := 10995116 / 1099511627776

/-- The constant added to a variance is positive. -/
theorem eps_pos : 0 < eps := by unfold eps; norm_num

/-- The bit pattern of that constant. -/
theorem word_eps : Ideal.ofBits .f32 0x3727C5AC#32 = ((eps : ℝ) : EReal) := by
  unfold eps
  simp [Ideal.ofBits, Ideal.ieee]; rw [← EReal.coe_mul]; norm_num

/-- A real number divided by a real number that is not zero. -/
theorem div_real (x y : ℝ) (hy : y ≠ 0) : Ideal.div (x : EReal) (y : EReal) = ((x / y : ℝ) : EReal) := by
  rw [Ideal.div_coe hy, ← EReal.coe_mul, mul_one_div]

/-- The square root of a positive real number. -/
theorem sqrt_real (x : ℝ) (hx : 0 ≤ x) : Ideal.sqrt (x : EReal) = ((Real.sqrt x : ℝ) : EReal) := by
  rw [Ideal.sqrt_coe, if_neg (not_lt.2 hx)]

/-- The reciprocal square root of a positive real number. -/
theorem rsqrt_real (x : ℝ) (hx : 0 < x) : Ideal.rsqrt (x : EReal) = (((Real.sqrt x)⁻¹ : ℝ) : EReal) := by
  rw [Ideal.rsqrt_coe, if_neg (not_lt.2 hx.le), if_neg hx.ne']

/-! ## The scatters that add -/

section Scatter

variable {N C M : ℕ}

/-- Where update row `k`, column `c'` of a row scatter lands: at the row that the index word, read signed, names,
    in the same column. -/
theorem lands_rows (d : ScatterDims ⟨2, ![N, C]⟩ ⟨2, ![M, 1]⟩ ⟨2, ![M, C]⟩) (hu : d.updateWindowDims = [1])
    (hi : d.insertedWindowDims = [0]) (hs : d.scatterDimsToOperandDims = [0]) (hv : d.indexVectorDim = 1)
    (idx : IVec ⟨2, ![M, 1]⟩ 32) (k : Fin M) (c' : Fin C) (r : Fin N) (c : Fin C) :
    d.resultIdx? (ix2 k c') idx = some (ix2 r c) ↔ (idx (ix2 k (0 : Fin 1))).toInt = (r.val : Int) ∧ c' = c := by
  obtain ⟨uw, iw, sd, iv, wf⟩ := d
  subst hu hi hs hv
  rw [ix2_val r c]
  refine (Routing.resultIdx?_ix2 (R := N) (C := C) _ _ idx r c).trans ?_
  have h0 : ScatterDims.start ⟨[1], [0], [0], 1, wf⟩ (ix2 k c') idx 0 = (idx (ix2 k (0 : Fin 1))).toInt := by
    unfold ScatterDims.start
    rw [dif_pos (List.mem_singleton.2 rfl)]
    refine congrArg (fun q => (idx q).toInt) (funext fun b => Fin.ext ?_)
    match b with
    | ⟨0, _⟩ => rfl
    | ⟨1, _⟩ => rfl
  have h1 : ScatterDims.start ⟨[1], [0], [0], 1, wf⟩ (ix2 k c') idx 1 = 0 := by
    unfold ScatterDims.start
    rw [dif_neg (by simp)]
  have w0 : ScatterDims.window ⟨[1], [0], [0], 1, wf⟩ (ix2 k c') 0 = 0 := rfl
  have w1 : ScatterDims.window ⟨[1], [0], [0], 1, wf⟩ (ix2 k c') 1 = c'.val := rfl
  rw [h0, h1, w0, w1]
  constructor
  · rintro ⟨a, b⟩; exact ⟨by simpa using a, Fin.ext (by simpa using b)⟩
  · rintro ⟨a, rfl⟩; exact ⟨by simpa using a, by simp⟩

/-- Where update `k` of a scatter of scalars lands: at the entry that its index word, read signed, names. -/
theorem lands_vec (d : ScatterDims ⟨1, ![N]⟩ ⟨2, ![M, 1]⟩ ⟨1, ![M]⟩) (hu : d.updateWindowDims = [])
    (hi : d.insertedWindowDims = [0]) (hs : d.scatterDimsToOperandDims = [0]) (hv : d.indexVectorDim = 1)
    (idx : IVec ⟨2, ![M, 1]⟩ 32) (k : Fin M) (r : Fin N) :
    d.resultIdx? (ix1 k) idx = some (ix1 r) ↔ (idx (ix2 k (0 : Fin 1))).toInt = (r.val : Int) := by
  obtain ⟨uw, iw, sd, iv, wf⟩ := d
  subst hu hi hs hv
  rw [ix1_val r]
  refine (Routing.resultIdx?_ix1 (N := N) _ _ idx r).trans ?_
  have h0 : ScatterDims.start ⟨[], [0], [0], 1, wf⟩ (ix1 k) idx 0 = (idx (ix2 k (0 : Fin 1))).toInt := by
    unfold ScatterDims.start
    rw [dif_pos (List.mem_singleton.2 rfl)]
    refine congrArg (fun q => (idx q).toInt) (funext fun b => Fin.ext ?_)
    match b with
    | ⟨0, _⟩ => rfl
    | ⟨1, _⟩ => rfl
  have w0 : ScatterDims.window ⟨[], [0], [0], 1, wf⟩ (ix1 k) 0 = 0 := rfl
  rw [h0, w0]
  simp

/-- A row number below `2 ^ 31`, as a word, is not negative when it is read signed. -/
theorem toInt_row (n : ℕ) (hn : n < 2 ^ 31) : (BitVec.ofNat 32 n).toInt = (n : Int) := by
  rw [BitVec.toInt_eq_toNat_of_lt (by rw [BitVec.toNat_ofNat, Nat.mod_eq_of_lt (by omega)]; omega), BitVec.toNat_ofNat,
    Nat.mod_eq_of_lt (by omega)]

/-- The index words `idx` (a column) name the rows `i`. -/
def Names (idx : IVec ⟨2, ![M, 1]⟩ 32) (i : Fin M → Fin N) : Prop :=
  ∀ k, idx (ix2 k (0 : Fin 1)) = BitVec.ofNat 32 (i k).val

/-- Read signed, such a word is the row. -/
theorem Names.int {idx : IVec ⟨2, ![M, 1]⟩ 32} {i : Fin M → Fin N} (h : Names idx i) (hN : N < 2 ^ 31) (k : Fin M) :
    (idx (ix2 k (0 : Fin 1))).toInt = ((i k).val : Int) := by
  rw [h k, toInt_row _ (by have := (i k).isLt; omega)]

/-- A row scatter that adds, over zeros, is the segment sum of its updates. -/
theorem scatter_rows (d : ScatterDims ⟨2, ![N, C]⟩ ⟨2, ![M, 1]⟩ ⟨2, ![M, C]⟩) (hu : d.updateWindowDims = [1])
    (hi : d.insertedWindowDims = [0]) (hs : d.scatterDimsToOperandDims = [0]) (hv : d.indexVectorDim = 1)
    (x : FVec Ideal ⟨2, ![N, C]⟩ .f32) (hx : ∀ i, x i = 0) (idx : IVec ⟨2, ![M, 1]⟩ 32) (i : Fin M → Fin N)
    (hidx : Names idx i) (hN : N < 2 ^ 31) (upd : FVec Ideal ⟨2, ![M, C]⟩ .f32) (u : Fin M → Fin C → ℝ) (hupd : R2 upd u) :
    R2 (Host.scatterAdd d x idx upd) (seg i u) := by
  intro r c
  show x (ix2 r c) + ∑ j ∈ univ.filter (fun j => d.resultIdx? j idx = some (ix2 r c)), upd j = _
  rw [hx, zero_add]
  unfold seg
  rw [← coe_sum]
  symm
  refine sum_bij (fun k _ => ix2 k c) (fun k hk => ?_) (fun k _ k' _ e => ((ix2_inj _ _ _ _).1 e).1) (fun j hj => ?_)
    (fun k _ => (hupd k c).symm)
  · rw [mem_filter, lands_rows d hu hi hs hv]
    refine ⟨mem_univ _, ?_, rfl⟩
    rw [hidx.int hN k, (mem_filter.1 hk).2]
  · obtain ⟨k, c', rfl⟩ : ∃ (k : Fin M) (c' : Fin C), j = ix2 k c' := ⟨j 0, j 1, eq_ix2 j⟩
    rw [mem_filter, lands_rows d hu hi hs hv, hidx.int hN] at hj
    exact ⟨k, mem_filter.2 ⟨mem_univ _, Fin.ext (by exact_mod_cast hj.2.1)⟩, by rw [hj.2.2]⟩

/-- A scatter of ones that adds, over zeros, counts. -/
theorem scatter_ones (d : ScatterDims ⟨1, ![N]⟩ ⟨2, ![M, 1]⟩ ⟨1, ![M]⟩) (hu : d.updateWindowDims = [])
    (hi : d.insertedWindowDims = [0]) (hs : d.scatterDimsToOperandDims = [0]) (hv : d.indexVectorDim = 1)
    (x : FVec Ideal ⟨1, ![N]⟩ .f32) (hx : ∀ i, x i = 0) (idx : IVec ⟨2, ![M, 1]⟩ 32) (i : Fin M → Fin N)
    (hidx : Names idx i) (hN : N < 2 ^ 31) (upd : FVec Ideal ⟨1, ![M]⟩ .f32) (hupd : ∀ k, upd k = 1) :
    R1 (Host.scatterAdd d x idx upd) (cnt i) := by
  intro r
  show x (ix1 r) + ∑ j ∈ univ.filter (fun j => d.resultIdx? j idx = some (ix1 r)), upd j = _
  rw [hx, zero_add]
  unfold cnt
  rw [← coe_sum]
  symm
  refine sum_bij (fun k _ => ix1 k) (fun k hk => ?_) (fun k _ k' _ e => (ix1_inj _ _).1 e) (fun j hj => ?_)
    (fun k _ => by rw [hupd]; rfl)
  · rw [mem_filter, lands_vec d hu hi hs hv]
    exact ⟨mem_univ _, by rw [hidx.int hN k, (mem_filter.1 hk).2]⟩
  · obtain ⟨k, rfl⟩ : ∃ k : Fin M, j = ix1 k := ⟨j 0, eq_ix1 j⟩
    rw [mem_filter, lands_vec d hu hi hs hv, hidx.int hN] at hj
    exact ⟨k, mem_filter.2 ⟨mem_univ _, Fin.ext (by exact_mod_cast hj.2)⟩, rfl⟩

end Scatter

/-! ## The row takes -/

section Take

variable {N : ℕ}

/-- The index words `v` (a vector) name the rows `i`. -/
def Names1 {M : ℕ} (v : IVec ⟨1, ![M]⟩ 32) (i : Fin M → Fin N) : Prop :=
  ∀ k, v (ix1 k) = BitVec.ofNat 32 (i k).val

/-- The wrap of negative indices leaves the words of rows as they are. -/
theorem wrap_row {M : ℕ} (hN : N < 2 ^ 31) (v z a : IVec ⟨1, ![M]⟩ 32) (hz : ∀ k, z k = 0#32) (i : Fin M → Fin N)
    (hv : Names1 v i) (k : Fin M) : select (cmpi .slt v z) a v (ix1 k) = BitVec.ofNat 32 (i k).val := by
  show Scalar.select (IntOp.cmpi .slt (v (ix1 k)) (z (ix1 k))) (a (ix1 k)) (v (ix1 k)) = _
  rw [hz, hv]
  refine Routing.wrap_of_lt _ _ ?_
  have := (i k).isLt
  rw [BitVec.toNat_ofNat, Nat.mod_eq_of_lt (by omega)]; omega

/-- A vector as a column. -/
theorem column_apply {M : ℕ} (v : IVec ⟨1, ![M]⟩ 32) (hb : (⟨1, ![M]⟩ : Shape).BroadcastsInDim ⟨2, ![M, 1]⟩ ![0]) (k : Fin M) :
    broadcastInDim ⟨2, ![M, 1]⟩ ![0] hb v (ix2 k (0 : Fin 1)) = v (ix1 k) := by
  refine congrArg v (funext fun d => Fin.ext ?_)
  match d with
  | ⟨0, _⟩ =>
    by_cases h : M = 1
    · subst h; show (0 : ℕ) = k.val; have := k.isLt; omega
    · show (if h : M = 1 then (⟨0, _⟩ : Fin M) else ⟨k.val, _⟩).val = k.val
      rw [dif_neg h]

/-- The words of rows as a column. -/
theorem names_column {M : ℕ} (v : IVec ⟨1, ![M]⟩ 32) (i : Fin M → Fin N) (hv : Names1 v i)
    (hb : (⟨1, ![M]⟩ : Shape).BroadcastsInDim ⟨2, ![M, 1]⟩ ![0]) : Names (broadcastInDim ⟨2, ![M, 1]⟩ ![0] hb v) i :=
  fun k => (column_apply v hb k).trans (hv k)

/-- The wrapped words of rows as a column. -/
theorem names_wrap {M : ℕ} (hN : N < 2 ^ 31) (v z a : IVec ⟨1, ![M]⟩ 32) (hz : ∀ k, z k = 0#32) (i : Fin M → Fin N)
    (hv : Names1 v i) (hb : (⟨1, ![M]⟩ : Shape).BroadcastsInDim ⟨2, ![M, 1]⟩ ![0]) :
    Names (broadcastInDim ⟨2, ![M, 1]⟩ ![0] hb (select (cmpi .slt v z) a v)) i :=
  names_column _ i (wrap_row hN v z a hz i hv) hb

/-- A take of rows, whose indices are row numbers, reads those rows. -/
theorem take_rows {M C : ℕ} (hN : N < 2 ^ 31) (d : GatherDims ⟨2, ![N, C]⟩ ⟨2, ![M, 1]⟩ ⟨2, ![M, C]⟩) (hoff : d.offsetDims = [1])
    (hcoll : d.collapsedSliceDims = [0]) (hob : d.operandBatchingDims = []) (hsim : d.startIndexMap = [0])
    (hivd : d.indexVectorDim = 1) (x : FVec Ideal ⟨2, ![N, C]⟩ .f32) (X : Fin N → Fin C → ℝ) (hx : R2 x X)
    (idx lo hi : IVec ⟨2, ![M, 1]⟩ 32) (i : Fin M → Fin N) (hidx : Names idx i) (hlo : ∀ j, lo j = 0#32)
    (hhi : ∀ j, hi j = BitVec.ofNat 32 (N - 1)) (nan : FVec Ideal ⟨2, ![M, C]⟩ .f32) {sc : Shape} (one : IVec sc 1) (hone : ∀ j, one j = 1#1)
    (hr : (⟨2, ![M, 1]⟩ : Shape).ReducesTo [1] ⟨1, ![M]⟩) (hsc : 0 < sc.numel)
    (hb : (⟨1, ![M]⟩ : Shape).BroadcastsInDim ⟨2, ![M, C]⟩ ![0]) :
    R2 (select (broadcastInDim ⟨2, ![M, C]⟩ ![0] hb (Host.reduce IntOp.andi (andi (cmpi .sge idx lo) (cmpi .sle idx hi)) one hr hsc))
      (Host.gather d x idx) nan) (fun k c => X (i k) c) := by
  intro k c
  have hm : ∀ j, Host.reduce IntOp.andi (andi (cmpi .sge idx lo) (cmpi .sle idx hi)) one hr hsc j = 1#1 := by
    intro j
    refine Host.reduce_andi_one _ _ _ _ _ (hone _) fun q => ?_
    obtain ⟨k, z, rfl⟩ : ∃ (k : Fin M) (z : Fin 1), q = ix2 k z := ⟨q 0, q 1, eq_ix2 q⟩
    obtain rfl : z = 0 := Subsingleton.elim _ _
    show IntOp.andi (IntOp.cmpi .sge (idx _) (lo _)) (IntOp.cmpi .sle (idx _) (hi _)) = 1#1
    rw [hlo, hhi, hidx k]
    have h1 := (i k).isLt
    have e0 : (0#32).toInt = 0 := rfl
    have e1 := toInt_row (i k).val (by omega)
    have e2 := toInt_row (N - 1) (by omega)
    rw [IntOp.andi_eq_one]
    constructor
    · rw [IntOp.cmpi_sge, e0, e1]; exact Int.natCast_nonneg _
    · rw [IntOp.cmpi_sle, e1, e2]; exact_mod_cast (by omega)
  rw [← hx]
  change (if _ = 1#1 then _ else _) = _
  refine (if_pos (hm _)).trans ?_
  show Host.gather d x idx (ix2 k c) = _
  rw [ix2_val k c, ix2_val (i k) c]
  refine Routing.gather_row d hoff hcoll hob hsim hivd x idx k c (i k) ?_ hN
  rw [← ix2_val]; exact hidx k

end Take

/-! ## Batch normalization -/

section Norm

/-- The reference's batch normalization, with the mean and the variance of the whole column. -/
theorem bn_apply {n : ℕ} (w : BitVec 32) (hw : Ideal.ofBits .f32 w = ((n : ℝ) : EReal)) (hn : 0 < n)
    (z : FVec Ideal ⟨2, ![n, 128]⟩ .f32) (Z : Fin n → Fin 128 → ℝ) (hz : R2 z Z)
    (g b : FVec Ideal ⟨1, ![128]⟩ .f32) (G B : Fin 128 → ℝ) (hg : R1 g G) (hb : R1 b B)
    (zc : FVec Ideal ⟨2, ![n, 128]⟩ .f32) (nn : FVec Ideal ⟨0, ![]⟩ .f32)
    (h1 : (⟨2, ![1, 128]⟩ : Shape).BroadcastsInDim ⟨2, ![n, 128]⟩ ![0, 1])
    (h2 : (⟨1, ![128]⟩ : Shape).BroadcastsInDim ⟨2, ![1, 128]⟩ ![1])
    (h3 : (⟨2, ![n, 128]⟩ : Shape).ReducesTo [0] ⟨1, ![128]⟩) (h4 : 0 < (⟨0, ![]⟩ : Shape).numel)
    (h5 : (⟨0, ![]⟩ : Shape).BroadcastsInDim ⟨2, ![1, 128]⟩ ![])
    (h6 : (⟨0, ![]⟩ : Shape).BroadcastsInDim ⟨1, ![128]⟩ ![])
    (h7 : (⟨0, ![]⟩ : Shape).BroadcastsInDim ⟨2, ![n, 128]⟩ ![])
    (hzc : zc = subf z (broadcastInDim ⟨2, ![n, 128]⟩ ![0, 1] h1 (Host.divf (broadcastInDim ⟨2, ![1, 128]⟩ ![1] h2 (Host.reduceAdd z (constant ⟨0, ![]⟩ .f32 0x00000000#32) h3 h4)) (broadcastInDim ⟨2, ![1, 128]⟩ ![] h5 (constant ⟨0, ![]⟩ .f32 w)))))
    (hnn : nn = subf (constant ⟨0, ![]⟩ .f32 w) (sitofp .f32 (constantI ⟨0, ![]⟩ 32 0#32))) :
    R2 (maximumf (addf (Host.divf (mulf (broadcastInDim ⟨2, ![n, 128]⟩ ![0, 1] h1 (broadcastInDim ⟨2, ![1, 128]⟩ ![1] h2 g)) (subf z (broadcastInDim ⟨2, ![n, 128]⟩ ![0, 1] h1 (broadcastInDim ⟨2, ![1, 128]⟩ ![1] h2 (Host.divf (Host.reduceAdd z (constant ⟨0, ![]⟩ .f32 0x00000000#32) h3 h4) (broadcastInDim ⟨1, ![128]⟩ ![] h6 (constant ⟨0, ![]⟩ .f32 w))))))) (broadcastInDim ⟨2, ![n, 128]⟩ ![0, 1] h1 (broadcastInDim ⟨2, ![1, 128]⟩ ![1] h2 (Host.sqrt (addf (select (broadcastInDim ⟨1, ![128]⟩ ![] h6 (cmpf .ogt nn (constant ⟨0, ![]⟩ .f32 0x00000000#32))) (Host.divf (Host.reduceAdd (mulf zc zc) (constant ⟨0, ![]⟩ .f32 0x00000000#32) h3 h4) (broadcastInDim ⟨1, ![128]⟩ ![] h6 nn)) (broadcastInDim ⟨1, ![128]⟩ ![] h6 (id (constant ⟨0, ![]⟩ .f32 0x7FC00000#32)))) (broadcastInDim ⟨1, ![128]⟩ ![] h6 (constant ⟨0, ![]⟩ .f32 0x3727C5AC#32))))))) (broadcastInDim ⟨2, ![n, 128]⟩ ![0, 1] h1 (broadcastInDim ⟨2, ![1, 128]⟩ ![1] h2 b))) (broadcastInDim ⟨2, ![n, 128]⟩ ![] h7 (constant ⟨0, ![]⟩ .f32 0x00000000#32)))
      (bn eps Z G B) := by
  have hn' : (n : ℝ) ≠ 0 := by exact_mod_cast hn.ne'
  have em : ∀ c, Ideal.div (∑ x, z (ix2 x c)) (Ideal.ofBits .f32 w) = ((mean Z c : ℝ) : EReal) := by
    intro c
    simp only [hz _ _]
    rw [coe_sum, hw, div_real _ _ hn']; rfl
  have e1 : ∀ k c, zc (ix2 k c) = ((Z k c - mean Z c : ℝ) : EReal) := by
    intro k c
    subst hzc
    pointwise
    rw [em, hz, EReal.coe_sub]
  have e2 : ∀ j, nn j = ((n : ℝ) : EReal) := by
    intro j
    subst hnn
    pointwise
    show Ideal.ofBits .f32 w - (((0#32 : BitVec 32).toInt : ℝ) : EReal) = _
    rw [hw]; simp
  intro k c
  pointwise
  rw [em, e2, if_pos (by exact_mod_cast hn)]
  simp only [e1, hz _ _, hg _, hb _, ← EReal.coe_mul]
  rw [coe_sum, div_real _ _ hn', word_eps, ← EReal.coe_add]
  have hv : 0 < var Z c + eps := add_pos_of_nonneg_of_pos (var_nonneg Z c) eps_pos
  rw [show (∑ x, (Z x c - mean Z c) * (Z x c - mean Z c)) / (n : ℝ) = var Z c from rfl, sqrt_real _ hv.le, ← EReal.coe_sub,
    ← EReal.coe_mul, div_real _ _ (Real.sqrt_pos.2 hv).ne', ← EReal.coe_add, ← EReal.coe_zero, coe_max]
  rfl

end Norm

end Cert.Val
-- ==== Proof.Val.Data.lean ====
module

public import proofs.«01_k».proof.Proof.Val.Ops

@[expose] public section

noncomputable section

/-! # The layer over the real numbers

The arguments as real numbers and row numbers, and what the layer computes of them. -/

namespace Cert.Val

open Idealize.ShloMosaic Finset

/-- The layer's arguments: real arrays, and for each of the 640000 messages its node and its edge. -/
structure Data where
  node : Fin 10000 → Fin 128 → ℝ
  edge : Fin 320000 → Fin 128 → ℝ
  n0 : Fin 640000 → Fin 10000
  n1 : Fin 640000 → Fin 320000
  W1 : Fin 128 → Fin 256 → ℝ
  g1 : Fin 128 → ℝ
  b1 : Fin 128 → ℝ
  W2a : Fin 128 → Fin 128 → ℝ
  g2a : Fin 128 → ℝ
  b2a : Fin 128 → ℝ
  W2b : Fin 128 → Fin 128 → ℝ
  g2b : Fin 128 → ℝ
  b2b : Fin 128 → ℝ
  Wla : Fin 128 → Fin 128 → ℝ
  gla : Fin 128 → ℝ
  bla : Fin 128 → ℝ
  Wlb : Fin 128 → Fin 128 → ℝ
  glb : Fin 128 → ℝ
  blb : Fin 128 → ℝ
  e1 : ℝ
  e2 : ℝ

namespace Data

variable (D : Data)

/-- The half of the message weights that meets the node. -/
def Wa (h : Fin 128) (j : Fin 128) : ℝ := D.W1 h ⟨j.val, by omega⟩

/-- The half of the message weights that meets the edge. -/
def Wb (h : Fin 128) (j : Fin 128) : ℝ := D.W1 h ⟨128 + j.val, by omega⟩

/-- The messages before normalization. -/
def prem : Fin 640000 → Fin 128 → ℝ := pre D.n0 D.n1 D.node D.Wa (lin D.edge D.Wb)

/-- The messages. -/
def msg : Fin 640000 → Fin 128 → ℝ := bn eps D.prem D.g1 D.b1

/-- The node features summed at each edge. -/
def lifted : Fin 320000 → Fin 128 → ℝ := lift D.n0 D.n1 D.node

/-- The messages summed at each edge. -/
def atEdge : Fin 320000 → Fin 128 → ℝ := seg D.n1 D.msg

/-- The other messages of a message's edge. -/
def other (k : Fin 640000) (c : Fin 128) : ℝ := D.atEdge (D.n1 k) c - D.msg k c

/-- Their sum at each node. -/
def atNode : Fin 10000 → Fin 128 → ℝ := seg D.n0 D.other

/-- What enters the node layers. -/
def nodeIn (i : Fin 10000) (c : Fin 128) : ℝ := (1 + D.e1) * D.node i c + D.atNode i c

/-- The first node layer before normalization. -/
def nodeA : Fin 10000 → Fin 128 → ℝ := lin D.nodeIn D.W2a

/-- The second node layer before normalization. -/
def nodeB : Fin 10000 → Fin 128 → ℝ := lin (bn eps D.nodeA D.g2a D.b2a) D.W2b

/-- The nodes that come out. -/
def nodeOut : Fin 10000 → Fin 128 → ℝ := bn eps D.nodeB D.g2b D.b2b

/-- What enters the edge layers. -/
def edgeIn (i : Fin 320000) (c : Fin 128) : ℝ := (1 + D.e2) * D.edge i c + D.lifted i c

/-- The first edge layer before normalization. -/
def edgeA : Fin 320000 → Fin 128 → ℝ := lin D.edgeIn D.Wla

/-- The second edge layer before normalization. -/
def edgeB : Fin 320000 → Fin 128 → ℝ := lin (bn eps D.edgeA D.gla D.bla) D.Wlb

/-- The edges that come out. -/
def edgeOut : Fin 320000 → Fin 128 → ℝ := bn eps D.edgeB D.glb D.blb

/-- The twenty argument arrays hold the data. -/
structure Holds (a0 : FVec Ideal ⟨2, ![10000, 128]⟩ .f32) (a1 : FVec Ideal ⟨2, ![320000, 128]⟩ .f32) (a2 : IVec ⟨2, ![2, 640000]⟩ 32)
    (a3 : FVec Ideal ⟨2, ![128, 256]⟩ .f32) (a4 a5 : FVec Ideal ⟨1, ![128]⟩ .f32)
    (a6 : FVec Ideal ⟨2, ![128, 128]⟩ .f32) (a7 a8 : FVec Ideal ⟨1, ![128]⟩ .f32)
    (a9 : FVec Ideal ⟨2, ![128, 128]⟩ .f32) (a10 a11 : FVec Ideal ⟨1, ![128]⟩ .f32)
    (a12 : FVec Ideal ⟨2, ![128, 128]⟩ .f32) (a13 a14 : FVec Ideal ⟨1, ![128]⟩ .f32)
    (a15 : FVec Ideal ⟨2, ![128, 128]⟩ .f32) (a16 a17 : FVec Ideal ⟨1, ![128]⟩ .f32)
    (a18 a19 : FVec Ideal ⟨0, ![]⟩ .f32) : Prop where
  h0 : R2 a0 D.node
  h1 : R2 a1 D.edge
  h20 : ∀ k, a2 (ix2 0 k) = BitVec.ofNat 32 (D.n0 k).val
  h21 : ∀ k, a2 (ix2 1 k) = BitVec.ofNat 32 (D.n1 k).val
  h3 : R2 a3 D.W1
  h4 : R1 a4 D.g1
  h5 : R1 a5 D.b1
  h6 : R2 a6 D.W2a
  h7 : R1 a7 D.g2a
  h8 : R1 a8 D.b2a
  h9 : R2 a9 D.W2b
  h10 : R1 a10 D.g2b
  h11 : R1 a11 D.b2b
  h12 : R2 a12 D.Wla
  h13 : R1 a13 D.gla
  h14 : R1 a14 D.bla
  h15 : R2 a15 D.Wlb
  h16 : R1 a16 D.glb
  h17 : R1 a17 D.blb
  h18 : ∀ j, a18 j = ((D.e1 : ℝ) : EReal)
  h19 : ∀ j, a19 j = ((D.e2 : ℝ) : EReal)

end Data

/-- The same real numbers, the same array. -/
theorem R2.eq {a b : ℕ} {x y : (⟨2, ![a, b]⟩ : Shape).Idx → EReal} {r : Fin a → Fin b → ℝ} (hx : R2 x r) (hy : R2 y r) : x = y := by
  funext q
  obtain ⟨i, j, rfl⟩ : ∃ (i : Fin a) (j : Fin b), q = ix2 i j := ⟨q 0, q 1, eq_ix2 q⟩
  rw [hx, hy]

end Cert.Val
-- ==== Proof.KernelIdeal.Keep.lean ====
/-
  The buffers that parts of the program leave as they are.
-/
module

public import proofs.«01_k».proof.Proof.KernelIdeal.Fold
public import proofs.«01_k».proof.Proof.Val.Data

@[expose] public section

set_option maxRecDepth 16384

noncomputable section

namespace Cert.KernelIdeal.Own

open Cert.KernelIdeal Cert.KernelIdeal.Gen Cert.Val Idealize.ShloMosaic Idealize.ShloMosaic.TcCoe Idealize.ShloMosaic.StableHlo Finset

variable (m : (ℓ : Loc nD τ sig) → Buf (Elt Ideal) ℓ)

/-- No part after 1 up to 2 writes `v1`. -/
theorem keep_v1_1_2 (c : Dev nD) : W2 m c (Proc.devRef .tc main_v1) = W1 m c (Proc.devRef .tc main_v1) :=
  (W2_of m c main_v1 (by decide +kernel))

/-- No part after 1 up to 2 writes `v3`. -/
theorem keep_v3_1_2 (c : Dev nD) : W2 m c (Proc.devRef .tc main_v3) = W1 m c (Proc.devRef .tc main_v3) :=
  (W2_of m c main_v3 (by decide +kernel))

/-- No part after 1 up to 2 writes `v26`. -/
theorem keep_v26_1_2 (c : Dev nD) : W2 m c (Proc.devRef .tc main_v26) = W1 m c (Proc.devRef .tc main_v26) :=
  (W2_of m c main_v26 (by decide +kernel))

/-- No part after 1 up to 2 writes `v16`. -/
theorem keep_v16_1_2 (c : Dev nD) : W2 m c (Proc.devRef .tc main_v16) = W1 m c (Proc.devRef .tc main_v16) :=
  (W2_of m c main_v16 (by decide +kernel))

/-- No part after 1 up to 2 writes `v25`. -/
theorem keep_v25_1_2 (c : Dev nD) : W2 m c (Proc.devRef .tc main_v25) = W1 m c (Proc.devRef .tc main_v25) :=
  (W2_of m c main_v25 (by decide +kernel))

/-- No part after 1 up to 3 writes `v4`. -/
theorem keep_v4_1_3 (c : Dev nD) : W3 m c (Proc.devRef .tc main_v4) = W1 m c (Proc.devRef .tc main_v4) :=
  ((W3_of m c main_v4 (by decide +kernel)).trans
    (W2_of m c main_v4 (by decide +kernel)))

/-- No part after 1 up to 4 writes `v5`. -/
theorem keep_v5_1_4 (c : Dev nD) : W4 m c (Proc.devRef .tc main_v5) = W1 m c (Proc.devRef .tc main_v5) :=
  ((W4_of m c main_v5 (by decide +kernel)).trans
    ((W3_of m c main_v5 (by decide +kernel)).trans
    (W2_of m c main_v5 (by decide +kernel))))

/-- No part after 3 up to 5 writes `v34`. -/
theorem keep_v34_3_5 (c : Dev nD) : W5 m c (Proc.devRef .tc main_v34) = W3 m c (Proc.devRef .tc main_v34) :=
  ((W5_of m c main_v34 (by decide +kernel)).trans
    (W4_of m c main_v34 (by decide +kernel)))

/-- No part after 3 up to 5 writes `v41`. -/
theorem keep_v41_3_5 (c : Dev nD) : W5 m c (Proc.devRef .tc main_v41) = W3 m c (Proc.devRef .tc main_v41) :=
  ((W5_of m c main_v41 (by decide +kernel)).trans
    (W4_of m c main_v41 (by decide +kernel)))

/-- No part after 1 up to 5 writes `v7`. -/
theorem keep_v7_1_5 (c : Dev nD) : W5 m c (Proc.devRef .tc main_v7) = W1 m c (Proc.devRef .tc main_v7) :=
  ((W5_of m c main_v7 (by decide +kernel)).trans
    ((W4_of m c main_v7 (by decide +kernel)).trans
    ((W3_of m c main_v7 (by decide +kernel)).trans
    (W2_of m c main_v7 (by decide +kernel)))))

/-- No part after 1 up to 6 writes `v4`. -/
theorem keep_v4_1_6 (c : Dev nD) : W6 m c (Proc.devRef .tc main_v4) = W1 m c (Proc.devRef .tc main_v4) :=
  ((W6_of m c main_v4 (by decide +kernel)).trans
    ((W5_of m c main_v4 (by decide +kernel)).trans
    ((W4_of m c main_v4 (by decide +kernel)).trans
    ((W3_of m c main_v4 (by decide +kernel)).trans
    (W2_of m c main_v4 (by decide +kernel))))))

/-- No part after 1 up to 4 writes `v42`. -/
theorem keep_v42_1_4_6 (c : Dev nD) : W6 m c (Proc.devRef .tc main_v42_1) = W4 m c (Proc.devRef .tc main_v42_1) :=
  ((W6_of m c main_v42_1 (by decide +kernel)).trans
    (W5_of m c main_v42_1 (by decide +kernel)))

/-- No part after 0 up to 4 writes `v42`. -/
theorem keep_v42_0_4_7 (c : Dev nD) : W7 m c (Proc.devRef .tc main_v42_0) = W4 m c (Proc.devRef .tc main_v42_0) :=
  ((W7_of m c main_v42_0 (by decide +kernel)).trans
    ((W6_of m c main_v42_0 (by decide +kernel)).trans
    (W5_of m c main_v42_0 (by decide +kernel))))

/-- No part after 1 up to 7 writes `v1`. -/
theorem keep_v1_1_7 (c : Dev nD) : W7 m c (Proc.devRef .tc main_v1) = W1 m c (Proc.devRef .tc main_v1) :=
  ((W7_of m c main_v1 (by decide +kernel)).trans
    ((W6_of m c main_v1 (by decide +kernel)).trans
    ((W5_of m c main_v1 (by decide +kernel)).trans
    ((W4_of m c main_v1 (by decide +kernel)).trans
    ((W3_of m c main_v1 (by decide +kernel)).trans
    (W2_of m c main_v1 (by decide +kernel)))))))

/-- No part after 5 up to 8 writes `v43`. -/
theorem keep_v43_5_8 (c : Dev nD) : W8 m c (Proc.devRef .tc main_v43) = W5 m c (Proc.devRef .tc main_v43) :=
  ((W8_of m c main_v43 (by decide +kernel)).trans
    ((W7_of m c main_v43 (by decide +kernel)).trans
    (W6_of m c main_v43 (by decide +kernel))))

/-- No part after 1 up to 8 writes `v3`. -/
theorem keep_v3_1_8 (c : Dev nD) : W8 m c (Proc.devRef .tc main_v3) = W1 m c (Proc.devRef .tc main_v3) :=
  ((W8_of m c main_v3 (by decide +kernel)).trans
    ((W7_of m c main_v3 (by decide +kernel)).trans
    ((W6_of m c main_v3 (by decide +kernel)).trans
    ((W5_of m c main_v3 (by decide +kernel)).trans
    ((W4_of m c main_v3 (by decide +kernel)).trans
    ((W3_of m c main_v3 (by decide +kernel)).trans
    (W2_of m c main_v3 (by decide +kernel))))))))

/-- No part after 8 up to 9 writes `v75`. -/
theorem keep_v75_8_9 (c : Dev nD) : W9 m c (Proc.devRef .tc main_v75) = W8 m c (Proc.devRef .tc main_v75) :=
  (W9_of m c main_v75 (by decide +kernel))

/-- No part after 7 up to 9 writes `v72`. -/
theorem keep_v72_7_9 (c : Dev nD) : W9 m c (Proc.devRef .tc main_v72) = W7 m c (Proc.devRef .tc main_v72) :=
  ((W9_of m c main_v72 (by decide +kernel)).trans
    (W8_of m c main_v72 (by decide +kernel)))

/-- No part after 7 up to 9 writes `v74`. -/
theorem keep_v74_7_9 (c : Dev nD) : W9 m c (Proc.devRef .tc main_v74) = W7 m c (Proc.devRef .tc main_v74) :=
  ((W9_of m c main_v74 (by decide +kernel)).trans
    (W8_of m c main_v74 (by decide +kernel)))

/-- No part after 1 up to 11 writes `v3`. -/
theorem keep_v3_1_11 (c : Dev nD) : W11 m c (Proc.devRef .tc main_v3) = W1 m c (Proc.devRef .tc main_v3) :=
  ((W11_of m c main_v3 (by decide +kernel)).trans
    ((W10_of m c main_v3 (by decide +kernel)).trans
    ((W9_of m c main_v3 (by decide +kernel)).trans
    ((W8_of m c main_v3 (by decide +kernel)).trans
    ((W7_of m c main_v3 (by decide +kernel)).trans
    ((W6_of m c main_v3 (by decide +kernel)).trans
    ((W5_of m c main_v3 (by decide +kernel)).trans
    ((W4_of m c main_v3 (by decide +kernel)).trans
    ((W3_of m c main_v3 (by decide +kernel)).trans
    (W2_of m c main_v3 (by decide +kernel)))))))))))

/-- No part after 1 up to 12 writes `v3`. -/
theorem keep_v3_1_12 (c : Dev nD) : W12 m c (Proc.devRef .tc main_v3) = W1 m c (Proc.devRef .tc main_v3) :=
  ((W12_of m c main_v3 (by decide +kernel)).trans
    ((W11_of m c main_v3 (by decide +kernel)).trans
    ((W10_of m c main_v3 (by decide +kernel)).trans
    ((W9_of m c main_v3 (by decide +kernel)).trans
    ((W8_of m c main_v3 (by decide +kernel)).trans
    ((W7_of m c main_v3 (by decide +kernel)).trans
    ((W6_of m c main_v3 (by decide +kernel)).trans
    ((W5_of m c main_v3 (by decide +kernel)).trans
    ((W4_of m c main_v3 (by decide +kernel)).trans
    ((W3_of m c main_v3 (by decide +kernel)).trans
    (W2_of m c main_v3 (by decide +kernel))))))))))))

/-- No part after 11 up to 13 writes `v84`. -/
theorem keep_v84_11_13 (c : Dev nD) : W13 m c (Proc.devRef .tc main_v84) = W11 m c (Proc.devRef .tc main_v84) :=
  ((W13_of m c main_v84 (by decide +kernel)).trans
    (W12_of m c main_v84 (by decide +kernel)))

/-- No part after 1 up to 13 writes `v1`. -/
theorem keep_v1_1_13 (c : Dev nD) : W13 m c (Proc.devRef .tc main_v1) = W1 m c (Proc.devRef .tc main_v1) :=
  ((W13_of m c main_v1 (by decide +kernel)).trans
    ((W12_of m c main_v1 (by decide +kernel)).trans
    ((W11_of m c main_v1 (by decide +kernel)).trans
    ((W10_of m c main_v1 (by decide +kernel)).trans
    ((W9_of m c main_v1 (by decide +kernel)).trans
    ((W8_of m c main_v1 (by decide +kernel)).trans
    ((W7_of m c main_v1 (by decide +kernel)).trans
    ((W6_of m c main_v1 (by decide +kernel)).trans
    ((W5_of m c main_v1 (by decide +kernel)).trans
    ((W4_of m c main_v1 (by decide +kernel)).trans
    ((W3_of m c main_v1 (by decide +kernel)).trans
    (W2_of m c main_v1 (by decide +kernel)))))))))))))

/-- No part after 12 up to 13 writes `v93`. -/
theorem keep_v93_12_13 (c : Dev nD) : W13 m c (Proc.devRef .tc main_v93) = W12 m c (Proc.devRef .tc main_v93) :=
  (W13_of m c main_v93 (by decide +kernel))

/-- No part after 1 up to 6 writes `v44`. -/
theorem keep_v44_1_6_13 (c : Dev nD) : W13 m c (Proc.devRef .tc main_v44_1) = W6 m c (Proc.devRef .tc main_v44_1) :=
  ((W13_of m c main_v44_1 (by decide +kernel)).trans
    ((W12_of m c main_v44_1 (by decide +kernel)).trans
    ((W11_of m c main_v44_1 (by decide +kernel)).trans
    ((W10_of m c main_v44_1 (by decide +kernel)).trans
    ((W9_of m c main_v44_1 (by decide +kernel)).trans
    ((W8_of m c main_v44_1 (by decide +kernel)).trans
    (W7_of m c main_v44_1 (by decide +kernel))))))))

/-- No part after 0 up to 6 writes `v44`. -/
theorem keep_v44_0_6_14 (c : Dev nD) : W14 m c (Proc.devRef .tc main_v44_0) = W6 m c (Proc.devRef .tc main_v44_0) :=
  ((W14_of m c main_v44_0 (by decide +kernel)).trans
    ((W13_of m c main_v44_0 (by decide +kernel)).trans
    ((W12_of m c main_v44_0 (by decide +kernel)).trans
    ((W11_of m c main_v44_0 (by decide +kernel)).trans
    ((W10_of m c main_v44_0 (by decide +kernel)).trans
    ((W9_of m c main_v44_0 (by decide +kernel)).trans
    ((W8_of m c main_v44_0 (by decide +kernel)).trans
    (W7_of m c main_v44_0 (by decide +kernel)))))))))

/-- No part after 0 up to 15 writes `v124`. -/
theorem keep_v124_0_15_16 (c : Dev nD) : W16 m c (Proc.devRef .tc main_v124_0) = W15 m c (Proc.devRef .tc main_v124_0) :=
  (W16_of m c main_v124_0 (by decide +kernel))

/-- No part after 14 up to 18 writes `v102`. -/
theorem keep_v102_14_18 (c : Dev nD) : W18 m c (Proc.devRef .tc main_v102) = W14 m c (Proc.devRef .tc main_v102) :=
  ((W18_of m c main_v102 (by decide +kernel)).trans
    ((W17_of m c main_v102 (by decide +kernel)).trans
    ((W16_of m c main_v102 (by decide +kernel)).trans
    (W15_of m c main_v102 (by decide +kernel)))))

/-- No part after 1 up to 18 writes `v6`. -/
theorem keep_v6_1_18 (c : Dev nD) : W18 m c (Proc.devRef .tc main_v6) = W1 m c (Proc.devRef .tc main_v6) :=
  ((W18_of m c main_v6 (by decide +kernel)).trans
    ((W17_of m c main_v6 (by decide +kernel)).trans
    ((W16_of m c main_v6 (by decide +kernel)).trans
    ((W15_of m c main_v6 (by decide +kernel)).trans
    ((W14_of m c main_v6 (by decide +kernel)).trans
    ((W13_of m c main_v6 (by decide +kernel)).trans
    ((W12_of m c main_v6 (by decide +kernel)).trans
    ((W11_of m c main_v6 (by decide +kernel)).trans
    ((W10_of m c main_v6 (by decide +kernel)).trans
    ((W9_of m c main_v6 (by decide +kernel)).trans
    ((W8_of m c main_v6 (by decide +kernel)).trans
    ((W7_of m c main_v6 (by decide +kernel)).trans
    ((W6_of m c main_v6 (by decide +kernel)).trans
    ((W5_of m c main_v6 (by decide +kernel)).trans
    ((W4_of m c main_v6 (by decide +kernel)).trans
    ((W3_of m c main_v6 (by decide +kernel)).trans
    (W2_of m c main_v6 (by decide +kernel))))))))))))))))))

/-- No part after 17 up to 19 writes `v146`. -/
theorem keep_v146_17_19 (c : Dev nD) : W19 m c (Proc.devRef .tc main_v146) = W17 m c (Proc.devRef .tc main_v146) :=
  ((W19_of m c main_v146 (by decide +kernel)).trans
    (W18_of m c main_v146 (by decide +kernel)))

end Cert.KernelIdeal.Own
-- ==== Proof.KernelIdeal.HostA.lean ====
/-
  The first host operations: the index words, the halves of the weight, the counts.
-/
module

public import proofs.«01_k».proof.Proof.Gen.KernelIdeal.Launch
public import proofs.«01_k».proof.Proof.Val.Data
public import Idealize.ShloMosaic.Lib.StableHlo.ReadAt
public import Idealize.ShloMosaic.Lib.Pointwise

@[expose] public section

set_option maxRecDepth 16384

noncomputable section

namespace Cert.KernelIdeal.Own

open Cert.KernelIdeal Cert.KernelIdeal.Gen Cert.Val Idealize.ShloMosaic Idealize.ShloMosaic.TcCoe Idealize.ShloMosaic.StableHlo Finset

variable (V : Valuation τ sig (Elt Ideal))

/-- The node numbers of the messages. -/
theorem hA_v1 (i0 : Fin 640000 → Fin 10000) (h : ∀ k, V (Proc.devRef .tc main_arg2) (ix2 0 k) = BitVec.ofNat 32 (i0 k).val) :
    Names1 (after (hostOps0 (F := Ideal)) V (Proc.devRef .tc main_v1)) i0 := by
  intro k
  after_reads_at
  exact h k

/-- The edge numbers of the messages. -/
theorem hA_v3 (i1 : Fin 640000 → Fin 320000) (h : ∀ k, V (Proc.devRef .tc main_arg2) (ix2 1 k) = BitVec.ofNat 32 (i1 k).val) :
    Names1 (after (hostOps0 (F := Ideal)) V (Proc.devRef .tc main_v3)) i1 := by
  intro k
  after_reads_at
  exact h k

/-- The half of the weight that meets the nodes. -/
theorem hA_v4 (W : Fin 128 → Fin 256 → ℝ) (h : R2 (V (Proc.devRef .tc main_arg3)) W) :
    R2 (after (hostOps0 (F := Ideal)) V (Proc.devRef .tc main_v4)) (fun h j => W h ⟨j.val, by omega⟩) := by
  intro i j
  after_reads_at
  exact h _ _

/-- The half of the weight that meets the edges. -/
theorem hA_v5 (W : Fin 128 → Fin 256 → ℝ) (h : R2 (V (Proc.devRef .tc main_arg3)) W) :
    R2 (after (hostOps0 (F := Ideal)) V (Proc.devRef .tc main_v5)) (fun h j => W h ⟨128 + j.val, by omega⟩) := by
  intro i j
  after_reads_at
  exact h _ _

/-- The first scalar. -/
theorem hA_v6 (e : ℝ) (h : ∀ j, V (Proc.devRef .tc main_arg18) j = (e : EReal)) :
    after (hostOps0 (F := Ideal)) V (Proc.devRef .tc main_v6) (ix2 0 0) = (e : EReal) := by
  after_reads_simp
  exact h _

/-- The second scalar. -/
theorem hA_v7 (e : ℝ) (h : ∀ j, V (Proc.devRef .tc main_arg19) j = (e : EReal)) :
    after (hostOps0 (F := Ideal)) V (Proc.devRef .tc main_v7) (ix2 0 0) = (e : EReal) := by
  after_reads_simp
  exact h _

/-- How many messages a node has. -/
theorem hA_v16 (i0 : Fin 640000 → Fin 10000) (h : ∀ k, V (Proc.devRef .tc main_arg2) (ix2 0 k) = BitVec.ofNat 32 (i0 k).val) :
    R1 (after (hostOps0 (F := Ideal)) V (Proc.devRef .tc main_v16)) (cnt i0) := by
  have h1 := hA_v1 V i0 h
  revert h1
  after_reads_simp
  intro h1
  exact scatter_ones _ rfl rfl rfl rfl _ (fun i => (show Ideal.ofBits .f32 0x00000000#32 = 0 by simp)) _ _
    (names_wrap (by norm_num) _ _ _ (fun _ => rfl) _ h1 _) (by norm_num) _ (fun k => (show Ideal.ofBits .f32 0x3F800000#32 = 1 by simp [Ideal.ofBits, Ideal.ieee]; rw [← EReal.coe_mul]; norm_num))

/-- How many messages an edge has. -/
theorem hA_v25 (i1 : Fin 640000 → Fin 320000) (h : ∀ k, V (Proc.devRef .tc main_arg2) (ix2 1 k) = BitVec.ofNat 32 (i1 k).val) :
    R1 (after (hostOps0 (F := Ideal)) V (Proc.devRef .tc main_v25)) (cnt i1) := by
  have h1 := hA_v3 V i1 h
  revert h1
  after_reads_simp
  intro h1
  exact scatter_ones _ rfl rfl rfl rfl _ (fun i => (show Ideal.ofBits .f32 0x00000000#32 = 0 by simp)) _ _
    (names_wrap (by norm_num) _ _ _ (fun _ => rfl) _ h1 _) (by norm_num) _ (fun k => (show Ideal.ofBits .f32 0x3F800000#32 = 1 by simp [Ideal.ofBits, Ideal.ieee]; rw [← EReal.coe_mul]; norm_num))

/-- The zeros that the lifted rows are added to. -/
theorem hA_v26 (i) : after (hostOps0 (F := Ideal)) V (Proc.devRef .tc main_v26) i = (0 : EReal) := by
  after_reads_simp
  exact (show Ideal.ofBits .f32 0x00000000#32 = 0 by simp)

end Cert.KernelIdeal.Own
-- ==== Proof.KernelIdeal.HostC.lean ====
/-
  The lifted rows and the counts' padded copies.
-/
module

public import proofs.«01_k».proof.Proof.Gen.KernelIdeal.Launch
public import proofs.«01_k».proof.Proof.Val.Data
public import Idealize.ShloMosaic.Lib.StableHlo.ReadAt
public import Idealize.ShloMosaic.Lib.Pointwise

@[expose] public section

set_option maxRecDepth 16384

noncomputable section

namespace Cert.KernelIdeal.Own

open Cert.KernelIdeal Cert.KernelIdeal.Gen Cert.Val Idealize.ShloMosaic Idealize.ShloMosaic.TcCoe Idealize.ShloMosaic.StableHlo Finset

variable (V : Valuation τ sig (Elt Ideal))

/-- The node rows summed at each edge. -/
theorem hC_v34 (X : Fin 640000 → Fin 128 → ℝ) (i : Fin 640000 → Fin 320000) (hX : R2 (V (Proc.devRef .tc main_v27)) X)
    (hi : Names1 (V (Proc.devRef .tc main_v3)) i) (h0 : ∀ j, V (Proc.devRef .tc main_v26) j = (0 : EReal)) :
    R2 (after (hostOps0_2 (F := Ideal)) V (Proc.devRef .tc main_v34)) (seg i X) := by
  after_reads_simp
  exact scatter_rows _ rfl rfl rfl rfl _ h0 _ _ (names_wrap (by norm_num) _ _ _ (fun _ => rfl) _ hi _) (by norm_num) _ _ hX

/-- The nodes' counts, in the first of eight rows. -/
theorem hC_v37 (n : Fin 10000 → ℝ) (hn : R1 (V (Proc.devRef .tc main_v16)) n) (k : Fin 10000) :
    after (hostOps0_2 (F := Ideal)) V (Proc.devRef .tc main_v37) (ix2 0 k) = ((n k : ℝ) : EReal) := by
  after_reads_simp
  refine Routing.scatter_set_hit _ _ _ _ _ _ (fun q hq => ?_) (ix1 k) ?_
  · obtain ⟨l, rfl⟩ : ∃ l : Fin 10000, q = ix1 l := ⟨q 0, eq_ix1 q⟩
    have e := (Routing.resultIdx?_eq_some _ _ _ _).1 hq 1
    have e' : (0 : ℤ) + ((l.val : ℕ) : ℤ) = ((k.val : ℕ) : ℤ) := e
    have : l = k := Fin.ext (by omega)
    rw [this]; exact hn k
  · refine (Routing.resultIdx?_eq_some _ _ _ _).2 fun a => ?_
    fin_cases a
    · rfl
    · exact zero_add _

/-- The edges' counts, in the first of each block's eight rows. -/
theorem hC_v41 (n : Fin 320000 → ℝ) (hn : R1 (V (Proc.devRef .tc main_v25)) n) (t : Fin 100) (k : Fin 3200) :
    after (hostOps0_2 (F := Ideal)) V (Proc.devRef .tc main_v41) (ix3 t 0 k)
      = ((n ⟨t.val * 3200 + k.val, by have := t.isLt; have := k.isLt; omega⟩ : ℝ) : EReal) := by
  after_reads_simp
  refine Routing.scatter_set_hit _ _ _ _ _ _ (fun q hq => ?_) (ix2 t k) ?_
  · obtain ⟨t', l, rfl⟩ : ∃ (t' : Fin 100) (l : Fin 3200), q = ix2 t' l := ⟨q 0, q 1, eq_ix2 q⟩
    have e := (Routing.resultIdx?_eq_some _ _ _ _).1 hq
    have e0 : (0 : ℤ) + ((t'.val : ℕ) : ℤ) = ((t.val : ℕ) : ℤ) := e 0
    have e2 : (0 : ℤ) + ((l.val : ℕ) : ℤ) = ((k.val : ℕ) : ℤ) := e 2
    obtain rfl : t' = t := Fin.ext (by omega)
    obtain rfl : l = k := Fin.ext (by omega)
    clean_types
    pointwise
    exact hn _
  · refine (Routing.resultIdx?_eq_some _ _ _ _).2 fun a => ?_
    fin_cases a
    · exact zero_add _
    · rfl
    · exact zero_add _

end Cert.KernelIdeal.Own
-- ==== Proof.Val.Norm.lean ====
/-
  The scale and the shift that a normalization is applied with.
-/
module

public import proofs.«01_k».proof.Proof.Val.Data

@[expose] public section

noncomputable section

namespace Cert.Val

open Idealize.ShloMosaic Finset

/-- The scale of a normalized column. -/
def scale {n : ℕ} (Z : Fin n → Fin 128 → ℝ) (g : Fin 128 → ℝ) (h : Fin 128) : ℝ := g h * (Real.sqrt (var Z h + eps))⁻¹

/-- The shift of a normalized column. -/
def shift {n : ℕ} (Z : Fin n → Fin 128 → ℝ) (g b : Fin 128 → ℝ) (h : Fin 128) : ℝ := b h - scale Z g h * mean Z h

/-- Rows scaled, shifted and cut at zero are the normalized rows. -/
theorem bn_scale {n : ℕ} (Z : Fin n → Fin 128 → ℝ) (g b : Fin 128 → ℝ) (e : Fin n) (h : Fin 128) :
    max (Z e h * scale Z g h + shift Z g b h) 0 = bn eps Z g b e h := bn_affine Z g b e h

/-- The same with the scale as the left factor. -/
theorem bn_scale' {n : ℕ} (Z : Fin n → Fin 128 → ℝ) (g b : Fin 128 → ℝ) (e : Fin n) (h : Fin 128) :
    max (scale Z g h * Z e h + shift Z g b h) 0 = bn eps Z g b e h := bn_affine' Z g b e h

/-- The scale from a column's sum `s` and its sum of squares `q`. -/
theorem scale_real {n : ℕ} (hn : 0 < n) (N : ℝ) (hN : N = n) (w : BitVec 32) (hw : Ideal.ofBits .f32 w = ((N : ℝ) : EReal))
    (Z : Fin n → Fin 128 → ℝ) (g : Fin 128 → ℝ) (h : Fin 128) (G s q : EReal) (hG : G = ((g h : ℝ) : EReal))
    (hs : s = ((∑ e, Z e h : ℝ) : EReal)) (hq : q = ((∑ e, Z e h * Z e h : ℝ) : EReal)) :
    G * Ideal.rsqrt (Ideal.div q (Ideal.ofBits .f32 w) - Ideal.div s (Ideal.ofBits .f32 w) * Ideal.div s (Ideal.ofBits .f32 w)
      + Ideal.ofBits .f32 0x3727C5AC#32) = ((scale Z g h : ℝ) : EReal) := by
  subst hN
  have hn' : (n : ℝ) ≠ 0 := by exact_mod_cast hn.ne'
  rw [hG, hs, hq, hw, word_eps, div_real _ _ hn', div_real _ _ hn', ← EReal.coe_mul, ← EReal.coe_sub, ← EReal.coe_add]
  have e1 : (∑ e, Z e h * Z e h) / (n : ℝ) - (∑ e, Z e h) / (n : ℝ) * ((∑ e, Z e h) / (n : ℝ)) = var Z h := var_eq hn Z h
  rw [e1, rsqrt_real _ (add_pos_of_nonneg_of_pos (var_nonneg Z h) eps_pos), ← EReal.coe_mul]
  rfl

/-- The shift from the scale and a column's sum `s`. -/
theorem shift_real {n : ℕ} (hn : 0 < n) (N : ℝ) (hN : N = n) (w : BitVec 32) (hw : Ideal.ofBits .f32 w = ((N : ℝ) : EReal))
    (Z : Fin n → Fin 128 → ℝ) (g b : Fin 128 → ℝ) (h : Fin 128) (B a s : EReal) (hB : B = ((b h : ℝ) : EReal))
    (ha : a = ((scale Z g h : ℝ) : EReal)) (hs : s = ((∑ e, Z e h : ℝ) : EReal)) :
    B - a * Ideal.div s (Ideal.ofBits .f32 w) = ((shift Z g b h : ℝ) : EReal) := by
  subst hN
  have hn' : (n : ℝ) ≠ 0 := by exact_mod_cast hn.ne'
  rw [hB, ha, hs, hw, div_real _ _ hn', ← EReal.coe_mul, ← EReal.coe_sub]
  rfl

end Cert.Val
-- ==== Proof.KernelIdeal.HostD.lean ====
/-
  The moments of the messages, read off the sums over nodes and edges.
-/
module

public import proofs.«01_k».proof.Proof.Gen.KernelIdeal.Launch
public import proofs.«01_k».proof.Proof.Val.Norm
public import Idealize.ShloMosaic.Lib.StableHlo.ReadAt
public import Idealize.ShloMosaic.Lib.Pointwise

@[expose] public section

set_option maxRecDepth 16384

noncomputable section

namespace Cert.KernelIdeal.Own

open Cert.KernelIdeal Cert.KernelIdeal.Gen Cert.Val Idealize.ShloMosaic Idealize.ShloMosaic.TcCoe Idealize.ShloMosaic.StableHlo Finset

variable (V : Valuation τ sig (Elt Ideal))

/-- The sum of a message column through the lifted features and the edges' counts. -/
theorem sum_prem (D : Data) (h : Fin 128) :
    (∑ j, (∑ e, D.lifted e j) * D.Wa h j) + ∑ e, cnt D.n1 e * lin D.edge D.Wb e h = ∑ k, D.prem k h := by
  have e := mean_pre D.n0 D.n1 D.node D.Wa (lin D.edge D.Wb) h
  unfold mean at e
  have h2 : ((640000 : ℕ) : ℝ) ≠ 0 := by norm_num
  exact (div_left_inj' h2).1 e

/-- The sum of a message column's squares through the nodes' and the edges' counts. -/
theorem sq_prem (D : Data) (h : Fin 128) :
    (∑ k, cnt D.n0 k * (lin D.node D.Wa k h * lin D.node D.Wa k h)) + (∑ e, cnt D.n1 e * (lin D.edge D.Wb e h * lin D.edge D.Wb e h))
        + 2 * (∑ j, D.Wa h j * ∑ e, D.lifted e j * lin D.edge D.Wb e h)
      = ∑ k, D.prem k h * D.prem k h :=
  ex2_pre D.n0 D.n1 D.node D.Wa (lin D.edge D.Wb) h

/-- What the moments of the messages are read from. -/
structure InD (D : Data) : Prop where
  w : R2 (V (Proc.devRef .tc main_v4)) D.Wa
  p : ∀ h, V (Proc.devRef .tc main_v42_1) (ix2 0 h) = ((∑ k, cnt D.n0 k * (lin D.node D.Wa k h * lin D.node D.Wa k h) : ℝ) : EReal)
  s0 : ∀ h, V (Proc.devRef .tc main_v44_2) (ix2 0 h) = ((∑ e, D.lifted e h : ℝ) : EReal)
  s1 : ∀ h, V (Proc.devRef .tc main_v44_2) (ix2 1 h) = ((∑ e, cnt D.n1 e * lin D.edge D.Wb e h : ℝ) : EReal)
  s2 : ∀ h, V (Proc.devRef .tc main_v44_2) (ix2 2 h)
    = ((∑ e, cnt D.n1 e * (lin D.edge D.Wb e h * lin D.edge D.Wb e h) : ℝ) : EReal)
  g : ∀ j h, V (Proc.devRef .tc main_v44_3) (ix2 j h) = ((∑ e, D.lifted e j * lin D.edge D.Wb e h : ℝ) : EReal)
  a4 : R1 (V (Proc.devRef .tc main_arg4)) D.g1
  a5 : R1 (V (Proc.devRef .tc main_arg5)) D.b1

variable {V} {D : Data} (I : InD V D)
include I

/-- The messages' scales. -/
theorem InD.alpha : R1 (after (hostOps3 (F := Ideal)) V (Proc.devRef .tc main_v72)) (scale D.prem D.g1) := by
  intro h
  after_reads_at
  simp only [I.w _ _, I.s0, I.s1, I.s2, I.g, I.p, word_two, ← EReal.coe_mul, coe_sum, ← EReal.coe_add]
  refine scale_real (by norm_num) 640000 (by norm_num) _ word_M D.prem D.g1 h _ _ _ (I.a4 h) ?_ ?_
  · exact congrArg Real.toEReal (sum_prem D h)
  · exact congrArg Real.toEReal (sq_prem D h)

/-- The messages' shifts. -/
theorem InD.beta : R1 (after (hostOps3 (F := Ideal)) V (Proc.devRef .tc main_v74)) (shift D.prem D.g1 D.b1) := by
  intro h
  have e := I.alpha h
  revert e
  after_reads_at
  intro e
  rw [e]
  simp only [I.w _ _, I.s0, I.s1, ← EReal.coe_mul, coe_sum, ← EReal.coe_add]
  exact shift_real (by norm_num) 640000 (by norm_num) _ word_M D.prem D.g1 D.b1 h _ _ _ (I.a5 h) rfl
    (congrArg Real.toEReal (sum_prem D h))

end Cert.KernelIdeal.Own
-- ==== Proof.KernelIdeal.HostE.lean ====
/-
  The messages, summed at the edges and, the other ones of each edge, at the nodes.
-/
module

public import proofs.«01_k».proof.Proof.Gen.KernelIdeal.Launch
public import proofs.«01_k».proof.Proof.Val.Norm
public import Idealize.ShloMosaic.Lib.StableHlo.ReadAt
public import Idealize.ShloMosaic.Lib.Pointwise

@[expose] public section

set_option maxRecDepth 16384

noncomputable section

namespace Cert.KernelIdeal.Own

open Cert.KernelIdeal Cert.KernelIdeal.Gen Cert.Val Idealize.ShloMosaic Idealize.ShloMosaic.TcCoe Idealize.ShloMosaic.StableHlo Finset

variable (V : Valuation τ sig (Elt Ideal))

/-- The messages scaled and shifted. -/
theorem hE_v83 (P Q : Fin 640000 → Fin 128 → ℝ) (a b : Fin 128 → ℝ) (hP : R2 (V (Proc.devRef .tc main_v75)) P)
    (hQ : R2 (V (Proc.devRef .tc main_v76)) Q) (ha : R1 (V (Proc.devRef .tc main_v72)) a) (hb : R1 (V (Proc.devRef .tc main_v74)) b) :
    R2 (after (hostOps3_3 (F := Ideal)) V (Proc.devRef .tc main_v83)) (fun k h => a h * (P k h + Q k h) + b h) := by
  intro k h
  after_reads_at
  simp only [hP _ _, hQ _ _, ha _, hb _, ← EReal.coe_add, ← EReal.coe_mul]

/-- Their positive part. -/
theorem hE_v84 (P : Fin 640000 → Fin 128 → ℝ) (hP : R2 (V (Proc.devRef .tc main_v83)) P) :
    R2 (after (hostOps3_4 (F := Ideal)) V (Proc.devRef .tc main_v84)) (fun k h => max (P k h) 0) := by
  intro k h
  after_reads_at
  simp only [hP _ _]
  exact coe_max _ 0

/-- The messages summed at each edge. -/
theorem hE_v92 (X : Fin 640000 → Fin 128 → ℝ) (i : Fin 640000 → Fin 320000) (hX : R2 (V (Proc.devRef .tc main_v84)) X)
    (hi : Names1 (V (Proc.devRef .tc main_v3)) i) :
    R2 (after (hostOps3_5 (F := Ideal)) V (Proc.devRef .tc main_v92)) (seg i X) := by
  after_reads_simp
  exact scatter_rows _ rfl rfl rfl rfl _ (fun i => (show Ideal.ofBits .f32 0x00000000#32 = 0 by simp)) _ _
    (names_wrap (by norm_num) _ _ _ (fun _ => rfl) _ hi _) (by norm_num) _ _ hX

/-- The zeros that the messages are added to at the nodes. -/
theorem hE_v93 (i) : after (hostOps3_5 (F := Ideal)) V (Proc.devRef .tc main_v93) i = (0 : EReal) := by
  after_reads_simp
  exact (show Ideal.ofBits .f32 0x00000000#32 = 0 by simp)

/-- The other messages summed at each node. -/
theorem hE_v102 (X Y : Fin 640000 → Fin 128 → ℝ) (i : Fin 640000 → Fin 10000) (hX : R2 (V (Proc.devRef .tc main_v94)) X)
    (hY : R2 (V (Proc.devRef .tc main_v84)) Y) (hi : Names1 (V (Proc.devRef .tc main_v1)) i)
    (h0 : ∀ j, V (Proc.devRef .tc main_v93) j = (0 : EReal)) :
    R2 (after (hostOps3_7 (F := Ideal)) V (Proc.devRef .tc main_v102)) (seg i (fun k c => X k c - Y k c)) := by
  after_reads_simp
  refine scatter_rows _ rfl rfl rfl rfl _ h0 _ _ (names_wrap (by norm_num) _ _ _ (fun _ => rfl) _ hi _) (by norm_num) _ _ ?_
  intro k c
  pointwise
  rw [hX k c, hY k c, ← EReal.coe_sub]

end Cert.KernelIdeal.Own
-- ==== Proof.KernelIdeal.HostF.lean ====
/-
  The scales and shifts of the normalizations that the kernels apply.
-/
module

public import proofs.«01_k».proof.Proof.Gen.KernelIdeal.Launch
public import proofs.«01_k».proof.Proof.Val.Norm
public import Idealize.ShloMosaic.Lib.StableHlo.ReadAt
public import Idealize.ShloMosaic.Lib.Pointwise

@[expose] public section

set_option maxRecDepth 16384

noncomputable section

namespace Cert.KernelIdeal.Own

open Cert.KernelIdeal Cert.KernelIdeal.Gen Cert.Val Idealize.ShloMosaic Idealize.ShloMosaic.TcCoe Idealize.ShloMosaic.StableHlo Finset

variable (V : Valuation τ sig (Elt Ideal))

/-- The first row of two stacked over zeros. -/
theorem stack_row0 (a b : FVec Ideal S1x128 .f32) (z : FVec Ideal S6x128 .f32) (p q) (h : Fin 128) :
    concatenate S8x128 0 [⟨S2x128, concatenate S2x128 0 [⟨S1x128, a⟩, ⟨S1x128, b⟩] p⟩, ⟨S6x128, z⟩] q (ix2 0 h) = a (ix2 0 h) := by
  pointwise

/-- The second row of two stacked over zeros. -/
theorem stack_row1 (a b : FVec Ideal S1x128 .f32) (z : FVec Ideal S6x128 .f32) (p q) (h : Fin 128) :
    concatenate S8x128 0 [⟨S2x128, concatenate S2x128 0 [⟨S1x128, a⟩, ⟨S1x128, b⟩] p⟩, ⟨S6x128, z⟩] q (ix2 1 h) = b (ix2 0 h) := by
  pointwise

/-- The scales of the edges' normalization. -/
theorem hF_v123_a (Z : Fin 320000 → Fin 128 → ℝ) (g : Fin 128 → ℝ)
    (h0 : ∀ h, V (Proc.devRef .tc main_v44_1) (ix2 0 h) = ((∑ e, Z e h : ℝ) : EReal))
    (h1 : ∀ h, V (Proc.devRef .tc main_v44_1) (ix2 1 h) = ((∑ e, Z e h * Z e h : ℝ) : EReal))
    (hg : R1 (V (Proc.devRef .tc main_arg13)) g) (h : Fin 128) :
    after (hostOps3_7 (F := Ideal)) V (Proc.devRef .tc main_v123) (ix2 0 h) = ((scale Z g h : ℝ) : EReal) := by
  after_reads_simp
  refine (stack_row0 _ _ _ _ _ h).trans ?_
  after_reads_at
  exact scale_real (by norm_num) 320000 (by norm_num) _ word_E Z g h _ _ _ (hg h) (h0 h) (h1 h)

/-- The shifts of the edges' normalization. -/
theorem hF_v123_b (Z : Fin 320000 → Fin 128 → ℝ) (g b : Fin 128 → ℝ)
    (h0 : ∀ h, V (Proc.devRef .tc main_v44_1) (ix2 0 h) = ((∑ e, Z e h : ℝ) : EReal))
    (h1 : ∀ h, V (Proc.devRef .tc main_v44_1) (ix2 1 h) = ((∑ e, Z e h * Z e h : ℝ) : EReal))
    (hg : R1 (V (Proc.devRef .tc main_arg13)) g) (hb : R1 (V (Proc.devRef .tc main_arg14)) b) (h : Fin 128) :
    after (hostOps3_7 (F := Ideal)) V (Proc.devRef .tc main_v123) (ix2 1 h) = ((shift Z g b h : ℝ) : EReal) := by
  after_reads_simp
  refine (stack_row1 _ _ _ _ _ h).trans ?_
  after_reads_at
  exact shift_real (by norm_num) 320000 (by norm_num) _ word_E Z g b h _ _ _ (hb h)
    (scale_real (by norm_num) 320000 (by norm_num) _ word_E Z g h _ _ _ (hg h) (h0 h) (h1 h)) (h0 h)

/-- The scales of the edges' normalization. -/
theorem hF_v145_a (Z : Fin 320000 → Fin 128 → ℝ) (g : Fin 128 → ℝ)
    (h0 : ∀ h, V (Proc.devRef .tc main_v124_1) (ix2 0 h) = ((∑ e, Z e h : ℝ) : EReal))
    (h1 : ∀ h, V (Proc.devRef .tc main_v124_1) (ix2 1 h) = ((∑ e, Z e h * Z e h : ℝ) : EReal))
    (hg : R1 (V (Proc.devRef .tc main_arg16)) g) (h : Fin 128) :
    after (hostOps4 (F := Ideal)) V (Proc.devRef .tc main_v145) (ix2 0 h) = ((scale Z g h : ℝ) : EReal) := by
  after_reads_simp
  refine (stack_row0 _ _ _ _ _ h).trans ?_
  after_reads_at
  exact scale_real (by norm_num) 320000 (by norm_num) _ word_E Z g h _ _ _ (hg h) (h0 h) (h1 h)

/-- The shifts of the edges' normalization. -/
theorem hF_v145_b (Z : Fin 320000 → Fin 128 → ℝ) (g b : Fin 128 → ℝ)
    (h0 : ∀ h, V (Proc.devRef .tc main_v124_1) (ix2 0 h) = ((∑ e, Z e h : ℝ) : EReal))
    (h1 : ∀ h, V (Proc.devRef .tc main_v124_1) (ix2 1 h) = ((∑ e, Z e h * Z e h : ℝ) : EReal))
    (hg : R1 (V (Proc.devRef .tc main_arg16)) g) (hb : R1 (V (Proc.devRef .tc main_arg17)) b) (h : Fin 128) :
    after (hostOps4 (F := Ideal)) V (Proc.devRef .tc main_v145) (ix2 1 h) = ((shift Z g b h : ℝ) : EReal) := by
  after_reads_simp
  refine (stack_row1 _ _ _ _ _ h).trans ?_
  after_reads_at
  exact shift_real (by norm_num) 320000 (by norm_num) _ word_E Z g b h _ _ _ (hb h)
    (scale_real (by norm_num) 320000 (by norm_num) _ word_E Z g h _ _ _ (hg h) (h0 h) (h1 h)) (h0 h)

/-- The scales and shifts that the node kernel is handed. -/
theorem hF_v151 (g b : Fin 128 → ℝ) (hg : R1 (V (Proc.devRef .tc main_arg7)) g) (hb : R1 (V (Proc.devRef .tc main_arg8)) b) (h : Fin 128) :
    after (hostOps5 (F := Ideal)) V (Proc.devRef .tc main_v151) (ix2 0 h) = ((g h : ℝ) : EReal)
      ∧ after (hostOps5 (F := Ideal)) V (Proc.devRef .tc main_v151) (ix2 1 h) = ((b h : ℝ) : EReal) := by
  constructor
  · after_reads_simp
    refine (stack_row0 _ _ _ _ _ h).trans ?_
    after_reads_at
    exact hg h
  · after_reads_simp
    refine (stack_row1 _ _ _ _ _ h).trans ?_
    after_reads_at
    exact hb h

/-- The scales and shifts that the node kernel is handed. -/
theorem hF_v156 (g b : Fin 128 → ℝ) (hg : R1 (V (Proc.devRef .tc main_arg10)) g) (hb : R1 (V (Proc.devRef .tc main_arg11)) b) (h : Fin 128) :
    after (hostOps5 (F := Ideal)) V (Proc.devRef .tc main_v156) (ix2 0 h) = ((g h : ℝ) : EReal)
      ∧ after (hostOps5 (F := Ideal)) V (Proc.devRef .tc main_v156) (ix2 1 h) = ((b h : ℝ) : EReal) := by
  constructor
  · after_reads_simp
    refine (stack_row0 _ _ _ _ _ h).trans ?_
    after_reads_at
    exact hg h
  · after_reads_simp
    refine (stack_row1 _ _ _ _ _ h).trans ?_
    after_reads_at
    exact hb h

end Cert.KernelIdeal.Own
-- ==== Proof.KernelIdeal.HostT.lean ====
/-
  The takes of rows.
-/
module

public import proofs.«01_k».proof.Proof.Gen.KernelIdeal.Launch
public import proofs.«01_k».proof.Proof.Val.Data
public import Idealize.ShloMosaic.Lib.StableHlo.ReadAt
public import Idealize.ShloMosaic.Lib.Pointwise

@[expose] public section

set_option maxRecDepth 16384

noncomputable section

namespace Cert.KernelIdeal.Own

open Cert.KernelIdeal Cert.KernelIdeal.Gen Cert.Val Idealize.ShloMosaic Idealize.ShloMosaic.TcCoe Idealize.ShloMosaic.StableHlo Finset

variable (V : Valuation τ sig (Elt Ideal))

/-- The rows that the messages take. -/
theorem hT_v27 (X : Fin 10000 → Fin 128 → ℝ) (i : Fin 640000 → Fin 10000) (hX : R2 (V (Proc.devRef .tc main_arg0)) X)
    (hi : Names1 (V (Proc.devRef .tc main_v1)) i) :
    R2 (after (hostOps0_1 (F := Ideal)) V (Proc.devRef .tc main_v27)) (fun k c => X (i k) c) := by
  after_reads_simp
  simp -implicitDefEqProofs only [StableHlo.TRef.toBuf, StableHlo.TRef.ofBuf, cast_cast, cast_eq]
  clean_types
  exact take_rows (by norm_num) _ rfl rfl rfl rfl rfl _ _ hX _ _ _ _
    (names_wrap (by norm_num) _ _ _ (fun _ => rfl) _ hi _) (fun _ => rfl) (fun _ => rfl) _ _ (fun _ => rfl) _ _ _

/-- The rows that the messages take. -/
theorem hT_v75 (X : Fin 10000 → Fin 128 → ℝ) (i : Fin 640000 → Fin 10000) (hX : R2 (V (Proc.devRef .tc main_v42_0)) X)
    (hi : Names1 (V (Proc.devRef .tc main_v1)) i) :
    R2 (after (hostOps3_1 (F := Ideal)) V (Proc.devRef .tc main_v75)) (fun k c => X (i k) c) := by
  after_reads_simp
  simp -implicitDefEqProofs only [StableHlo.TRef.toBuf, StableHlo.TRef.ofBuf, cast_cast, cast_eq]
  clean_types
  exact take_rows (by norm_num) _ rfl rfl rfl rfl rfl _ _ hX _ _ _ _
    (names_wrap (by norm_num) _ _ _ (fun _ => rfl) _ hi _) (fun _ => rfl) (fun _ => rfl) _ _ (fun _ => rfl) _ _ _

/-- The rows that the messages take. -/
theorem hT_v76 (X : Fin 320000 → Fin 128 → ℝ) (i : Fin 640000 → Fin 320000) (hX : R2 (V (Proc.devRef .tc main_v43)) X)
    (hi : Names1 (V (Proc.devRef .tc main_v3)) i) :
    R2 (after (hostOps3_2 (F := Ideal)) V (Proc.devRef .tc main_v76)) (fun k c => X (i k) c) := by
  after_reads_simp
  simp -implicitDefEqProofs only [StableHlo.TRef.toBuf, StableHlo.TRef.ofBuf, cast_cast, cast_eq]
  clean_types
  exact take_rows (by norm_num) _ rfl rfl rfl rfl rfl _ _ hX _ _ _ _
    (names_wrap (by norm_num) _ _ _ (fun _ => rfl) _ hi _) (fun _ => rfl) (fun _ => rfl) _ _ (fun _ => rfl) _ _ _

/-- The rows that the messages take. -/
theorem hT_v94 (X : Fin 320000 → Fin 128 → ℝ) (i : Fin 640000 → Fin 320000) (hX : R2 (V (Proc.devRef .tc main_v92)) X)
    (hi : Names1 (V (Proc.devRef .tc main_v3)) i) :
    R2 (after (hostOps3_6 (F := Ideal)) V (Proc.devRef .tc main_v94)) (fun k c => X (i k) c) := by
  after_reads_simp
  simp -implicitDefEqProofs only [StableHlo.TRef.toBuf, StableHlo.TRef.ofBuf, cast_cast, cast_eq]
  clean_types
  exact take_rows (by norm_num) _ rfl rfl rfl rfl rfl _ _ hX _ _ _ _
    (names_wrap (by norm_num) _ _ _ (fun _ => rfl) _ hi _) (fun _ => rfl) (fun _ => rfl) _ _ (fun _ => rfl) _ _ _

end Cert.KernelIdeal.Own
-- ==== Proof.KernelIdeal.PayA.lean ====
/-
  What the first three custom calls compute of blocks of real numbers.
-/
module

public import proofs.«01_k».proof.Proof.Gen.KernelIdeal.Skeleton
public import proofs.«01_k».proof.Proof.Val.Data
public import Idealize.ShloMosaic.Lib.Pointwise

@[expose] public section

set_option maxRecDepth 16384

noncomputable section

namespace Cert.KernelIdeal.Own

open Cert.KernelIdeal Cert.KernelIdeal.Gen Cert.Val Idealize.ShloMosaic Idealize.ShloMosaic.TcCoe Finset

/-- A product of rows with a transposed weight. -/
theorem k0_pay1_real (x : Vec Ideal S10000x128 .f32) (w : Vec Ideal S128x128 .f32) (X W) (hX : R2 x X) (hW : R2 w W) :
    R2 (k0_pay1 x w) (lin X W) := by
  intro i j
  pointwise [k0_pay1]
  simp only [hX _ _, hW _ _, ← EReal.coe_mul, coe_sum]
  rfl

/-- The first row of the weighted sums of squares. -/
theorem k0_pay2_real (x : Vec Ideal S10000x128 .f32) (w : Vec Ideal S128x128 .f32) (n : Vec Ideal S8x10000 .f32) (X W) (N : Fin 10000 → ℝ)
    (hX : R2 x X) (hW : R2 w W) (hn : ∀ k, n (ix2 0 k) = ((N k : ℝ) : EReal)) (h : Fin 128) :
    k0_pay2 x w n (ix2 0 h) = ((∑ k, N k * (lin X W k h * lin X W k h) : ℝ) : EReal) := by
  pointwise [k0_pay2, k0_pay1]
  simp only [hX _ _, hW _ _, hn _, ← EReal.coe_mul, coe_sum]
  rfl

/-- A product of a block of rows with a transposed weight. -/
theorem k1_pay1_real (x : Vec Ideal S3200x128 .f32) (w : Vec Ideal S128x128 .f32) (X W) (hX : R2 x X) (hW : R2 w W) :
    R2 (k1_pay1 x w) (lin X W) := by
  intro i j
  pointwise [k1_pay1]
  simp only [hX _ _, hW _ _, ← EReal.coe_mul, coe_sum]
  rfl

/-- The edge rows' first layer on a block. -/
theorem k2_pay7_real (x l : Vec Ideal S3200x128 .f32) (e : Vec Ideal S1x1 .f32) (w : Vec Ideal S128x128 .f32) (X L W) (E : ℝ)
    (hX : R2 x X) (hL : R2 l L) (he : e (ix2 0 0) = (E : EReal)) (hW : R2 w W) :
    R2 (k2_pay7 x l e w) (lin (fun i j => (1 + E) * X i j + L i j) W) := by
  intro i j
  pointwise [k2_pay7, k2_pay4]
  try simp only [hX _ _, hL _ _, he, hW _ _, ← EReal.coe_one, ← EReal.coe_mul, ← EReal.coe_add, coe_sum]
  rfl

/-- The column sums of the layer's block, added to a row. -/
theorem k2_pay8_real (x l : Vec Ideal S3200x128 .f32) (e : Vec Ideal S1x1 .f32) (w : Vec Ideal S128x128 .f32) (s : Vec Ideal S1x128 .f32)
    (Z) (S : ℝ) (h : Fin 128) (hZ : R2 (k2_pay7 x l e w) Z) (hs : s (ix2 0 h) = (S : EReal)) :
    k2_pay8 x l e w s (ix2 0 h) = ((S + ∑ i, Z i h : ℝ) : EReal) := by
  unfold k2_pay8
  generalize k2_pay7 x l e w = z at hZ
  pointwise []
  simp only [hZ _ _, hs, coe_sum, ← EReal.coe_add]

/-- The column sums of squares of the layer's block, added to a row. -/
theorem k2_pay10_real (x l : Vec Ideal S3200x128 .f32) (e : Vec Ideal S1x1 .f32) (w : Vec Ideal S128x128 .f32) (s : Vec Ideal S1x128 .f32)
    (Z) (S : ℝ) (h : Fin 128) (hZ : R2 (k2_pay7 x l e w) Z) (hs : s (ix2 0 h) = (S : EReal)) :
    k2_pay10 s (k2_pay9 x l e w) (ix2 0 h) = ((S + ∑ i, Z i h * Z i h : ℝ) : EReal) := by
  unfold k2_pay10 k2_pay9
  generalize k2_pay7 x l e w = z at hZ
  pointwise []
  simp only [hZ _ _, hs, coe_sum, ← EReal.coe_add, ← EReal.coe_mul]

/-- The column sums of a block, added to a row. -/
theorem k2_pay11_real (l : Vec Ideal S3200x128 .f32) (s : Vec Ideal S1x128 .f32) (L) (S : ℝ) (h : Fin 128)
    (hL : R2 l L) (hs : s (ix2 0 h) = (S : EReal)) :
    k2_pay11 (k2_pay4 l) s (ix2 0 h) = ((S + ∑ i, L i h : ℝ) : EReal) := by
  pointwise [k2_pay11, k2_pay4]
  simp only [hL _ _, hs, coe_sum, ← EReal.coe_add]

/-- The weighted column sums of a block, added to a row. -/
theorem k2_pay12_real (q : Vec Ideal S3200x128 .f32) (n : Vec Ideal S1x8x3200 .f32) (s : Vec Ideal S1x128 .f32) (Q) (N : Fin 3200 → ℝ) (S : ℝ)
    (h : Fin 128) (hQ : R2 q Q) (hn : ∀ k, n (ix3 0 0 k) = ((N k : ℝ) : EReal)) (hs : s (ix2 0 h) = (S : EReal)) :
    k2_pay12 (k2_pay5 q) (k2_pay6 n) s (ix2 0 h) = ((S + ∑ i, N i * Q i h : ℝ) : EReal) := by
  pointwise [k2_pay12, k2_pay5, k2_pay6]
  simp only [hQ _ _, hn _, hs, coe_sum, ← EReal.coe_add, ← EReal.coe_mul]

/-- The weighted column sums of squares of a block, added to a row. -/
theorem k2_pay13_real (q : Vec Ideal S3200x128 .f32) (n : Vec Ideal S1x8x3200 .f32) (s : Vec Ideal S1x128 .f32) (Q) (N : Fin 3200 → ℝ) (S : ℝ)
    (h : Fin 128) (hQ : R2 q Q) (hn : ∀ k, n (ix3 0 0 k) = ((N k : ℝ) : EReal)) (hs : s (ix2 0 h) = (S : EReal)) :
    k2_pay13 (k2_pay5 q) (k2_pay6 n) s (ix2 0 h) = ((S + ∑ i, N i * (Q i h * Q i h) : ℝ) : EReal) := by
  pointwise [k2_pay13, k2_pay5, k2_pay6]
  simp only [hQ _ _, hn _, hs, coe_sum, ← EReal.coe_add, ← EReal.coe_mul]

end Cert.KernelIdeal.Own
-- ==== Proof.KernelIdeal.Rows.lean ====
/-
  Rows of the blocks, sums over the hundred blocks, and the rows of an accumulator.
-/
module

public import proofs.«01_k».proof.Proof.KernelIdeal.Win
public import proofs.«01_k».proof.Proof.Val.Data

@[expose] public section

set_option maxRecDepth 16384

noncomputable section

namespace Cert.KernelIdeal.Own

open Cert.KernelIdeal Cert.KernelIdeal.Gen Cert.Val Idealize.ShloMosaic Idealize.ShloMosaic.TcCoe Finset

/-- Row `i` of block `t` of the edge rows. -/
def row (t : ℕ) (ht : t < 100) (i : Fin 3200) : Fin 320000 := ⟨t * 3200 + i.val, by have := i.isLt; omega⟩

/-- The sum of a block's numbers. -/
def blockSum (f : Fin 320000 → ℝ) (t : ℕ) : ℝ := if h : t < 100 then ∑ i, f (row t h i) else 0

/-- The sum of a block's numbers, at a block. -/
theorem blockSum_of (f : Fin 320000 → ℝ) (t : ℕ) (h : t < 100) : blockSum f t = ∑ i, f (row t h i) := dif_pos h

/-- The hundred blocks make up the whole sum. -/
theorem sum_blocks (f : Fin 320000 → ℝ) : ∑ t ∈ range 100, blockSum f t = ∑ e, f e := by
  rw [Finset.sum_range, Fin.sum_univ_tiles 100 3200 (by norm_num) f]
  exact Finset.sum_congr rfl fun t _ => blockSum_of f t.val t.isLt

/-- A number that starts at the first term and gains a term at each later point is the sum of the terms so far. -/
theorem acc_total {N : ℕ} (f : (n : ℕ) → n < N → EReal) (term : ℕ → ℝ)
    (h0 : ∀ t : Fin N, t.val = 0 → f t.val t.isLt = ((0 + term t.val : ℝ) : EReal))
    (hs : ∀ t : Fin N, t.val ≠ 0 → ∀ S : ℝ, f (t.val - 1) (Nat.lt_of_le_of_lt (Nat.sub_le _ _) t.isLt) = (S : EReal) →
      f t.val t.isLt = ((S + term t.val : ℝ) : EReal)) :
    ∀ n h, f n h = ((∑ k ∈ range (n + 1), term k : ℝ) : EReal)
  | 0, h => by rw [h0 ⟨0, h⟩ rfl]; simp
  | n + 1, h => by
      have ih := acc_total f term h0 hs n (Nat.lt_of_succ_lt h)
      rw [hs ⟨n + 1, h⟩ (Nat.succ_ne_zero n) _ ih, Finset.sum_range_succ _ (n + 1)]

/-- The first row of an accumulator after a store of it. -/
theorem put0_0 (s : Vec Ideal S8x128 .f32) (w : Vec Ideal S1x128 .f32) (h : Fin 128) :
    VecWindow.put s ![0, 0] S1x128.size w (ix2 0 h) = w (ix2 0 h) := by
  have e := congrFun (VecWindow.window_put_same s ![0, 0] S1x128.size inb_S8x128_S1x128_0_0 w) (ix2 0 h)
  refine Eq.trans (congrArg _ (funext fun a => Fin.ext ?_)) e
  fin_cases a
  · rfl
  · show h.val = 0 + 1 * h.val; omega

/-- The second row of an accumulator after a store of it. -/
theorem put1_1 (s : Vec Ideal S8x128 .f32) (w : Vec Ideal S1x128 .f32) (h : Fin 128) :
    VecWindow.put s ![1, 0] S1x128.size w (ix2 1 h) = w (ix2 0 h) := by
  have e := congrFun (VecWindow.window_put_same s ![1, 0] S1x128.size inb_S8x128_S1x128_1_0 w) (ix2 0 h)
  refine Eq.trans (congrArg _ (funext fun a => Fin.ext ?_)) e
  fin_cases a
  · rfl
  · show h.val = 0 + 1 * h.val; omega

/-- The third row of an accumulator after a store of it. -/
theorem put2_2 (s : Vec Ideal S8x128 .f32) (w : Vec Ideal S1x128 .f32) (h : Fin 128) :
    VecWindow.put s ![2, 0] S1x128.size w (ix2 2 h) = w (ix2 0 h) := by
  have e := congrFun (VecWindow.window_put_same s ![2, 0] S1x128.size inb_S8x128_S1x128_2_0 w) (ix2 0 h)
  refine Eq.trans (congrArg _ (funext fun a => Fin.ext ?_)) e
  fin_cases a
  · rfl
  · show h.val = 0 + 1 * h.val; omega

/-- A row below the one stored is as it was. -/
theorem put_lt (s : Vec Ideal S8x128 .f32) (r : ℕ) (w : Vec Ideal S1x128 .f32) (q : Fin 8) (hq : q.val < r) (h : Fin 128) :
    VecWindow.put s ![r, 0] S1x128.size w (ix2 q h) = s (ix2 q h) :=
  dif_neg fun hh => absurd (hh 0).1 (not_le.2 hq)

/-- The first row, as a row. -/
theorem window0 (s : Vec Ideal S8x128 .f32) (h : Fin 128) :
    VecWindow.window s ![0, 0] S1x128.size inb_S8x128_S1x128_0_0 (ix2 0 h) = s (ix2 0 h) := by
  refine congrArg s (funext fun a => Fin.ext ?_)
  fin_cases a
  · rfl
  · show 0 + 1 * h.val = h.val; omega

/-- The second row, as a row. -/
theorem window1 (s : Vec Ideal S8x128 .f32) (h : Fin 128) :
    VecWindow.window s ![1, 0] S1x128.size inb_S8x128_S1x128_1_0 (ix2 0 h) = s (ix2 1 h) := by
  refine congrArg s (funext fun a => Fin.ext ?_)
  fin_cases a
  · rfl
  · show 0 + 1 * h.val = h.val; omega

/-- The third row, as a row. -/
theorem window2 (s : Vec Ideal S8x128 .f32) (h : Fin 128) :
    VecWindow.window s ![2, 0] S1x128.size inb_S8x128_S1x128_2_0 (ix2 0 h) = s (ix2 2 h) := by
  refine congrArg s (funext fun a => Fin.ext ?_)
  fin_cases a
  · rfl
  · show 0 + 1 * h.val = h.val; omega

end Cert.KernelIdeal.Own
-- ==== Proof.KernelIdeal.Val0.lean ====
/-
  What the first two custom calls leave, over the real numbers.
-/
module

public import proofs.«01_k».proof.Proof.KernelIdeal.Reg0
public import proofs.«01_k».proof.Proof.KernelIdeal.Reg1
public import proofs.«01_k».proof.Proof.Val.Data
public import proofs.«01_k».proof.Proof.KernelIdeal.PayA
public import proofs.«01_k».proof.Proof.KernelIdeal.Rows
public import Idealize.ShloMosaic.Lib.Pipeline.ValueKit

@[expose] public section

set_option maxRecDepth 16384

noncomputable section

namespace Cert.KernelIdeal.Own

open Cert.KernelIdeal Cert.KernelIdeal.Gen Cert.Val Idealize.ShloMosaic Idealize.ShloMosaic.TcCoe Finset
open Idealize.ShloMosaic.Pipeline (Dat Cfg Window)

variable (V : (c : Dev nD) → (b : Ref sig .tc) → Buf (Elt Ideal) ((c : Thread nD τ).loc b))

/-- Window 0 of the first custom call is the whole array, at every grid point. -/
theorem idx0_0 : ∀ t : Fin cfg0.N, ∀ a, win0_0.index t a = 0 := by decide +kernel
/-- Window 1 of the first custom call is the whole array, at every grid point. -/
theorem idx0_1 : ∀ t : Fin cfg0.N, ∀ a, win0_1.index t a = 0 := by decide +kernel
/-- Window 2 of the first custom call is the whole array, at every grid point. -/
theorem idx0_2 : ∀ t : Fin cfg0.N, ∀ a, win0_2.index t a = 0 := by decide +kernel
/-- Window 3 of the first custom call is the whole array, at every grid point. -/
theorem idx0_3 : ∀ t : Fin cfg0.N, ∀ a, win0_3.index t a = 0 := by decide +kernel
/-- Window 4 of the first custom call is the whole array, at every grid point. -/
theorem idx0_4 : ∀ t : Fin cfg0.N, ∀ a, win0_4.index t a = 0 := by decide +kernel

/-- The first custom call's blocks are its whole arrays. -/
theorem iblk0_0 (c : Dev nD) (t : Fin cfg0.N) : iblk0 V c 0 t = V c main_arg0 := by
  funext q
  exact congrArg (V c main_arg0) (funext fun a => Fin.ext (win0_0.rect_emb_val_of_index_zero t a (idx0_0 t a) q))

/-- The second block is its whole array. -/
theorem iblk0_1 (c : Dev nD) (t : Fin cfg0.N) : iblk0 V c 1 t = V c main_v4 := by
  funext q
  exact congrArg (V c main_v4) (funext fun a => Fin.ext (win0_1.rect_emb_val_of_index_zero t a (idx0_1 t a) q))

/-- The third block is its whole array. -/
theorem iblk0_2 (c : Dev nD) (t : Fin cfg0.N) : iblk0 V c 2 t = V c main_v37 := by
  funext q
  exact congrArg (V c main_v37) (funext fun a => Fin.ext (win0_2.rect_emb_val_of_index_zero t a (idx0_2 t a) q))

/-- The node rows times their half of the first weight. -/
theorem P_real (c : Dev nD) (X W) (hX : R2 (V c main_arg0) X) (hW : R2 (V c main_v4) W) :
    R2 ((dat0 V c).arrAt 3 cfg0.N) (lin X W) := by
  have e : (dat0 V c).arrAt 3 cfg0.N = (fun q => ((lin X W (q 0) (q 1) : ℝ) : EReal)) := by
    refine (dat0 V c).arrAt_eq_of_covers 3 _ (by decide +kernel) fun t hf y => ?_
    obtain ⟨i, k, rfl⟩ : ∃ (i : Fin 10000) (k : Fin 128), y = ix2 i k := ⟨y 0, y 1, eq_ix2 y⟩
    have hy : ((View.whole main_v42_0).slice (win0_3.rect t)).emb (ix2 i k) = ix2 i k :=
      funext fun a => Fin.ext (win0_3.rect_emb_val_of_index_zero t a (idx0_3 t a) _)
    blk_simp
    rw [after0_3]
    unfold out0_3
    frame_out
    rw [hy, iblk0_0, iblk0_1]
    exact k0_pay1_real _ _ _ _ hX hW i k
  intro i j
  rw [e]; rfl

/-- The first row of the second result: the numbers in the first row of the third array, against the squares. -/
theorem sP2_real (c : Dev nD) (X W) (n : Fin 10000 → ℝ) (hX : R2 (V c main_arg0) X) (hW : R2 (V c main_v4) W)
    (hn : ∀ k, V c main_v37 (ix2 0 k) = ((n k : ℝ) : EReal)) (h : Fin 128) :
    (dat0 V c).arrAt 4 cfg0.N (ix2 0 h) = ((∑ k, n k * (lin X W k h * lin X W k h) : ℝ) : EReal) := by
  have e : (dat0 V c).arrAt 4 cfg0.N = k0_pay2 (F := Ideal) (V c main_arg0) (V c main_v4) (V c main_v37) := by
    refine (dat0 V c).arrAt_eq_of_covers 4 _ (by decide +kernel) fun t hf y => ?_
    have hy : ((View.whole main_v42_1).slice (win0_4.rect t)).emb y = y :=
      funext fun a => Fin.ext (win0_4.rect_emb_val_of_index_zero t a (idx0_4 t a) _)
    blk_simp
    rw [after0_4]
    unfold out0_4
    frame_out
    rw [hy, iblk0_0, iblk0_1, iblk0_2]
  rw [e]
  exact k0_pay2_real _ _ _ _ _ _ hX hW hn h

/-- Window 0 of the second custom call at a grid point is that point's block of rows. -/
theorem idx1_0 : ∀ t : Fin cfg1.N, win1_0.index t = ![t.val, 0] := (by decide +kernel : ∀ t : Fin grid1.N, _)
/-- Window 1 of the second custom call is the whole array, at every grid point. -/
theorem idx1_1 : ∀ t : Fin cfg1.N, ∀ a, win1_1.index t a = 0 := (by decide +kernel : ∀ t : Fin grid1.N, _)
/-- Window 2 of the second custom call at a grid point is that point's block of rows. -/
theorem idx1_2 : ∀ t : Fin cfg1.N, win1_2.index t = ![t.val, 0] := (by decide +kernel : ∀ t : Fin grid1.N, _)

theorem lt1 (t : Fin cfg1.N) : t.val < 100 := Nat.lt_of_lt_of_eq t.isLt N_1

/-- A block of edge rows. -/
theorem iblk1_0 (c : Dev nD) (t : Fin cfg1.N) (i : Fin 3200) (k : Fin 128) :
    iblk1 V c 0 t (ix2 i k) = V c main_arg1 (ix2 (row t.val (lt1 t) i) k) := by
  refine congrArg (V c main_arg1) (funext fun a => Fin.ext ?_)
  refine (win1_0.rect_emb_val t _ a).trans ?_
  rw [idx1_0]
  fin_cases a
  · rfl
  · exact Nat.zero_add _

/-- The weight block is its whole array. -/
theorem iblk1_1 (c : Dev nD) (t : Fin cfg1.N) : iblk1 V c 1 t = V c main_v5 := by
  funext q
  exact congrArg (V c main_v5) (funext fun a => Fin.ext (win1_1.rect_emb_val_of_index_zero t a (idx1_1 t a) q))

/-- The edge rows times their half of the first weight. -/
theorem Q_real (c : Dev nD) (X W) (hX : R2 (V c main_arg1) X) (hW : R2 (V c main_v5) W) :
    R2 ((dat1 V c).arrAt 2 cfg1.N) (lin X W) := by
  have e : (dat1 V c).arrAt 2 cfg1.N = (fun q => ((lin X W (q 0) (q 1) : ℝ) : EReal)) := by
    refine (dat1 V c).arrAt_eq_of_covers 2 _ (by decide +kernel) fun t hf y => ?_
    obtain ⟨i, k, rfl⟩ : ∃ (i : Fin 3200) (k : Fin 128), y = ix2 i k := ⟨y 0, y 1, eq_ix2 y⟩
    have hy : ((View.whole main_v43).slice (win1_2.rect t)).emb (ix2 i k) = ix2 (row t.val (lt1 t) i) k := by
      funext a; refine Fin.ext ((win1_2.rect_emb_val t _ a).trans ?_)
      rw [idx1_2]
      fin_cases a
      · rfl
      · exact Nat.zero_add _
    blk_simp
    rw [after1_2]
    unfold out1_2
    frame_out
    rw [hy]
    exact k1_pay1_real _ _ (fun i => X (row t.val (lt1 t) i)) W (fun i k => (iblk1_0 V c t i k).trans (hX _ _))
      (by rw [iblk1_1]; exact hW) i k
  intro i j
  rw [e]; rfl

end Cert.KernelIdeal.Own
-- ==== Proof.KernelIdeal.Blk2.lean ====
/-
  The third custom call's blocks, over the real numbers.
-/
module

public import proofs.«01_k».proof.Proof.KernelIdeal.Reg2
public import proofs.«01_k».proof.Proof.KernelIdeal.PayA
public import proofs.«01_k».proof.Proof.KernelIdeal.Rows
public import Idealize.ShloMosaic.Lib.Pipeline.ValueKit

@[expose] public section

set_option maxRecDepth 16384

noncomputable section

namespace Cert.KernelIdeal.Own

open Cert.KernelIdeal Cert.KernelIdeal.Gen Cert.Val Idealize.ShloMosaic Idealize.ShloMosaic.TcCoe Finset
open Idealize.ShloMosaic.Pipeline (Dat Cfg Window)

variable (V : (c : Dev nD) → (b : Ref sig .tc) → Buf (Elt Ideal) ((c : Thread nD τ).loc b))

/-- The grid has a hundred points. -/
theorem lt2 (t : Fin cfg2.N) : t.val < 100 := Nat.lt_of_lt_of_eq t.isLt N_2

/-- Window 0's block at point `t` is the `t`-th. -/
theorem idx2_0 : ∀ t : Fin cfg2.N, win2_0.index t = ![t.val, 0] := (by decide +kernel : ∀ t : Fin grid2.N, _)

/-- Window 0's block at point `t`: rows of its array. -/
theorem iblk2_0 (c : Dev nD) (t : Fin cfg2.N) (i : Fin 3200) (k : Fin 128) :
    iblk2 V c 0 t (ix2 i k) = V c main_arg1 (ix2 (row t.val (lt2 t) i) k) := by
  refine congrArg (V c main_arg1) (funext fun a => Fin.ext ?_)
  refine (win2_0.rect_emb_val t _ a).trans ?_
  rw [idx2_0]
  fin_cases a
  · rfl
  · exact Nat.zero_add _

/-- Window 1's block at point `t` is the `t`-th. -/
theorem idx2_1 : ∀ t : Fin cfg2.N, win2_1.index t = ![t.val, 0] := (by decide +kernel : ∀ t : Fin grid2.N, _)

/-- Window 1's block at point `t`: rows of its array. -/
theorem iblk2_1 (c : Dev nD) (t : Fin cfg2.N) (i : Fin 3200) (k : Fin 128) :
    iblk2 V c 1 t (ix2 i k) = V c main_v34 (ix2 (row t.val (lt2 t) i) k) := by
  refine congrArg (V c main_v34) (funext fun a => Fin.ext ?_)
  refine (win2_1.rect_emb_val t _ a).trans ?_
  rw [idx2_1]
  fin_cases a
  · rfl
  · exact Nat.zero_add _

/-- Window 2's block at point `t` is the `t`-th. -/
theorem idx2_2 : ∀ t : Fin cfg2.N, win2_2.index t = ![t.val, 0] := (by decide +kernel : ∀ t : Fin grid2.N, _)

/-- Window 2's block at point `t`: rows of its array. -/
theorem iblk2_2 (c : Dev nD) (t : Fin cfg2.N) (i : Fin 3200) (k : Fin 128) :
    iblk2 V c 2 t (ix2 i k) = V c main_v43 (ix2 (row t.val (lt2 t) i) k) := by
  refine congrArg (V c main_v43) (funext fun a => Fin.ext ?_)
  refine (win2_2.rect_emb_val t _ a).trans ?_
  rw [idx2_2]
  fin_cases a
  · rfl
  · exact Nat.zero_add _

/-- Window 3's block at point `t` is the `t`-th. -/
theorem idx2_3 : ∀ t : Fin cfg2.N, win2_3.index t = ![t.val, 0, 0] := (by decide +kernel : ∀ t : Fin grid2.N, _)

/-- Window 3's block at point `t`: one slab of its array. -/
theorem iblk2_3 (c : Dev nD) (t : Fin cfg2.N) (k : Fin 3200) :
    iblk2 V c 3 t (ix3 0 0 k) = V c main_v41 (ix3 ⟨t.val, lt2 t⟩ 0 k) := by
  refine congrArg (V c main_v41) (funext fun a => Fin.ext ?_)
  refine (win2_3.rect_emb_val t _ a).trans ?_
  rw [idx2_3]
  fin_cases a
  · exact Nat.mul_one _
  · rfl
  · exact Nat.zero_add _

/-- Window 4 has one block. -/
theorem idx2_4 : ∀ t : Fin cfg2.N, ∀ a, win2_4.index t a = 0 := (by decide +kernel : ∀ t : Fin grid2.N, _)

/-- Window 4's block is its whole array. -/
theorem iblk2_4 (c : Dev nD) (t : Fin cfg2.N) : iblk2 V c 4 t = V c main_arg12 := by
  funext q
  exact congrArg (V c main_arg12) (funext fun a => Fin.ext (win2_4.rect_emb_val_of_index_zero t a (idx2_4 t a) q))

/-- Window 5 has one block. -/
theorem idx2_5 : ∀ t : Fin cfg2.N, ∀ a, win2_5.index t a = 0 := (by decide +kernel : ∀ t : Fin grid2.N, _)

/-- Window 5's block is its whole array. -/
theorem iblk2_5 (c : Dev nD) (t : Fin cfg2.N) : iblk2 V c 5 t = V c main_v7 := by
  funext q
  exact congrArg (V c main_v7) (funext fun a => Fin.ext (win2_5.rect_emb_val_of_index_zero t a (idx2_5 t a) q))

/-- Window 6's block at point `t` is the `t`-th. -/
theorem idx2_6 : ∀ t : Fin cfg2.N, win2_6.index t = ![t.val, 0] := (by decide +kernel : ∀ t : Fin grid2.N, _)

/-- What the region finds: real arrays. -/
structure In2 (c : Dev nD) (X L Q : Fin 320000 → Fin 128 → ℝ) (N : Fin 320000 → ℝ) (W : Fin 128 → Fin 128 → ℝ) (E : ℝ) : Prop where
  x : R2 (V c main_arg1) X
  l : R2 (V c main_v34) L
  q : R2 (V c main_v43) Q
  n : ∀ (t : Fin 100) (j : Fin 3200), V c main_v41 (ix3 t 0 j) = ((N (row t.val t.isLt j) : ℝ) : EReal)
  w : R2 (V c main_arg12) W
  e : V c main_v7 (ix2 0 0) = (E : EReal)

variable {V} {c : Dev nD} {X L Q : Fin 320000 → Fin 128 → ℝ} {N : Fin 320000 → ℝ} {W : Fin 128 → Fin 128 → ℝ} {E : ℝ}

/-- The layer's block. -/
theorem In2.z (H : In2 V c X L Q N W E) (t : Fin cfg2.N) :
    R2 (k2_pay7 (iblk2 V c 0 t) (iblk2 V c 1 t) (iblk2 V c 5 t) (iblk2 V c 4 t))
      (fun i k => lin (fun e j => (1 + E) * X e j + L e j) W (row t.val (lt2 t) i) k) :=
  k2_pay7_real _ _ _ _ (fun i => X (row t.val (lt2 t) i)) (fun i => L (row t.val (lt2 t) i)) W E
    (fun i k => (iblk2_0 V c t i k).trans (H.x _ _)) (fun i k => (iblk2_1 V c t i k).trans (H.l _ _))
    (by rw [iblk2_5]; exact H.e) (by rw [iblk2_4]; exact H.w)

end Cert.KernelIdeal.Own
-- ==== Proof.KernelIdeal.Val2a.lean ====
/-
  The rows that the third custom call writes.
-/
module

public import proofs.«01_k».proof.Proof.KernelIdeal.Blk2
public import Idealize.ShloMosaic.Lib.Pipeline.ValueKit

@[expose] public section

set_option maxRecDepth 16384

noncomputable section

namespace Cert.KernelIdeal.Own

open Cert.KernelIdeal Cert.KernelIdeal.Gen Cert.Val Idealize.ShloMosaic Idealize.ShloMosaic.TcCoe Finset
open Idealize.ShloMosaic.Pipeline (Dat Cfg Window)

variable (V : (c : Dev nD) → (b : Ref sig .tc) → Buf (Elt Ideal) ((c : Thread nD τ).loc b))

variable {V} {c : Dev nD} {X L Q : Fin 320000 → Fin 128 → ℝ} {N : Fin 320000 → ℝ} {W : Fin 128 → Fin 128 → ℝ} {E : ℝ}

/-- The layer's rows. -/
theorem In2.rows (H : In2 V c X L Q N W E) :
    R2 ((dat2 V c).arrAt 6 cfg2.N) (lin (fun e j => (1 + E) * X e j + L e j) W) := by
  have e : (dat2 V c).arrAt 6 cfg2.N = (fun q => ((lin (fun e j => (1 + E) * X e j + L e j) W (q 0) (q 1) : ℝ) : EReal)) := by
    refine (dat2 V c).arrAt_eq_of_covers 6 _ (by decide +kernel) fun t hf y => ?_
    obtain ⟨i, k, rfl⟩ : ∃ (i : Fin 3200) (k : Fin 128), y = ix2 i k := ⟨y 0, y 1, eq_ix2 y⟩
    have hy : ((View.whole main_v44_0).slice (win2_6.rect t)).emb (ix2 i k) = ix2 (row t.val (lt2 t) i) k := by
      funext a; refine Fin.ext ((win2_6.rect_emb_val t _ a).trans ?_)
      rw [idx2_6]
      fin_cases a
      · rfl
      · exact Nat.zero_add _
    blk_simp
    rw [after2_6, hy]
    exact H.z t i k
  intro i j
  rw [e]; rfl

end Cert.KernelIdeal.Own
-- ==== Proof.KernelIdeal.Val2b.lean ====
/-
  The sums that the third custom call leaves.
-/
module

public import proofs.«01_k».proof.Proof.KernelIdeal.Blk2
public import Idealize.ShloMosaic.Lib.Pipeline.ValueKit

@[expose] public section

set_option maxRecDepth 16384

noncomputable section

namespace Cert.KernelIdeal.Own

open Cert.KernelIdeal Cert.KernelIdeal.Gen Cert.Val Idealize.ShloMosaic Idealize.ShloMosaic.TcCoe Finset
open Idealize.ShloMosaic.Pipeline (Dat Cfg Window)

variable (V : (c : Dev nD) → (b : Ref sig .tc) → Buf (Elt Ideal) ((c : Thread nD τ).loc b))

variable {V} {c : Dev nD} {X L Q : Fin 320000 → Fin 128 → ℝ} {N : Fin 320000 → ℝ} {W : Fin 128 → Fin 128 → ℝ} {E : ℝ}

/-- The last point. -/
def end2 : Fin cfg2.N := ⟨99, Nat.lt_of_lt_of_eq (by norm_num : 99 < 100) N_2.symm⟩

/-- The cleared accumulators. -/
theorem k2_pay1_zero (r : Fin 8) (h : Fin 128) : k2_pay1 (F := Ideal) (ix2 r h) = ((0 : ℝ) : EReal) := by
  pointwise [k2_pay1]
  rfl
/-- The cleared accumulators. -/
theorem k2_pay2_zero (r : Fin 8) (h : Fin 128) : k2_pay2 (F := Ideal) (ix2 r h) = ((0 : ℝ) : EReal) := by
  pointwise [k2_pay2]
  rfl
/-- The cleared accumulators. -/
theorem k2_pay3_zero (r h : Fin 128) : k2_pay3 (F := Ideal) (ix2 r h) = ((0 : ℝ) : EReal) := by
  pointwise [k2_pay3]
  rfl

/-- One entry of the product of two blocks over their rows, added to a number. -/
theorem gram_step (l q : Vec Ideal S3200x128 .f32) (s : Vec Ideal S128x128 .f32) (L Q : Fin 3200 → Fin 128 → ℝ) (S : ℝ) (j h : Fin 128)
    (hL : R2 l L) (hQ : R2 q Q) (hs : s (ix2 j h) = (S : EReal)) :
    k2_pay14 (k2_pay4 l) (k2_pay5 q) s (ix2 j h) = ((S + ∑ e, L e j * Q e h : ℝ) : EReal) := by
  pointwise [k2_pay14, k2_pay4, k2_pay5]
  simp only [hL _ _, hQ _ _, hs, coe_sum, ← EReal.coe_add, ← EReal.coe_mul]

/-- The column sums of the layer. -/
theorem In2.stat0 (H : In2 V c X L Q N W E) (h : Fin 128) :
    (dat2 V c).arrAt 7 cfg2.N (ix2 0 h) = ((∑ e, lin (fun e j => (1 + E) * X e j + L e j) W e h : ℝ) : EReal) := by
  have e : (dat2 V c).arrAt 7 cfg2.N = sc2_0 V c end2.val end2.isLt := by
    refine (dat2 V c).arrAt_eq_of_after_last 7 end2 (by decide +kernel) _ fun j => ?_
    blk_simp
    rw [after2_7]
  have st : ∀ (t : Fin cfg2.N) s (S : ℝ), s (ix2 0 h) = (S : EReal) →
      acc2_0 (iblk2 V c 0 t) (iblk2 V c 1 t) (iblk2 V c 2 t) (iblk2 V c 3 t) (iblk2 V c 4 t) (iblk2 V c 5 t) s (ix2 0 h)
        = ((S + blockSum (fun e => lin (fun e j => (1 + E) * X e j + L e j) W e h) t.val : ℝ) : EReal) := by
    intro t s S hs
    rw [blockSum_of _ _ (lt2 t)]
    refine (put_lt _ 1 _ 0 (by decide) h).trans ((put0_0 _ _ h).trans ?_)
    exact k2_pay8_real _ _ _ _ _ _ S h (H.z t) ((window0 s h).trans hs)
  rw [e, acc_total (fun n hn => sc2_0 V c n hn (ix2 0 h)) (blockSum (fun e => lin (fun e j => (1 + E) * X e j + L e j) W e h))
    (fun t hz => by rw [sc2_0_zero V c t hz]; exact st t _ 0 (k2_pay1_zero 0 h))
    (fun t hz S hS => by rw [sc2_0_pos V c t hz]; exact st t _ S hS) end2.val end2.isLt]
  exact congrArg Real.toEReal (sum_blocks _)

/-- The column sums of squares of the layer. -/
theorem In2.stat1 (H : In2 V c X L Q N W E) (h : Fin 128) :
    (dat2 V c).arrAt 7 cfg2.N (ix2 1 h) = ((∑ e, lin (fun e j => (1 + E) * X e j + L e j) W e h * lin (fun e j => (1 + E) * X e j + L e j) W e h : ℝ) : EReal) := by
  have e : (dat2 V c).arrAt 7 cfg2.N = sc2_0 V c end2.val end2.isLt := by
    refine (dat2 V c).arrAt_eq_of_after_last 7 end2 (by decide +kernel) _ fun j => ?_
    blk_simp
    rw [after2_7]
  have st : ∀ (t : Fin cfg2.N) s (S : ℝ), s (ix2 1 h) = (S : EReal) →
      acc2_0 (iblk2 V c 0 t) (iblk2 V c 1 t) (iblk2 V c 2 t) (iblk2 V c 3 t) (iblk2 V c 4 t) (iblk2 V c 5 t) s (ix2 1 h)
        = ((S + blockSum (fun e => lin (fun e j => (1 + E) * X e j + L e j) W e h * lin (fun e j => (1 + E) * X e j + L e j) W e h) t.val : ℝ) : EReal) := by
    intro t s S hs
    rw [blockSum_of _ _ (lt2 t)]
    refine (put1_1 _ _ h).trans ?_
    exact k2_pay10_real _ _ _ _ _ _ S h (H.z t) ((window1 s h).trans hs)
  rw [e, acc_total (fun n hn => sc2_0 V c n hn (ix2 1 h)) (blockSum (fun e => lin (fun e j => (1 + E) * X e j + L e j) W e h * lin (fun e j => (1 + E) * X e j + L e j) W e h))
    (fun t hz => by rw [sc2_0_zero V c t hz]; exact st t _ 0 (k2_pay1_zero 1 h))
    (fun t hz S hS => by rw [sc2_0_pos V c t hz]; exact st t _ S hS) end2.val end2.isLt]
  exact congrArg Real.toEReal (sum_blocks _)

/-- The column sums of the lifted rows. -/
theorem In2.sum0 (H : In2 V c X L Q N W E) (h : Fin 128) :
    (dat2 V c).arrAt 8 cfg2.N (ix2 0 h) = ((∑ e, L e h : ℝ) : EReal) := by
  have e : (dat2 V c).arrAt 8 cfg2.N = sc2_1 V c end2.val end2.isLt := by
    refine (dat2 V c).arrAt_eq_of_after_last 8 end2 (by decide +kernel) _ fun j => ?_
    blk_simp
    rw [after2_8]
  have st : ∀ (t : Fin cfg2.N) s (S : ℝ), s (ix2 0 h) = (S : EReal) →
      acc2_1 (iblk2 V c 0 t) (iblk2 V c 1 t) (iblk2 V c 2 t) (iblk2 V c 3 t) (iblk2 V c 4 t) (iblk2 V c 5 t) s (ix2 0 h)
        = ((S + blockSum (fun e => L e h) t.val : ℝ) : EReal) := by
    intro t s S hs
    rw [blockSum_of _ _ (lt2 t)]
    refine (put_lt _ 2 _ 0 (by decide) h).trans ((put_lt _ 1 _ 0 (by decide) h).trans ((put0_0 _ _ h).trans ?_))
    exact k2_pay11_real _ _ (fun i => L (row t.val (lt2 t) i)) S h (fun i k => (iblk2_1 V c t i k).trans (H.l _ _)) ((window0 s h).trans hs)
  rw [e, acc_total (fun n hn => sc2_1 V c n hn (ix2 0 h)) (blockSum (fun e => L e h))
    (fun t hz => by rw [sc2_1_zero V c t hz]; exact st t _ 0 (k2_pay2_zero 0 h))
    (fun t hz S hS => by rw [sc2_1_pos V c t hz]; exact st t _ S hS) end2.val end2.isLt]
  exact congrArg Real.toEReal (sum_blocks _)

/-- The weighted column sums of the message rows. -/
theorem In2.sum1 (H : In2 V c X L Q N W E) (h : Fin 128) :
    (dat2 V c).arrAt 8 cfg2.N (ix2 1 h) = ((∑ e, N e * Q e h : ℝ) : EReal) := by
  have e : (dat2 V c).arrAt 8 cfg2.N = sc2_1 V c end2.val end2.isLt := by
    refine (dat2 V c).arrAt_eq_of_after_last 8 end2 (by decide +kernel) _ fun j => ?_
    blk_simp
    rw [after2_8]
  have st : ∀ (t : Fin cfg2.N) s (S : ℝ), s (ix2 1 h) = (S : EReal) →
      acc2_1 (iblk2 V c 0 t) (iblk2 V c 1 t) (iblk2 V c 2 t) (iblk2 V c 3 t) (iblk2 V c 4 t) (iblk2 V c 5 t) s (ix2 1 h)
        = ((S + blockSum (fun e => N e * Q e h) t.val : ℝ) : EReal) := by
    intro t s S hs
    rw [blockSum_of _ _ (lt2 t)]
    refine (put_lt _ 2 _ 1 (by decide) h).trans ((put1_1 _ _ h).trans ?_)
    exact k2_pay12_real _ _ _ (fun i => Q (row t.val (lt2 t) i)) (fun i => N (row t.val (lt2 t) i)) S h
      (fun i k => (iblk2_2 V c t i k).trans (H.q _ _)) (fun k => (iblk2_3 V c t k).trans (H.n _ _)) ((window1 s h).trans hs)
  rw [e, acc_total (fun n hn => sc2_1 V c n hn (ix2 1 h)) (blockSum (fun e => N e * Q e h))
    (fun t hz => by rw [sc2_1_zero V c t hz]; exact st t _ 0 (k2_pay2_zero 1 h))
    (fun t hz S hS => by rw [sc2_1_pos V c t hz]; exact st t _ S hS) end2.val end2.isLt]
  exact congrArg Real.toEReal (sum_blocks _)

/-- The weighted column sums of the message rows' squares. -/
theorem In2.sum2 (H : In2 V c X L Q N W E) (h : Fin 128) :
    (dat2 V c).arrAt 8 cfg2.N (ix2 2 h) = ((∑ e, N e * (Q e h * Q e h) : ℝ) : EReal) := by
  have e : (dat2 V c).arrAt 8 cfg2.N = sc2_1 V c end2.val end2.isLt := by
    refine (dat2 V c).arrAt_eq_of_after_last 8 end2 (by decide +kernel) _ fun j => ?_
    blk_simp
    rw [after2_8]
  have st : ∀ (t : Fin cfg2.N) s (S : ℝ), s (ix2 2 h) = (S : EReal) →
      acc2_1 (iblk2 V c 0 t) (iblk2 V c 1 t) (iblk2 V c 2 t) (iblk2 V c 3 t) (iblk2 V c 4 t) (iblk2 V c 5 t) s (ix2 2 h)
        = ((S + blockSum (fun e => N e * (Q e h * Q e h)) t.val : ℝ) : EReal) := by
    intro t s S hs
    rw [blockSum_of _ _ (lt2 t)]
    refine (put2_2 _ _ h).trans ?_
    exact k2_pay13_real _ _ _ (fun i => Q (row t.val (lt2 t) i)) (fun i => N (row t.val (lt2 t) i)) S h
      (fun i k => (iblk2_2 V c t i k).trans (H.q _ _)) (fun k => (iblk2_3 V c t k).trans (H.n _ _)) ((window2 s h).trans hs)
  rw [e, acc_total (fun n hn => sc2_1 V c n hn (ix2 2 h)) (blockSum (fun e => N e * (Q e h * Q e h)))
    (fun t hz => by rw [sc2_1_zero V c t hz]; exact st t _ 0 (k2_pay2_zero 2 h))
    (fun t hz S hS => by rw [sc2_1_pos V c t hz]; exact st t _ S hS) end2.val end2.isLt]
  exact congrArg Real.toEReal (sum_blocks _)

/-- The product of the lifted rows and the message rows. -/
theorem In2.gram (H : In2 V c X L Q N W E) (j h : Fin 128) :
    (dat2 V c).arrAt 9 cfg2.N (ix2 j h) = ((∑ e, L e j * Q e h : ℝ) : EReal) := by
  have e : (dat2 V c).arrAt 9 cfg2.N = sc2_2 V c end2.val end2.isLt := by
    refine (dat2 V c).arrAt_eq_of_after_last 9 end2 (by decide +kernel) _ fun j => ?_
    blk_simp
    rw [after2_9]
  have st : ∀ (t : Fin cfg2.N) s (S : ℝ), s (ix2 j h) = (S : EReal) →
      acc2_2 (iblk2 V c 0 t) (iblk2 V c 1 t) (iblk2 V c 2 t) (iblk2 V c 3 t) (iblk2 V c 4 t) (iblk2 V c 5 t) s (ix2 j h)
        = ((S + blockSum (fun e => L e j * Q e h) t.val : ℝ) : EReal) := by
    intro t s S hs
    rw [blockSum_of _ _ (lt2 t)]
    exact gram_step (iblk2 V c 1 t) (iblk2 V c 2 t) s (fun i => L (row t.val (lt2 t) i)) (fun i => Q (row t.val (lt2 t) i)) S j h
      (fun i k => (iblk2_1 V c t i k).trans (H.l _ _)) (fun i k => (iblk2_2 V c t i k).trans (H.q _ _)) hs
  rw [e, acc_total (fun n hn => sc2_2 V c n hn (ix2 j h)) (blockSum (fun e => L e j * Q e h))
    (fun t hz => by rw [sc2_2_zero V c t hz]; exact st t _ 0 (k2_pay3_zero j h))
    (fun t hz S hS => by rw [sc2_2_pos V c t hz]; exact st t _ S hS) end2.val end2.isLt]
  exact congrArg Real.toEReal (sum_blocks _)

end Cert.KernelIdeal.Own
-- ==== Proof.KernelIdeal.PayB.lean ====
/-
  What the fourth and fifth custom calls compute of blocks of real numbers.
-/
module

public import proofs.«01_k».proof.Proof.Gen.KernelIdeal.Skeleton
public import proofs.«01_k».proof.Proof.Val.Data
public import Idealize.ShloMosaic.Lib.Pointwise

@[expose] public section

set_option maxRecDepth 16384

noncomputable section

namespace Cert.KernelIdeal.Own

open Cert.KernelIdeal Cert.KernelIdeal.Gen Cert.Val Idealize.ShloMosaic Idealize.ShloMosaic.TcCoe Finset

/-- The edge rows' second layer on a block. -/
theorem k3_pay3_real (z : Vec Ideal S3200x128 .f32) (a b : Vec Ideal S1x128 .f32) (w : Vec Ideal S128x128 .f32) (Z W) (A B : Fin 128 → ℝ)
    (hZ : R2 z Z) (ha : R2 a (fun _ : Fin 1 => A)) (hb : R2 b (fun _ : Fin 1 => B)) (hW : R2 w W) :
    R2 (k3_pay3 z a b w) (lin (fun i j => max (Z i j * A j + B j) 0) W) := by
  intro i j
  pointwise [k3_pay3]
  simp only [hZ _ _, ha _ _, hb _ _, hW _ _, ← EReal.coe_zero, ← EReal.coe_mul, ← EReal.coe_add, coe_max, coe_sum]
  rfl

/-- The column sums of the layer's block, added to a row. -/
theorem k3_pay4_real (z : Vec Ideal S3200x128 .f32) (a b : Vec Ideal S1x128 .f32) (w : Vec Ideal S128x128 .f32) (s : Vec Ideal S1x128 .f32)
    (Z) (S : ℝ) (h : Fin 128) (hZ : R2 (k3_pay3 z a b w) Z) (hs : s (ix2 0 h) = (S : EReal)) :
    k3_pay4 z a b w s (ix2 0 h) = ((S + ∑ i, Z i h : ℝ) : EReal) := by
  unfold k3_pay4
  generalize k3_pay3 z a b w = z at hZ
  pointwise []
  simp only [hZ _ _, hs, coe_sum, ← EReal.coe_add]

/-- The column sums of squares of the layer's block, added to a row. -/
theorem k3_pay5_real (z : Vec Ideal S3200x128 .f32) (a b : Vec Ideal S1x128 .f32) (w : Vec Ideal S128x128 .f32) (s : Vec Ideal S1x128 .f32)
    (Z) (S : ℝ) (h : Fin 128) (hZ : R2 (k3_pay3 z a b w) Z) (hs : s (ix2 0 h) = (S : EReal)) :
    k3_pay1 (k3_pay5 z a b w s) (ix2 0 h) = ((S + ∑ i, Z i h * Z i h : ℝ) : EReal) := by
  unfold k3_pay1 k3_pay5
  generalize k3_pay3 z a b w = z at hZ
  pointwise []
  simp only [hZ _ _, hs, coe_sum, ← EReal.coe_add, ← EReal.coe_mul]

/-- A row scaled and shifted, then its positive part. -/
theorem k4_pay1_real (z : Vec Ideal S3200x128 .f32) (a b : Vec Ideal S1x128 .f32) (Z) (A B : Fin 128 → ℝ)
    (hZ : R2 z Z) (ha : R2 a (fun _ : Fin 1 => A)) (hb : R2 b (fun _ : Fin 1 => B)) :
    R2 (k4_pay1 z a b) (fun i j => max (Z i j * A j + B j) 0) := by
  intro i j
  pointwise [k4_pay1]
  simp only [hZ _ _, ha _ _, hb _ _, ← EReal.coe_zero, ← EReal.coe_mul, ← EReal.coe_add, coe_max]

end Cert.KernelIdeal.Own
-- ==== Proof.KernelIdeal.Val3.lean ====
/-
  The fourth custom call, over the real numbers.
-/
module

public import proofs.«01_k».proof.Proof.KernelIdeal.Reg3
public import proofs.«01_k».proof.Proof.KernelIdeal.PayB
public import proofs.«01_k».proof.Proof.KernelIdeal.Rows
public import Idealize.ShloMosaic.Lib.Pipeline.ValueKit

@[expose] public section

set_option maxRecDepth 16384

noncomputable section

namespace Cert.KernelIdeal.Own

open Cert.KernelIdeal Cert.KernelIdeal.Gen Cert.Val Idealize.ShloMosaic Idealize.ShloMosaic.TcCoe Finset
open Idealize.ShloMosaic.Pipeline (Dat Cfg Window)

variable (V : (c : Dev nD) → (b : Ref sig .tc) → Buf (Elt Ideal) ((c : Thread nD τ).loc b))

/-- The grid has a hundred points. -/
theorem lt3 (t : Fin cfg3.N) : t.val < 100 := Nat.lt_of_lt_of_eq t.isLt N_3

/-- Window 0's block at point `t` is the `t`-th. -/
theorem idx3_0 : ∀ t : Fin cfg3.N, win3_0.index t = ![t.val, 0] := (by decide +kernel : ∀ t : Fin grid3.N, _)

/-- Window 0's block at point `t`: rows of its array. -/
theorem iblk3_0 (c : Dev nD) (t : Fin cfg3.N) (i : Fin 3200) (k : Fin 128) :
    iblk3 V c 0 t (ix2 i k) = V c main_v44_0 (ix2 (row t.val (lt3 t) i) k) := by
  refine congrArg (V c main_v44_0) (funext fun a => Fin.ext ?_)
  refine (win3_0.rect_emb_val t _ a).trans ?_
  rw [idx3_0]
  fin_cases a
  · rfl
  · exact Nat.zero_add _

/-- Window 1 has one block. -/
theorem idx3_1 : ∀ t : Fin cfg3.N, ∀ a, win3_1.index t a = 0 := (by decide +kernel : ∀ t : Fin grid3.N, _)

/-- Window 1's block is its whole array. -/
theorem iblk3_1 (c : Dev nD) (t : Fin cfg3.N) : iblk3 V c 1 t = V c main_v123 := by
  funext q
  exact congrArg (V c main_v123) (funext fun a => Fin.ext (win3_1.rect_emb_val_of_index_zero t a (idx3_1 t a) q))

/-- Window 2 has one block. -/
theorem idx3_2 : ∀ t : Fin cfg3.N, ∀ a, win3_2.index t a = 0 := (by decide +kernel : ∀ t : Fin grid3.N, _)

/-- Window 2's block is its whole array. -/
theorem iblk3_2 (c : Dev nD) (t : Fin cfg3.N) : iblk3 V c 2 t = V c main_arg15 := by
  funext q
  exact congrArg (V c main_arg15) (funext fun a => Fin.ext (win3_2.rect_emb_val_of_index_zero t a (idx3_2 t a) q))

/-- Window 3's block at point `t` is the `t`-th. -/
theorem idx3_3 : ∀ t : Fin cfg3.N, win3_3.index t = ![t.val, 0] := (by decide +kernel : ∀ t : Fin grid3.N, _)

/-- What the region finds: real arrays. -/
structure In3 (c : Dev nD) (Z : Fin 320000 → Fin 128 → ℝ) (A B : Fin 128 → ℝ) (W : Fin 128 → Fin 128 → ℝ) : Prop where
  z : R2 (V c main_v44_0) Z
  a : ∀ h, V c main_v123 (ix2 0 h) = ((A h : ℝ) : EReal)
  b : ∀ h, V c main_v123 (ix2 1 h) = ((B h : ℝ) : EReal)
  w : R2 (V c main_arg15) W

variable {V} {c : Dev nD} {Z : Fin 320000 → Fin 128 → ℝ} {A B : Fin 128 → ℝ} {W : Fin 128 → Fin 128 → ℝ}

/-- The layer's block. -/
theorem In3.blk (H : In3 V c Z A B W) (t : Fin cfg3.N) :
    R2 (k3_pay3 (iblk3 V c 0 t) (VecWindow.window (iblk3 V c 1 t) ![0, 0] S1x128.size inb_S8x128_S1x128_0_0)
        (VecWindow.window (iblk3 V c 1 t) ![1, 0] S1x128.size inb_S8x128_S1x128_1_0) (iblk3 V c 2 t))
      (fun i k => lin (fun e j => max (Z e j * A j + B j) 0) W (row t.val (lt3 t) i) k) :=
  k3_pay3_real _ _ _ _ (fun i => Z (row t.val (lt3 t) i)) W A B
    (fun i k => (iblk3_0 V c t i k).trans (H.z _ _))
    (fun i h => by obtain rfl : i = 0 := Subsingleton.elim _ _; rw [iblk3_1]; exact (window0 _ h).trans (H.a h))
    (fun i h => by obtain rfl : i = 0 := Subsingleton.elim _ _; rw [iblk3_1]; exact (window1 _ h).trans (H.b h))
    (by rw [iblk3_2]; exact H.w)

/-- The layer's rows. -/
theorem In3.rows (H : In3 V c Z A B W) : R2 ((dat3 V c).arrAt 3 cfg3.N) (lin (fun e j => max (Z e j * A j + B j) 0) W) := by
  have e : (dat3 V c).arrAt 3 cfg3.N = (fun q => ((lin (fun e j => max (Z e j * A j + B j) 0) W (q 0) (q 1) : ℝ) : EReal)) := by
    refine (dat3 V c).arrAt_eq_of_covers 3 _ (by decide +kernel) fun t hf y => ?_
    obtain ⟨i, k, rfl⟩ : ∃ (i : Fin 3200) (k : Fin 128), y = ix2 i k := ⟨y 0, y 1, eq_ix2 y⟩
    have hy : ((View.whole main_v124_0).slice (win3_3.rect t)).emb (ix2 i k) = ix2 (row t.val (lt3 t) i) k := by
      funext a; refine Fin.ext ((win3_3.rect_emb_val t _ a).trans ?_)
      rw [idx3_3]
      fin_cases a
      · rfl
      · exact Nat.zero_add _
    blk_simp
    rw [after3_3, hy]
    exact H.blk t i k
  intro i j
  rw [e]; rfl

/-- The last point. -/
def end3 : Fin cfg3.N := ⟨99, Nat.lt_of_lt_of_eq (by norm_num : 99 < 100) N_3.symm⟩

/-- The cleared accumulator. -/
theorem k3_pay2_zero (r : Fin 8) (h : Fin 128) : k3_pay2 (F := Ideal) (ix2 r h) = ((0 : ℝ) : EReal) := by
  pointwise [k3_pay2]
  rfl

/-- The column sums of the layer. -/
theorem In3.stat0 (H : In3 V c Z A B W) (h : Fin 128) :
    (dat3 V c).arrAt 4 cfg3.N (ix2 0 h) = ((∑ e, lin (fun e j => max (Z e j * A j + B j) 0) W e h : ℝ) : EReal) := by
  have e : (dat3 V c).arrAt 4 cfg3.N = sc3_0 V c end3.val end3.isLt := by
    refine (dat3 V c).arrAt_eq_of_after_last 4 end3 (by decide +kernel) _ fun j => ?_
    blk_simp
    rw [after3_4]
  have st : ∀ (t : Fin cfg3.N) s (S : ℝ), s (ix2 0 h) = (S : EReal) →
      acc3_0 (iblk3 V c 0 t) (iblk3 V c 1 t) (iblk3 V c 2 t) s (ix2 0 h)
        = ((S + blockSum (fun e => lin (fun e j => max (Z e j * A j + B j) 0) W e h) t.val : ℝ) : EReal) := by
    intro t s S hs
    rw [blockSum_of _ _ (lt3 t)]
    refine (put_lt _ 1 _ 0 (by decide) h).trans ((put0_0 _ _ h).trans ?_)
    exact k3_pay4_real _ _ _ _ _ _ S h (H.blk t) ((window0 s h).trans hs)
  rw [e, acc_total (fun n hn => sc3_0 V c n hn (ix2 0 h)) (blockSum (fun e => lin (fun e j => max (Z e j * A j + B j) 0) W e h))
    (fun t hz => by rw [sc3_0_zero V c t hz]; exact st t _ 0 (k3_pay2_zero 0 h))
    (fun t hz S hS => by rw [sc3_0_pos V c t hz]; exact st t _ S hS) end3.val end3.isLt]
  exact congrArg Real.toEReal (sum_blocks _)

/-- The column sums of squares of the layer. -/
theorem In3.stat1 (H : In3 V c Z A B W) (h : Fin 128) :
    (dat3 V c).arrAt 4 cfg3.N (ix2 1 h) = ((∑ e, lin (fun e j => max (Z e j * A j + B j) 0) W e h * lin (fun e j => max (Z e j * A j + B j) 0) W e h : ℝ) : EReal) := by
  have e : (dat3 V c).arrAt 4 cfg3.N = sc3_0 V c end3.val end3.isLt := by
    refine (dat3 V c).arrAt_eq_of_after_last 4 end3 (by decide +kernel) _ fun j => ?_
    blk_simp
    rw [after3_4]
  have st : ∀ (t : Fin cfg3.N) s (S : ℝ), s (ix2 1 h) = (S : EReal) →
      acc3_0 (iblk3 V c 0 t) (iblk3 V c 1 t) (iblk3 V c 2 t) s (ix2 1 h)
        = ((S + blockSum (fun e => lin (fun e j => max (Z e j * A j + B j) 0) W e h * lin (fun e j => max (Z e j * A j + B j) 0) W e h) t.val : ℝ) : EReal) := by
    intro t s S hs
    rw [blockSum_of _ _ (lt3 t)]
    refine (put1_1 _ _ h).trans ?_
    exact k3_pay5_real _ _ _ _ _ _ S h (H.blk t) ((window1 s h).trans hs)
  rw [e, acc_total (fun n hn => sc3_0 V c n hn (ix2 1 h)) (blockSum (fun e => lin (fun e j => max (Z e j * A j + B j) 0) W e h * lin (fun e j => max (Z e j * A j + B j) 0) W e h))
    (fun t hz => by rw [sc3_0_zero V c t hz]; exact st t _ 0 (k3_pay2_zero 1 h))
    (fun t hz S hS => by rw [sc3_0_pos V c t hz]; exact st t _ S hS) end3.val end3.isLt]
  exact congrArg Real.toEReal (sum_blocks _)

end Cert.KernelIdeal.Own
-- ==== Proof.KernelIdeal.Val4.lean ====
/-
  The fifth custom call, over the real numbers.
-/
module

public import proofs.«01_k».proof.Proof.KernelIdeal.Reg4
public import proofs.«01_k».proof.Proof.KernelIdeal.PayB
public import proofs.«01_k».proof.Proof.KernelIdeal.Rows
public import Idealize.ShloMosaic.Lib.Pipeline.ValueKit

@[expose] public section

set_option maxRecDepth 16384

noncomputable section

namespace Cert.KernelIdeal.Own

open Cert.KernelIdeal Cert.KernelIdeal.Gen Cert.Val Idealize.ShloMosaic Idealize.ShloMosaic.TcCoe Finset
open Idealize.ShloMosaic.Pipeline (Dat Cfg Window)

variable (V : (c : Dev nD) → (b : Ref sig .tc) → Buf (Elt Ideal) ((c : Thread nD τ).loc b))

/-- The grid has a hundred points. -/
theorem lt4 (t : Fin cfg4.N) : t.val < 100 := Nat.lt_of_lt_of_eq t.isLt N_4

/-- Window 0's block at point `t` is the `t`-th. -/
theorem idx4_0 : ∀ t : Fin cfg4.N, win4_0.index t = ![t.val, 0] := (by decide +kernel : ∀ t : Fin grid4.N, _)

/-- Window 0's block at point `t`: rows of its array. -/
theorem iblk4_0 (c : Dev nD) (t : Fin cfg4.N) (i : Fin 3200) (k : Fin 128) :
    iblk4 V c 0 t (ix2 i k) = V c main_v124_0 (ix2 (row t.val (lt4 t) i) k) := by
  refine congrArg (V c main_v124_0) (funext fun a => Fin.ext ?_)
  refine (win4_0.rect_emb_val t _ a).trans ?_
  rw [idx4_0]
  fin_cases a
  · rfl
  · exact Nat.zero_add _

/-- Window 1 has one block. -/
theorem idx4_1 : ∀ t : Fin cfg4.N, ∀ a, win4_1.index t a = 0 := (by decide +kernel : ∀ t : Fin grid4.N, _)

/-- Window 1's block is its whole array. -/
theorem iblk4_1 (c : Dev nD) (t : Fin cfg4.N) : iblk4 V c 1 t = V c main_v145 := by
  funext q
  exact congrArg (V c main_v145) (funext fun a => Fin.ext (win4_1.rect_emb_val_of_index_zero t a (idx4_1 t a) q))

/-- Window 2's block at point `t` is the `t`-th. -/
theorem idx4_2 : ∀ t : Fin cfg4.N, win4_2.index t = ![t.val, 0] := (by decide +kernel : ∀ t : Fin grid4.N, _)

/-- The rows scaled and shifted, then their positive part. -/
theorem rows4 (c : Dev nD) (Z : Fin 320000 → Fin 128 → ℝ) (A B : Fin 128 → ℝ) (hZ : R2 (V c main_v124_0) Z)
    (hA : ∀ h, V c main_v145 (ix2 0 h) = ((A h : ℝ) : EReal)) (hB : ∀ h, V c main_v145 (ix2 1 h) = ((B h : ℝ) : EReal)) :
    R2 ((dat4 V c).arrAt 2 cfg4.N) (fun e h => max (Z e h * A h + B h) 0) := by
  have e : (dat4 V c).arrAt 2 cfg4.N = (fun q => ((max (Z (q 0) (q 1) * A (q 1) + B (q 1)) 0 : ℝ) : EReal)) := by
    refine (dat4 V c).arrAt_eq_of_covers 2 _ (by decide +kernel) fun t hf y => ?_
    obtain ⟨i, k, rfl⟩ : ∃ (i : Fin 3200) (k : Fin 128), y = ix2 i k := ⟨y 0, y 1, eq_ix2 y⟩
    have hy : ((View.whole main_v146).slice (win4_2.rect t)).emb (ix2 i k) = ix2 (row t.val (lt4 t) i) k := by
      funext a; refine Fin.ext ((win4_2.rect_emb_val t _ a).trans ?_)
      rw [idx4_2]
      fin_cases a
      · rfl
      · exact Nat.zero_add _
    blk_simp
    rw [after4_2, hy]
    unfold out4_2
    frame_out
    refine k4_pay1_real _ _ _ (fun i => Z (row t.val (lt4 t) i)) A B (fun i k => (iblk4_0 V c t i k).trans (hZ _ _)) ?_ ?_ i k
    · intro i h
      obtain rfl : i = 0 := Subsingleton.elim _ _
      rw [iblk4_1]
      refine Eq.trans (congrArg (V c main_v145) (funext fun a => Fin.ext ?_)) (hA h)
      fin_cases a
      · rfl
      · show 0 + 1 * h.val = h.val; omega
    · intro i h
      obtain rfl : i = 0 := Subsingleton.elim _ _
      rw [iblk4_1]
      refine Eq.trans (congrArg (V c main_v145) (funext fun a => Fin.ext ?_)) (hB h)
      fin_cases a
      · rfl
      · show 0 + 1 * h.val = h.val; omega
  intro i j
  rw [e]; rfl

end Cert.KernelIdeal.Own
-- ==== Proof.KernelIdeal.PayC.lean ====
/-
  What the last custom call computes of real numbers.
-/
module

public import proofs.«01_k».proof.Proof.Gen.KernelIdeal.Skeleton
public import proofs.«01_k».proof.Proof.Val.Data
public import Idealize.ShloMosaic.Lib.Pointwise

@[expose] public section

set_option maxRecDepth 16384

noncomputable section

namespace Cert.KernelIdeal.Own

open Cert.KernelIdeal Cert.KernelIdeal.Gen Cert.Val Idealize.ShloMosaic Idealize.ShloMosaic.TcCoe Finset

/-- The node rows' second layer with its normalisation. -/
theorem k5_pay1_real (x : FVec Ideal S10000x128 .f32) (w : Vec Ideal S128x128 .f32) (g b : Vec Ideal S1x128 .f32) (X W) (G B : Fin 128 → ℝ)
    (hX : R2 x X) (hW : R2 w W) (hg : R2 g (fun _ : Fin 1 => G)) (hb : R2 b (fun _ : Fin 1 => B)) :
    R2 (k5_pay1 x w g b) (bn eps (lin X W) G B) := by
  have hv : ∀ h, 0 < var (lin X W) h + eps := fun h => add_pos_of_nonneg_of_pos (var_nonneg _ _) eps_pos
  intro i j
  pointwise [k5_pay1]
  simp only [hX _ _, hW _ _, hg _ _, hb _ _, word_N, word_eps, ← EReal.coe_mul, coe_sum, div_real _ _ (by norm_num : (10000:ℝ) ≠ 0)]
  have hm : (∑ i, ∑ k, X i k * W j k) / (10000 : ℝ) = mean (lin X W) j := by
    unfold mean; rw [Nat.cast_ofNat]; rfl
  have he : (∑ i, (∑ k, X i k * W j k) * ∑ k, X i k * W j k) / (10000 : ℝ) - mean (lin X W) j * mean (lin X W) j
      = var (lin X W) j := by
    have h := var_eq (n := 10000) (by norm_num) (lin X W) j
    rw [Nat.cast_ofNat] at h
    exact h
  rw [hm, ← EReal.coe_sub, he, ← EReal.coe_add, rsqrt_real _ (hv j), ← EReal.coe_zero, ← EReal.coe_mul, ← EReal.coe_sub,
    ← EReal.coe_mul, ← EReal.coe_add, coe_max]
  exact congrArg Real.toEReal (bn_centred (ε := eps) (lin X W) G B i j)

/-- The node rows' first layer with its normalisation. -/
theorem k5_pay2_real (e : Vec Ideal S1x1 .f32) (x a : Vec Ideal S10000x128 .f32) (w : Vec Ideal S128x128 .f32) (g b : Vec Ideal S1x128 .f32)
    (X A W) (E : ℝ) (G B : Fin 128 → ℝ) (he : e (ix2 0 0) = (E : EReal)) (hX : R2 x X) (hA : R2 a A) (hW : R2 w W)
    (hg : R2 g (fun _ : Fin 1 => G)) (hb : R2 b (fun _ : Fin 1 => B)) :
    R2 (k5_pay2 e x a w g b) (bn eps (lin (fun i j => (1 + E) * X i j + A i j) W) G B) := by
  have hv : ∀ h, 0 < var (lin (fun i j => (1 + E) * X i j + A i j) W) h + eps :=
    fun h => add_pos_of_nonneg_of_pos (var_nonneg _ _) eps_pos
  intro i j
  pointwise [k5_pay2]
  simp only [hX _ _, hA _ _, he, hW _ _, hg _ _, hb _ _, word_N, word_eps, ← EReal.coe_one, ← EReal.coe_add, ← EReal.coe_mul, coe_sum,
    div_real _ _ (by norm_num : (10000:ℝ) ≠ 0)]
  have hm : (∑ i, ∑ k, ((1 + E) * X i k + A i k) * W j k) / (10000 : ℝ) = mean (lin (fun i j => (1 + E) * X i j + A i j) W) j := by
    unfold mean; rw [Nat.cast_ofNat]; rfl
  have he : (∑ i, (∑ k, ((1 + E) * X i k + A i k) * W j k) * ∑ k, ((1 + E) * X i k + A i k) * W j k) / (10000 : ℝ) - mean (lin (fun i j => (1 + E) * X i j + A i j) W) j * mean (lin (fun i j => (1 + E) * X i j + A i j) W) j
      = var (lin (fun i j => (1 + E) * X i j + A i j) W) j := by
    have h := var_eq (n := 10000) (by norm_num) (lin (fun i j => (1 + E) * X i j + A i j) W) j
    rw [Nat.cast_ofNat] at h
    exact h
  rw [hm, ← EReal.coe_sub, he, ← EReal.coe_add, rsqrt_real _ (hv j), ← EReal.coe_zero, ← EReal.coe_mul, ← EReal.coe_sub,
    ← EReal.coe_mul, ← EReal.coe_add, coe_max]
  exact congrArg Real.toEReal (bn_centred (ε := eps) (lin (fun i j => (1 + E) * X i j + A i j) W) G B i j)

end Cert.KernelIdeal.Own
-- ==== Proof.KernelIdeal.Val5.lean ====
/-
  The last custom call, over the real numbers.
-/
module

public import proofs.«01_k».proof.Proof.KernelIdeal.Reg5
public import proofs.«01_k».proof.Proof.KernelIdeal.PayC
public import proofs.«01_k».proof.Proof.KernelIdeal.Rows
public import Idealize.ShloMosaic.Lib.Pipeline.ValueKit

@[expose] public section

set_option maxRecDepth 16384

noncomputable section

namespace Cert.KernelIdeal.Own

open Cert.KernelIdeal Cert.KernelIdeal.Gen Cert.Val Idealize.ShloMosaic Idealize.ShloMosaic.TcCoe Finset
open Idealize.ShloMosaic.Pipeline (Dat Cfg Window)

variable (V : (c : Dev nD) → (b : Ref sig .tc) → Buf (Elt Ideal) ((c : Thread nD τ).loc b))

/-- Window 0 has one block. -/
theorem idx5_0 : ∀ t : Fin cfg5.N, ∀ a, win5_0.index t a = 0 := by decide +kernel

/-- Window 0's block is its whole array. -/
theorem iblk5_0 (c : Dev nD) (t : Fin cfg5.N) : iblk5 V c 0 t = V c main_arg0 := by
  funext q
  exact congrArg (V c main_arg0) (funext fun a => Fin.ext (win5_0.rect_emb_val_of_index_zero t a (idx5_0 t a) q))

/-- Window 1 has one block. -/
theorem idx5_1 : ∀ t : Fin cfg5.N, ∀ a, win5_1.index t a = 0 := by decide +kernel

/-- Window 1's block is its whole array. -/
theorem iblk5_1 (c : Dev nD) (t : Fin cfg5.N) : iblk5 V c 1 t = V c main_v102 := by
  funext q
  exact congrArg (V c main_v102) (funext fun a => Fin.ext (win5_1.rect_emb_val_of_index_zero t a (idx5_1 t a) q))

/-- Window 2 has one block. -/
theorem idx5_2 : ∀ t : Fin cfg5.N, ∀ a, win5_2.index t a = 0 := by decide +kernel

/-- Window 2's block is its whole array. -/
theorem iblk5_2 (c : Dev nD) (t : Fin cfg5.N) : iblk5 V c 2 t = V c main_arg6 := by
  funext q
  exact congrArg (V c main_arg6) (funext fun a => Fin.ext (win5_2.rect_emb_val_of_index_zero t a (idx5_2 t a) q))

/-- Window 3 has one block. -/
theorem idx5_3 : ∀ t : Fin cfg5.N, ∀ a, win5_3.index t a = 0 := by decide +kernel

/-- Window 3's block is its whole array. -/
theorem iblk5_3 (c : Dev nD) (t : Fin cfg5.N) : iblk5 V c 3 t = V c main_v151 := by
  funext q
  exact congrArg (V c main_v151) (funext fun a => Fin.ext (win5_3.rect_emb_val_of_index_zero t a (idx5_3 t a) q))

/-- Window 4 has one block. -/
theorem idx5_4 : ∀ t : Fin cfg5.N, ∀ a, win5_4.index t a = 0 := by decide +kernel

/-- Window 4's block is its whole array. -/
theorem iblk5_4 (c : Dev nD) (t : Fin cfg5.N) : iblk5 V c 4 t = V c main_arg9 := by
  funext q
  exact congrArg (V c main_arg9) (funext fun a => Fin.ext (win5_4.rect_emb_val_of_index_zero t a (idx5_4 t a) q))

/-- Window 5 has one block. -/
theorem idx5_5 : ∀ t : Fin cfg5.N, ∀ a, win5_5.index t a = 0 := by decide +kernel

/-- Window 5's block is its whole array. -/
theorem iblk5_5 (c : Dev nD) (t : Fin cfg5.N) : iblk5 V c 5 t = V c main_v156 := by
  funext q
  exact congrArg (V c main_v156) (funext fun a => Fin.ext (win5_5.rect_emb_val_of_index_zero t a (idx5_5 t a) q))

/-- Window 6 has one block. -/
theorem idx5_6 : ∀ t : Fin cfg5.N, ∀ a, win5_6.index t a = 0 := by decide +kernel

/-- Window 6's block is its whole array. -/
theorem iblk5_6 (c : Dev nD) (t : Fin cfg5.N) : iblk5 V c 6 t = V c main_v6 := by
  funext q
  exact congrArg (V c main_v6) (funext fun a => Fin.ext (win5_6.rect_emb_val_of_index_zero t a (idx5_6 t a) q))

/-- The output window has one block. -/
theorem idx5_7 : ∀ t : Fin cfg5.N, ∀ a, win5_7.index t a = 0 := by decide +kernel

/-- The first row of eight, as a row. -/
theorem ld5_3 (x : Vec Ideal S8x128 .f32) (h : Fin 128) : View.ld x r5_3 (ix2 0 h) = x (ix2 0 h) := by
  refine congrArg x (funext fun a => Fin.ext ?_)
  fin_cases a
  · rfl
  · show 0 + 1 * h.val = h.val; omega

/-- The second row of eight, as a row. -/
theorem ld5_4 (x : Vec Ideal S8x128 .f32) (h : Fin 128) : View.ld x r5_4 (ix2 0 h) = x (ix2 1 h) := by
  refine congrArg x (funext fun a => Fin.ext ?_)
  fin_cases a
  · rfl
  · show 0 + 1 * h.val = h.val; omega

/-- What the region finds: real arrays. -/
structure In5 (c : Dev nD) (X L : Fin 10000 → Fin 128 → ℝ) (W W' : Fin 128 → Fin 128 → ℝ) (E : ℝ) (G B G' B' : Fin 128 → ℝ) : Prop where
  x : R2 (V c main_arg0) X
  l : R2 (V c main_v102) L
  w : R2 (V c main_arg6) W
  g : ∀ h, V c main_v151 (ix2 0 h) = ((G h : ℝ) : EReal)
  b : ∀ h, V c main_v151 (ix2 1 h) = ((B h : ℝ) : EReal)
  w' : R2 (V c main_arg9) W'
  g' : ∀ h, V c main_v156 (ix2 0 h) = ((G' h : ℝ) : EReal)
  b' : ∀ h, V c main_v156 (ix2 1 h) = ((B' h : ℝ) : EReal)
  e : V c main_v6 (ix2 0 0) = (E : EReal)

variable {V} {c : Dev nD} {X L : Fin 10000 → Fin 128 → ℝ} {W W' : Fin 128 → Fin 128 → ℝ} {E : ℝ} {G B G' B' : Fin 128 → ℝ}

/-- The two layers of the node rows. -/
theorem In5.rows (H : In5 V c X L W W' E G B G' B') :
    R2 ((dat5 V c).arrAt 7 cfg5.N)
      (bn eps (lin (bn eps (lin (fun i j => (1 + E) * X i j + L i j) W) G B) W') G' B') := by
  have e : (dat5 V c).arrAt 7 cfg5.N = k5_pay1 (F := Ideal) (k5_pay2 (V c main_v6) (V c main_arg0) (V c main_v102) (V c main_arg6)
      (View.ld (V c main_v151) r5_3) (View.ld (V c main_v151) r5_4)) (V c main_arg9) (View.ld (V c main_v156) r5_3) (View.ld (V c main_v156) r5_4) := by
    refine (dat5 V c).arrAt_eq_of_covers 7 _ (by decide +kernel) fun t hf y => ?_
    have hy : ((View.whole main_v157).slice (win5_7.rect t)).emb y = y :=
      funext fun a => Fin.ext (win5_7.rect_emb_val_of_index_zero t a (idx5_7 t a) _)
    blk_simp
    rw [after5_7, hy, iblk5_0, iblk5_1, iblk5_2, iblk5_3, iblk5_4, iblk5_5, iblk5_6]
    unfold out5_7
    frame_out
    rfl
  rw [e]
  refine k5_pay1_real _ _ _ _ _ W' G' B' (k5_pay2_real _ _ _ _ _ _ X L W E G B H.e H.x H.l H.w ?_ ?_) H.w' ?_ ?_
  · intro i h; obtain rfl : i = 0 := Subsingleton.elim _ _; exact (ld5_3 _ h).trans (H.g h)
  · intro i h; obtain rfl : i = 0 := Subsingleton.elim _ _; exact (ld5_4 _ h).trans (H.b h)
  · intro i h; obtain rfl : i = 0 := Subsingleton.elim _ _; exact (ld5_3 _ h).trans (H.g' h)
  · intro i h; obtain rfl : i = 0 := Subsingleton.elim _ _; exact (ld5_4 _ h).trans (H.b' h)

end Cert.KernelIdeal.Own
-- ==== Proof.KernelIdeal.Chain.lean ====
/-
  Both results as real arrays: the values of the parts composed along the program.
-/
module

public import proofs.«01_k».proof.Proof.KernelIdeal.Keep
public import proofs.«01_k».proof.Proof.KernelIdeal.HostA
public import proofs.«01_k».proof.Proof.KernelIdeal.HostC
public import proofs.«01_k».proof.Proof.KernelIdeal.HostD
public import proofs.«01_k».proof.Proof.KernelIdeal.HostE
public import proofs.«01_k».proof.Proof.KernelIdeal.HostF
public import proofs.«01_k».proof.Proof.KernelIdeal.HostT
public import proofs.«01_k».proof.Proof.KernelIdeal.Val0
public import proofs.«01_k».proof.Proof.KernelIdeal.Val2a
public import proofs.«01_k».proof.Proof.KernelIdeal.Val2b
public import proofs.«01_k».proof.Proof.KernelIdeal.Val3
public import proofs.«01_k».proof.Proof.KernelIdeal.Val4
public import proofs.«01_k».proof.Proof.KernelIdeal.Val5

@[expose] public section

set_option maxRecDepth 16384

noncomputable section

namespace Cert.KernelIdeal.Own

open Cert.KernelIdeal Cert.KernelIdeal.Gen Cert.Val Idealize.ShloMosaic Idealize.ShloMosaic.TcCoe Idealize.ShloMosaic.StableHlo Finset

variable (m : (ℓ : Loc nD τ sig) → Buf (Elt Ideal) ℓ)

/-- The argument arrays of a device hold the data. -/
abbrev HoldsM (c : Dev nD) (D : Data) : Prop :=
  D.Holds (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19))

variable {m} {c : Dev nD} {D : Data} (H : HoldsM m c D)
include H

/-- What `v1` holds once part 1 of the program has written it. -/
theorem at1_v1 :
    Names1 (W1 m c (Proc.devRef .tc main_v1)) D.n0 := by
  exact hA_v1 (W0 m c) _ H.h20

/-- What `v3` holds once part 1 of the program has written it. -/
theorem at1_v3 :
    Names1 (W1 m c (Proc.devRef .tc main_v3)) D.n1 := by
  exact hA_v3 (W0 m c) _ H.h21

/-- What `v4` holds once part 1 of the program has written it. -/
theorem at1_v4 :
    R2 (W1 m c (Proc.devRef .tc main_v4)) D.Wa := by
  exact hA_v4 (W0 m c) _ H.h3

/-- What `v5` holds once part 1 of the program has written it. -/
theorem at1_v5 :
    R2 (W1 m c (Proc.devRef .tc main_v5)) D.Wb := by
  exact hA_v5 (W0 m c) _ H.h3

/-- What `v6` holds once part 1 of the program has written it. -/
theorem at1_v6 :
    (W1 m c (Proc.devRef .tc main_v6)) (ix2 0 0) = ((D.e1 : ℝ) : EReal) := by
  exact hA_v6 (W0 m c) _ H.h18

/-- What `v7` holds once part 1 of the program has written it. -/
theorem at1_v7 :
    (W1 m c (Proc.devRef .tc main_v7)) (ix2 0 0) = ((D.e2 : ℝ) : EReal) := by
  exact hA_v7 (W0 m c) _ H.h19

/-- What `v16` holds once part 1 of the program has written it. -/
theorem at1_v16 :
    R1 (W1 m c (Proc.devRef .tc main_v16)) (cnt D.n0) := by
  exact hA_v16 (W0 m c) _ H.h20

/-- What `v25` holds once part 1 of the program has written it. -/
theorem at1_v25 :
    R1 (W1 m c (Proc.devRef .tc main_v25)) (cnt D.n1) := by
  exact hA_v25 (W0 m c) _ H.h21

omit H in
/-- The zeros. -/
theorem at1_v26 (i) : (W1 m c (Proc.devRef .tc main_v26)) i = (0 : EReal) := hA_v26 (W0 m c) i

/-- The argument `arg0` is still as launched after part 1 of the program. -/
theorem at1_arg0 :
    R2 (W1 m c (Proc.devRef .tc main_arg0)) D.node := by
  rw [W1_args m c main_arg0 (by decide +kernel)]
  exact H.h0

/-- What `v27` holds once part 2 of the program has written it. -/
theorem at2_v27 :
    R2 (W2 m c (Proc.devRef .tc main_v27)) (fun k j => D.node (D.n0 k) j) := by
  exact hT_v27 (W1 m c) _ _ (at1_arg0 H) (at1_v1 H)

/-- `v3` still holds that after part 2 of the program. -/
theorem at2_v3 :
    Names1 (W2 m c (Proc.devRef .tc main_v3)) D.n1 := by
  rw [keep_v3_1_2]
  exact at1_v3 H

/-- `v16` still holds that after part 2 of the program. -/
theorem at2_v16 :
    R1 (W2 m c (Proc.devRef .tc main_v16)) (cnt D.n0) := by
  rw [keep_v16_1_2]
  exact at1_v16 H

/-- `v25` still holds that after part 2 of the program. -/
theorem at2_v25 :
    R1 (W2 m c (Proc.devRef .tc main_v25)) (cnt D.n1) := by
  rw [keep_v25_1_2]
  exact at1_v25 H

omit H in
/-- The zeros carried on. -/
theorem at2_v26 (i) : (W2 m c (Proc.devRef .tc main_v26)) i = (0 : EReal) := by
  rw [keep_v26_1_2]
  exact at1_v26 i

/-- What `v34` holds once part 3 of the program has written it. -/
theorem at3_v34 :
    R2 (W3 m c (Proc.devRef .tc main_v34)) D.lifted := by
  exact hC_v34 (W2 m c) (fun k j => D.node (D.n0 k) j) D.n1 (at2_v27 H) (at2_v3 H) fun j => at2_v26 (m := m) (c := c) j

/-- What `v37` holds once part 3 of the program has written it. -/
theorem at3_v37 :
    ∀ k, (W3 m c (Proc.devRef .tc main_v37)) (ix2 0 k) = ((cnt D.n0 k : ℝ) : EReal) := by
  exact fun k => hC_v37 (W2 m c) _ (at2_v16 H) k

/-- What `v41` holds once part 3 of the program has written it. -/
theorem at3_v41 :
    ∀ (t : Fin 100) (j : Fin 3200), (W3 m c (Proc.devRef .tc main_v41)) (ix3 t 0 j) = ((cnt D.n1 (row t.val t.isLt j) : ℝ) : EReal) := by
  exact fun t j => hC_v41 (W2 m c) _ (at2_v25 H) t j

/-- `v4` still holds that after part 3 of the program. -/
theorem at3_v4 :
    R2 (W3 m c (Proc.devRef .tc main_v4)) D.Wa := by
  rw [keep_v4_1_3]
  exact at1_v4 H

/-- The argument `arg0` is still as launched after part 3 of the program. -/
theorem at3_arg0 :
    R2 (W3 m c (Proc.devRef .tc main_arg0)) D.node := by
  rw [W3_args m c main_arg0 (by decide +kernel)]
  exact H.h0

/-- What `v42_0` holds once part 4 of the program has written it. -/
theorem at4_v42_0 :
    R2 (W4 m c (Proc.devRef .tc main_v42_0)) (lin D.node D.Wa) := by
  have e : (W4 m c (Proc.devRef .tc main_v42_0)) = (dat0 (U3 m) c).arrAt 3 cfg0.N := W4_arr m c 3
  rw [e]
  exact P_real (U3 m) c _ _ (at3_arg0 H) (at3_v4 H)

/-- What `v42_1` holds once part 4 of the program has written it. -/
theorem at4_v42_1 :
    ∀ h, (W4 m c (Proc.devRef .tc main_v42_1)) (ix2 0 h) = ((∑ k, cnt D.n0 k * (lin D.node D.Wa k h * lin D.node D.Wa k h) : ℝ) : EReal) := by
  intro h
  have e : (W4 m c (Proc.devRef .tc main_v42_1)) = (dat0 (U3 m) c).arrAt 4 cfg0.N := W4_arr m c 4
  rw [e]
  exact sP2_real (U3 m) c _ _ _ (at3_arg0 H) (at3_v4 H) (at3_v37 H) h

/-- `v5` still holds that after part 4 of the program. -/
theorem at4_v5 :
    R2 (W4 m c (Proc.devRef .tc main_v5)) D.Wb := by
  rw [keep_v5_1_4]
  exact at1_v5 H

/-- The argument `arg1` is still as launched after part 4 of the program. -/
theorem at4_arg1 :
    R2 (W4 m c (Proc.devRef .tc main_arg1)) D.edge := by
  rw [W4_args m c main_arg1 (by decide +kernel)]
  exact H.h1

/-- What `v43` holds once part 5 of the program has written it. -/
theorem at5_v43 :
    R2 (W5 m c (Proc.devRef .tc main_v43)) (lin D.edge D.Wb) := by
  have e : (W5 m c (Proc.devRef .tc main_v43)) = (dat1 (U4 m) c).arrAt 2 cfg1.N := W5_arr m c 2
  rw [e]
  exact Q_real (U4 m) c _ _ (at4_arg1 H) (at4_v5 H)

/-- `v34` still holds that after part 5 of the program. -/
theorem at5_v34 :
    R2 (W5 m c (Proc.devRef .tc main_v34)) D.lifted := by
  rw [keep_v34_3_5]
  exact at3_v34 H

/-- `v41` still holds that after part 5 of the program. -/
theorem at5_v41 :
    ∀ (t : Fin 100) (j : Fin 3200), (W5 m c (Proc.devRef .tc main_v41)) (ix3 t 0 j) = ((cnt D.n1 (row t.val t.isLt j) : ℝ) : EReal) := by
  rw [keep_v41_3_5]
  exact at3_v41 H

/-- `v7` still holds that after part 5 of the program. -/
theorem at5_v7 :
    (W5 m c (Proc.devRef .tc main_v7)) (ix2 0 0) = ((D.e2 : ℝ) : EReal) := by
  rw [keep_v7_1_5]
  exact at1_v7 H

/-- The argument `arg1` is still as launched after part 5 of the program. -/
theorem at5_arg1 :
    R2 (W5 m c (Proc.devRef .tc main_arg1)) D.edge := by
  rw [W5_args m c main_arg1 (by decide +kernel)]
  exact H.h1

/-- The argument `arg12` is still as launched after part 5 of the program. -/
theorem at5_arg12 :
    R2 (W5 m c (Proc.devRef .tc main_arg12)) D.Wla := by
  rw [W5_args m c main_arg12 (by decide +kernel)]
  exact H.h12

/-- What the edges' first kernel is handed. -/
theorem in2 : In2 (U5 m) c D.edge D.lifted (lin D.edge D.Wb) (cnt D.n1) D.Wla D.e2 :=
  ⟨at5_arg1 H, at5_v34 H, at5_v43 H, at5_v41 H, at5_arg12 H, at5_v7 H⟩

/-- What `v44_0` holds once part 6 of the program has written it. -/
theorem at6_v44_0 :
    R2 (W6 m c (Proc.devRef .tc main_v44_0)) D.edgeA := by
  have e : (W6 m c (Proc.devRef .tc main_v44_0)) = (dat2 (U5 m) c).arrAt 6 cfg2.N := W6_arr m c 6
  rw [e]
  exact (in2 H).rows

/-- What `v44_1` holds once part 6 of the program has written it. -/
theorem at6_v44_1 :
    ∀ h, (W6 m c (Proc.devRef .tc main_v44_1)) (ix2 0 h) = ((∑ e, D.edgeA e h : ℝ) : EReal) ∧ (W6 m c (Proc.devRef .tc main_v44_1)) (ix2 1 h) = ((∑ e, D.edgeA e h * D.edgeA e h : ℝ) : EReal) := by
  intro h
  have e : (W6 m c (Proc.devRef .tc main_v44_1)) = (dat2 (U5 m) c).arrAt 7 cfg2.N := W6_arr m c 7
  rw [e]
  exact ⟨(in2 H).stat0 h, (in2 H).stat1 h⟩

/-- What `v44_2` holds once part 6 of the program has written it. -/
theorem at6_v44_2 :
    ∀ h, (W6 m c (Proc.devRef .tc main_v44_2)) (ix2 0 h) = ((∑ e, D.lifted e h : ℝ) : EReal) ∧ (W6 m c (Proc.devRef .tc main_v44_2)) (ix2 1 h) = ((∑ e, cnt D.n1 e * lin D.edge D.Wb e h : ℝ) : EReal) ∧ (W6 m c (Proc.devRef .tc main_v44_2)) (ix2 2 h) = ((∑ e, cnt D.n1 e * (lin D.edge D.Wb e h * lin D.edge D.Wb e h) : ℝ) : EReal) := by
  intro h
  have e : (W6 m c (Proc.devRef .tc main_v44_2)) = (dat2 (U5 m) c).arrAt 8 cfg2.N := W6_arr m c 8
  rw [e]
  exact ⟨(in2 H).sum0 h, (in2 H).sum1 h, (in2 H).sum2 h⟩

/-- What `v44_3` holds once part 6 of the program has written it. -/
theorem at6_v44_3 :
    ∀ j h, (W6 m c (Proc.devRef .tc main_v44_3)) (ix2 j h) = ((∑ e, D.lifted e j * lin D.edge D.Wb e h : ℝ) : EReal) := by
  intro j h
  have e : (W6 m c (Proc.devRef .tc main_v44_3)) = (dat2 (U5 m) c).arrAt 9 cfg2.N := W6_arr m c 9
  rw [e]
  exact (in2 H).gram j h

/-- `v4` still holds that after part 6 of the program. -/
theorem at6_v4 :
    R2 (W6 m c (Proc.devRef .tc main_v4)) D.Wa := by
  rw [keep_v4_1_6]
  exact at1_v4 H

/-- `v42_1` still holds that after part 6 of the program. -/
theorem at6_v42_1 :
    ∀ h, (W6 m c (Proc.devRef .tc main_v42_1)) (ix2 0 h) = ((∑ k, cnt D.n0 k * (lin D.node D.Wa k h * lin D.node D.Wa k h) : ℝ) : EReal) := by
  rw [keep_v42_1_4_6]
  exact at4_v42_1 H

/-- The argument `arg4` is still as launched after part 6 of the program. -/
theorem at6_arg4 :
    R1 (W6 m c (Proc.devRef .tc main_arg4)) D.g1 := by
  rw [W6_args m c main_arg4 (by decide +kernel)]
  exact H.h4

/-- The argument `arg5` is still as launched after part 6 of the program. -/
theorem at6_arg5 :
    R1 (W6 m c (Proc.devRef .tc main_arg5)) D.b1 := by
  rw [W6_args m c main_arg5 (by decide +kernel)]
  exact H.h5

/-- What the moments of the messages are read from. -/
theorem inD : InD (W6 m c) D :=
  ⟨at6_v4 H, at6_v42_1 H, fun h => (at6_v44_2 H h).1, fun h => (at6_v44_2 H h).2.1, fun h => (at6_v44_2 H h).2.2, at6_v44_3 H, at6_arg4 H, at6_arg5 H⟩

/-- What `v72` holds once part 7 of the program has written it. -/
theorem at7_v72 :
    R1 (W7 m c (Proc.devRef .tc main_v72)) (scale D.prem D.g1) := by
  exact (inD H).alpha

/-- What `v74` holds once part 7 of the program has written it. -/
theorem at7_v74 :
    R1 (W7 m c (Proc.devRef .tc main_v74)) (shift D.prem D.g1 D.b1) := by
  exact (inD H).beta

/-- `v42_0` still holds that after part 7 of the program. -/
theorem at7_v42_0 :
    R2 (W7 m c (Proc.devRef .tc main_v42_0)) (lin D.node D.Wa) := by
  rw [keep_v42_0_4_7]
  exact at4_v42_0 H

/-- `v1` still holds that after part 7 of the program. -/
theorem at7_v1 :
    Names1 (W7 m c (Proc.devRef .tc main_v1)) D.n0 := by
  rw [keep_v1_1_7]
  exact at1_v1 H

/-- What `v75` holds once part 8 of the program has written it. -/
theorem at8_v75 :
    R2 (W8 m c (Proc.devRef .tc main_v75)) (fun k j => lin D.node D.Wa (D.n0 k) j) := by
  exact hT_v75 (W7 m c) _ _ (at7_v42_0 H) (at7_v1 H)

/-- `v43` still holds that after part 8 of the program. -/
theorem at8_v43 :
    R2 (W8 m c (Proc.devRef .tc main_v43)) (lin D.edge D.Wb) := by
  rw [keep_v43_5_8]
  exact at5_v43 H

/-- `v3` still holds that after part 8 of the program. -/
theorem at8_v3 :
    Names1 (W8 m c (Proc.devRef .tc main_v3)) D.n1 := by
  rw [keep_v3_1_8]
  exact at1_v3 H

/-- What `v76` holds once part 9 of the program has written it. -/
theorem at9_v76 :
    R2 (W9 m c (Proc.devRef .tc main_v76)) (fun k j => lin D.edge D.Wb (D.n1 k) j) := by
  exact hT_v76 (W8 m c) _ _ (at8_v43 H) (at8_v3 H)

/-- `v75` still holds that after part 9 of the program. -/
theorem at9_v75 :
    R2 (W9 m c (Proc.devRef .tc main_v75)) (fun k j => lin D.node D.Wa (D.n0 k) j) := by
  rw [keep_v75_8_9]
  exact at8_v75 H

/-- `v72` still holds that after part 9 of the program. -/
theorem at9_v72 :
    R1 (W9 m c (Proc.devRef .tc main_v72)) (scale D.prem D.g1) := by
  rw [keep_v72_7_9]
  exact at7_v72 H

/-- `v74` still holds that after part 9 of the program. -/
theorem at9_v74 :
    R1 (W9 m c (Proc.devRef .tc main_v74)) (shift D.prem D.g1 D.b1) := by
  rw [keep_v74_7_9]
  exact at7_v74 H

/-- What `v83` holds once part 10 of the program has written it. -/
theorem at10_v83 :
    R2 (W10 m c (Proc.devRef .tc main_v83)) (fun k h => scale D.prem D.g1 h * D.prem k h + shift D.prem D.g1 D.b1 h) := by
  exact hE_v83 (W9 m c) _ _ _ _ (at9_v75 H) (at9_v76 H) (at9_v72 H) (at9_v74 H)

/-- What `v84` holds once part 11 of the program has written it. -/
theorem at11_v84 :
    R2 (W11 m c (Proc.devRef .tc main_v84)) D.msg := by
  have e : (fun k h => max (scale D.prem D.g1 h * D.prem k h + shift D.prem D.g1 D.b1 h) 0) = D.msg :=
    funext fun k => funext fun h => bn_scale' D.prem D.g1 D.b1 k h
  rw [← e]
  exact hE_v84 (W10 m c) _ (at10_v83 H)

/-- `v3` still holds that after part 11 of the program. -/
theorem at11_v3 :
    Names1 (W11 m c (Proc.devRef .tc main_v3)) D.n1 := by
  rw [keep_v3_1_11]
  exact at1_v3 H

/-- What `v92` holds once part 12 of the program has written it. -/
theorem at12_v92 :
    R2 (W12 m c (Proc.devRef .tc main_v92)) D.atEdge := by
  exact hE_v92 (W11 m c) _ _ (at11_v84 H) (at11_v3 H)

omit H in
/-- The zeros. -/
theorem at13_v93 (i) : (W13 m c (Proc.devRef .tc main_v93)) i = (0 : EReal) := by
  rw [keep_v93_12_13]
  exact hE_v93 (W11 m c) i

/-- `v3` still holds that after part 12 of the program. -/
theorem at12_v3 :
    Names1 (W12 m c (Proc.devRef .tc main_v3)) D.n1 := by
  rw [keep_v3_1_12]
  exact at1_v3 H

/-- What `v94` holds once part 13 of the program has written it. -/
theorem at13_v94 :
    R2 (W13 m c (Proc.devRef .tc main_v94)) (fun k j => D.atEdge (D.n1 k) j) := by
  exact hT_v94 (W12 m c) _ _ (at12_v92 H) (at12_v3 H)

/-- `v84` still holds that after part 13 of the program. -/
theorem at13_v84 :
    R2 (W13 m c (Proc.devRef .tc main_v84)) D.msg := by
  rw [keep_v84_11_13]
  exact at11_v84 H

/-- `v1` still holds that after part 13 of the program. -/
theorem at13_v1 :
    Names1 (W13 m c (Proc.devRef .tc main_v1)) D.n0 := by
  rw [keep_v1_1_13]
  exact at1_v1 H

/-- `v44_1` still holds that after part 13 of the program. -/
theorem at13_v44_1 :
    ∀ h, (W13 m c (Proc.devRef .tc main_v44_1)) (ix2 0 h) = ((∑ e, D.edgeA e h : ℝ) : EReal) ∧ (W13 m c (Proc.devRef .tc main_v44_1)) (ix2 1 h) = ((∑ e, D.edgeA e h * D.edgeA e h : ℝ) : EReal) := by
  rw [keep_v44_1_6_13]
  exact at6_v44_1 H

/-- The argument `arg13` is still as launched after part 13 of the program. -/
theorem at13_arg13 :
    R1 (W13 m c (Proc.devRef .tc main_arg13)) D.gla := by
  rw [W13_args m c main_arg13 (by decide +kernel)]
  exact H.h13

/-- The argument `arg14` is still as launched after part 13 of the program. -/
theorem at13_arg14 :
    R1 (W13 m c (Proc.devRef .tc main_arg14)) D.bla := by
  rw [W13_args m c main_arg14 (by decide +kernel)]
  exact H.h14

/-- What `v102` holds once part 14 of the program has written it. -/
theorem at14_v102 :
    R2 (W14 m c (Proc.devRef .tc main_v102)) D.atNode := by
  exact hE_v102 (W13 m c) _ _ _ (at13_v94 H) (at13_v84 H) (at13_v1 H) fun j => at13_v93 (m := m) (c := c) j

/-- What `v123` holds once part 14 of the program has written it. -/
theorem at14_v123 :
    ∀ h, (W14 m c (Proc.devRef .tc main_v123)) (ix2 0 h) = ((scale D.edgeA D.gla h : ℝ) : EReal) ∧ (W14 m c (Proc.devRef .tc main_v123)) (ix2 1 h) = ((shift D.edgeA D.gla D.bla h : ℝ) : EReal) := by
  intro h
  exact ⟨hF_v123_a (W13 m c) _ _ (fun h => (at13_v44_1 H h).1) (fun h => (at13_v44_1 H h).2) (at13_arg13 H) h,
    hF_v123_b (W13 m c) _ _ _ (fun h => (at13_v44_1 H h).1) (fun h => (at13_v44_1 H h).2) (at13_arg13 H) (at13_arg14 H) h⟩

/-- `v44_0` still holds that after part 14 of the program. -/
theorem at14_v44_0 :
    R2 (W14 m c (Proc.devRef .tc main_v44_0)) D.edgeA := by
  rw [keep_v44_0_6_14]
  exact at6_v44_0 H

/-- The argument `arg15` is still as launched after part 14 of the program. -/
theorem at14_arg15 :
    R2 (W14 m c (Proc.devRef .tc main_arg15)) D.Wlb := by
  rw [W14_args m c main_arg15 (by decide +kernel)]
  exact H.h15

/-- What the edges' second kernel is handed. -/
theorem in3 : In3 (U14 m) c D.edgeA (scale D.edgeA D.gla) (shift D.edgeA D.gla D.bla) D.Wlb :=
  ⟨at14_v44_0 H, fun h => (at14_v123 H h).1, fun h => (at14_v123 H h).2, at14_arg15 H⟩

omit H in
/-- The second edge layer from the scaled and shifted rows. -/
theorem edgeB_scale : lin (fun e j => max (D.edgeA e j * scale D.edgeA D.gla j + shift D.edgeA D.gla D.bla j) 0) D.Wlb = D.edgeB :=
  congrArg (fun x => lin x D.Wlb) (funext fun e => funext fun j => bn_scale D.edgeA D.gla D.bla e j)

/-- What `v124_0` holds once part 15 of the program has written it. -/
theorem at15_v124_0 :
    R2 (W15 m c (Proc.devRef .tc main_v124_0)) D.edgeB := by
  have e : (W15 m c (Proc.devRef .tc main_v124_0)) = (dat3 (U14 m) c).arrAt 3 cfg3.N := W15_arr m c 3
  rw [e]
  exact (edgeB_scale (D := D)) ▸ (in3 H).rows

/-- What `v124_1` holds once part 15 of the program has written it. -/
theorem at15_v124_1 :
    ∀ h, (W15 m c (Proc.devRef .tc main_v124_1)) (ix2 0 h) = ((∑ e, D.edgeB e h : ℝ) : EReal) ∧ (W15 m c (Proc.devRef .tc main_v124_1)) (ix2 1 h) = ((∑ e, D.edgeB e h * D.edgeB e h : ℝ) : EReal) := by
  intro h
  have e : (W15 m c (Proc.devRef .tc main_v124_1)) = (dat3 (U14 m) c).arrAt 4 cfg3.N := W15_arr m c 4
  rw [e]
  exact ⟨(edgeB_scale (D := D)) ▸ (in3 H).stat0 h, (edgeB_scale (D := D)) ▸ (in3 H).stat1 h⟩

/-- The argument `arg16` is still as launched after part 15 of the program. -/
theorem at15_arg16 :
    R1 (W15 m c (Proc.devRef .tc main_arg16)) D.glb := by
  rw [W15_args m c main_arg16 (by decide +kernel)]
  exact H.h16

/-- The argument `arg17` is still as launched after part 15 of the program. -/
theorem at15_arg17 :
    R1 (W15 m c (Proc.devRef .tc main_arg17)) D.blb := by
  rw [W15_args m c main_arg17 (by decide +kernel)]
  exact H.h17

/-- What `v145` holds once part 16 of the program has written it. -/
theorem at16_v145 :
    ∀ h, (W16 m c (Proc.devRef .tc main_v145)) (ix2 0 h) = ((scale D.edgeB D.glb h : ℝ) : EReal) ∧ (W16 m c (Proc.devRef .tc main_v145)) (ix2 1 h) = ((shift D.edgeB D.glb D.blb h : ℝ) : EReal) := by
  intro h
  exact ⟨hF_v145_a (W15 m c) _ _ (fun h => (at15_v124_1 H h).1) (fun h => (at15_v124_1 H h).2) (at15_arg16 H) h,
    hF_v145_b (W15 m c) _ _ _ (fun h => (at15_v124_1 H h).1) (fun h => (at15_v124_1 H h).2) (at15_arg16 H) (at15_arg17 H) h⟩

/-- `v124_0` still holds that after part 16 of the program. -/
theorem at16_v124_0 :
    R2 (W16 m c (Proc.devRef .tc main_v124_0)) D.edgeB := by
  rw [keep_v124_0_15_16]
  exact at15_v124_0 H

/-- What `v146` holds once part 17 of the program has written it. -/
theorem at17_v146 :
    R2 (W17 m c (Proc.devRef .tc main_v146)) D.edgeOut := by
  have e1 : (fun e h => max (D.edgeB e h * scale D.edgeB D.glb h + shift D.edgeB D.glb D.blb h) 0) = D.edgeOut :=
    funext fun e => funext fun h => bn_scale D.edgeB D.glb D.blb e h
  have h := rows4 (U16 m) c _ _ _ (at16_v124_0 H) (fun h => (at16_v145 H h).1) (fun h => (at16_v145 H h).2)
  rw [e1] at h
  have e : (W17 m c (Proc.devRef .tc main_v146)) = (dat4 (U16 m) c).arrAt 2 cfg4.N := W17_arr m c 2
  rw [e]
  exact h

/-- The argument `arg7` is still as launched after part 17 of the program. -/
theorem at17_arg7 :
    R1 (W17 m c (Proc.devRef .tc main_arg7)) D.g2a := by
  rw [W17_args m c main_arg7 (by decide +kernel)]
  exact H.h7

/-- The argument `arg8` is still as launched after part 17 of the program. -/
theorem at17_arg8 :
    R1 (W17 m c (Proc.devRef .tc main_arg8)) D.b2a := by
  rw [W17_args m c main_arg8 (by decide +kernel)]
  exact H.h8

/-- The argument `arg10` is still as launched after part 17 of the program. -/
theorem at17_arg10 :
    R1 (W17 m c (Proc.devRef .tc main_arg10)) D.g2b := by
  rw [W17_args m c main_arg10 (by decide +kernel)]
  exact H.h10

/-- The argument `arg11` is still as launched after part 17 of the program. -/
theorem at17_arg11 :
    R1 (W17 m c (Proc.devRef .tc main_arg11)) D.b2b := by
  rw [W17_args m c main_arg11 (by decide +kernel)]
  exact H.h11

/-- What `v151` holds once part 18 of the program has written it. -/
theorem at18_v151 :
    ∀ h, (W18 m c (Proc.devRef .tc main_v151)) (ix2 0 h) = ((D.g2a h : ℝ) : EReal) ∧ (W18 m c (Proc.devRef .tc main_v151)) (ix2 1 h) = ((D.b2a h : ℝ) : EReal) := by
  exact fun h => hF_v151 (W17 m c) _ _ (at17_arg7 H) (at17_arg8 H) h

/-- What `v156` holds once part 18 of the program has written it. -/
theorem at18_v156 :
    ∀ h, (W18 m c (Proc.devRef .tc main_v156)) (ix2 0 h) = ((D.g2b h : ℝ) : EReal) ∧ (W18 m c (Proc.devRef .tc main_v156)) (ix2 1 h) = ((D.b2b h : ℝ) : EReal) := by
  exact fun h => hF_v156 (W17 m c) _ _ (at17_arg10 H) (at17_arg11 H) h

/-- `v102` still holds that after part 18 of the program. -/
theorem at18_v102 :
    R2 (W18 m c (Proc.devRef .tc main_v102)) D.atNode := by
  rw [keep_v102_14_18]
  exact at14_v102 H

/-- `v6` still holds that after part 18 of the program. -/
theorem at18_v6 :
    (W18 m c (Proc.devRef .tc main_v6)) (ix2 0 0) = ((D.e1 : ℝ) : EReal) := by
  rw [keep_v6_1_18]
  exact at1_v6 H

/-- The argument `arg0` is still as launched after part 18 of the program. -/
theorem at18_arg0 :
    R2 (W18 m c (Proc.devRef .tc main_arg0)) D.node := by
  rw [W18_args m c main_arg0 (by decide +kernel)]
  exact H.h0

/-- The argument `arg6` is still as launched after part 18 of the program. -/
theorem at18_arg6 :
    R2 (W18 m c (Proc.devRef .tc main_arg6)) D.W2a := by
  rw [W18_args m c main_arg6 (by decide +kernel)]
  exact H.h6

/-- The argument `arg9` is still as launched after part 18 of the program. -/
theorem at18_arg9 :
    R2 (W18 m c (Proc.devRef .tc main_arg9)) D.W2b := by
  rw [W18_args m c main_arg9 (by decide +kernel)]
  exact H.h9

/-- What the node kernel is handed. -/
theorem in5 : In5 (U18 m) c D.node D.atNode D.W2a D.W2b D.e1 D.g2a D.b2a D.g2b D.b2b :=
  ⟨at18_arg0 H, at18_v102 H, at18_arg6 H, fun h => (at18_v151 H h).1, fun h => (at18_v151 H h).2, at18_arg9 H,
    fun h => (at18_v156 H h).1, fun h => (at18_v156 H h).2, at18_v6 H⟩

/-- What `v157` holds once part 19 of the program has written it. -/
theorem at19_v157 :
    R2 (W19 m c (Proc.devRef .tc main_v157)) D.nodeOut := by
  have e : (W19 m c (Proc.devRef .tc main_v157)) = (dat5 (U18 m) c).arrAt 7 cfg5.N := W19_arr m c 7
  rw [e]
  exact (in5 H).rows

/-- `v146` still holds that after part 19 of the program. -/
theorem at19_v146 :
    R2 (W19 m c (Proc.devRef .tc main_v146)) D.edgeOut := by
  rw [keep_v146_17_19]
  exact at17_v146 H

end Cert.KernelIdeal.Own
-- ==== Proof.Val.Ref.lean ====
module

public import proofs.«01_k».proof.Proof.Gen.ReferenceIdeal.Run
public import proofs.«01_k».proof.Proof.Val.Data

@[expose] public section

set_option maxRecDepth 16384

noncomputable section

/-! # What the reference computes, over the real numbers -/

namespace Cert.ReferenceIdeal.Own

open Cert.ReferenceIdeal Cert.ReferenceIdeal.Gen Cert.ReferenceIdeal.Value Cert.Val Idealize.ShloMosaic Idealize.ShloMosaic.TcCoe Idealize.SL.Sem Idealize.ShloMosaic.StableHlo Finset

/-- The argument arrays `V` hold the data `D`. -/
abbrev HoldsV (D : Data) (V : Valuation τ sig (Elt Ideal)) : Prop :=
  D.Holds (V (Proc.devRef .tc main_arg0)) (V (Proc.devRef .tc main_arg1)) (V (Proc.devRef .tc main_arg2)) (V (Proc.devRef .tc main_arg3))
    (V (Proc.devRef .tc main_arg4)) (V (Proc.devRef .tc main_arg5)) (V (Proc.devRef .tc main_arg6)) (V (Proc.devRef .tc main_arg7))
    (V (Proc.devRef .tc main_arg8)) (V (Proc.devRef .tc main_arg9)) (V (Proc.devRef .tc main_arg10)) (V (Proc.devRef .tc main_arg11))
    (V (Proc.devRef .tc main_arg12)) (V (Proc.devRef .tc main_arg13)) (V (Proc.devRef .tc main_arg14)) (V (Proc.devRef .tc main_arg15))
    (V (Proc.devRef .tc main_arg16)) (V (Proc.devRef .tc main_arg17)) (V (Proc.devRef .tc main_arg18)) (V (Proc.devRef .tc main_arg19))

/-- A linear layer of the nodes' array. -/
theorem dot_node (x : FVec Ideal S10000x128 .f32) (X) (hx : R2 x X) (w : FVec Ideal S128x128 .f32) (W) (hw : R2 w W) :
    R2 (Host.dotGeneral dot_S10000x128_S128x128_S10000x128_1_0_0_1_n_n none x (transpose S128x128 [1, 0] w transposes_S128x128_S128x128_1_0)) (lin X W) := by
  intro r h
  pointwise
  simp only [hx _ _, hw _ _, ← EReal.coe_mul]
  rw [coe_sum]
  rfl

/-- A linear layer of the edges' array. -/
theorem dot_edge (x : FVec Ideal S320000x128 .f32) (X) (hx : R2 x X) (w : FVec Ideal S128x128 .f32) (W) (hw : R2 w W) :
    R2 (Host.dotGeneral dot_S320000x128_S128x128_S320000x128_1_0_0_1_n_n none x (transpose S128x128 [1, 0] w transposes_S128x128_S128x128_1_0)) (lin X W) := by
  intro r h
  pointwise
  simp only [hx _ _, hw _ _, ← EReal.coe_mul]
  rw [coe_sum]
  rfl

variable (D : Data) (V : Valuation τ sig (Elt Ideal)) (H : HoldsV D V)

include H

/-- The node numbers of the messages. -/
theorem v1_names : Names1 (res_main_v1 V) D.n0 := by
  intro k
  unfold res_main_v1
  pointwise
  exact H.h20 k

/-- The edge numbers of the messages. -/
theorem v3_names : Names1 (res_main_v3 V) D.n1 := by
  intro k
  unfold res_main_v3
  pointwise
  exact H.h21 k

/-- The nodes of the messages. -/
theorem v4_real : R2 (res_main_v4 V) (fun k c => D.node (D.n0 k) c) := by
  unfold res_main_v4
  exact take_rows (by norm_num) _ rfl rfl rfl rfl rfl _ _ H.h0 _ _ _ _
    (names_wrap (by norm_num) _ _ _ (fun _ => rfl) _ (v1_names D V H) _) (fun _ => rfl) (fun _ => rfl) _ _ (fun _ => rfl) _ _ _

/-- The messages before normalization. -/
theorem v8_real : R2 (res_main_v8 V) D.prem := by
  intro k h
  have e1 := v4_real D V H
  have e2 := take_rows (C := 128) (by norm_num) gather_S320000x128_S640000x1_S640000x128_1_0_n_n_0_1_1128 rfl rfl rfl rfl rfl _ _ H.h1 (res_main_call1_v5 V)
    (broadcastInDim S640000x1 ![] bcast_S_S640000x1 (constantI S_ 32 0#32))
    (broadcastInDim S640000x1 ![0, 1] bcast_S1x1_S640000x1_0_1 (broadcastInDim S1x1 ![1] bcast_S1_S1x1_1 (constantI S1 32 319999#32))) _
    (names_wrap (by norm_num) _ _ _ (fun _ => rfl) _ (v3_names D V H) _) (fun _ => rfl) (fun _ => rfl)
    (broadcastInDim S640000x128 ![] bcast_S_S640000x128 (constant S_ .f32 0x7FC00000#32)) (constantI S_ 1 1#1) (fun _ => rfl)
    reducesTo_S640000x1_S640000_d1 h_S_ bcast_S640000_S640000x128_0
  unfold res_main_v8
  generalize res_main_v4 V = A at *
  generalize (select _ _ _ : FVec Ideal S640000x128 .f32) = B at *
  pointwise
  simp only [e1 _ _, e2 _ _, H.h3 _ _, ← EReal.coe_mul]
  rw [coe_sum, coe_sum, ← EReal.coe_add]
  rfl

/-- The messages. -/
theorem v28_real : R2 (res_main_v28 V) D.msg := by
  unfold res_main_v28 Data.msg
  exact bn_apply _ word_M (by norm_num) _ _ (v8_real D V H) _ _ _ _ H.h4 H.h5 _ _ _ _ _ _ _ _ _ rfl rfl

/-- The two row sums at the edges, side by side. -/
theorem v32_real : (∀ e c, res_main_v32 V (ix2 e ⟨c.val, by have := c.isLt; omega⟩) = ((D.atEdge e c : ℝ) : EReal))
    ∧ ∀ e c, res_main_v32 V (ix2 e ⟨128 + c.val, by have := c.isLt; omega⟩) = ((D.lifted e c : ℝ) : EReal) := by
  have e1 := v4_real D V H
  have e2 := v28_real D V H
  have e3 : R2 (res_main_v32 V) (seg D.n1 fun k (j : Fin 256) => if hj : j.val < 128 then D.msg k ⟨j.val, hj⟩
      else D.node (D.n0 k) ⟨j.val - 128, by omega⟩) := by
    unfold res_main_v32
    refine scatter_rows _ rfl rfl rfl rfl _ (fun i => ?_) _ _ (names_column _ _ (v3_names D V H) _) (by norm_num) _ _ ?_
    · show Ideal.ofBits .f32 0x00000000#32 = 0
      simp
    · intro k j
      pointwise
      split_ifs with hj
      · exact e2 _ _
      all_goals first | exact e1 _ _ | omega
  refine ⟨fun e c => ?_, fun e c => ?_⟩
  · rw [e3]
    refine congrArg Real.toEReal ?_
    unfold Data.atEdge seg
    refine sum_congr rfl fun k _ => ?_
    exact dif_pos c.isLt
  · rw [e3]
    refine congrArg Real.toEReal ?_
    unfold Data.lifted lift seg
    refine sum_congr rfl fun k _ => ?_
    refine (dif_neg (show ¬ (128 + c.val) < 128 by omega)).trans (congrArg (D.node (D.n0 k)) (Fin.ext ?_))
    exact Nat.add_sub_cancel_left 128 c.val

/-- The first node layer before normalization. -/
theorem v45_real : R2 (res_main_v45 V) D.nodeA := by
  have e1 : R2 (extractStridedSlice S320000x128 ![0, 0] (res_main_v32 V) slices_S320000x256_S320000x128_0_0) D.atEdge := by
    intro e c
    pointwise
    exact (v32_real D V H).1 e c
  have e2 := take_rows (C := 128) (by norm_num) gather_S320000x128_S640000x1_S640000x128_1_0_n_n_0_1_1128 rfl rfl rfl rfl rfl _ _ e1 (res_main_call4_v5 V)
    (broadcastInDim S640000x1 ![] bcast_S_S640000x1 (constantI S_ 32 0#32))
    (broadcastInDim S640000x1 ![0, 1] bcast_S1x1_S640000x1_0_1 (broadcastInDim S1x1 ![1] bcast_S1_S1x1_1 (constantI S1 32 319999#32))) _
    (names_wrap (by norm_num) _ _ _ (fun _ => rfl) _ (v3_names D V H) _) (fun _ => rfl) (fun _ => rfl)
    (broadcastInDim S640000x128 ![] bcast_S_S640000x128 (constant S_ .f32 0x7FC00000#32)) (constantI S_ 1 1#1) (fun _ => rfl)
    reducesTo_S640000x1_S640000_d1 h_S_ bcast_S640000_S640000x128_0
  have e3 := v28_real D V H
  unfold res_main_v45
  generalize (select _ _ _ : FVec Ideal S640000x128 .f32) = B at *
  generalize res_main_v28 V = A at *
  have e4 : R2 (Host.scatterAdd scatter_S10000x128_S640000x1_S640000x128_1_0_0_1 (broadcastInDim S10000x128 ![] bcast_S_S10000x128 (constant S_ .f32 0x00000000#32)) (broadcastInDim S640000x1 ![0] bcast_S640000_S640000x1_0 (res_main_v1 V)) (subf B A)) D.atNode := scatter_rows scatter_S10000x128_S640000x1_S640000x128_1_0_0_1 rfl rfl rfl rfl
    (broadcastInDim S10000x128 ![] bcast_S_S10000x128 (constant (F := Ideal) S_ .f32 0x00000000#32))
    (fun i => (show Ideal.ofBits .f32 0x00000000#32 = 0 by simp)) _ _
    (names_column _ _ (v1_names D V H) bcast_S640000_S640000x1_0) (by norm_num) (subf B A) D.other (fun k c => by
      show B _ - A _ = _
      rw [e2, e3, ← EReal.coe_sub]; rfl)
  generalize (Host.scatterAdd _ _ _ _ : FVec Ideal S10000x128 .f32) = S at *
  refine dot_node _ _ (fun r h => ?_) _ _ H.h6
  pointwise
  rw [e4, H.h0 r h, H.h18]
  rw [← EReal.coe_one, ← EReal.coe_add, ← EReal.coe_mul, ← EReal.coe_add]
  rfl

/-- The second node layer before normalization. -/
theorem v67_real : R2 (res_main_v67 V) D.nodeB := by
  unfold res_main_v67 Data.nodeB
  exact dot_node _ _ (bn_apply _ word_N (by norm_num) _ _ (v45_real D V H) _ _ _ _ H.h7 H.h8 _ _ _ _ _ _ _ _ _ rfl rfl) _ _ H.h9

/-- The first edge layer before normalization. -/
theorem v93_real : R2 (res_main_v93 V) D.edgeA := by
  unfold res_main_v93 Data.edgeA
  refine dot_edge _ _ (fun e c => ?_) _ _ H.h12
  have e1 := (v32_real D V H).2
  generalize res_main_v32 V = S at *
  pointwise
  rw [e1, H.h1 e c, H.h19]
  rw [← EReal.coe_one, ← EReal.coe_add, ← EReal.coe_mul, ← EReal.coe_add]
  rfl

/-- The second edge layer before normalization. -/
theorem v115_real : R2 (res_main_v115 V) D.edgeB := by
  unfold res_main_v115 Data.edgeB
  exact dot_edge _ _ (bn_apply _ word_E (by norm_num) _ _ (v93_real D V H) _ _ _ _ H.h13 H.h14 _ _ _ _ _ _ _ _ _ rfl rfl) _ _ H.h15

omit H in
/-- A run of the reference leaves the layer's nodes and edges, and the arguments as they were. -/
theorem run_real (m : (ℓ : Loc nD τ sig) → Buf (Elt Ideal) ℓ) (ρ : Dev nD → PrngReg) (D : Dev nD → Data)
    (H : ∀ c, HoldsV (D c) (launchContents m c)) :
    θ_run defs (onTc (τ := τ) (main (F := Ideal))) ⟨m, fun _ => 0, ρ⟩ fun r => ∀ c : Dev nD,
      R2 (r.2.mem ((c.tc : Thread nD τ).loc main_v87)) (D c).nodeOut ∧ R2 (r.2.mem ((c.tc : Thread nD τ).loc main_v135)) (D c).edgeOut
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19) := by
  refine (θ_run defs _ _).mono ?_ (run m ρ)
  intro r h c
  obtain ⟨h1, h2, h3⟩ := h c
  refine ⟨?_, ?_, h3⟩
  · rw [h1]
    exact bn_apply _ word_N (by norm_num) _ _ (v67_real (D c) _ (H c)) _ _ _ _ (H c).h10 (H c).h11 _ _ _ _ _ _ _ _ _ rfl rfl
  · rw [h2]
    exact bn_apply _ word_E (by norm_num) _ _ (v115_real (D c) _ (H c)) _ _ _ _ (H c).h16 (H c).h17 _ _ _ _ _ _ _ _ _ rfl rfl

omit H in
/-- The reference terminates with its arguments unchanged and every semaphore at zero. -/
theorem run_frame (m : (ℓ : Loc nD τ sig) → Buf (Elt Ideal) ℓ) (ρ : Dev nD → PrngReg) :
    θ_run defs (onTc (τ := τ) (main (F := Ideal))) ⟨m, fun _ => 0, ρ⟩ fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)) ∧ r.2.sem = fun _ => 0 :=
  (θ_run defs _ _).mono (fun r h => ⟨fun c => (h c).2.2, sem_eq_zero_of_no_sems rfl r.2⟩) (run m ρ)

end Cert.ReferenceIdeal.Own
-- ==== Proof.Val.Pre.lean ====
module

public import Idealize.ShloMosaic.Lib.Pointwise
public import Idealize.ShloMosaic.Lib.WordCmp
public import proofs.«01_k».proof.Pre_finite_and_in_range
public import proofs.«01_k».proof.Proof.Val.Data

@[expose] public section

set_option maxRecDepth 16384

noncomputable section

/-! # What the precondition says

Every entry of every floating-point argument is a real number, and every node and edge number names a row. -/

namespace Cert.Val

open Idealize.ShloMosaic Cert.Pre_finite_and_in_range

/-- The side conditions of the precondition's operations. -/
theorem preFacts : Cert.Pre_finite_and_in_range.Facts where
  slices_S2x640000_S1x640000_0_0 := by decide
  shapeCasts_S1x640000_S640000 := by decide
  slices_S2x640000_S1x640000_1_0 := by decide
  bcast_S_S10000x128 := by decide
  bcast_S_S320000x128 := by decide
  bcast_S_S128x256 := by decide
  bcast_S_S128 := by decide
  bcast_S_S128x128 := by decide
  bcast_S_S640000 := by decide

/-- A value below infinity in absolute value is a real number. -/
theorem real_of_lt_top (x : EReal) (h : max x (-x) < ⊤) : ∃ r : ℝ, x = (r : EReal) := by
  obtain ⟨h1, h2⟩ := max_lt_iff.mp h
  have h3 : x ≠ ⊥ := by
    rintro rfl
    exact absurd h2 (by simp)
  exact ⟨x.toReal, (EReal.coe_toReal h1.ne h3).symm⟩

/-- The word of the float infinity. -/
theorem ofBits_inf : (Ideal.ofBits .f32 0x7F800000#32 : EReal) = ⊤ := by
  simp [Ideal.ofBits, Ideal.ieee]

/-- An array that passes the finiteness mask holds real numbers. -/
theorem real_of_mask {s : Shape} (x inf : FVec Ideal s .f32) (hinf : ∀ j, inf j = (⊤ : EReal))
    (h : cmpf .olt (Host.absf x) inf = fun _ => 1#1) (j : s.Idx) : ∃ r : ℝ, x j = (r : EReal) := by
  have h1 : Ideal.cmp .olt (max (x j : EReal) (-(x j : EReal))) (inf j) = 1#1 := congrFun h j
  rw [hinf] at h1
  exact real_of_lt_top _ ((Ideal.cmp_olt_eq_one _ _).mp h1)

/-- A matrix that passes the finiteness mask. -/
theorem R2_of_mask {a b : ℕ} (x inf : FVec Ideal ⟨2, ![a, b]⟩ .f32) (hinf : ∀ j, inf j = (⊤ : EReal))
    (h : cmpf .olt (Host.absf x) inf = fun _ => 1#1) : ∃ X, R2 x X := by
  choose f hf using fun j => real_of_mask x inf hinf h j
  exact ⟨fun i j => f (ix2 i j), fun i j => hf _⟩

/-- A vector that passes the finiteness mask. -/
theorem R1_of_mask {a : ℕ} (x inf : FVec Ideal ⟨1, ![a]⟩ .f32) (hinf : ∀ j, inf j = (⊤ : EReal))
    (h : cmpf .olt (Host.absf x) inf = fun _ => 1#1) : ∃ X, R1 x X := by
  choose f hf using fun j => real_of_mask x inf hinf h j
  exact ⟨fun i => f (ix1 i), fun i => hf _⟩

/-- A scalar that passes the finiteness mask. -/
theorem R0_of_mask (x inf : FVec Ideal ⟨0, ![]⟩ .f32) (hinf : ∀ j, inf j = (⊤ : EReal))
    (h : cmpf .olt (Host.absf x) inf = fun _ => 1#1) : ∃ r : ℝ, ∀ j, x j = (r : EReal) := by
  obtain ⟨r, hr⟩ := real_of_mask x inf hinf h ix0
  exact ⟨r, fun j => (congrArg x (funext fun a => a.elim0)).trans hr⟩

/-- A word between zero and `N` as a signed number is the word of a number below `N`. -/
theorem word_of_mask (w : BitVec 32) (N : ℕ) (hN : N < 2 ^ 31)
    (h : IntOp.andi (IntOp.cmpi .sge w 0#32) (IntOp.cmpi .slt w (BitVec.ofNat 32 N)) = 1#1) :
    ∃ n : Fin N, w = BitVec.ofNat 32 n.val := by
  rw [IntOp.andi_eq_one, IntOp.cmpi_sge, IntOp.cmpi_slt] at h
  have e0 : (0#32).toInt = 0 := rfl
  have eN : (BitVec.ofNat 32 N).toInt = N := by
    rw [BitVec.toInt_ofNat', Int.bmod_eq_of_le] <;> omega
  rw [e0, eN] at h
  have hw := BitVec.toInt_eq_toNat_cond w
  have hl := w.isLt
  have : w.toNat < N := by
    split_ifs at hw <;> omega
  exact ⟨⟨w.toNat, this⟩, by simp⟩

/-- The infinity spread over an array. -/
theorem inf_spread {s : Shape} (hb : S_.BroadcastsInDim s (![] : Fin 0 → Fin s.rank)) (j : s.Idx) :
    (broadcastInDim s ![] hb (constant (F := Ideal) S_ .f32 0x7F800000#32)) j = (⊤ : EReal) := ofBits_inf

/-- Row 0 of the two rows of numbers, read at a message: the node numbers. -/
theorem row0_of_mask (a2 : IVec S2x640000 32) (hs : S2x640000.Slices ![0, 0] S1x640000) (hc : S1x640000.ShapeCasts S640000)
    (k : Fin 640000) : shapeCast S640000 (extractStridedSlice S1x640000 ![0, 0] a2 hs) hc (ix1 k) = a2 (ix2 0 k) := by
  pointwise

/-- Row 1 of the two rows of numbers, read at a message: the edge numbers. -/
theorem row1_of_mask (a2 : IVec S2x640000 32) (hs : S2x640000.Slices ![1, 0] S1x640000) (hc : S1x640000.ShapeCasts S640000)
    (k : Fin 640000) : shapeCast S640000 (extractStridedSlice S1x640000 ![1, 0] a2 hs) hc (ix1 k) = a2 (ix2 1 k) := by
  pointwise

variable [Facts]

set_option maxHeartbeats 1600000 in
/-- Arguments that satisfy the precondition are the arrays of some data. -/
theorem data_of_pre (a0 : FVec Ideal S10000x128 .f32) (a1 : FVec Ideal S320000x128 .f32) (a2 : IVec S2x640000 32) (a3 : FVec Ideal S128x256 .f32) (a4 : FVec Ideal S128 .f32) (a5 : FVec Ideal S128 .f32) (a6 : FVec Ideal S128x128 .f32) (a7 : FVec Ideal S128 .f32) (a8 : FVec Ideal S128 .f32) (a9 : FVec Ideal S128x128 .f32) (a10 : FVec Ideal S128 .f32) (a11 : FVec Ideal S128 .f32) (a12 : FVec Ideal S128x128 .f32) (a13 : FVec Ideal S128 .f32) (a14 : FVec Ideal S128 .f32) (a15 : FVec Ideal S128x128 .f32) (a16 : FVec Ideal S128 .f32) (a17 : FVec Ideal S128 .f32) (a18 : FVec Ideal S_ .f32) (a19 : FVec Ideal S_ .f32)
    (h : (fn (F := Ideal) a0 a1 a2 a3 a4 a5 a6 a7 a8 a9 a10 a11 a12 a13 a14 a15 a16 a17 a18 a19).1 = (fun _ => 1#1)
      ∧ (fn (F := Ideal) a0 a1 a2 a3 a4 a5 a6 a7 a8 a9 a10 a11 a12 a13 a14 a15 a16 a17 a18 a19).2.1 = (fun _ => 1#1)
      ∧ (fn (F := Ideal) a0 a1 a2 a3 a4 a5 a6 a7 a8 a9 a10 a11 a12 a13 a14 a15 a16 a17 a18 a19).2.2.1 = (fun _ => 1#1)
      ∧ (fn (F := Ideal) a0 a1 a2 a3 a4 a5 a6 a7 a8 a9 a10 a11 a12 a13 a14 a15 a16 a17 a18 a19).2.2.2.1 = (fun _ => 1#1)
      ∧ (fn (F := Ideal) a0 a1 a2 a3 a4 a5 a6 a7 a8 a9 a10 a11 a12 a13 a14 a15 a16 a17 a18 a19).2.2.2.2.1 = (fun _ => 1#1)
      ∧ (fn (F := Ideal) a0 a1 a2 a3 a4 a5 a6 a7 a8 a9 a10 a11 a12 a13 a14 a15 a16 a17 a18 a19).2.2.2.2.2.1 = (fun _ => 1#1)
      ∧ (fn (F := Ideal) a0 a1 a2 a3 a4 a5 a6 a7 a8 a9 a10 a11 a12 a13 a14 a15 a16 a17 a18 a19).2.2.2.2.2.2.1 = (fun _ => 1#1)
      ∧ (fn (F := Ideal) a0 a1 a2 a3 a4 a5 a6 a7 a8 a9 a10 a11 a12 a13 a14 a15 a16 a17 a18 a19).2.2.2.2.2.2.2.1 = (fun _ => 1#1)
      ∧ (fn (F := Ideal) a0 a1 a2 a3 a4 a5 a6 a7 a8 a9 a10 a11 a12 a13 a14 a15 a16 a17 a18 a19).2.2.2.2.2.2.2.2.1 = (fun _ => 1#1)
      ∧ (fn (F := Ideal) a0 a1 a2 a3 a4 a5 a6 a7 a8 a9 a10 a11 a12 a13 a14 a15 a16 a17 a18 a19).2.2.2.2.2.2.2.2.2.1 = (fun _ => 1#1)
      ∧ (fn (F := Ideal) a0 a1 a2 a3 a4 a5 a6 a7 a8 a9 a10 a11 a12 a13 a14 a15 a16 a17 a18 a19).2.2.2.2.2.2.2.2.2.2.1 = (fun _ => 1#1)
      ∧ (fn (F := Ideal) a0 a1 a2 a3 a4 a5 a6 a7 a8 a9 a10 a11 a12 a13 a14 a15 a16 a17 a18 a19).2.2.2.2.2.2.2.2.2.2.2.1 = (fun _ => 1#1)
      ∧ (fn (F := Ideal) a0 a1 a2 a3 a4 a5 a6 a7 a8 a9 a10 a11 a12 a13 a14 a15 a16 a17 a18 a19).2.2.2.2.2.2.2.2.2.2.2.2.1 = (fun _ => 1#1)
      ∧ (fn (F := Ideal) a0 a1 a2 a3 a4 a5 a6 a7 a8 a9 a10 a11 a12 a13 a14 a15 a16 a17 a18 a19).2.2.2.2.2.2.2.2.2.2.2.2.2.1 = (fun _ => 1#1)
      ∧ (fn (F := Ideal) a0 a1 a2 a3 a4 a5 a6 a7 a8 a9 a10 a11 a12 a13 a14 a15 a16 a17 a18 a19).2.2.2.2.2.2.2.2.2.2.2.2.2.2.1 = (fun _ => 1#1)
      ∧ (fn (F := Ideal) a0 a1 a2 a3 a4 a5 a6 a7 a8 a9 a10 a11 a12 a13 a14 a15 a16 a17 a18 a19).2.2.2.2.2.2.2.2.2.2.2.2.2.2.2.1 = (fun _ => 1#1)
      ∧ (fn (F := Ideal) a0 a1 a2 a3 a4 a5 a6 a7 a8 a9 a10 a11 a12 a13 a14 a15 a16 a17 a18 a19).2.2.2.2.2.2.2.2.2.2.2.2.2.2.2.2.1 = (fun _ => 1#1)
      ∧ (fn (F := Ideal) a0 a1 a2 a3 a4 a5 a6 a7 a8 a9 a10 a11 a12 a13 a14 a15 a16 a17 a18 a19).2.2.2.2.2.2.2.2.2.2.2.2.2.2.2.2.2.1 = (fun _ => 1#1)
      ∧ (fn (F := Ideal) a0 a1 a2 a3 a4 a5 a6 a7 a8 a9 a10 a11 a12 a13 a14 a15 a16 a17 a18 a19).2.2.2.2.2.2.2.2.2.2.2.2.2.2.2.2.2.2.1 = (fun _ => 1#1)
      ∧ (fn (F := Ideal) a0 a1 a2 a3 a4 a5 a6 a7 a8 a9 a10 a11 a12 a13 a14 a15 a16 a17 a18 a19).2.2.2.2.2.2.2.2.2.2.2.2.2.2.2.2.2.2.2.1 = (fun _ => 1#1)
      ∧ (fn (F := Ideal) a0 a1 a2 a3 a4 a5 a6 a7 a8 a9 a10 a11 a12 a13 a14 a15 a16 a17 a18 a19).2.2.2.2.2.2.2.2.2.2.2.2.2.2.2.2.2.2.2.2 = (fun _ => 1#1)) :
    ∃ D : Data, D.Holds a0 a1 a2 a3 a4 a5 a6 a7 a8 a9 a10 a11 a12 a13 a14 a15 a16 a17 a18 a19 := by
  obtain ⟨p0, p1, p2, p3, p4, p5, p6, p7, p8, p9, p10, p11, p12, p13, p14, p15, p16, p17, p18, p19, p20⟩ := h
  obtain ⟨x0, h0⟩ := R2_of_mask a0 (broadcastInDim S10000x128 ![] Facts.bcast_S_S10000x128 (constant (F := Ideal) S_ .f32 0x7F800000#32)) (inf_spread Facts.bcast_S_S10000x128) p0
  obtain ⟨x1, h1⟩ := R2_of_mask a1 (broadcastInDim S320000x128 ![] Facts.bcast_S_S320000x128 (constant (F := Ideal) S_ .f32 0x7F800000#32)) (inf_spread Facts.bcast_S_S320000x128) p1
  obtain ⟨x3, h3⟩ := R2_of_mask a3 (broadcastInDim S128x256 ![] Facts.bcast_S_S128x256 (constant (F := Ideal) S_ .f32 0x7F800000#32)) (inf_spread Facts.bcast_S_S128x256) p2
  obtain ⟨x4, h4⟩ := R1_of_mask a4 (broadcastInDim S128 ![] Facts.bcast_S_S128 (constant (F := Ideal) S_ .f32 0x7F800000#32)) (inf_spread Facts.bcast_S_S128) p3
  obtain ⟨x5, h5⟩ := R1_of_mask a5 (broadcastInDim S128 ![] Facts.bcast_S_S128 (constant (F := Ideal) S_ .f32 0x7F800000#32)) (inf_spread Facts.bcast_S_S128) p4
  obtain ⟨x6, h6⟩ := R2_of_mask a6 (broadcastInDim S128x128 ![] Facts.bcast_S_S128x128 (constant (F := Ideal) S_ .f32 0x7F800000#32)) (inf_spread Facts.bcast_S_S128x128) p5
  obtain ⟨x7, h7⟩ := R1_of_mask a7 (broadcastInDim S128 ![] Facts.bcast_S_S128 (constant (F := Ideal) S_ .f32 0x7F800000#32)) (inf_spread Facts.bcast_S_S128) p6
  obtain ⟨x8, h8⟩ := R1_of_mask a8 (broadcastInDim S128 ![] Facts.bcast_S_S128 (constant (F := Ideal) S_ .f32 0x7F800000#32)) (inf_spread Facts.bcast_S_S128) p7
  obtain ⟨x9, h9⟩ := R2_of_mask a9 (broadcastInDim S128x128 ![] Facts.bcast_S_S128x128 (constant (F := Ideal) S_ .f32 0x7F800000#32)) (inf_spread Facts.bcast_S_S128x128) p8
  obtain ⟨x10, h10⟩ := R1_of_mask a10 (broadcastInDim S128 ![] Facts.bcast_S_S128 (constant (F := Ideal) S_ .f32 0x7F800000#32)) (inf_spread Facts.bcast_S_S128) p9
  obtain ⟨x11, h11⟩ := R1_of_mask a11 (broadcastInDim S128 ![] Facts.bcast_S_S128 (constant (F := Ideal) S_ .f32 0x7F800000#32)) (inf_spread Facts.bcast_S_S128) p10
  obtain ⟨x12, h12⟩ := R2_of_mask a12 (broadcastInDim S128x128 ![] Facts.bcast_S_S128x128 (constant (F := Ideal) S_ .f32 0x7F800000#32)) (inf_spread Facts.bcast_S_S128x128) p11
  obtain ⟨x13, h13⟩ := R1_of_mask a13 (broadcastInDim S128 ![] Facts.bcast_S_S128 (constant (F := Ideal) S_ .f32 0x7F800000#32)) (inf_spread Facts.bcast_S_S128) p12
  obtain ⟨x14, h14⟩ := R1_of_mask a14 (broadcastInDim S128 ![] Facts.bcast_S_S128 (constant (F := Ideal) S_ .f32 0x7F800000#32)) (inf_spread Facts.bcast_S_S128) p13
  obtain ⟨x15, h15⟩ := R2_of_mask a15 (broadcastInDim S128x128 ![] Facts.bcast_S_S128x128 (constant (F := Ideal) S_ .f32 0x7F800000#32)) (inf_spread Facts.bcast_S_S128x128) p14
  obtain ⟨x16, h16⟩ := R1_of_mask a16 (broadcastInDim S128 ![] Facts.bcast_S_S128 (constant (F := Ideal) S_ .f32 0x7F800000#32)) (inf_spread Facts.bcast_S_S128) p15
  obtain ⟨x17, h17⟩ := R1_of_mask a17 (broadcastInDim S128 ![] Facts.bcast_S_S128 (constant (F := Ideal) S_ .f32 0x7F800000#32)) (inf_spread Facts.bcast_S_S128) p16
  obtain ⟨x18, h18⟩ := R0_of_mask a18 (constant (F := Ideal) S_ .f32 0x7F800000#32) (fun _ => ofBits_inf) p17
  obtain ⟨x19, h19⟩ := R0_of_mask a19 (constant (F := Ideal) S_ .f32 0x7F800000#32) (fun _ => ofBits_inf) p18
  have q0 : ∀ k, ∃ n : Fin 10000, a2 (ix2 0 k) = BitVec.ofNat 32 n.val := fun k => by
    have t : IntOp.andi (IntOp.cmpi .sge (shapeCast S640000 (extractStridedSlice S1x640000 ![0, 0] a2 Facts.slices_S2x640000_S1x640000_0_0) Facts.shapeCasts_S1x640000_S640000 (ix1 k)) 0#32)
        (IntOp.cmpi .slt (shapeCast S640000 (extractStridedSlice S1x640000 ![0, 0] a2 Facts.slices_S2x640000_S1x640000_0_0) Facts.shapeCasts_S1x640000_S640000 (ix1 k)) (BitVec.ofNat 32 10000)) = 1#1 :=
      congrFun p19 (ix1 k)
    rw [row0_of_mask a2] at t
    exact word_of_mask _ 10000 (by norm_num) t
  choose n0 hn0 using q0
  have q1 : ∀ k, ∃ n : Fin 320000, a2 (ix2 1 k) = BitVec.ofNat 32 n.val := fun k => by
    have t : IntOp.andi (IntOp.cmpi .sge (shapeCast S640000 (extractStridedSlice S1x640000 ![1, 0] a2 Facts.slices_S2x640000_S1x640000_1_0) Facts.shapeCasts_S1x640000_S640000 (ix1 k)) 0#32)
        (IntOp.cmpi .slt (shapeCast S640000 (extractStridedSlice S1x640000 ![1, 0] a2 Facts.slices_S2x640000_S1x640000_1_0) Facts.shapeCasts_S1x640000_S640000 (ix1 k)) (BitVec.ofNat 32 320000)) = 1#1 :=
      congrFun p20 (ix1 k)
    rw [row1_of_mask a2] at t
    exact word_of_mask _ 320000 (by norm_num) t
  choose n1 hn1 using q1
  exact ⟨⟨x0, x1, n0, n1, x3, x4, x5, x6, x7, x8, x9, x10, x11, x12, x13, x14, x15, x16, x17, x18, x19⟩, ⟨h0, h1, hn0, hn1, h3, h4, h5, h6, h7, h8, h9, h10, h11, h12, h13, h14, h15, h16, h17, h18, h19⟩⟩

end Cert.Val
-- ==== Proof.lean ====
/-
  The certificate: the frames of the two kernel programs and of the reference, and the equality of both results over exact numbers.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Run
public import proofs.«01_k».proof.Proof.Kernel.Run
public import proofs.«01_k».proof.Proof.KernelIdeal.Run
public import proofs.«01_k».proof.Proof.KernelIdeal.Chain
public import proofs.«01_k».proof.Proof.Val.Ref
public import proofs.«01_k».proof.Proof.Val.Pre
public import Idealize.ShloMosaic.Adequacy
public import Idealize.ShloMosaic.Init

@[expose] public section

set_option maxRecDepth 16384

noncomputable section

namespace Cert.Proof

open Idealize.ShloMosaic Idealize.SL.Sem Cert.Kernel

/-- The kernel over bit patterns leaves its arguments unchanged and every semaphore at zero. -/
theorem frame_bits : quiescent_Kernel (hKernel := Cert.Kernel.Gen.facts) := fun m g _ =>
  (θ_run _ _ _).mono (fun _ h => ⟨fun c => (h.1 c).2.2, h.2⟩) (Cert.Kernel.Own.run m g)

/-- The kernel over exact numbers leaves its arguments unchanged and every semaphore at zero. -/
theorem frame_ideal : quiescent_KernelIdeal (hKernelIdeal := Cert.KernelIdeal.Gen.facts) := fun m g _ =>
  (θ_run _ _ _).mono (fun _ h => ⟨fun c => (h.1 c).2.2, h.2⟩) (Cert.KernelIdeal.Own.run m g)

/-- The reference leaves its arguments unchanged and every semaphore at zero. -/
theorem frame_ref : quiescent_ReferenceIdeal (hReferenceIdeal := Cert.ReferenceIdeal.Gen.facts) := fun m g _ =>
  Cert.ReferenceIdeal.Own.run_frame m g

/-- Over exact numbers the kernel and the reference compute the same two results. -/
theorem values : algebraic_KernelIdeal_ReferenceIdeal_pre_finite_and_in_range (hKernelIdeal := Cert.KernelIdeal.Gen.facts)
    (hReferenceIdeal := Cert.ReferenceIdeal.Gen.facts) (hPre_finite_and_in_range := Cert.Val.preFacts) := by
  intro m g m' g' hp he
  have hD : ∀ c, ∃ D, Cert.KernelIdeal.Own.HoldsM m c D := fun c =>
    haveI := Cert.Val.preFacts
    Cert.Val.data_of_pre _ _ _ _ _ _ _ _ _ _ _ _ _ _ _ _ _ _ _ _ (hp c)
  choose D H using hD
  have H' : ∀ c, Cert.ReferenceIdeal.Own.HoldsV (D c) (StableHlo.launchContents m' c) := by
    intro c
    obtain ⟨q0, q1, q2, q3, q4, q5, q6, q7, q8, q9, q10, q11, q12, q13, q14, q15, q16, q17, q18, q19⟩ := he c
    have h := H c
    unfold Cert.KernelIdeal.Own.HoldsM at h
    rw [← q0, ← q1, ← q2, ← q3, ← q4, ← q5, ← q6, ← q7, ← q8, ← q9, ← q10, ← q11, ← q12, ← q13, ← q14, ← q15, ← q16, ← q17, ← q18, ← q19] at h
    exact h
  refine ⟨fun c => Cert.KernelIdeal.Own.W19 m c (Proc.devRef .tc Cert.KernelIdeal.main_v157),
    fun c => Cert.KernelIdeal.Own.W19 m c (Proc.devRef .tc Cert.KernelIdeal.main_v146), ?_, ?_⟩
  · exact (θ_run _ _ _).mono (fun _ h => h.1) (Cert.KernelIdeal.Own.run m g)
  · refine (θ_run _ _ _).mono ?_ (Cert.ReferenceIdeal.Own.run_real m' g' D H')
    intro r h c
    obtain ⟨h1, h2, h3⟩ := h c
    exact ⟨Cert.Val.R2.eq h1 (Cert.KernelIdeal.Own.at19_v157 (H c)), Cert.Val.R2.eq h2 (Cert.KernelIdeal.Own.at19_v146 (H c)), h3⟩

/-- Everything the certificate claims. -/
theorem claim : Cert.Claim := ⟨Cert.Kernel.Gen.facts, Cert.KernelIdeal.Gen.facts, Cert.ReferenceIdeal.Gen.facts, Cert.Val.preFacts,
  frame_bits, frame_ideal, fun m g _ => frame_ideal m g trivial, frame_ref, fun m g _ => frame_ref m g trivial, trivial, values⟩

end Cert.Proof

end
